-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_ties [hPre_no_ties : Cert.Pre_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ties [hPre_no_ties : Cert.Pre_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_no_ties [hKernelIdeal : Cert.KernelIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_no_ties [hReferenceIdeal : Cert.ReferenceIdeal.Facts] [hPre_no_ties : Cert.Pre_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_no_ties [hKernelIdeal : Cert.KernelIdeal.Facts] [hReferenceIdeal : Cert.ReferenceIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v728) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_no_ties : Cert.Pre_no_ties.Facts),
    quiescent_Kernel (hKernel := hKernel)
    ∧ quiescent_KernelIdeal (hKernelIdeal := hKernelIdeal)
    ∧ quiescent_KernelIdeal_pre_no_ties (hKernelIdeal := hKernelIdeal) (hPre_no_ties := hPre_no_ties)
    ∧ quiescent_ReferenceIdeal (hReferenceIdeal := hReferenceIdeal)
    ∧ quiescent_ReferenceIdeal_pre_no_ties (hReferenceIdeal := hReferenceIdeal) (hPre_no_ties := hPre_no_ties)
    ∧ preserves_Kernel_KernelIdeal
    ∧ algebraic_KernelIdeal_ReferenceIdeal_pre_no_ties (hKernelIdeal := hKernelIdeal) (hReferenceIdeal := hReferenceIdeal) (hPre_no_ties := hPre_no_ties)
-- ==== Pre_no_ties.lean ====
abbrev S8x85x64x64 : Shape := ⟨4, ![8, 85, 64, 64]⟩
abbrev S8x85x32x32 : Shape := ⟨4, ![8, 85, 32, 32]⟩
abbrev S8x85x16x16 : Shape := ⟨4, ![8, 85, 16, 16]⟩
abbrev S8x30x4 : Shape := ⟨3, ![8, 30, 4]⟩
abbrev S8x30 : Shape := ⟨2, ![8, 30]⟩
abbrev S64 : Shape := ⟨1, ![64]⟩
abbrev S64x64 : Shape := ⟨2, ![64, 64]⟩
abbrev S4096 : Shape := ⟨1, ![4096]⟩
abbrev S_ : Shape := ⟨0, ![]⟩
abbrev S32 : Shape := ⟨1, ![32]⟩
abbrev S32x32 : Shape := ⟨2, ![32, 32]⟩
abbrev S1024 : Shape := ⟨1, ![1024]⟩
abbrev S16 : Shape := ⟨1, ![16]⟩
abbrev S16x16 : Shape := ⟨2, ![16, 16]⟩
abbrev S256 : Shape := ⟨1, ![256]⟩
abbrev S5376 : Shape := ⟨1, ![5376]⟩
abbrev S8x64x64x85 : Shape := ⟨4, ![8, 64, 64, 85]⟩
abbrev S8x4096x85 : Shape := ⟨3, ![8, 4096, 85]⟩
abbrev S8x4096x1 : Shape := ⟨3, ![8, 4096, 1]⟩
abbrev S8x4096 : Shape := ⟨2, ![8, 4096]⟩
abbrev S1x4096 : Shape := ⟨2, ![1, 4096]⟩
abbrev S8x4096x80 : Shape := ⟨3, ![8, 4096, 80]⟩
abbrev S8x32x32x85 : Shape := ⟨4, ![8, 32, 32, 85]⟩
abbrev S8x1024x85 : Shape := ⟨3, ![8, 1024, 85]⟩
abbrev S8x1024x1 : Shape := ⟨3, ![8, 1024, 1]⟩
abbrev S8x1024 : Shape := ⟨2, ![8, 1024]⟩
abbrev S1x1024 : Shape := ⟨2, ![1, 1024]⟩
abbrev S8x1024x80 : Shape := ⟨3, ![8, 1024, 80]⟩
abbrev S8x16x16x85 : Shape := ⟨4, ![8, 16, 16, 85]⟩
abbrev S8x256x85 : Shape := ⟨3, ![8, 256, 85]⟩
abbrev S8x256x1 : Shape := ⟨3, ![8, 256, 1]⟩
abbrev S8x256 : Shape := ⟨2, ![8, 256]⟩
abbrev S1x256 : Shape := ⟨2, ![1, 256]⟩
abbrev S8x256x80 : Shape := ⟨3, ![8, 256, 80]⟩
abbrev S8x5376 : Shape := ⟨2, ![8, 5376]⟩
abbrev S8x5376x80 : Shape := ⟨3, ![8, 5376, 80]⟩
abbrev S8x30x1 : Shape := ⟨3, ![8, 30, 1]⟩
abbrev S1x1x5376 : Shape := ⟨3, ![1, 1, 5376]⟩
abbrev S8x30x5376 : Shape := ⟨3, ![8, 30, 5376]⟩
abbrev S8x1x5376 : Shape := ⟨3, ![8, 1, 5376]⟩
abbrev S8x5376x1 : Shape := ⟨3, ![8, 5376, 1]⟩
abbrev S8x1x5376x80 : Shape := ⟨4, ![8, 1, 5376, 80]⟩
abbrev S1x1x80 : Shape := ⟨3, ![1, 1, 80]⟩
abbrev S8x30x80 : Shape := ⟨3, ![8, 30, 80]⟩
abbrev S8x30x1x80 : Shape := ⟨4, ![8, 30, 1, 80]⟩
abbrev S8x30x5376x80 : Shape := ⟨4, ![8, 30, 5376, 80]⟩
abbrev S8x30x5376x1 : Shape := ⟨4, ![8, 30, 5376, 1]⟩
abbrev S8x30x1x5376 : Shape := ⟨4, ![8, 30, 1, 5376]⟩
abbrev S5376x1 : Shape := ⟨2, ![5376, 1]⟩
abbrev S1x5376 : Shape := ⟨2, ![1, 5376]⟩
abbrev S5376x5376 : Shape := ⟨2, ![5376, 5376]⟩
abbrev S1x1x5376x5376 : Shape := ⟨4, ![1, 1, 5376, 5376]⟩
abbrev S8x30x5376x5376 : Shape := ⟨4, ![8, 30, 5376, 5376]⟩
abbrev S8x1x30x5376 : Shape := ⟨4, ![8, 1, 30, 5376]⟩
abbrev S30 : Shape := ⟨1, ![30]⟩
abbrev S30x1 : Shape := ⟨2, ![30, 1]⟩
abbrev S1x30 : Shape := ⟨2, ![1, 30]⟩
abbrev S30x30 : Shape := ⟨2, ![30, 30]⟩
abbrev S1x30x30x1 : Shape := ⟨4, ![1, 30, 30, 1]⟩
abbrev S8x30x30x5376 : Shape := ⟨4, ![8, 30, 30, 5376]⟩

class Facts : Prop where
  bcast_S64_S64x64_0 : S64.BroadcastsInDim S64x64 (![0] : Fin 1 → Fin S64x64.rank)
  bcast_S64_S64x64_1 : S64.BroadcastsInDim S64x64 (![1] : Fin 1 → Fin S64x64.rank)
  shapeCasts_S64x64_S4096 : S64x64.ShapeCasts S4096
  bcast_S_S4096 : S_.BroadcastsInDim S4096 (![] : Fin 0 → Fin S4096.rank)
  bcast_S32_S32x32_0 : S32.BroadcastsInDim S32x32 (![0] : Fin 1 → Fin S32x32.rank)
  bcast_S32_S32x32_1 : S32.BroadcastsInDim S32x32 (![1] : Fin 1 → Fin S32x32.rank)
  shapeCasts_S32x32_S1024 : S32x32.ShapeCasts S1024
  bcast_S_S1024 : S_.BroadcastsInDim S1024 (![] : Fin 0 → Fin S1024.rank)
  bcast_S16_S16x16_0 : S16.BroadcastsInDim S16x16 (![0] : Fin 1 → Fin S16x16.rank)
  bcast_S16_S16x16_1 : S16.BroadcastsInDim S16x16 (![1] : Fin 1 → Fin S16x16.rank)
  shapeCasts_S16x16_S256 : S16x16.ShapeCasts S256
  bcast_S_S256 : S_.BroadcastsInDim S256 (![] : Fin 0 → Fin S256.rank)
  concatenates_S4096_S1024_S256_S5376_d0 : Shape.Concatenates [S4096, S1024, S256] S5376 0
  transposes_S8x85x64x64_S8x64x64x85_0_2_3_1 : S8x85x64x64.Transposes [0, 2, 3, 1] S8x64x64x85
  shapeCasts_S8x64x64x85_S8x4096x85 : S8x64x64x85.ShapeCasts S8x4096x85
  slices_S8x4096x85_S8x4096x1_0_0_0 : S8x4096x85.Slices ![0, 0, 0] S8x4096x1
  shapeCasts_S8x4096x1_S8x4096 : S8x4096x1.ShapeCasts S8x4096
  bcast_S_S8x4096 : S_.BroadcastsInDim S8x4096 (![] : Fin 0 → Fin S8x4096.rank)
  bcast_S4096_S1x4096_1 : S4096.BroadcastsInDim S1x4096 (![1] : Fin 1 → Fin S1x4096.rank)
  bcast_S1x4096_S8x4096_0_1 : S1x4096.BroadcastsInDim S8x4096 (![0, 1] : Fin 2 → Fin S8x4096.rank)
  slices_S8x4096x85_S8x4096x1_0_0_1 : S8x4096x85.Slices ![0, 0, 1] S8x4096x1
  slices_S8x4096x85_S8x4096x1_0_0_2 : S8x4096x85.Slices ![0, 0, 2] S8x4096x1
  slices_S8x4096x85_S8x4096x1_0_0_3 : S8x4096x85.Slices ![0, 0, 3] S8x4096x1
  slices_S8x4096x85_S8x4096x1_0_0_4 : S8x4096x85.Slices ![0, 0, 4] S8x4096x1
  slices_S8x4096x85_S8x4096x80_0_0_5 : S8x4096x85.Slices ![0, 0, 5] S8x4096x80
  transposes_S8x85x32x32_S8x32x32x85_0_2_3_1 : S8x85x32x32.Transposes [0, 2, 3, 1] S8x32x32x85
  shapeCasts_S8x32x32x85_S8x1024x85 : S8x32x32x85.ShapeCasts S8x1024x85
  slices_S8x1024x85_S8x1024x1_0_0_0 : S8x1024x85.Slices ![0, 0, 0] S8x1024x1
  shapeCasts_S8x1024x1_S8x1024 : S8x1024x1.ShapeCasts S8x1024
  bcast_S_S8x1024 : S_.BroadcastsInDim S8x1024 (![] : Fin 0 → Fin S8x1024.rank)
  bcast_S1024_S1x1024_1 : S1024.BroadcastsInDim S1x1024 (![1] : Fin 1 → Fin S1x1024.rank)
  bcast_S1x1024_S8x1024_0_1 : S1x1024.BroadcastsInDim S8x1024 (![0, 1] : Fin 2 → Fin S8x1024.rank)
  slices_S8x1024x85_S8x1024x1_0_0_1 : S8x1024x85.Slices ![0, 0, 1] S8x1024x1
  slices_S8x1024x85_S8x1024x1_0_0_2 : S8x1024x85.Slices ![0, 0, 2] S8x1024x1
  slices_S8x1024x85_S8x1024x1_0_0_3 : S8x1024x85.Slices ![0, 0, 3] S8x1024x1
  slices_S8x1024x85_S8x1024x1_0_0_4 : S8x1024x85.Slices ![0, 0, 4] S8x1024x1
  slices_S8x1024x85_S8x1024x80_0_0_5 : S8x1024x85.Slices ![0, 0, 5] S8x1024x80
  transposes_S8x85x16x16_S8x16x16x85_0_2_3_1 : S8x85x16x16.Transposes [0, 2, 3, 1] S8x16x16x85
  shapeCasts_S8x16x16x85_S8x256x85 : S8x16x16x85.ShapeCasts S8x256x85
  slices_S8x256x85_S8x256x1_0_0_0 : S8x256x85.Slices ![0, 0, 0] S8x256x1
  shapeCasts_S8x256x1_S8x256 : S8x256x1.ShapeCasts S8x256
  bcast_S_S8x256 : S_.BroadcastsInDim S8x256 (![] : Fin 0 → Fin S8x256.rank)
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  slices_S8x256x85_S8x256x1_0_0_1 : S8x256x85.Slices ![0, 0, 1] S8x256x1
  slices_S8x256x85_S8x256x1_0_0_2 : S8x256x85.Slices ![0, 0, 2] S8x256x1
  slices_S8x256x85_S8x256x1_0_0_3 : S8x256x85.Slices ![0, 0, 3] S8x256x1
  slices_S8x256x85_S8x256x1_0_0_4 : S8x256x85.Slices ![0, 0, 4] S8x256x1
  slices_S8x256x85_S8x256x80_0_0_5 : S8x256x85.Slices ![0, 0, 5] S8x256x80
  concatenates_S8x4096_S8x1024_S8x256_S8x5376_d1 : Shape.Concatenates [S8x4096, S8x1024, S8x256] S8x5376 1
  concatenates_S8x4096x80_S8x1024x80_S8x256x80_S8x5376x80_d1 : Shape.Concatenates [S8x4096x80, S8x1024x80, S8x256x80] S8x5376x80 1
  slices_S8x30x4_S8x30x1_0_0_0 : S8x30x4.Slices ![0, 0, 0] S8x30x1
  shapeCasts_S8x30x1_S8x30 : S8x30x1.ShapeCasts S8x30
  bcast_S_S8x30 : S_.BroadcastsInDim S8x30 (![] : Fin 0 → Fin S8x30.rank)
  slices_S8x30x4_S8x30x1_0_0_1 : S8x30x4.Slices ![0, 0, 1] S8x30x1
  slices_S8x30x4_S8x30x1_0_0_2 : S8x30x4.Slices ![0, 0, 2] S8x30x1
  slices_S8x30x4_S8x30x1_0_0_3 : S8x30x4.Slices ![0, 0, 3] S8x30x1
  bcast_S8x30_S8x30x1_0_1 : S8x30.BroadcastsInDim S8x30x1 (![0, 1] : Fin 2 → Fin S8x30x1.rank)
  bcast_S5376_S1x1x5376_2 : S5376.BroadcastsInDim S1x1x5376 (![2] : Fin 1 → Fin S1x1x5376.rank)
  bcast_S_S8x30x1 : S_.BroadcastsInDim S8x30x1 (![] : Fin 0 → Fin S8x30x1.rank)
  bcast_S8x30x1_S8x30x5376_0_1_2 : S8x30x1.BroadcastsInDim S8x30x5376 (![0, 1, 2] : Fin 3 → Fin S8x30x5376.rank)
  bcast_S1x1x5376_S8x30x5376_0_1_2 : S1x1x5376.BroadcastsInDim S8x30x5376 (![0, 1, 2] : Fin 3 → Fin S8x30x5376.rank)
  bcast_S_S8x30x5376 : S_.BroadcastsInDim S8x30x5376 (![] : Fin 0 → Fin S8x30x5376.rank)
  bcast_S_S1x1x5376 : S_.BroadcastsInDim S1x1x5376 (![] : Fin 0 → Fin S1x1x5376.rank)
  bcast_S8x5376_S8x1x5376_0_2 : S8x5376.BroadcastsInDim S8x1x5376 (![0, 2] : Fin 2 → Fin S8x1x5376.rank)
  bcast_S_S8x1x5376 : S_.BroadcastsInDim S8x1x5376 (![] : Fin 0 → Fin S8x1x5376.rank)
  bcast_S8x1x5376_S8x30x5376_0_1_2 : S8x1x5376.BroadcastsInDim S8x30x5376 (![0, 1, 2] : Fin 3 → Fin S8x30x5376.rank)
  bcast_S_S8x5376x80 : S_.BroadcastsInDim S8x5376x80 (![] : Fin 0 → Fin S8x5376x80.rank)
  bcast_S_S8x5376 : S_.BroadcastsInDim S8x5376 (![] : Fin 0 → Fin S8x5376.rank)
  bcast_S8x5376_S8x5376x1_0_1 : S8x5376.BroadcastsInDim S8x5376x1 (![0, 1] : Fin 2 → Fin S8x5376x1.rank)
  bcast_S8x5376x1_S8x5376x80_0_1_2 : S8x5376x1.BroadcastsInDim S8x5376x80 (![0, 1, 2] : Fin 3 → Fin S8x5376x80.rank)
  bcast_S8x5376x80_S8x1x5376x80_0_2_3 : S8x5376x80.BroadcastsInDim S8x1x5376x80 (![0, 2, 3] : Fin 3 → Fin S8x1x5376x80.rank)
  bcast_S8x30x1_S8x30x80_0_1_2 : S8x30x1.BroadcastsInDim S8x30x80 (![0, 1, 2] : Fin 3 → Fin S8x30x80.rank)
  bcast_S1x1x80_S8x30x80_0_1_2 : S1x1x80.BroadcastsInDim S8x30x80 (![0, 1, 2] : Fin 3 → Fin S8x30x80.rank)
  bcast_S8x30x80_S8x30x1x80_0_1_3 : S8x30x80.BroadcastsInDim S8x30x1x80 (![0, 1, 3] : Fin 3 → Fin S8x30x1x80.rank)
  bcast_S_S8x1x5376x80 : S_.BroadcastsInDim S8x1x5376x80 (![] : Fin 0 → Fin S8x1x5376x80.rank)
  bcast_S8x30x1x80_S8x30x5376x80_0_1_2_3 : S8x30x1x80.BroadcastsInDim S8x30x5376x80 (![0, 1, 2, 3] : Fin 4 → Fin S8x30x5376x80.rank)
  bcast_S8x1x5376x80_S8x30x5376x80_0_1_2_3 : S8x1x5376x80.BroadcastsInDim S8x30x5376x80 (![0, 1, 2, 3] : Fin 4 → Fin S8x30x5376x80.rank)
  bcast_S_S8x30x1x80 : S_.BroadcastsInDim S8x30x1x80 (![] : Fin 0 → Fin S8x30x1x80.rank)
  reducesTo_S8x30x5376x80_S8x30x5376_d3 : S8x30x5376x80.ReducesTo [3] S8x30x5376
  h_S_ : 0 < S_.numel
  bcast_S_S8x85x64x64 : S_.BroadcastsInDim S8x85x64x64 (![] : Fin 0 → Fin S8x85x64x64.rank)
  reducesTo_S8x85x64x64_S_d0_1_2_3 : S8x85x64x64.ReducesTo [0, 1, 2, 3] S_
  bcast_S_S8x85x32x32 : S_.BroadcastsInDim S8x85x32x32 (![] : Fin 0 → Fin S8x85x32x32.rank)
  reducesTo_S8x85x32x32_S_d0_1_2_3 : S8x85x32x32.ReducesTo [0, 1, 2, 3] S_
  bcast_S_S8x85x16x16 : S_.BroadcastsInDim S8x85x16x16 (![] : Fin 0 → Fin S8x85x16x16.rank)
  reducesTo_S8x85x16x16_S_d0_1_2_3 : S8x85x16x16.ReducesTo [0, 1, 2, 3] S_
  bcast_S_S8x30x4 : S_.BroadcastsInDim S8x30x4 (![] : Fin 0 → Fin S8x30x4.rank)
  reducesTo_S8x30x4_S_d0_1_2 : S8x30x4.ReducesTo [0, 1, 2] S_
  reducesTo_S8x30_S_d0_1 : S8x30.ReducesTo [0, 1] S_
  bcast_S8x30x5376_S8x30x5376x1_0_1_2 : S8x30x5376.BroadcastsInDim S8x30x5376x1 (![0, 1, 2] : Fin 3 → Fin S8x30x5376x1.rank)
  bcast_S8x30x5376_S8x30x1x5376_0_1_3 : S8x30x5376.BroadcastsInDim S8x30x1x5376 (![0, 1, 3] : Fin 3 → Fin S8x30x1x5376.rank)
  bcast_S5376_S5376x1_0 : S5376.BroadcastsInDim S5376x1 (![0] : Fin 1 → Fin S5376x1.rank)
  bcast_S5376_S1x5376_1 : S5376.BroadcastsInDim S1x5376 (![1] : Fin 1 → Fin S1x5376.rank)
  bcast_S5376x1_S5376x5376_0_1 : S5376x1.BroadcastsInDim S5376x5376 (![0, 1] : Fin 2 → Fin S5376x5376.rank)
  bcast_S1x5376_S5376x5376_0_1 : S1x5376.BroadcastsInDim S5376x5376 (![0, 1] : Fin 2 → Fin S5376x5376.rank)
  bcast_S5376x5376_S1x1x5376x5376_2_3 : S5376x5376.BroadcastsInDim S1x1x5376x5376 (![2, 3] : Fin 2 → Fin S1x1x5376x5376.rank)
  bcast_S8x30x5376x1_S8x30x5376x5376_0_1_2_3 : S8x30x5376x1.BroadcastsInDim S8x30x5376x5376 (![0, 1, 2, 3] : Fin 4 → Fin S8x30x5376x5376.rank)
  bcast_S1x1x5376x5376_S8x30x5376x5376_0_1_2_3 : S1x1x5376x5376.BroadcastsInDim S8x30x5376x5376 (![0, 1, 2, 3] : Fin 4 → Fin S8x30x5376x5376.rank)
  bcast_S8x30x1x5376_S8x30x5376x5376_0_1_2_3 : S8x30x1x5376.BroadcastsInDim S8x30x5376x5376 (![0, 1, 2, 3] : Fin 4 → Fin S8x30x5376x5376.rank)
  bcast_S_S8x30x5376x1 : S_.BroadcastsInDim S8x30x5376x1 (![] : Fin 0 → Fin S8x30x5376x1.rank)
  reducesTo_S8x30x5376x5376_S_d0_1_2_3 : S8x30x5376x5376.ReducesTo [0, 1, 2, 3] S_
  bcast_S8x30x5376_S8x1x30x5376_0_2_3 : S8x30x5376.BroadcastsInDim S8x1x30x5376 (![0, 2, 3] : Fin 3 → Fin S8x1x30x5376.rank)
  bcast_S30_S30x1_0 : S30.BroadcastsInDim S30x1 (![0] : Fin 1 → Fin S30x1.rank)
  bcast_S30_S1x30_1 : S30.BroadcastsInDim S1x30 (![1] : Fin 1 → Fin S1x30.rank)
  bcast_S30x1_S30x30_0_1 : S30x1.BroadcastsInDim S30x30 (![0, 1] : Fin 2 → Fin S30x30.rank)
  bcast_S1x30_S30x30_0_1 : S1x30.BroadcastsInDim S30x30 (![0, 1] : Fin 2 → Fin S30x30.rank)
  bcast_S30x30_S1x30x30x1_1_2 : S30x30.BroadcastsInDim S1x30x30x1 (![1, 2] : Fin 2 → Fin S1x30x30x1.rank)
  bcast_S8x30x1x5376_S8x30x30x5376_0_1_2_3 : S8x30x1x5376.BroadcastsInDim S8x30x30x5376 (![0, 1, 2, 3] : Fin 4 → Fin S8x30x30x5376.rank)
  bcast_S8x1x30x5376_S8x30x30x5376_0_1_2_3 : S8x1x30x5376.BroadcastsInDim S8x30x30x5376 (![0, 1, 2, 3] : Fin 4 → Fin S8x30x30x5376.rank)
  bcast_S1x30x30x1_S8x30x30x5376_0_1_2_3 : S1x30x30x1.BroadcastsInDim S8x30x30x5376 (![0, 1, 2, 3] : Fin 4 → Fin S8x30x30x5376.rank)
  reducesTo_S8x30x30x5376_S_d0_1_2_3 : S8x30x30x5376.ReducesTo [0, 1, 2, 3] S_

variable [Facts]

def fn_softplus {F : FTy → Type} [FloatOps F] (arg0 : FVec F S8x4096 .f32) : FVec F S8x4096 .f32 :=
  let cst : FVec F S_ .f32 := constant S_ .f32 0x00000000#32
  let v0 : FVec F S8x4096 .f32 := broadcastInDim S8x4096 ![] bcast_S_S8x4096 cst
  let v1 : FVec F S8x4096 .f32 := maximumf arg0 v0
  let v2 : FVec F S8x4096 .f32 := broadcastInDim S8x4096 ![] bcast_S_S8x4096 cst
  let v3 : FVec F S8x4096 .f32 := subf arg0 v2
  let v4 : IVec S8x4096 1 := cmpf .une v3 v3
  let v5 : FVec F S8x4096 .f32 := broadcastInDim S8x4096 ![] bcast_S_S8x4096 cst
  let v6 : FVec F S8x4096 .f32 := addf arg0 v5
  let v7 : FVec F S8x4096 .f32 := Host.absf v3
  let v8 : FVec F S8x4096 .f32 := Host.negf v7
  let v9 : FVec F S8x4096 .f32 := Host.exp v8
  let v10 : FVec F S8x4096 .f32 := Host.log1p v9
  let v11 : FVec F S8x4096 .f32 := addf v1 v10
  let v12 : FVec F S8x4096 .f32 := select v4 v6 v11
  v12

def fn_softplus_0 {F : FTy → Type} [FloatOps F] (arg0 : FVec F S8x1024 .f32) : FVec F S8x1024 .f32 :=
  let cst : FVec F S_ .f32 := constant S_ .f32 0x00000000#32
  let v0 : FVec F S8x1024 .f32 := broadcastInDim S8x1024 ![] bcast_S_S8x1024 cst
  let v1 : FVec F S8x1024 .f32 := maximumf arg0 v0
  let v2 : FVec F S8x1024 .f32 := broadcastInDim S8x1024 ![] bcast_S_S8x1024 cst
  let v3 : FVec F S8x1024 .f32 := subf arg0 v2
  let v4 : IVec S8x1024 1 := cmpf .une v3 v3
  let v5 : FVec F S8x1024 .f32 := broadcastInDim S8x1024 ![] bcast_S_S8x1024 cst
  let v6 : FVec F S8x1024 .f32 := addf arg0 v5
  let v7 : FVec F S8x1024 .f32 := Host.absf v3
  let v8 : FVec F S8x1024 .f32 := Host.negf v7
  let v9 : FVec F S8x1024 .f32 := Host.exp v8
  let v10 : FVec F S8x1024 .f32 := Host.log1p v9
  let v11 : FVec F S8x1024 .f32 := addf v1 v10
  let v12 : FVec F S8x1024 .f32 := select v4 v6 v11
  v12

def fn_softplus_1 {F : FTy → Type} [FloatOps F] (arg0 : FVec F S8x256 .f32) : FVec F S8x256 .f32 :=
  let cst : FVec F S_ .f32 := constant S_ .f32 0x00000000#32
  let v0 : FVec F S8x256 .f32 := broadcastInDim S8x256 ![] bcast_S_S8x256 cst
  let v1 : FVec F S8x256 .f32 := maximumf arg0 v0
  let v2 : FVec F S8x256 .f32 := broadcastInDim S8x256 ![] bcast_S_S8x256 cst
  let v3 : FVec F S8x256 .f32 := subf arg0 v2
  let v4 : IVec S8x256 1 := cmpf .une v3 v3
  let v5 : FVec F S8x256 .f32 := broadcastInDim S8x256 ![] bcast_S_S8x256 cst
  let v6 : FVec F S8x256 .f32 := addf arg0 v5
  let v7 : FVec F S8x256 .f32 := Host.absf v3
  let v8 : FVec F S8x256 .f32 := Host.negf v7
  let v9 : FVec F S8x256 .f32 := Host.exp v8
  let v10 : FVec F S8x256 .f32 := Host.log1p v9
  let v11 : FVec F S8x256 .f32 := addf v1 v10
  let v12 : FVec F S8x256 .f32 := select v4 v6 v11
  v12

def fn_one_hot {F : FTy → Type} [FloatOps F] (arg0 : IVec S8x30 32) : FVec F S8x30x80 .f32 :=
  let v0 : IVec S8x30x1 32 := broadcastInDim S8x30x1 ![0, 1] bcast_S8x30_S8x30x1_0_1 arg0
  let v1 : IVec S1x1x80 32 := iotaInDim S1x1x80 32 2
  let v2 : IVec S8x30x80 32 := broadcastInDim S8x30x80 ![0, 1, 2] bcast_S8x30x1_S8x30x80_0_1_2 v0
  let v3 : IVec S8x30x80 32 := broadcastInDim S8x30x80 ![0, 1, 2] bcast_S1x1x80_S8x30x80_0_1_2 v1
  let v4 : IVec S8x30x80 1 := cmpi .eq v2 v3
  let v5 : FVec F S8x30x80 .f32 := uitofp .f32 v4
  v5

def fn_where {F : FTy → Type} [FloatOps F] (arg0 : IVec S8x30x5376 1) (arg1 : FVec F S_ .f32) (arg2 : FVec F S_ .f32) : FVec F S8x30x5376 .f32 :=
  let v0 : FVec F S8x30x5376 .f32 := broadcastInDim S8x30x5376 ![] bcast_S_S8x30x5376 arg1
  let v1 : FVec F S8x30x5376 .f32 := broadcastInDim S8x30x5376 ![] bcast_S_S8x30x5376 arg2
  let v2 : FVec F S8x30x5376 .f32 := select arg0 v0 v1
  v2

def fn_where_2 {F : FTy → Type} [FloatOps F] (arg0 : IVec S8x30x1x5376 1) (arg1 : IVec S8x30x5376x5376 1) (arg2 : IVec S8x30x5376x5376 1) : IVec S8x30x5376x5376 1 :=
  let v0 : IVec S8x30x5376x5376 1 := broadcastInDim S8x30x5376x5376 ![0, 1, 2, 3] bcast_S8x30x1x5376_S8x30x5376x5376_0_1_2_3 arg0
  let v1 : IVec S8x30x5376x5376 1 := select v0 arg1 arg2
  v1

def fn_part30 {F : FTy → Type} [FloatOps F] (main_v532 : IVec S_ 1) (main_v538 : IVec S_ 1) (main_v573 : IVec S_ 1) (main_v595 : IVec S8x30x30x5376 1) (main_c_121 : IVec S_ 1) : IVec S_ 1 :=
  let main_v596 : IVec S_ 1 := (fun x v => Host.reduce IntOp.andi x v reducesTo_S8x30x30x5376_S_d0_1_2_3 h_S_) main_v595 main_c_121
  let main_v597 : IVec S_ 1 := andi main_v532 main_v538
  let main_v598 : IVec S_ 1 := andi main_v597 main_v573
  let main_v599 : IVec S_ 1 := andi main_v598 main_v596
  main_v599

def fn_part29 {F : FTy → Type} [FloatOps F] (main_v343 : IVec S8x30x5376 1) (main_v513 : FVec F S8x30x5376 .f32) (main_v532 : IVec S_ 1) (main_v538 : IVec S_ 1) (main_v572 : IVec S8x30x5376x5376 1) (main_c_120 : IVec S_ 1) : IVec S_ 1 :=
  let main_v573 : IVec S_ 1 := (fun x v => Host.reduce IntOp.andi x v reducesTo_S8x30x5376x5376_S_d0_1_2_3 h_S_) main_v572 main_c_120
  let main_v574 : IVec S8x30x1x5376 1 := broadcastInDim S8x30x1x5376 ![0, 1, 3] bcast_S8x30x5376_S8x30x1x5376_0_1_3 main_v343
  let main_v575 : IVec S8x1x30x5376 1 := broadcastInDim S8x1x30x5376 ![0, 2, 3] bcast_S8x30x5376_S8x1x30x5376_0_2_3 main_v343
  let main_v576 : IVec S30 32 := iotaInDim S30 32 0
  let main_v577 : IVec S30x1 32 := broadcastInDim S30x1 ![0] bcast_S30_S30x1_0 main_v576
  let main_v578 : IVec S30 32 := iotaInDim S30 32 0
  let main_v579 : IVec S1x30 32 := broadcastInDim S1x30 ![1] bcast_S30_S1x30_1 main_v578
  let main_v580 : IVec S30x30 32 := broadcastInDim S30x30 ![0, 1] bcast_S30x1_S30x30_0_1 main_v577
  let main_v581 : IVec S30x30 32 := broadcastInDim S30x30 ![0, 1] bcast_S1x30_S30x30_0_1 main_v579
  let main_v582 : IVec S30x30 1 := cmpi .ne main_v580 main_v581
  let main_v583 : IVec S1x30x30x1 1 := broadcastInDim S1x30x30x1 ![1, 2] bcast_S30x30_S1x30x30x1_1_2 main_v582
  let main_v584 : IVec S8x30x30x5376 1 := broadcastInDim S8x30x30x5376 ![0, 1, 2, 3] bcast_S8x30x1x5376_S8x30x30x5376_0_1_2_3 main_v574
  let main_v585 : IVec S8x30x30x5376 1 := broadcastInDim S8x30x30x5376 ![0, 1, 2, 3] bcast_S8x1x30x5376_S8x30x30x5376_0_1_2_3 main_v575
  let main_v586 : IVec S8x30x30x5376 1 := andi main_v584 main_v585
  let main_v587 : IVec S8x30x30x5376 1 := broadcastInDim S8x30x30x5376 ![0, 1, 2, 3] bcast_S1x30x30x1_S8x30x30x5376_0_1_2_3 main_v583
  let main_v588 : IVec S8x30x30x5376 1 := andi main_v586 main_v587
  let main_v589 : IVec S8x30x30x5376 1 := noti main_v588
  let main_v590 : FVec F S8x30x1x5376 .f32 := broadcastInDim S8x30x1x5376 ![0, 1, 3] bcast_S8x30x5376_S8x30x1x5376_0_1_3 main_v513
  let main_v591 : FVec F S8x1x30x5376 .f32 := broadcastInDim S8x1x30x5376 ![0, 2, 3] bcast_S8x30x5376_S8x1x30x5376_0_2_3 main_v513
  let main_v592 : FVec F S8x30x30x5376 .f32 := broadcastInDim S8x30x30x5376 ![0, 1, 2, 3] bcast_S8x30x1x5376_S8x30x30x5376_0_1_2_3 main_v590
  let main_v593 : FVec F S8x30x30x5376 .f32 := broadcastInDim S8x30x30x5376 ![0, 1, 2, 3] bcast_S8x1x30x5376_S8x30x30x5376_0_1_2_3 main_v591
  let main_v594 : IVec S8x30x30x5376 1 := cmpf .une main_v592 main_v593
  let main_v595 : IVec S8x30x30x5376 1 := ori main_v589 main_v594
  let main_c_121 : IVec S_ 1 := constantI S_ 1 1#1
  fn_part30 (F := F) main_v532 main_v538 main_v573 main_v595 main_c_121

def fn_part28 {F : FTy → Type} [FloatOps F] (main_v343 : IVec S8x30x5376 1) (main_v513 : FVec F S8x30x5376 .f32) (main_v532 : IVec S_ 1) (main_v538 : IVec S_ 1) (main_v539 : IVec S8x30x5376x1 1) (main_v540 : IVec S8x30x1x5376 1) (main_v541 : FVec F S8x30x5376x1 .f32) (main_v542 : FVec F S8x30x1x5376 .f32) (main_v543 : FVec F S8x30x5376x1 .f32) (main_v544 : FVec F S8x30x1x5376 .f32) (main_v549 : IVec S5376x5376 32) (main_v550 : IVec S5376x5376 32) : IVec S_ 1 :=
  let main_v551 : IVec S5376x5376 1 := cmpi .ne main_v549 main_v550
  let main_v552 : IVec S1x1x5376x5376 1 := broadcastInDim S1x1x5376x5376 ![2, 3] bcast_S5376x5376_S1x1x5376x5376_2_3 main_v551
  let main_v553 : IVec S8x30x5376x5376 1 := broadcastInDim S8x30x5376x5376 ![0, 1, 2, 3] bcast_S8x30x5376x1_S8x30x5376x5376_0_1_2_3 main_v539
  let main_v554 : IVec S8x30x5376x5376 1 := broadcastInDim S8x30x5376x5376 ![0, 1, 2, 3] bcast_S1x1x5376x5376_S8x30x5376x5376_0_1_2_3 main_v552
  let main_v555 : IVec S8x30x5376x5376 1 := andi main_v553 main_v554
  let main_v556 : IVec S8x30x5376x5376 1 := noti main_v555
  let main_v557 : FVec F S8x30x5376x5376 .f32 := broadcastInDim S8x30x5376x5376 ![0, 1, 2, 3] bcast_S8x30x5376x1_S8x30x5376x5376_0_1_2_3 main_v541
  let main_v558 : FVec F S8x30x5376x5376 .f32 := broadcastInDim S8x30x5376x5376 ![0, 1, 2, 3] bcast_S8x30x1x5376_S8x30x5376x5376_0_1_2_3 main_v542
  let main_v559 : IVec S8x30x5376x5376 1 := cmpf .une main_v557 main_v558
  let main_cst_119 : FVec F S_ .f32 := constant S_ .f32 0x00000000#32
  let main_v560 : FVec F S8x30x5376x1 .f32 := broadcastInDim S8x30x5376x1 ![] bcast_S_S8x30x5376x1 main_cst_119
  let main_v561 : IVec S8x30x5376x1 1 := cmpf .ole main_v543 main_v560
  let main_v562 : FVec F S8x30x5376x5376 .f32 := broadcastInDim S8x30x5376x5376 ![0, 1, 2, 3] bcast_S8x30x5376x1_S8x30x5376x5376_0_1_2_3 main_v543
  let main_v563 : FVec F S8x30x5376x5376 .f32 := broadcastInDim S8x30x5376x5376 ![0, 1, 2, 3] bcast_S8x30x1x5376_S8x30x5376x5376_0_1_2_3 main_v544
  let main_v564 : IVec S8x30x5376x5376 1 := cmpf .une main_v562 main_v563
  let main_v565 : IVec S8x30x5376x5376 1 := broadcastInDim S8x30x5376x5376 ![0, 1, 2, 3] bcast_S8x30x5376x1_S8x30x5376x5376_0_1_2_3 main_v561
  let main_v566 : IVec S8x30x5376x5376 1 := ori main_v565 main_v564
  let main_v567 : IVec S8x30x5376x5376 1 := andi main_v559 main_v566
  let main_v568 : FVec F S8x30x5376x5376 .f32 := broadcastInDim S8x30x5376x5376 ![0, 1, 2, 3] bcast_S8x30x5376x1_S8x30x5376x5376_0_1_2_3 main_v541
  let main_v569 : FVec F S8x30x5376x5376 .f32 := broadcastInDim S8x30x5376x5376 ![0, 1, 2, 3] bcast_S8x30x1x5376_S8x30x5376x5376_0_1_2_3 main_v542
  let main_v570 : IVec S8x30x5376x5376 1 := cmpf .olt main_v568 main_v569
  let main_v571 : IVec S8x30x5376x5376 1 := fn_where_2 (F := F) main_v540 main_v567 main_v570
  let main_v572 : IVec S8x30x5376x5376 1 := ori main_v556 main_v571
  let main_c_120 : IVec S_ 1 := constantI S_ 1 1#1
  fn_part29 (F := F) main_v343 main_v513 main_v532 main_v538 main_v572 main_c_120

def fn_part27 {F : FTy → Type} [FloatOps F] (main_arg4 : IVec S8x30 32) (main_v343 : IVec S8x30x5376 1) (main_v395 : FVec F S8x30x5376 .f32) (main_v513 : FVec F S8x30x5376 .f32) (main_v527 : IVec S_ 1) (main_v530 : IVec S8x30x4 1) : IVec S_ 1 :=
  let main_c_115 : IVec S_ 1 := constantI S_ 1 1#1
  let main_v531 : IVec S_ 1 := (fun x v => Host.reduce IntOp.andi x v reducesTo_S8x30x4_S_d0_1_2 h_S_) main_v530 main_c_115
  let main_v532 : IVec S_ 1 := andi main_v527 main_v531
  let main_c_116 : IVec S_ 32 := constantI S_ 32 0#32
  let main_v533 : IVec S8x30 32 := broadcastInDim S8x30 ![] bcast_S_S8x30 main_c_116
  let main_v534 : IVec S8x30 1 := cmpi .sge main_arg4 main_v533
  let main_c_117 : IVec S_ 32 := constantI S_ 32 80#32
  let main_v535 : IVec S8x30 32 := broadcastInDim S8x30 ![] bcast_S_S8x30 main_c_117
  let main_v536 : IVec S8x30 1 := cmpi .slt main_arg4 main_v535
  let main_v537 : IVec S8x30 1 := andi main_v534 main_v536
  let main_c_118 : IVec S_ 1 := constantI S_ 1 1#1
  let main_v538 : IVec S_ 1 := (fun x v => Host.reduce IntOp.andi x v reducesTo_S8x30_S_d0_1 h_S_) main_v537 main_c_118
  let main_v539 : IVec S8x30x5376x1 1 := broadcastInDim S8x30x5376x1 ![0, 1, 2] bcast_S8x30x5376_S8x30x5376x1_0_1_2 main_v343
  let main_v540 : IVec S8x30x1x5376 1 := broadcastInDim S8x30x1x5376 ![0, 1, 3] bcast_S8x30x5376_S8x30x1x5376_0_1_3 main_v343
  let main_v541 : FVec F S8x30x5376x1 .f32 := broadcastInDim S8x30x5376x1 ![0, 1, 2] bcast_S8x30x5376_S8x30x5376x1_0_1_2 main_v513
  let main_v542 : FVec F S8x30x1x5376 .f32 := broadcastInDim S8x30x1x5376 ![0, 1, 3] bcast_S8x30x5376_S8x30x1x5376_0_1_3 main_v513
  let main_v543 : FVec F S8x30x5376x1 .f32 := broadcastInDim S8x30x5376x1 ![0, 1, 2] bcast_S8x30x5376_S8x30x5376x1_0_1_2 main_v395
  let main_v544 : FVec F S8x30x1x5376 .f32 := broadcastInDim S8x30x1x5376 ![0, 1, 3] bcast_S8x30x5376_S8x30x1x5376_0_1_3 main_v395
  let main_v545 : IVec S5376 32 := iotaInDim S5376 32 0
  let main_v546 : IVec S5376x1 32 := broadcastInDim S5376x1 ![0] bcast_S5376_S5376x1_0 main_v545
  let main_v547 : IVec S5376 32 := iotaInDim S5376 32 0
  let main_v548 : IVec S1x5376 32 := broadcastInDim S1x5376 ![1] bcast_S5376_S1x5376_1 main_v547
  let main_v549 : IVec S5376x5376 32 := broadcastInDim S5376x5376 ![0, 1] bcast_S5376x1_S5376x5376_0_1 main_v546
  let main_v550 : IVec S5376x5376 32 := broadcastInDim S5376x5376 ![0, 1] bcast_S1x5376_S5376x5376_0_1 main_v548
  fn_part28 (F := F) main_v343 main_v513 main_v532 main_v538 main_v539 main_v540 main_v541 main_v542 main_v543 main_v544 main_v549 main_v550

def fn_part26 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v343 : IVec S8x30x5376 1) (main_v395 : FVec F S8x30x5376 .f32) (main_v513 : FVec F S8x30x5376 .f32) : IVec S_ 1 :=
  let main_v514 : FVec F S8x85x64x64 .f32 := Host.absf main_arg0
  let main_cst_109 : FVec F S_ .f32 := constant S_ .f32 0x7F800000#32
  let main_v515 : FVec F S8x85x64x64 .f32 := broadcastInDim S8x85x64x64 ![] bcast_S_S8x85x64x64 main_cst_109
  let main_v516 : IVec S8x85x64x64 1 := cmpf .olt main_v514 main_v515
  let main_c : IVec S_ 1 := constantI S_ 1 1#1
  let main_v517 : IVec S_ 1 := (fun x v => Host.reduce IntOp.andi x v reducesTo_S8x85x64x64_S_d0_1_2_3 h_S_) main_v516 main_c
  let main_v518 : FVec F S8x85x32x32 .f32 := Host.absf main_arg1
  let main_cst_110 : FVec F S_ .f32 := constant S_ .f32 0x7F800000#32
  let main_v519 : FVec F S8x85x32x32 .f32 := broadcastInDim S8x85x32x32 ![] bcast_S_S8x85x32x32 main_cst_110
  let main_v520 : IVec S8x85x32x32 1 := cmpf .olt main_v518 main_v519
  let main_c_111 : IVec S_ 1 := constantI S_ 1 1#1
  let main_v521 : IVec S_ 1 := (fun x v => Host.reduce IntOp.andi x v reducesTo_S8x85x32x32_S_d0_1_2_3 h_S_) main_v520 main_c_111
  let main_v522 : IVec S_ 1 := andi main_v517 main_v521
  let main_v523 : FVec F S8x85x16x16 .f32 := Host.absf main_arg2
  let main_cst_112 : FVec F S_ .f32 := constant S_ .f32 0x7F800000#32
  let main_v524 : FVec F S8x85x16x16 .f32 := broadcastInDim S8x85x16x16 ![] bcast_S_S8x85x16x16 main_cst_112
  let main_v525 : IVec S8x85x16x16 1 := cmpf .olt main_v523 main_v524
  let main_c_113 : IVec S_ 1 := constantI S_ 1 1#1
  let main_v526 : IVec S_ 1 := (fun x v => Host.reduce IntOp.andi x v reducesTo_S8x85x16x16_S_d0_1_2_3 h_S_) main_v525 main_c_113
  let main_v527 : IVec S_ 1 := andi main_v522 main_v526
  let main_v528 : FVec F S8x30x4 .f32 := Host.absf main_arg3
  let main_cst_114 : FVec F S_ .f32 := constant S_ .f32 0x7F800000#32
  let main_v529 : FVec F S8x30x4 .f32 := broadcastInDim S8x30x4 ![] bcast_S_S8x30x4 main_cst_114
  let main_v530 : IVec S8x30x4 1 := cmpf .olt main_v528 main_v529
  fn_part27 (F := F) main_arg4 main_v343 main_v395 main_v513 main_v527 main_v530

def fn_part25 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v343 : IVec S8x30x5376 1) (main_v395 : FVec F S8x30x5376 .f32) (main_v432 : FVec F S8x30x5376 .f32) (main_v466 : FVec F S8x30x5376 .f32) (main_v474 : FVec F S8x30x5376 .f32) (main_v494 : FVec F S8x30x5376 .f32) (main_v496 : FVec F S8x30x5376 .f32) : IVec S_ 1 :=
  let main_cst_102 : FVec F S_ .f32 := constant S_ .f32 0x40400000#32
  let main_v497 : FVec F S8x30x5376 .f32 := broadcastInDim S8x30x5376 ![] bcast_S_S8x30x5376 main_cst_102
  let main_v498 : FVec F S8x30x5376 .f32 := mulf main_v497 main_v496
  let main_cst_103 : FVec F S_ .f32 := constant S_ .f32 0x3F000000#32
  let main_v499 : FVec F S8x30x5376 .f32 := broadcastInDim S8x30x5376 ![] bcast_S_S8x30x5376 main_cst_103
  let main_v500 : FVec F S8x30x5376 .f32 := mulf main_v499 main_v432
  let main_v501 : FVec F S8x30x5376 .f32 := addf main_v498 main_v500
  let main_cst_104 : FVec F S_ .f32 := constant S_ .f32 0x3E4CCCCD#32
  let main_v502 : FVec F S8x30x5376 .f32 := broadcastInDim S8x30x5376 ![] bcast_S_S8x30x5376 main_cst_104
  let main_v503 : FVec F S8x30x5376 .f32 := mulf main_v502 main_v466
  let main_v504 : FVec F S8x30x5376 .f32 := addf main_v501 main_v503
  let main_cst_105 : FVec F S_ .f32 := constant S_ .f32 0x3DCCCCCD#32
  let main_v505 : FVec F S8x30x5376 .f32 := broadcastInDim S8x30x5376 ![] bcast_S_S8x30x5376 main_cst_105
  let main_v506 : FVec F S8x30x5376 .f32 := mulf main_v505 main_v474
  let main_v507 : FVec F S8x30x5376 .f32 := addf main_v504 main_v506
  let main_cst_106 : FVec F S_ .f32 := constant S_ .f32 0x3F000000#32
  let main_v508 : FVec F S8x30x5376 .f32 := broadcastInDim S8x30x5376 ![] bcast_S_S8x30x5376 main_cst_106
  let main_v509 : FVec F S8x30x5376 .f32 := mulf main_v508 main_v494
  let main_v510 : FVec F S8x30x5376 .f32 := addf main_v507 main_v509
  let main_cst_107 : FVec F S_ .f32 := constant S_ .f32 0x00000000#32
  let main_cst_108 : FVec F S_ .f32 := constant S_ .f32 0x47C35000#32
  let main_v511 : FVec F S8x30x5376 .f32 := fn_where (F := F) main_v343 main_cst_107 main_cst_108
  let main_v512 : FVec F S8x30x5376 .f32 := id main_v511
  let main_v513 : FVec F S8x30x5376 .f32 := addf main_v510 main_v512
  fn_part26 (F := F) main_arg0 main_arg1 main_arg2 main_arg3 main_arg4 main_v343 main_v395 main_v513

def fn_part24 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v343 : IVec S8x30x5376 1) (main_v395 : FVec F S8x30x5376 .f32) (main_v432 : FVec F S8x30x5376 .f32) (main_v434 : FVec F S8x30x1 .f32) (main_v436 : FVec F S8x30x1 .f32) (main_v441 : FVec F S1x1x5376 .f32) (main_v442 : FVec F S1x1x5376 .f32) (main_v443 : FVec F S1x1x5376 .f32) (main_v466 : FVec F S8x30x5376 .f32) (main_v474 : FVec F S8x30x5376 .f32) (main_v475 : FVec F S8x30x1 .f32) : IVec S_ 1 :=
  let main_cst_99 : FVec F S_ .f32 := constant S_ .f32 0x3F000000#32
  let main_v476 : FVec F S8x30x1 .f32 := broadcastInDim S8x30x1 ![] bcast_S_S8x30x1 main_cst_99
  let main_v477 : FVec F S8x30x1 .f32 := mulf main_v475 main_v476
  let main_v478 : FVec F S8x30x5376 .f32 := broadcastInDim S8x30x5376 ![0, 1, 2] bcast_S1x1x5376_S8x30x5376_0_1_2 main_v441
  let main_v479 : FVec F S8x30x5376 .f32 := broadcastInDim S8x30x5376 ![0, 1, 2] bcast_S8x30x1_S8x30x5376_0_1_2 main_v477
  let main_v480 : FVec F S8x30x5376 .f32 := subf main_v478 main_v479
  let main_v481 : FVec F S8x30x5376 .f32 := Host.absf main_v480
  let main_v482 : FVec F S8x30x1 .f32 := addf main_v434 main_v436
  let main_cst_100 : FVec F S_ .f32 := constant S_ .f32 0x3F000000#32
  let main_v483 : FVec F S8x30x1 .f32 := broadcastInDim S8x30x1 ![] bcast_S_S8x30x1 main_cst_100
  let main_v484 : FVec F S8x30x1 .f32 := mulf main_v482 main_v483
  let main_v485 : FVec F S8x30x5376 .f32 := broadcastInDim S8x30x5376 ![0, 1, 2] bcast_S1x1x5376_S8x30x5376_0_1_2 main_v442
  let main_v486 : FVec F S8x30x5376 .f32 := broadcastInDim S8x30x5376 ![0, 1, 2] bcast_S8x30x1_S8x30x5376_0_1_2 main_v484
  let main_v487 : FVec F S8x30x5376 .f32 := subf main_v485 main_v486
  let main_v488 : FVec F S8x30x5376 .f32 := Host.absf main_v487
  let main_v489 : FVec F S8x30x5376 .f32 := mulf main_v481 main_v481
  let main_v490 : FVec F S8x30x5376 .f32 := mulf main_v488 main_v488
  let main_v491 : FVec F S8x30x5376 .f32 := addf main_v489 main_v490
  let main_v492 : FVec F S8x30x5376 .f32 := Host.sqrt main_v491
  let main_v493 : FVec F S8x30x5376 .f32 := broadcastInDim S8x30x5376 ![0, 1, 2] bcast_S1x1x5376_S8x30x5376_0_1_2 main_v443
  let main_v494 : FVec F S8x30x5376 .f32 := Host.divf main_v492 main_v493
  let main_cst_101 : FVec F S_ .f32 := constant S_ .f32 0x3F800000#32
  let main_v495 : FVec F S8x30x5376 .f32 := broadcastInDim S8x30x5376 ![] bcast_S_S8x30x5376 main_cst_101
  let main_v496 : FVec F S8x30x5376 .f32 := subf main_v495 main_v395
  fn_part25 (F := F) main_arg0 main_arg1 main_arg2 main_arg3 main_arg4 main_v343 main_v395 main_v432 main_v466 main_v474 main_v494 main_v496

def fn_part23 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v343 : IVec S8x30x5376 1) (main_v395 : FVec F S8x30x5376 .f32) (main_v432 : FVec F S8x30x5376 .f32) (main_v433 : FVec F S8x30x1 .f32) (main_v434 : FVec F S8x30x1 .f32) (main_v435 : FVec F S8x30x1 .f32) (main_v436 : FVec F S8x30x1 .f32) (main_v438 : FVec F S8x1x5376 .f32) (main_v440 : FVec F S8x1x5376 .f32) (main_v441 : FVec F S1x1x5376 .f32) (main_v442 : FVec F S1x1x5376 .f32) (main_v443 : FVec F S1x1x5376 .f32) (main_v446 : FVec F S8x30x1 .f32) (main_v449 : FVec F S8x30x1 .f32) (main_v452 : FVec F S8x1x5376 .f32) : IVec S_ 1 :=
  let main_v453 : FVec F S8x1x5376 .f32 := subf main_v440 main_v438
  let main_cst_98 : FVec F S_ .f32 := constant S_ .f32 0x33D6BF95#32
  let main_v454 : FVec F S8x1x5376 .f32 := broadcastInDim S8x1x5376 ![] bcast_S_S8x1x5376 main_cst_98
  let main_v455 : FVec F S8x1x5376 .f32 := maximumf main_v453 main_v454
  let main_v456 : FVec F S8x30x5376 .f32 := broadcastInDim S8x30x5376 ![0, 1, 2] bcast_S8x1x5376_S8x30x5376_0_1_2 main_v452
  let main_v457 : FVec F S8x30x5376 .f32 := broadcastInDim S8x30x5376 ![0, 1, 2] bcast_S8x30x1_S8x30x5376_0_1_2 main_v446
  let main_v458 : FVec F S8x30x5376 .f32 := Host.divf main_v456 main_v457
  let main_v459 : FVec F S8x30x5376 .f32 := Host.log main_v458
  let main_v460 : FVec F S8x30x5376 .f32 := Host.absf main_v459
  let main_v461 : FVec F S8x30x5376 .f32 := broadcastInDim S8x30x5376 ![0, 1, 2] bcast_S8x1x5376_S8x30x5376_0_1_2 main_v455
  let main_v462 : FVec F S8x30x5376 .f32 := broadcastInDim S8x30x5376 ![0, 1, 2] bcast_S8x30x1_S8x30x5376_0_1_2 main_v449
  let main_v463 : FVec F S8x30x5376 .f32 := Host.divf main_v461 main_v462
  let main_v464 : FVec F S8x30x5376 .f32 := Host.log main_v463
  let main_v465 : FVec F S8x30x5376 .f32 := Host.absf main_v464
  let main_v466 : FVec F S8x30x5376 .f32 := addf main_v460 main_v465
  let main_v467 : FVec F S8x1x5376 .f32 := Host.divf main_v452 main_v455
  let main_v468 : FVec F S8x1x5376 .f32 := Host.log main_v467
  let main_v469 : FVec F S8x30x1 .f32 := Host.divf main_v446 main_v449
  let main_v470 : FVec F S8x30x1 .f32 := Host.log main_v469
  let main_v471 : FVec F S8x30x5376 .f32 := broadcastInDim S8x30x5376 ![0, 1, 2] bcast_S8x1x5376_S8x30x5376_0_1_2 main_v468
  let main_v472 : FVec F S8x30x5376 .f32 := broadcastInDim S8x30x5376 ![0, 1, 2] bcast_S8x30x1_S8x30x5376_0_1_2 main_v470
  let main_v473 : FVec F S8x30x5376 .f32 := subf main_v471 main_v472
  let main_v474 : FVec F S8x30x5376 .f32 := Host.absf main_v473
  let main_v475 : FVec F S8x30x1 .f32 := addf main_v433 main_v435
  fn_part24 (F := F) main_arg0 main_arg1 main_arg2 main_arg3 main_arg4 main_v343 main_v395 main_v432 main_v434 main_v436 main_v441 main_v442 main_v443 main_v466 main_v474 main_v475

def fn_part22 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v45 : FVec F S5376 .f32) (main_v46 : FVec F S5376 .f32) (main_v47 : FVec F S5376 .f32) (main_v249 : FVec F S8x5376 .f32) (main_v250 : FVec F S8x5376 .f32) (main_v251 : FVec F S8x5376 .f32) (main_v252 : FVec F S8x5376 .f32) (main_v273 : FVec F S8x30 .f32) (main_v276 : FVec F S8x30 .f32) (main_v279 : FVec F S8x30 .f32) (main_v282 : FVec F S8x30 .f32) (main_v343 : IVec S8x30x5376 1) (main_v395 : FVec F S8x30x5376 .f32) (main_v431 : FVec F S8x30x5376 .f32) : IVec S_ 1 :=
  let main_v432 : FVec F S8x30x5376 .f32 := Host.negf main_v431
  let main_v433 : FVec F S8x30x1 .f32 := broadcastInDim S8x30x1 ![0, 1] bcast_S8x30_S8x30x1_0_1 main_v273
  let main_v434 : FVec F S8x30x1 .f32 := broadcastInDim S8x30x1 ![0, 1] bcast_S8x30_S8x30x1_0_1 main_v276
  let main_v435 : FVec F S8x30x1 .f32 := broadcastInDim S8x30x1 ![0, 1] bcast_S8x30_S8x30x1_0_1 main_v279
  let main_v436 : FVec F S8x30x1 .f32 := broadcastInDim S8x30x1 ![0, 1] bcast_S8x30_S8x30x1_0_1 main_v282
  let main_v437 : FVec F S8x1x5376 .f32 := broadcastInDim S8x1x5376 ![0, 2] bcast_S8x5376_S8x1x5376_0_2 main_v249
  let main_v438 : FVec F S8x1x5376 .f32 := broadcastInDim S8x1x5376 ![0, 2] bcast_S8x5376_S8x1x5376_0_2 main_v250
  let main_v439 : FVec F S8x1x5376 .f32 := broadcastInDim S8x1x5376 ![0, 2] bcast_S8x5376_S8x1x5376_0_2 main_v251
  let main_v440 : FVec F S8x1x5376 .f32 := broadcastInDim S8x1x5376 ![0, 2] bcast_S8x5376_S8x1x5376_0_2 main_v252
  let main_v441 : FVec F S1x1x5376 .f32 := broadcastInDim S1x1x5376 ![2] bcast_S5376_S1x1x5376_2 main_v45
  let main_v442 : FVec F S1x1x5376 .f32 := broadcastInDim S1x1x5376 ![2] bcast_S5376_S1x1x5376_2 main_v46
  let main_v443 : FVec F S1x1x5376 .f32 := broadcastInDim S1x1x5376 ![2] bcast_S5376_S1x1x5376_2 main_v47
  let main_v444 : FVec F S8x30x1 .f32 := subf main_v435 main_v433
  let main_cst_95 : FVec F S_ .f32 := constant S_ .f32 0x33D6BF95#32
  let main_v445 : FVec F S8x30x1 .f32 := broadcastInDim S8x30x1 ![] bcast_S_S8x30x1 main_cst_95
  let main_v446 : FVec F S8x30x1 .f32 := maximumf main_v444 main_v445
  let main_v447 : FVec F S8x30x1 .f32 := subf main_v436 main_v434
  let main_cst_96 : FVec F S_ .f32 := constant S_ .f32 0x33D6BF95#32
  let main_v448 : FVec F S8x30x1 .f32 := broadcastInDim S8x30x1 ![] bcast_S_S8x30x1 main_cst_96
  let main_v449 : FVec F S8x30x1 .f32 := maximumf main_v447 main_v448
  let main_v450 : FVec F S8x1x5376 .f32 := subf main_v439 main_v437
  let main_cst_97 : FVec F S_ .f32 := constant S_ .f32 0x33D6BF95#32
  let main_v451 : FVec F S8x1x5376 .f32 := broadcastInDim S8x1x5376 ![] bcast_S_S8x1x5376 main_cst_97
  let main_v452 : FVec F S8x1x5376 .f32 := maximumf main_v450 main_v451
  fn_part23 (F := F) main_arg0 main_arg1 main_arg2 main_arg3 main_arg4 main_v343 main_v395 main_v432 main_v433 main_v434 main_v435 main_v436 main_v438 main_v440 main_v441 main_v442 main_v443 main_v446 main_v449 main_v452

def fn_part21 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v45 : FVec F S5376 .f32) (main_v46 : FVec F S5376 .f32) (main_v47 : FVec F S5376 .f32) (main_v249 : FVec F S8x5376 .f32) (main_v250 : FVec F S8x5376 .f32) (main_v251 : FVec F S8x5376 .f32) (main_v252 : FVec F S8x5376 .f32) (main_v273 : FVec F S8x30 .f32) (main_v276 : FVec F S8x30 .f32) (main_v279 : FVec F S8x30 .f32) (main_v282 : FVec F S8x30 .f32) (main_v343 : IVec S8x30x5376 1) (main_v395 : FVec F S8x30x5376 .f32) (main_v411 : FVec F S8x1x5376x80 .f32) (main_v412 : FVec F S8x30x80 .f32) : IVec S_ 1 :=
  let main_v413 : FVec F S8x30x1x80 .f32 := broadcastInDim S8x30x1x80 ![0, 1, 3] bcast_S8x30x80_S8x30x1x80_0_1_3 main_v412
  let main_cst_90 : FVec F S_ .f32 := constant S_ .f32 0x33D6BF95#32
  let main_v414 : FVec F S8x1x5376x80 .f32 := broadcastInDim S8x1x5376x80 ![] bcast_S_S8x1x5376x80 main_cst_90
  let main_v415 : FVec F S8x1x5376x80 .f32 := addf main_v411 main_v414
  let main_v416 : FVec F S8x1x5376x80 .f32 := Host.log main_v415
  let main_v417 : FVec F S8x30x5376x80 .f32 := broadcastInDim S8x30x5376x80 ![0, 1, 2, 3] bcast_S8x30x1x80_S8x30x5376x80_0_1_2_3 main_v413
  let main_v418 : FVec F S8x30x5376x80 .f32 := broadcastInDim S8x30x5376x80 ![0, 1, 2, 3] bcast_S8x1x5376x80_S8x30x5376x80_0_1_2_3 main_v416
  let main_v419 : FVec F S8x30x5376x80 .f32 := mulf main_v417 main_v418
  let main_cst_91 : FVec F S_ .f32 := constant S_ .f32 0x3F800000#32
  let main_v420 : FVec F S8x30x1x80 .f32 := broadcastInDim S8x30x1x80 ![] bcast_S_S8x30x1x80 main_cst_91
  let main_v421 : FVec F S8x30x1x80 .f32 := subf main_v420 main_v413
  let main_cst_92 : FVec F S_ .f32 := constant S_ .f32 0x3F800000#32
  let main_v422 : FVec F S8x1x5376x80 .f32 := broadcastInDim S8x1x5376x80 ![] bcast_S_S8x1x5376x80 main_cst_92
  let main_v423 : FVec F S8x1x5376x80 .f32 := subf main_v422 main_v411
  let main_cst_93 : FVec F S_ .f32 := constant S_ .f32 0x33D6BF95#32
  let main_v424 : FVec F S8x1x5376x80 .f32 := broadcastInDim S8x1x5376x80 ![] bcast_S_S8x1x5376x80 main_cst_93
  let main_v425 : FVec F S8x1x5376x80 .f32 := addf main_v423 main_v424
  let main_v426 : FVec F S8x1x5376x80 .f32 := Host.log main_v425
  let main_v427 : FVec F S8x30x5376x80 .f32 := broadcastInDim S8x30x5376x80 ![0, 1, 2, 3] bcast_S8x30x1x80_S8x30x5376x80_0_1_2_3 main_v421
  let main_v428 : FVec F S8x30x5376x80 .f32 := broadcastInDim S8x30x5376x80 ![0, 1, 2, 3] bcast_S8x1x5376x80_S8x30x5376x80_0_1_2_3 main_v426
  let main_v429 : FVec F S8x30x5376x80 .f32 := mulf main_v427 main_v428
  let main_v430 : FVec F S8x30x5376x80 .f32 := addf main_v419 main_v429
  let main_cst_94 : FVec F S_ .f32 := constant S_ .f32 0x00000000#32
  let main_v431 : FVec F S8x30x5376 .f32 := (fun x v => Host.reduceAdd x v reducesTo_S8x30x5376x80_S8x30x5376_d3 h_S_) main_v430 main_cst_94
  fn_part22 (F := F) main_arg0 main_arg1 main_arg2 main_arg3 main_arg4 main_v45 main_v46 main_v47 main_v249 main_v250 main_v251 main_v252 main_v273 main_v276 main_v279 main_v282 main_v343 main_v395 main_v431

def fn_part20 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v45 : FVec F S5376 .f32) (main_v46 : FVec F S5376 .f32) (main_v47 : FVec F S5376 .f32) (main_v249 : FVec F S8x5376 .f32) (main_v250 : FVec F S8x5376 .f32) (main_v251 : FVec F S8x5376 .f32) (main_v252 : FVec F S8x5376 .f32) (main_v253 : FVec F S8x5376 .f32) (main_v254 : FVec F S8x5376x80 .f32) (main_v273 : FVec F S8x30 .f32) (main_v276 : FVec F S8x30 .f32) (main_v279 : FVec F S8x30 .f32) (main_v282 : FVec F S8x30 .f32) (main_v343 : IVec S8x30x5376 1) (main_v393 : FVec F S8x30x5376 .f32) : IVec S_ 1 :=
  let main_cst_85 : FVec F S_ .f32 := constant S_ .f32 0x3F800000#32
  let main_v394 : FVec F S8x30x5376 .f32 := broadcastInDim S8x30x5376 ![] bcast_S_S8x30x5376 main_cst_85
  let main_v395 : FVec F S8x30x5376 .f32 := minimumf main_v393 main_v394
  let main_v396 : FVec F S8x5376x80 .f32 := Host.negf main_v254
  let main_v397 : FVec F S8x5376x80 .f32 := Host.exp main_v396
  let main_cst_86 : FVec F S_ .f32 := constant S_ .f32 0x3F800000#32
  let main_v398 : FVec F S8x5376x80 .f32 := broadcastInDim S8x5376x80 ![] bcast_S_S8x5376x80 main_cst_86
  let main_v399 : FVec F S8x5376x80 .f32 := addf main_v398 main_v397
  let main_cst_87 : FVec F S_ .f32 := constant S_ .f32 0x3F800000#32
  let main_v400 : FVec F S8x5376x80 .f32 := broadcastInDim S8x5376x80 ![] bcast_S_S8x5376x80 main_cst_87
  let main_v401 : FVec F S8x5376x80 .f32 := Host.divf main_v400 main_v399
  let main_v402 : FVec F S8x5376 .f32 := Host.negf main_v253
  let main_v403 : FVec F S8x5376 .f32 := Host.exp main_v402
  let main_cst_88 : FVec F S_ .f32 := constant S_ .f32 0x3F800000#32
  let main_v404 : FVec F S8x5376 .f32 := broadcastInDim S8x5376 ![] bcast_S_S8x5376 main_cst_88
  let main_v405 : FVec F S8x5376 .f32 := addf main_v404 main_v403
  let main_cst_89 : FVec F S_ .f32 := constant S_ .f32 0x3F800000#32
  let main_v406 : FVec F S8x5376 .f32 := broadcastInDim S8x5376 ![] bcast_S_S8x5376 main_cst_89
  let main_v407 : FVec F S8x5376 .f32 := Host.divf main_v406 main_v405
  let main_v408 : FVec F S8x5376x1 .f32 := broadcastInDim S8x5376x1 ![0, 1] bcast_S8x5376_S8x5376x1_0_1 main_v407
  let main_v409 : FVec F S8x5376x80 .f32 := broadcastInDim S8x5376x80 ![0, 1, 2] bcast_S8x5376x1_S8x5376x80_0_1_2 main_v408
  let main_v410 : FVec F S8x5376x80 .f32 := mulf main_v401 main_v409
  let main_v411 : FVec F S8x1x5376x80 .f32 := broadcastInDim S8x1x5376x80 ![0, 2, 3] bcast_S8x5376x80_S8x1x5376x80_0_2_3 main_v410
  let main_v412 : FVec F S8x30x80 .f32 := fn_one_hot (F := F) main_arg4
  fn_part21 (F := F) main_arg0 main_arg1 main_arg2 main_arg3 main_arg4 main_v45 main_v46 main_v47 main_v249 main_v250 main_v251 main_v252 main_v273 main_v276 main_v279 main_v282 main_v343 main_v395 main_v411 main_v412

def fn_part19 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v45 : FVec F S5376 .f32) (main_v46 : FVec F S5376 .f32) (main_v47 : FVec F S5376 .f32) (main_v249 : FVec F S8x5376 .f32) (main_v250 : FVec F S8x5376 .f32) (main_v251 : FVec F S8x5376 .f32) (main_v252 : FVec F S8x5376 .f32) (main_v253 : FVec F S8x5376 .f32) (main_v254 : FVec F S8x5376x80 .f32) (main_v273 : FVec F S8x30 .f32) (main_v276 : FVec F S8x30 .f32) (main_v279 : FVec F S8x30 .f32) (main_v282 : FVec F S8x30 .f32) (main_v343 : IVec S8x30x5376 1) (main_v347 : FVec F S8x30x1 .f32) (main_v351 : FVec F S8x1x5376 .f32) (main_v358 : FVec F S8x30x1 .f32) (main_v365 : FVec F S8x1x5376 .f32) (main_v368 : FVec F S8x30x5376 .f32) (main_v371 : FVec F S8x30x5376 .f32) (main_v372 : FVec F S8x30x5376 .f32) (main_v373 : FVec F S8x30x5376 .f32) : IVec S_ 1 :=
  let main_v374 : FVec F S8x30x5376 .f32 := minimumf main_v372 main_v373
  let main_v375 : FVec F S8x30x5376 .f32 := broadcastInDim S8x30x5376 ![0, 1, 2] bcast_S8x30x1_S8x30x5376_0_1_2 main_v347
  let main_v376 : FVec F S8x30x5376 .f32 := broadcastInDim S8x30x5376 ![0, 1, 2] bcast_S8x1x5376_S8x30x5376_0_1_2 main_v351
  let main_v377 : FVec F S8x30x5376 .f32 := minimumf main_v375 main_v376
  let main_v378 : FVec F S8x30x5376 .f32 := subf main_v374 main_v368
  let main_cst_81 : FVec F S_ .f32 := constant S_ .f32 0x00000000#32
  let main_v379 : FVec F S8x30x5376 .f32 := broadcastInDim S8x30x5376 ![] bcast_S_S8x30x5376 main_cst_81
  let main_v380 : FVec F S8x30x5376 .f32 := maximumf main_v378 main_v379
  let main_v381 : FVec F S8x30x5376 .f32 := subf main_v377 main_v371
  let main_cst_82 : FVec F S_ .f32 := constant S_ .f32 0x00000000#32
  let main_v382 : FVec F S8x30x5376 .f32 := broadcastInDim S8x30x5376 ![] bcast_S_S8x30x5376 main_cst_82
  let main_v383 : FVec F S8x30x5376 .f32 := maximumf main_v381 main_v382
  let main_v384 : FVec F S8x30x5376 .f32 := mulf main_v380 main_v383
  let main_v385 : FVec F S8x30x5376 .f32 := broadcastInDim S8x30x5376 ![0, 1, 2] bcast_S8x30x1_S8x30x5376_0_1_2 main_v358
  let main_v386 : FVec F S8x30x5376 .f32 := broadcastInDim S8x30x5376 ![0, 1, 2] bcast_S8x1x5376_S8x30x5376_0_1_2 main_v365
  let main_v387 : FVec F S8x30x5376 .f32 := addf main_v385 main_v386
  let main_v388 : FVec F S8x30x5376 .f32 := subf main_v387 main_v384
  let main_cst_83 : FVec F S_ .f32 := constant S_ .f32 0x33D6BF95#32
  let main_v389 : FVec F S8x30x5376 .f32 := broadcastInDim S8x30x5376 ![] bcast_S_S8x30x5376 main_cst_83
  let main_v390 : FVec F S8x30x5376 .f32 := addf main_v388 main_v389
  let main_v391 : FVec F S8x30x5376 .f32 := Host.divf main_v384 main_v390
  let main_cst_84 : FVec F S_ .f32 := constant S_ .f32 0x00000000#32
  let main_v392 : FVec F S8x30x5376 .f32 := broadcastInDim S8x30x5376 ![] bcast_S_S8x30x5376 main_cst_84
  let main_v393 : FVec F S8x30x5376 .f32 := maximumf main_v391 main_v392
  fn_part20 (F := F) main_arg0 main_arg1 main_arg2 main_arg3 main_arg4 main_v45 main_v46 main_v47 main_v249 main_v250 main_v251 main_v252 main_v253 main_v254 main_v273 main_v276 main_v279 main_v282 main_v343 main_v393

def fn_part18 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v45 : FVec F S5376 .f32) (main_v46 : FVec F S5376 .f32) (main_v47 : FVec F S5376 .f32) (main_v249 : FVec F S8x5376 .f32) (main_v250 : FVec F S8x5376 .f32) (main_v251 : FVec F S8x5376 .f32) (main_v252 : FVec F S8x5376 .f32) (main_v253 : FVec F S8x5376 .f32) (main_v254 : FVec F S8x5376x80 .f32) (main_v273 : FVec F S8x30 .f32) (main_v276 : FVec F S8x30 .f32) (main_v279 : FVec F S8x30 .f32) (main_v282 : FVec F S8x30 .f32) (main_v343 : IVec S8x30x5376 1) (main_v344 : FVec F S8x30x1 .f32) (main_v345 : FVec F S8x30x1 .f32) (main_v346 : FVec F S8x30x1 .f32) (main_v347 : FVec F S8x30x1 .f32) (main_v348 : FVec F S8x1x5376 .f32) (main_v349 : FVec F S8x1x5376 .f32) (main_v350 : FVec F S8x1x5376 .f32) (main_v351 : FVec F S8x1x5376 .f32) (main_v352 : FVec F S8x30x1 .f32) (main_cst_77 : FVec F S_ .f32) : IVec S_ 1 :=
  let main_v353 : FVec F S8x30x1 .f32 := broadcastInDim S8x30x1 ![] bcast_S_S8x30x1 main_cst_77
  let main_v354 : FVec F S8x30x1 .f32 := maximumf main_v352 main_v353
  let main_v355 : FVec F S8x30x1 .f32 := subf main_v347 main_v345
  let main_cst_78 : FVec F S_ .f32 := constant S_ .f32 0x00000000#32
  let main_v356 : FVec F S8x30x1 .f32 := broadcastInDim S8x30x1 ![] bcast_S_S8x30x1 main_cst_78
  let main_v357 : FVec F S8x30x1 .f32 := maximumf main_v355 main_v356
  let main_v358 : FVec F S8x30x1 .f32 := mulf main_v354 main_v357
  let main_v359 : FVec F S8x1x5376 .f32 := subf main_v350 main_v348
  let main_cst_79 : FVec F S_ .f32 := constant S_ .f32 0x00000000#32
  let main_v360 : FVec F S8x1x5376 .f32 := broadcastInDim S8x1x5376 ![] bcast_S_S8x1x5376 main_cst_79
  let main_v361 : FVec F S8x1x5376 .f32 := maximumf main_v359 main_v360
  let main_v362 : FVec F S8x1x5376 .f32 := subf main_v351 main_v349
  let main_cst_80 : FVec F S_ .f32 := constant S_ .f32 0x00000000#32
  let main_v363 : FVec F S8x1x5376 .f32 := broadcastInDim S8x1x5376 ![] bcast_S_S8x1x5376 main_cst_80
  let main_v364 : FVec F S8x1x5376 .f32 := maximumf main_v362 main_v363
  let main_v365 : FVec F S8x1x5376 .f32 := mulf main_v361 main_v364
  let main_v366 : FVec F S8x30x5376 .f32 := broadcastInDim S8x30x5376 ![0, 1, 2] bcast_S8x30x1_S8x30x5376_0_1_2 main_v344
  let main_v367 : FVec F S8x30x5376 .f32 := broadcastInDim S8x30x5376 ![0, 1, 2] bcast_S8x1x5376_S8x30x5376_0_1_2 main_v348
  let main_v368 : FVec F S8x30x5376 .f32 := maximumf main_v366 main_v367
  let main_v369 : FVec F S8x30x5376 .f32 := broadcastInDim S8x30x5376 ![0, 1, 2] bcast_S8x30x1_S8x30x5376_0_1_2 main_v345
  let main_v370 : FVec F S8x30x5376 .f32 := broadcastInDim S8x30x5376 ![0, 1, 2] bcast_S8x1x5376_S8x30x5376_0_1_2 main_v349
  let main_v371 : FVec F S8x30x5376 .f32 := maximumf main_v369 main_v370
  let main_v372 : FVec F S8x30x5376 .f32 := broadcastInDim S8x30x5376 ![0, 1, 2] bcast_S8x30x1_S8x30x5376_0_1_2 main_v346
  let main_v373 : FVec F S8x30x5376 .f32 := broadcastInDim S8x30x5376 ![0, 1, 2] bcast_S8x1x5376_S8x30x5376_0_1_2 main_v350
  fn_part19 (F := F) main_arg0 main_arg1 main_arg2 main_arg3 main_arg4 main_v45 main_v46 main_v47 main_v249 main_v250 main_v251 main_v252 main_v253 main_v254 main_v273 main_v276 main_v279 main_v282 main_v343 main_v347 main_v351 main_v358 main_v365 main_v368 main_v371 main_v372 main_v373

def fn_part17 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v45 : FVec F S5376 .f32) (main_v46 : FVec F S5376 .f32) (main_v47 : FVec F S5376 .f32) (main_v249 : FVec F S8x5376 .f32) (main_v250 : FVec F S8x5376 .f32) (main_v251 : FVec F S8x5376 .f32) (main_v252 : FVec F S8x5376 .f32) (main_v253 : FVec F S8x5376 .f32) (main_v254 : FVec F S8x5376x80 .f32) (main_v273 : FVec F S8x30 .f32) (main_v276 : FVec F S8x30 .f32) (main_v279 : FVec F S8x30 .f32) (main_v282 : FVec F S8x30 .f32) (main_v284 : FVec F S8x30x1 .f32) (main_v285 : FVec F S8x30x1 .f32) (main_v286 : FVec F S8x30x1 .f32) (main_v287 : FVec F S1x1x5376 .f32) (main_v288 : FVec F S1x1x5376 .f32) (main_v305 : IVec S8x30x5376 1) (main_v326 : IVec S8x30x5376 1) (main_v329 : IVec S8x30x5376 1) : IVec S_ 1 :=
  let main_v330 : FVec F S8x30x5376 .f32 := broadcastInDim S8x30x5376 ![0, 1, 2] bcast_S1x1x5376_S8x30x5376_0_1_2 main_v287
  let main_v331 : FVec F S8x30x5376 .f32 := broadcastInDim S8x30x5376 ![0, 1, 2] bcast_S8x30x1_S8x30x5376_0_1_2 main_v285
  let main_v332 : IVec S8x30x5376 1 := cmpf .olt main_v330 main_v331
  let main_v333 : IVec S8x30x5376 1 := andi main_v329 main_v332
  let main_v334 : FVec F S8x30x5376 .f32 := broadcastInDim S8x30x5376 ![0, 1, 2] bcast_S1x1x5376_S8x30x5376_0_1_2 main_v288
  let main_v335 : FVec F S8x30x5376 .f32 := broadcastInDim S8x30x5376 ![0, 1, 2] bcast_S8x30x1_S8x30x5376_0_1_2 main_v284
  let main_v336 : IVec S8x30x5376 1 := cmpf .ogt main_v334 main_v335
  let main_v337 : IVec S8x30x5376 1 := andi main_v333 main_v336
  let main_v338 : FVec F S8x30x5376 .f32 := broadcastInDim S8x30x5376 ![0, 1, 2] bcast_S1x1x5376_S8x30x5376_0_1_2 main_v288
  let main_v339 : FVec F S8x30x5376 .f32 := broadcastInDim S8x30x5376 ![0, 1, 2] bcast_S8x30x1_S8x30x5376_0_1_2 main_v286
  let main_v340 : IVec S8x30x5376 1 := cmpf .olt main_v338 main_v339
  let main_v341 : IVec S8x30x5376 1 := andi main_v337 main_v340
  let main_v342 : IVec S8x30x5376 1 := ori main_v326 main_v341
  let main_v343 : IVec S8x30x5376 1 := andi main_v305 main_v342
  let main_v344 : FVec F S8x30x1 .f32 := broadcastInDim S8x30x1 ![0, 1] bcast_S8x30_S8x30x1_0_1 main_v273
  let main_v345 : FVec F S8x30x1 .f32 := broadcastInDim S8x30x1 ![0, 1] bcast_S8x30_S8x30x1_0_1 main_v276
  let main_v346 : FVec F S8x30x1 .f32 := broadcastInDim S8x30x1 ![0, 1] bcast_S8x30_S8x30x1_0_1 main_v279
  let main_v347 : FVec F S8x30x1 .f32 := broadcastInDim S8x30x1 ![0, 1] bcast_S8x30_S8x30x1_0_1 main_v282
  let main_v348 : FVec F S8x1x5376 .f32 := broadcastInDim S8x1x5376 ![0, 2] bcast_S8x5376_S8x1x5376_0_2 main_v249
  let main_v349 : FVec F S8x1x5376 .f32 := broadcastInDim S8x1x5376 ![0, 2] bcast_S8x5376_S8x1x5376_0_2 main_v250
  let main_v350 : FVec F S8x1x5376 .f32 := broadcastInDim S8x1x5376 ![0, 2] bcast_S8x5376_S8x1x5376_0_2 main_v251
  let main_v351 : FVec F S8x1x5376 .f32 := broadcastInDim S8x1x5376 ![0, 2] bcast_S8x5376_S8x1x5376_0_2 main_v252
  let main_v352 : FVec F S8x30x1 .f32 := subf main_v346 main_v344
  let main_cst_77 : FVec F S_ .f32 := constant S_ .f32 0x00000000#32
  fn_part18 (F := F) main_arg0 main_arg1 main_arg2 main_arg3 main_arg4 main_v45 main_v46 main_v47 main_v249 main_v250 main_v251 main_v252 main_v253 main_v254 main_v273 main_v276 main_v279 main_v282 main_v343 main_v344 main_v345 main_v346 main_v347 main_v348 main_v349 main_v350 main_v351 main_v352 main_cst_77

def fn_part16 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v45 : FVec F S5376 .f32) (main_v46 : FVec F S5376 .f32) (main_v47 : FVec F S5376 .f32) (main_v249 : FVec F S8x5376 .f32) (main_v250 : FVec F S8x5376 .f32) (main_v251 : FVec F S8x5376 .f32) (main_v252 : FVec F S8x5376 .f32) (main_v253 : FVec F S8x5376 .f32) (main_v254 : FVec F S8x5376x80 .f32) (main_v273 : FVec F S8x30 .f32) (main_v276 : FVec F S8x30 .f32) (main_v279 : FVec F S8x30 .f32) (main_v282 : FVec F S8x30 .f32) (main_v283 : FVec F S8x30x1 .f32) (main_v284 : FVec F S8x30x1 .f32) (main_v285 : FVec F S8x30x1 .f32) (main_v286 : FVec F S8x30x1 .f32) (main_v287 : FVec F S1x1x5376 .f32) (main_v288 : FVec F S1x1x5376 .f32) (main_v289 : FVec F S1x1x5376 .f32) (main_v305 : IVec S8x30x5376 1) (main_v306 : FVec F S8x30x1 .f32) (main_v307 : FVec F S8x30x1 .f32) : IVec S_ 1 :=
  let main_v308 : FVec F S8x30x1 .f32 := mulf main_v306 main_v307
  let main_v309 : FVec F S8x30x5376 .f32 := broadcastInDim S8x30x5376 ![0, 1, 2] bcast_S1x1x5376_S8x30x5376_0_1_2 main_v287
  let main_v310 : FVec F S8x30x5376 .f32 := broadcastInDim S8x30x5376 ![0, 1, 2] bcast_S8x30x1_S8x30x5376_0_1_2 main_v308
  let main_v311 : FVec F S8x30x5376 .f32 := subf main_v309 main_v310
  let main_v312 : FVec F S8x30x5376 .f32 := Host.absf main_v311
  let main_v313 : FVec F S8x30x1 .f32 := addf main_v284 main_v286
  let main_cst_75 : FVec F S_ .f32 := constant S_ .f32 0x3F000000#32
  let main_v314 : FVec F S8x30x1 .f32 := broadcastInDim S8x30x1 ![] bcast_S_S8x30x1 main_cst_75
  let main_v315 : FVec F S8x30x1 .f32 := mulf main_v313 main_v314
  let main_v316 : FVec F S8x30x5376 .f32 := broadcastInDim S8x30x5376 ![0, 1, 2] bcast_S1x1x5376_S8x30x5376_0_1_2 main_v288
  let main_v317 : FVec F S8x30x5376 .f32 := broadcastInDim S8x30x5376 ![0, 1, 2] bcast_S8x30x1_S8x30x5376_0_1_2 main_v315
  let main_v318 : FVec F S8x30x5376 .f32 := subf main_v316 main_v317
  let main_v319 : FVec F S8x30x5376 .f32 := Host.absf main_v318
  let main_cst_76 : FVec F S_ .f32 := constant S_ .f32 0x40000000#32
  let main_v320 : FVec F S1x1x5376 .f32 := broadcastInDim S1x1x5376 ![] bcast_S_S1x1x5376 main_cst_76
  let main_v321 : FVec F S1x1x5376 .f32 := mulf main_v320 main_v289
  let main_v322 : FVec F S8x30x5376 .f32 := broadcastInDim S8x30x5376 ![0, 1, 2] bcast_S1x1x5376_S8x30x5376_0_1_2 main_v321
  let main_v323 : IVec S8x30x5376 1 := cmpf .olt main_v312 main_v322
  let main_v324 : FVec F S8x30x5376 .f32 := broadcastInDim S8x30x5376 ![0, 1, 2] bcast_S1x1x5376_S8x30x5376_0_1_2 main_v321
  let main_v325 : IVec S8x30x5376 1 := cmpf .olt main_v319 main_v324
  let main_v326 : IVec S8x30x5376 1 := andi main_v323 main_v325
  let main_v327 : FVec F S8x30x5376 .f32 := broadcastInDim S8x30x5376 ![0, 1, 2] bcast_S1x1x5376_S8x30x5376_0_1_2 main_v287
  let main_v328 : FVec F S8x30x5376 .f32 := broadcastInDim S8x30x5376 ![0, 1, 2] bcast_S8x30x1_S8x30x5376_0_1_2 main_v283
  let main_v329 : IVec S8x30x5376 1 := cmpf .ogt main_v327 main_v328
  fn_part17 (F := F) main_arg0 main_arg1 main_arg2 main_arg3 main_arg4 main_v45 main_v46 main_v47 main_v249 main_v250 main_v251 main_v252 main_v253 main_v254 main_v273 main_v276 main_v279 main_v282 main_v284 main_v285 main_v286 main_v287 main_v288 main_v305 main_v326 main_v329

def fn_part15 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v45 : FVec F S5376 .f32) (main_v46 : FVec F S5376 .f32) (main_v47 : FVec F S5376 .f32) (main_v249 : FVec F S8x5376 .f32) (main_v250 : FVec F S8x5376 .f32) (main_v251 : FVec F S8x5376 .f32) (main_v252 : FVec F S8x5376 .f32) (main_v253 : FVec F S8x5376 .f32) (main_v254 : FVec F S8x5376x80 .f32) (main_v273 : FVec F S8x30 .f32) (main_v276 : FVec F S8x30 .f32) (main_v279 : FVec F S8x30 .f32) (main_v282 : FVec F S8x30 .f32) (main_v283 : FVec F S8x30x1 .f32) (main_v284 : FVec F S8x30x1 .f32) (main_v285 : FVec F S8x30x1 .f32) (main_v286 : FVec F S8x30x1 .f32) (main_v287 : FVec F S1x1x5376 .f32) (main_v288 : FVec F S1x1x5376 .f32) : IVec S_ 1 :=
  let main_v289 : FVec F S1x1x5376 .f32 := broadcastInDim S1x1x5376 ![2] bcast_S5376_S1x1x5376_2 main_v47
  let main_v290 : FVec F S8x30x1 .f32 := subf main_v285 main_v283
  let main_cst_70 : FVec F S_ .f32 := constant S_ .f32 0x33D6BF95#32
  let main_v291 : FVec F S8x30x1 .f32 := broadcastInDim S8x30x1 ![] bcast_S_S8x30x1 main_cst_70
  let main_v292 : FVec F S8x30x1 .f32 := maximumf main_v290 main_v291
  let main_v293 : FVec F S8x30x1 .f32 := subf main_v286 main_v284
  let main_cst_71 : FVec F S_ .f32 := constant S_ .f32 0x33D6BF95#32
  let main_v294 : FVec F S8x30x1 .f32 := broadcastInDim S8x30x1 ![] bcast_S_S8x30x1 main_cst_71
  let main_v295 : FVec F S8x30x1 .f32 := maximumf main_v293 main_v294
  let main_v296 : FVec F S8x30x1 .f32 := mulf main_v292 main_v295
  let main_v297 : FVec F S1x1x5376 .f32 := mulf main_v289 main_v289
  let main_v298 : FVec F S8x30x5376 .f32 := broadcastInDim S8x30x5376 ![0, 1, 2] bcast_S8x30x1_S8x30x5376_0_1_2 main_v296
  let main_v299 : FVec F S8x30x5376 .f32 := broadcastInDim S8x30x5376 ![0, 1, 2] bcast_S1x1x5376_S8x30x5376_0_1_2 main_v297
  let main_v300 : FVec F S8x30x5376 .f32 := Host.divf main_v298 main_v299
  let main_cst_72 : FVec F S_ .f32 := constant S_ .f32 0x404CCCCD#32
  let main_v301 : FVec F S8x30x5376 .f32 := broadcastInDim S8x30x5376 ![] bcast_S_S8x30x5376 main_cst_72
  let main_v302 : IVec S8x30x5376 1 := cmpf .oge main_v300 main_v301
  let main_cst_73 : FVec F S_ .f32 := constant S_ .f32 0x43A00000#32
  let main_v303 : FVec F S8x30x5376 .f32 := broadcastInDim S8x30x5376 ![] bcast_S_S8x30x5376 main_cst_73
  let main_v304 : IVec S8x30x5376 1 := cmpf .ole main_v300 main_v303
  let main_v305 : IVec S8x30x5376 1 := andi main_v302 main_v304
  let main_v306 : FVec F S8x30x1 .f32 := addf main_v283 main_v285
  let main_cst_74 : FVec F S_ .f32 := constant S_ .f32 0x3F000000#32
  let main_v307 : FVec F S8x30x1 .f32 := broadcastInDim S8x30x1 ![] bcast_S_S8x30x1 main_cst_74
  fn_part16 (F := F) main_arg0 main_arg1 main_arg2 main_arg3 main_arg4 main_v45 main_v46 main_v47 main_v249 main_v250 main_v251 main_v252 main_v253 main_v254 main_v273 main_v276 main_v279 main_v282 main_v283 main_v284 main_v285 main_v286 main_v287 main_v288 main_v289 main_v305 main_v306 main_v307

def fn_part14 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v45 : FVec F S5376 .f32) (main_v46 : FVec F S5376 .f32) (main_v47 : FVec F S5376 .f32) (main_v249 : FVec F S8x5376 .f32) (main_v250 : FVec F S8x5376 .f32) (main_v251 : FVec F S8x5376 .f32) (main_v252 : FVec F S8x5376 .f32) (main_v253 : FVec F S8x5376 .f32) (main_v254 : FVec F S8x5376x80 .f32) (main_v258 : FVec F S8x30 .f32) (main_v262 : FVec F S8x30 .f32) (main_v266 : FVec F S8x30 .f32) (main_v268 : FVec F S8x30 .f32) (main_cst_65 : FVec F S_ .f32) : IVec S_ 1 :=
  let main_v269 : FVec F S8x30 .f32 := broadcastInDim S8x30 ![] bcast_S_S8x30 main_cst_65
  let main_v270 : FVec F S8x30 .f32 := mulf main_v268 main_v269
  let main_cst_66 : FVec F S_ .f32 := constant S_ .f32 0x3F000000#32
  let main_v271 : FVec F S8x30 .f32 := broadcastInDim S8x30 ![] bcast_S_S8x30 main_cst_66
  let main_v272 : FVec F S8x30 .f32 := mulf main_v266 main_v271
  let main_v273 : FVec F S8x30 .f32 := subf main_v258 main_v272
  let main_cst_67 : FVec F S_ .f32 := constant S_ .f32 0x3F000000#32
  let main_v274 : FVec F S8x30 .f32 := broadcastInDim S8x30 ![] bcast_S_S8x30 main_cst_67
  let main_v275 : FVec F S8x30 .f32 := mulf main_v270 main_v274
  let main_v276 : FVec F S8x30 .f32 := subf main_v262 main_v275
  let main_cst_68 : FVec F S_ .f32 := constant S_ .f32 0x3F000000#32
  let main_v277 : FVec F S8x30 .f32 := broadcastInDim S8x30 ![] bcast_S_S8x30 main_cst_68
  let main_v278 : FVec F S8x30 .f32 := mulf main_v266 main_v277
  let main_v279 : FVec F S8x30 .f32 := addf main_v258 main_v278
  let main_cst_69 : FVec F S_ .f32 := constant S_ .f32 0x3F000000#32
  let main_v280 : FVec F S8x30 .f32 := broadcastInDim S8x30 ![] bcast_S_S8x30 main_cst_69
  let main_v281 : FVec F S8x30 .f32 := mulf main_v270 main_v280
  let main_v282 : FVec F S8x30 .f32 := addf main_v262 main_v281
  let main_v283 : FVec F S8x30x1 .f32 := broadcastInDim S8x30x1 ![0, 1] bcast_S8x30_S8x30x1_0_1 main_v273
  let main_v284 : FVec F S8x30x1 .f32 := broadcastInDim S8x30x1 ![0, 1] bcast_S8x30_S8x30x1_0_1 main_v276
  let main_v285 : FVec F S8x30x1 .f32 := broadcastInDim S8x30x1 ![0, 1] bcast_S8x30_S8x30x1_0_1 main_v279
  let main_v286 : FVec F S8x30x1 .f32 := broadcastInDim S8x30x1 ![0, 1] bcast_S8x30_S8x30x1_0_1 main_v282
  let main_v287 : FVec F S1x1x5376 .f32 := broadcastInDim S1x1x5376 ![2] bcast_S5376_S1x1x5376_2 main_v45
  let main_v288 : FVec F S1x1x5376 .f32 := broadcastInDim S1x1x5376 ![2] bcast_S5376_S1x1x5376_2 main_v46
  fn_part15 (F := F) main_arg0 main_arg1 main_arg2 main_arg3 main_arg4 main_v45 main_v46 main_v47 main_v249 main_v250 main_v251 main_v252 main_v253 main_v254 main_v273 main_v276 main_v279 main_v282 main_v283 main_v284 main_v285 main_v286 main_v287 main_v288

def fn_part13 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v45 : FVec F S5376 .f32) (main_v46 : FVec F S5376 .f32) (main_v47 : FVec F S5376 .f32) (main_v102 : FVec F S8x4096 .f32) (main_v105 : FVec F S8x4096 .f32) (main_v108 : FVec F S8x4096 .f32) (main_v111 : FVec F S8x4096 .f32) (main_v113 : FVec F S8x4096 .f32) (main_v114 : FVec F S8x4096x80 .f32) (main_v169 : FVec F S8x1024 .f32) (main_v172 : FVec F S8x1024 .f32) (main_v175 : FVec F S8x1024 .f32) (main_v178 : FVec F S8x1024 .f32) (main_v180 : FVec F S8x1024 .f32) (main_v181 : FVec F S8x1024x80 .f32) (main_v236 : FVec F S8x256 .f32) (main_v239 : FVec F S8x256 .f32) (main_v242 : FVec F S8x256 .f32) (main_v245 : FVec F S8x256 .f32) (main_v247 : FVec F S8x256 .f32) (main_v248 : FVec F S8x256x80 .f32) : IVec S_ 1 :=
  let main_v249 : FVec F S8x5376 .f32 := concatenate S8x5376 1 [⟨S8x4096, main_v102⟩, ⟨S8x1024, main_v169⟩, ⟨S8x256, main_v236⟩] concatenates_S8x4096_S8x1024_S8x256_S8x5376_d1
  let main_v250 : FVec F S8x5376 .f32 := concatenate S8x5376 1 [⟨S8x4096, main_v105⟩, ⟨S8x1024, main_v172⟩, ⟨S8x256, main_v239⟩] concatenates_S8x4096_S8x1024_S8x256_S8x5376_d1
  let main_v251 : FVec F S8x5376 .f32 := concatenate S8x5376 1 [⟨S8x4096, main_v108⟩, ⟨S8x1024, main_v175⟩, ⟨S8x256, main_v242⟩] concatenates_S8x4096_S8x1024_S8x256_S8x5376_d1
  let main_v252 : FVec F S8x5376 .f32 := concatenate S8x5376 1 [⟨S8x4096, main_v111⟩, ⟨S8x1024, main_v178⟩, ⟨S8x256, main_v245⟩] concatenates_S8x4096_S8x1024_S8x256_S8x5376_d1
  let main_v253 : FVec F S8x5376 .f32 := concatenate S8x5376 1 [⟨S8x4096, main_v113⟩, ⟨S8x1024, main_v180⟩, ⟨S8x256, main_v247⟩] concatenates_S8x4096_S8x1024_S8x256_S8x5376_d1
  let main_v254 : FVec F S8x5376x80 .f32 := concatenate S8x5376x80 1 [⟨S8x4096x80, main_v114⟩, ⟨S8x1024x80, main_v181⟩, ⟨S8x256x80, main_v248⟩] concatenates_S8x4096x80_S8x1024x80_S8x256x80_S8x5376x80_d1
  let main_v255 : FVec F S8x30x1 .f32 := (extractStridedSlice S8x30x1 ![0, 0, 0] · slices_S8x30x4_S8x30x1_0_0_0) main_arg3
  let main_v256 : FVec F S8x30 .f32 := shapeCast S8x30 main_v255 shapeCasts_S8x30x1_S8x30
  let main_cst_62 : FVec F S_ .f32 := constant S_ .f32 0x44000000#32
  let main_v257 : FVec F S8x30 .f32 := broadcastInDim S8x30 ![] bcast_S_S8x30 main_cst_62
  let main_v258 : FVec F S8x30 .f32 := mulf main_v256 main_v257
  let main_v259 : FVec F S8x30x1 .f32 := (extractStridedSlice S8x30x1 ![0, 0, 1] · slices_S8x30x4_S8x30x1_0_0_1) main_arg3
  let main_v260 : FVec F S8x30 .f32 := shapeCast S8x30 main_v259 shapeCasts_S8x30x1_S8x30
  let main_cst_63 : FVec F S_ .f32 := constant S_ .f32 0x44000000#32
  let main_v261 : FVec F S8x30 .f32 := broadcastInDim S8x30 ![] bcast_S_S8x30 main_cst_63
  let main_v262 : FVec F S8x30 .f32 := mulf main_v260 main_v261
  let main_v263 : FVec F S8x30x1 .f32 := (extractStridedSlice S8x30x1 ![0, 0, 2] · slices_S8x30x4_S8x30x1_0_0_2) main_arg3
  let main_v264 : FVec F S8x30 .f32 := shapeCast S8x30 main_v263 shapeCasts_S8x30x1_S8x30
  let main_cst_64 : FVec F S_ .f32 := constant S_ .f32 0x44000000#32
  let main_v265 : FVec F S8x30 .f32 := broadcastInDim S8x30 ![] bcast_S_S8x30 main_cst_64
  let main_v266 : FVec F S8x30 .f32 := mulf main_v264 main_v265
  let main_v267 : FVec F S8x30x1 .f32 := (extractStridedSlice S8x30x1 ![0, 0, 3] · slices_S8x30x4_S8x30x1_0_0_3) main_arg3
  let main_v268 : FVec F S8x30 .f32 := shapeCast S8x30 main_v267 shapeCasts_S8x30x1_S8x30
  let main_cst_65 : FVec F S_ .f32 := constant S_ .f32 0x44000000#32
  fn_part14 (F := F) main_arg0 main_arg1 main_arg2 main_arg3 main_arg4 main_v45 main_v46 main_v47 main_v249 main_v250 main_v251 main_v252 main_v253 main_v254 main_v258 main_v262 main_v266 main_v268 main_cst_65

def fn_part12 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v45 : FVec F S5376 .f32) (main_v46 : FVec F S5376 .f32) (main_v47 : FVec F S5376 .f32) (main_v102 : FVec F S8x4096 .f32) (main_v105 : FVec F S8x4096 .f32) (main_v108 : FVec F S8x4096 .f32) (main_v111 : FVec F S8x4096 .f32) (main_v113 : FVec F S8x4096 .f32) (main_v114 : FVec F S8x4096x80 .f32) (main_v169 : FVec F S8x1024 .f32) (main_v172 : FVec F S8x1024 .f32) (main_v175 : FVec F S8x1024 .f32) (main_v178 : FVec F S8x1024 .f32) (main_v180 : FVec F S8x1024 .f32) (main_v181 : FVec F S8x1024x80 .f32) (main_v183 : FVec F S8x256x85 .f32) (main_v206 : FVec F S8x256 .f32) (main_v223 : FVec F S8x256 .f32) (main_v228 : FVec F S8x256 .f32) (main_v229 : FVec F S8x256x1 .f32) : IVec S_ 1 :=
  let main_v230 : FVec F S8x256 .f32 := shapeCast S8x256 main_v229 shapeCasts_S8x256x1_S8x256
  let main_v231 : FVec F S8x256 .f32 := fn_softplus_1 (F := F) main_v230
  let main_cst_57 : FVec F S_ .f32 := constant S_ .f32 0x42000000#32
  let main_v232 : FVec F S8x256 .f32 := broadcastInDim S8x256 ![] bcast_S_S8x256 main_cst_57
  let main_v233 : FVec F S8x256 .f32 := mulf main_v231 main_v232
  let main_cst_58 : FVec F S_ .f32 := constant S_ .f32 0x3F000000#32
  let main_v234 : FVec F S8x256 .f32 := broadcastInDim S8x256 ![] bcast_S_S8x256 main_cst_58
  let main_v235 : FVec F S8x256 .f32 := mulf main_v228 main_v234
  let main_v236 : FVec F S8x256 .f32 := subf main_v206 main_v235
  let main_cst_59 : FVec F S_ .f32 := constant S_ .f32 0x3F000000#32
  let main_v237 : FVec F S8x256 .f32 := broadcastInDim S8x256 ![] bcast_S_S8x256 main_cst_59
  let main_v238 : FVec F S8x256 .f32 := mulf main_v233 main_v237
  let main_v239 : FVec F S8x256 .f32 := subf main_v223 main_v238
  let main_cst_60 : FVec F S_ .f32 := constant S_ .f32 0x3F000000#32
  let main_v240 : FVec F S8x256 .f32 := broadcastInDim S8x256 ![] bcast_S_S8x256 main_cst_60
  let main_v241 : FVec F S8x256 .f32 := mulf main_v228 main_v240
  let main_v242 : FVec F S8x256 .f32 := addf main_v206 main_v241
  let main_cst_61 : FVec F S_ .f32 := constant S_ .f32 0x3F000000#32
  let main_v243 : FVec F S8x256 .f32 := broadcastInDim S8x256 ![] bcast_S_S8x256 main_cst_61
  let main_v244 : FVec F S8x256 .f32 := mulf main_v233 main_v243
  let main_v245 : FVec F S8x256 .f32 := addf main_v223 main_v244
  let main_v246 : FVec F S8x256x1 .f32 := (extractStridedSlice S8x256x1 ![0, 0, 4] · slices_S8x256x85_S8x256x1_0_0_4) main_v183
  let main_v247 : FVec F S8x256 .f32 := shapeCast S8x256 main_v246 shapeCasts_S8x256x1_S8x256
  let main_v248 : FVec F S8x256x80 .f32 := (extractStridedSlice S8x256x80 ![0, 0, 5] · slices_S8x256x85_S8x256x80_0_0_5) main_v183
  fn_part13 (F := F) main_arg0 main_arg1 main_arg2 main_arg3 main_arg4 main_v45 main_v46 main_v47 main_v102 main_v105 main_v108 main_v111 main_v113 main_v114 main_v169 main_v172 main_v175 main_v178 main_v180 main_v181 main_v236 main_v239 main_v242 main_v245 main_v247 main_v248

def fn_part11 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v45 : FVec F S5376 .f32) (main_v46 : FVec F S5376 .f32) (main_v47 : FVec F S5376 .f32) (main_v102 : FVec F S8x4096 .f32) (main_v105 : FVec F S8x4096 .f32) (main_v108 : FVec F S8x4096 .f32) (main_v111 : FVec F S8x4096 .f32) (main_v113 : FVec F S8x4096 .f32) (main_v114 : FVec F S8x4096x80 .f32) (main_v169 : FVec F S8x1024 .f32) (main_v172 : FVec F S8x1024 .f32) (main_v175 : FVec F S8x1024 .f32) (main_v178 : FVec F S8x1024 .f32) (main_v180 : FVec F S8x1024 .f32) (main_v181 : FVec F S8x1024x80 .f32) (main_v183 : FVec F S8x256x85 .f32) (main_v189 : FVec F S256 .f32) (main_v206 : FVec F S8x256 .f32) (main_v210 : FVec F S8x256 .f32) (main_cst_51 : FVec F S_ .f32) : IVec S_ 1 :=
  let main_v211 : FVec F S8x256 .f32 := broadcastInDim S8x256 ![] bcast_S_S8x256 main_cst_51
  let main_v212 : FVec F S8x256 .f32 := addf main_v211 main_v210
  let main_cst_52 : FVec F S_ .f32 := constant S_ .f32 0x3F800000#32
  let main_v213 : FVec F S8x256 .f32 := broadcastInDim S8x256 ![] bcast_S_S8x256 main_cst_52
  let main_v214 : FVec F S8x256 .f32 := Host.divf main_v213 main_v212
  let main_cst_53 : FVec F S_ .f32 := constant S_ .f32 0x40000000#32
  let main_v215 : FVec F S8x256 .f32 := broadcastInDim S8x256 ![] bcast_S_S8x256 main_cst_53
  let main_v216 : FVec F S8x256 .f32 := mulf main_v214 main_v215
  let main_cst_54 : FVec F S_ .f32 := constant S_ .f32 0x3F000000#32
  let main_v217 : FVec F S8x256 .f32 := broadcastInDim S8x256 ![] bcast_S_S8x256 main_cst_54
  let main_v218 : FVec F S8x256 .f32 := subf main_v216 main_v217
  let main_v219 : FVec F S1x256 .f32 := broadcastInDim S1x256 ![1] bcast_S256_S1x256_1 main_v189
  let main_v220 : FVec F S8x256 .f32 := broadcastInDim S8x256 ![0, 1] bcast_S1x256_S8x256_0_1 main_v219
  let main_v221 : FVec F S8x256 .f32 := addf main_v218 main_v220
  let main_cst_55 : FVec F S_ .f32 := constant S_ .f32 0x42000000#32
  let main_v222 : FVec F S8x256 .f32 := broadcastInDim S8x256 ![] bcast_S_S8x256 main_cst_55
  let main_v223 : FVec F S8x256 .f32 := mulf main_v221 main_v222
  let main_v224 : FVec F S8x256x1 .f32 := (extractStridedSlice S8x256x1 ![0, 0, 2] · slices_S8x256x85_S8x256x1_0_0_2) main_v183
  let main_v225 : FVec F S8x256 .f32 := shapeCast S8x256 main_v224 shapeCasts_S8x256x1_S8x256
  let main_v226 : FVec F S8x256 .f32 := fn_softplus_1 (F := F) main_v225
  let main_cst_56 : FVec F S_ .f32 := constant S_ .f32 0x42000000#32
  let main_v227 : FVec F S8x256 .f32 := broadcastInDim S8x256 ![] bcast_S_S8x256 main_cst_56
  let main_v228 : FVec F S8x256 .f32 := mulf main_v226 main_v227
  let main_v229 : FVec F S8x256x1 .f32 := (extractStridedSlice S8x256x1 ![0, 0, 3] · slices_S8x256x85_S8x256x1_0_0_3) main_v183
  fn_part12 (F := F) main_arg0 main_arg1 main_arg2 main_arg3 main_arg4 main_v45 main_v46 main_v47 main_v102 main_v105 main_v108 main_v111 main_v113 main_v114 main_v169 main_v172 main_v175 main_v178 main_v180 main_v181 main_v183 main_v206 main_v223 main_v228 main_v229

def fn_part10 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v45 : FVec F S5376 .f32) (main_v46 : FVec F S5376 .f32) (main_v47 : FVec F S5376 .f32) (main_v102 : FVec F S8x4096 .f32) (main_v105 : FVec F S8x4096 .f32) (main_v108 : FVec F S8x4096 .f32) (main_v111 : FVec F S8x4096 .f32) (main_v113 : FVec F S8x4096 .f32) (main_v114 : FVec F S8x4096x80 .f32) (main_v169 : FVec F S8x1024 .f32) (main_v172 : FVec F S8x1024 .f32) (main_v175 : FVec F S8x1024 .f32) (main_v178 : FVec F S8x1024 .f32) (main_v180 : FVec F S8x1024 .f32) (main_v181 : FVec F S8x1024x80 .f32) (main_v183 : FVec F S8x256x85 .f32) (main_v188 : FVec F S256 .f32) (main_v189 : FVec F S256 .f32) (main_v192 : FVec F S8x256 .f32) : IVec S_ 1 :=
  let main_v193 : FVec F S8x256 .f32 := Host.exp main_v192
  let main_cst_46 : FVec F S_ .f32 := constant S_ .f32 0x3F800000#32
  let main_v194 : FVec F S8x256 .f32 := broadcastInDim S8x256 ![] bcast_S_S8x256 main_cst_46
  let main_v195 : FVec F S8x256 .f32 := addf main_v194 main_v193
  let main_cst_47 : FVec F S_ .f32 := constant S_ .f32 0x3F800000#32
  let main_v196 : FVec F S8x256 .f32 := broadcastInDim S8x256 ![] bcast_S_S8x256 main_cst_47
  let main_v197 : FVec F S8x256 .f32 := Host.divf main_v196 main_v195
  let main_cst_48 : FVec F S_ .f32 := constant S_ .f32 0x40000000#32
  let main_v198 : FVec F S8x256 .f32 := broadcastInDim S8x256 ![] bcast_S_S8x256 main_cst_48
  let main_v199 : FVec F S8x256 .f32 := mulf main_v197 main_v198
  let main_cst_49 : FVec F S_ .f32 := constant S_ .f32 0x3F000000#32
  let main_v200 : FVec F S8x256 .f32 := broadcastInDim S8x256 ![] bcast_S_S8x256 main_cst_49
  let main_v201 : FVec F S8x256 .f32 := subf main_v199 main_v200
  let main_v202 : FVec F S1x256 .f32 := broadcastInDim S1x256 ![1] bcast_S256_S1x256_1 main_v188
  let main_v203 : FVec F S8x256 .f32 := broadcastInDim S8x256 ![0, 1] bcast_S1x256_S8x256_0_1 main_v202
  let main_v204 : FVec F S8x256 .f32 := addf main_v201 main_v203
  let main_cst_50 : FVec F S_ .f32 := constant S_ .f32 0x42000000#32
  let main_v205 : FVec F S8x256 .f32 := broadcastInDim S8x256 ![] bcast_S_S8x256 main_cst_50
  let main_v206 : FVec F S8x256 .f32 := mulf main_v204 main_v205
  let main_v207 : FVec F S8x256x1 .f32 := (extractStridedSlice S8x256x1 ![0, 0, 1] · slices_S8x256x85_S8x256x1_0_0_1) main_v183
  let main_v208 : FVec F S8x256 .f32 := shapeCast S8x256 main_v207 shapeCasts_S8x256x1_S8x256
  let main_v209 : FVec F S8x256 .f32 := Host.negf main_v208
  let main_v210 : FVec F S8x256 .f32 := Host.exp main_v209
  let main_cst_51 : FVec F S_ .f32 := constant S_ .f32 0x3F800000#32
  fn_part11 (F := F) main_arg0 main_arg1 main_arg2 main_arg3 main_arg4 main_v45 main_v46 main_v47 main_v102 main_v105 main_v108 main_v111 main_v113 main_v114 main_v169 main_v172 main_v175 main_v178 main_v180 main_v181 main_v183 main_v189 main_v206 main_v210 main_cst_51

def fn_part9 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v45 : FVec F S5376 .f32) (main_v46 : FVec F S5376 .f32) (main_v47 : FVec F S5376 .f32) (main_v102 : FVec F S8x4096 .f32) (main_v105 : FVec F S8x4096 .f32) (main_v108 : FVec F S8x4096 .f32) (main_v111 : FVec F S8x4096 .f32) (main_v113 : FVec F S8x4096 .f32) (main_v114 : FVec F S8x4096x80 .f32) (main_v116 : FVec F S8x1024x85 .f32) (main_v139 : FVec F S8x1024 .f32) (main_v156 : FVec F S8x1024 .f32) (main_v161 : FVec F S8x1024 .f32) (main_v166 : FVec F S8x1024 .f32) (main_v169 : FVec F S8x1024 .f32) (main_v170 : FVec F S8x1024 .f32) : IVec S_ 1 :=
  let main_v171 : FVec F S8x1024 .f32 := mulf main_v166 main_v170
  let main_v172 : FVec F S8x1024 .f32 := subf main_v156 main_v171
  let main_cst_44 : FVec F S_ .f32 := constant S_ .f32 0x3F000000#32
  let main_v173 : FVec F S8x1024 .f32 := broadcastInDim S8x1024 ![] bcast_S_S8x1024 main_cst_44
  let main_v174 : FVec F S8x1024 .f32 := mulf main_v161 main_v173
  let main_v175 : FVec F S8x1024 .f32 := addf main_v139 main_v174
  let main_cst_45 : FVec F S_ .f32 := constant S_ .f32 0x3F000000#32
  let main_v176 : FVec F S8x1024 .f32 := broadcastInDim S8x1024 ![] bcast_S_S8x1024 main_cst_45
  let main_v177 : FVec F S8x1024 .f32 := mulf main_v166 main_v176
  let main_v178 : FVec F S8x1024 .f32 := addf main_v156 main_v177
  let main_v179 : FVec F S8x1024x1 .f32 := (extractStridedSlice S8x1024x1 ![0, 0, 4] · slices_S8x1024x85_S8x1024x1_0_0_4) main_v116
  let main_v180 : FVec F S8x1024 .f32 := shapeCast S8x1024 main_v179 shapeCasts_S8x1024x1_S8x1024
  let main_v181 : FVec F S8x1024x80 .f32 := (extractStridedSlice S8x1024x80 ![0, 0, 5] · slices_S8x1024x85_S8x1024x80_0_0_5) main_v116
  let main_v182 : FVec F S8x16x16x85 .f32 := (transpose S8x16x16x85 [0, 2, 3, 1] · transposes_S8x85x16x16_S8x16x16x85_0_2_3_1) main_arg2
  let main_v183 : FVec F S8x256x85 .f32 := shapeCast S8x256x85 main_v182 shapeCasts_S8x16x16x85_S8x256x85
  let main_v184 : FVec F S16 .f32 := sitofp .f32 (iotaInDim S16 32 0)
  let main_v185 : FVec F S16 .f32 := sitofp .f32 (iotaInDim S16 32 0)
  let main_v186 : FVec F S16x16 .f32 := broadcastInDim S16x16 ![0] bcast_S16_S16x16_0 main_v184
  let main_v187 : FVec F S16x16 .f32 := broadcastInDim S16x16 ![1] bcast_S16_S16x16_1 main_v185
  let main_v188 : FVec F S256 .f32 := shapeCast S256 main_v187 shapeCasts_S16x16_S256
  let main_v189 : FVec F S256 .f32 := shapeCast S256 main_v186 shapeCasts_S16x16_S256
  let main_v190 : FVec F S8x256x1 .f32 := (extractStridedSlice S8x256x1 ![0, 0, 0] · slices_S8x256x85_S8x256x1_0_0_0) main_v183
  let main_v191 : FVec F S8x256 .f32 := shapeCast S8x256 main_v190 shapeCasts_S8x256x1_S8x256
  let main_v192 : FVec F S8x256 .f32 := Host.negf main_v191
  fn_part10 (F := F) main_arg0 main_arg1 main_arg2 main_arg3 main_arg4 main_v45 main_v46 main_v47 main_v102 main_v105 main_v108 main_v111 main_v113 main_v114 main_v169 main_v172 main_v175 main_v178 main_v180 main_v181 main_v183 main_v188 main_v189 main_v192

def fn_part8 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v45 : FVec F S5376 .f32) (main_v46 : FVec F S5376 .f32) (main_v47 : FVec F S5376 .f32) (main_v102 : FVec F S8x4096 .f32) (main_v105 : FVec F S8x4096 .f32) (main_v108 : FVec F S8x4096 .f32) (main_v111 : FVec F S8x4096 .f32) (main_v113 : FVec F S8x4096 .f32) (main_v114 : FVec F S8x4096x80 .f32) (main_v116 : FVec F S8x1024x85 .f32) (main_v122 : FVec F S1024 .f32) (main_v139 : FVec F S8x1024 .f32) (main_v151 : FVec F S8x1024 .f32) : IVec S_ 1 :=
  let main_v152 : FVec F S1x1024 .f32 := broadcastInDim S1x1024 ![1] bcast_S1024_S1x1024_1 main_v122
  let main_v153 : FVec F S8x1024 .f32 := broadcastInDim S8x1024 ![0, 1] bcast_S1x1024_S8x1024_0_1 main_v152
  let main_v154 : FVec F S8x1024 .f32 := addf main_v151 main_v153
  let main_cst_39 : FVec F S_ .f32 := constant S_ .f32 0x41800000#32
  let main_v155 : FVec F S8x1024 .f32 := broadcastInDim S8x1024 ![] bcast_S_S8x1024 main_cst_39
  let main_v156 : FVec F S8x1024 .f32 := mulf main_v154 main_v155
  let main_v157 : FVec F S8x1024x1 .f32 := (extractStridedSlice S8x1024x1 ![0, 0, 2] · slices_S8x1024x85_S8x1024x1_0_0_2) main_v116
  let main_v158 : FVec F S8x1024 .f32 := shapeCast S8x1024 main_v157 shapeCasts_S8x1024x1_S8x1024
  let main_v159 : FVec F S8x1024 .f32 := fn_softplus_0 (F := F) main_v158
  let main_cst_40 : FVec F S_ .f32 := constant S_ .f32 0x41800000#32
  let main_v160 : FVec F S8x1024 .f32 := broadcastInDim S8x1024 ![] bcast_S_S8x1024 main_cst_40
  let main_v161 : FVec F S8x1024 .f32 := mulf main_v159 main_v160
  let main_v162 : FVec F S8x1024x1 .f32 := (extractStridedSlice S8x1024x1 ![0, 0, 3] · slices_S8x1024x85_S8x1024x1_0_0_3) main_v116
  let main_v163 : FVec F S8x1024 .f32 := shapeCast S8x1024 main_v162 shapeCasts_S8x1024x1_S8x1024
  let main_v164 : FVec F S8x1024 .f32 := fn_softplus_0 (F := F) main_v163
  let main_cst_41 : FVec F S_ .f32 := constant S_ .f32 0x41800000#32
  let main_v165 : FVec F S8x1024 .f32 := broadcastInDim S8x1024 ![] bcast_S_S8x1024 main_cst_41
  let main_v166 : FVec F S8x1024 .f32 := mulf main_v164 main_v165
  let main_cst_42 : FVec F S_ .f32 := constant S_ .f32 0x3F000000#32
  let main_v167 : FVec F S8x1024 .f32 := broadcastInDim S8x1024 ![] bcast_S_S8x1024 main_cst_42
  let main_v168 : FVec F S8x1024 .f32 := mulf main_v161 main_v167
  let main_v169 : FVec F S8x1024 .f32 := subf main_v139 main_v168
  let main_cst_43 : FVec F S_ .f32 := constant S_ .f32 0x3F000000#32
  let main_v170 : FVec F S8x1024 .f32 := broadcastInDim S8x1024 ![] bcast_S_S8x1024 main_cst_43
  fn_part9 (F := F) main_arg0 main_arg1 main_arg2 main_arg3 main_arg4 main_v45 main_v46 main_v47 main_v102 main_v105 main_v108 main_v111 main_v113 main_v114 main_v116 main_v139 main_v156 main_v161 main_v166 main_v169 main_v170

def fn_part7 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v45 : FVec F S5376 .f32) (main_v46 : FVec F S5376 .f32) (main_v47 : FVec F S5376 .f32) (main_v102 : FVec F S8x4096 .f32) (main_v105 : FVec F S8x4096 .f32) (main_v108 : FVec F S8x4096 .f32) (main_v111 : FVec F S8x4096 .f32) (main_v113 : FVec F S8x4096 .f32) (main_v114 : FVec F S8x4096x80 .f32) (main_v116 : FVec F S8x1024x85 .f32) (main_v121 : FVec F S1024 .f32) (main_v122 : FVec F S1024 .f32) (main_v132 : FVec F S8x1024 .f32) (main_cst_33 : FVec F S_ .f32) : IVec S_ 1 :=
  let main_v133 : FVec F S8x1024 .f32 := broadcastInDim S8x1024 ![] bcast_S_S8x1024 main_cst_33
  let main_v134 : FVec F S8x1024 .f32 := subf main_v132 main_v133
  let main_v135 : FVec F S1x1024 .f32 := broadcastInDim S1x1024 ![1] bcast_S1024_S1x1024_1 main_v121
  let main_v136 : FVec F S8x1024 .f32 := broadcastInDim S8x1024 ![0, 1] bcast_S1x1024_S8x1024_0_1 main_v135
  let main_v137 : FVec F S8x1024 .f32 := addf main_v134 main_v136
  let main_cst_34 : FVec F S_ .f32 := constant S_ .f32 0x41800000#32
  let main_v138 : FVec F S8x1024 .f32 := broadcastInDim S8x1024 ![] bcast_S_S8x1024 main_cst_34
  let main_v139 : FVec F S8x1024 .f32 := mulf main_v137 main_v138
  let main_v140 : FVec F S8x1024x1 .f32 := (extractStridedSlice S8x1024x1 ![0, 0, 1] · slices_S8x1024x85_S8x1024x1_0_0_1) main_v116
  let main_v141 : FVec F S8x1024 .f32 := shapeCast S8x1024 main_v140 shapeCasts_S8x1024x1_S8x1024
  let main_v142 : FVec F S8x1024 .f32 := Host.negf main_v141
  let main_v143 : FVec F S8x1024 .f32 := Host.exp main_v142
  let main_cst_35 : FVec F S_ .f32 := constant S_ .f32 0x3F800000#32
  let main_v144 : FVec F S8x1024 .f32 := broadcastInDim S8x1024 ![] bcast_S_S8x1024 main_cst_35
  let main_v145 : FVec F S8x1024 .f32 := addf main_v144 main_v143
  let main_cst_36 : FVec F S_ .f32 := constant S_ .f32 0x3F800000#32
  let main_v146 : FVec F S8x1024 .f32 := broadcastInDim S8x1024 ![] bcast_S_S8x1024 main_cst_36
  let main_v147 : FVec F S8x1024 .f32 := Host.divf main_v146 main_v145
  let main_cst_37 : FVec F S_ .f32 := constant S_ .f32 0x40000000#32
  let main_v148 : FVec F S8x1024 .f32 := broadcastInDim S8x1024 ![] bcast_S_S8x1024 main_cst_37
  let main_v149 : FVec F S8x1024 .f32 := mulf main_v147 main_v148
  let main_cst_38 : FVec F S_ .f32 := constant S_ .f32 0x3F000000#32
  let main_v150 : FVec F S8x1024 .f32 := broadcastInDim S8x1024 ![] bcast_S_S8x1024 main_cst_38
  let main_v151 : FVec F S8x1024 .f32 := subf main_v149 main_v150
  fn_part8 (F := F) main_arg0 main_arg1 main_arg2 main_arg3 main_arg4 main_v45 main_v46 main_v47 main_v102 main_v105 main_v108 main_v111 main_v113 main_v114 main_v116 main_v122 main_v139 main_v151

def fn_part6 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v45 : FVec F S5376 .f32) (main_v46 : FVec F S5376 .f32) (main_v47 : FVec F S5376 .f32) (main_v49 : FVec F S8x4096x85 .f32) (main_v102 : FVec F S8x4096 .f32) (main_v105 : FVec F S8x4096 .f32) (main_v108 : FVec F S8x4096 .f32) (main_v111 : FVec F S8x4096 .f32) (main_v112 : FVec F S8x4096x1 .f32) : IVec S_ 1 :=
  let main_v113 : FVec F S8x4096 .f32 := shapeCast S8x4096 main_v112 shapeCasts_S8x4096x1_S8x4096
  let main_v114 : FVec F S8x4096x80 .f32 := (extractStridedSlice S8x4096x80 ![0, 0, 5] · slices_S8x4096x85_S8x4096x80_0_0_5) main_v49
  let main_v115 : FVec F S8x32x32x85 .f32 := (transpose S8x32x32x85 [0, 2, 3, 1] · transposes_S8x85x32x32_S8x32x32x85_0_2_3_1) main_arg1
  let main_v116 : FVec F S8x1024x85 .f32 := shapeCast S8x1024x85 main_v115 shapeCasts_S8x32x32x85_S8x1024x85
  let main_v117 : FVec F S32 .f32 := sitofp .f32 (iotaInDim S32 32 0)
  let main_v118 : FVec F S32 .f32 := sitofp .f32 (iotaInDim S32 32 0)
  let main_v119 : FVec F S32x32 .f32 := broadcastInDim S32x32 ![0] bcast_S32_S32x32_0 main_v117
  let main_v120 : FVec F S32x32 .f32 := broadcastInDim S32x32 ![1] bcast_S32_S32x32_1 main_v118
  let main_v121 : FVec F S1024 .f32 := shapeCast S1024 main_v120 shapeCasts_S32x32_S1024
  let main_v122 : FVec F S1024 .f32 := shapeCast S1024 main_v119 shapeCasts_S32x32_S1024
  let main_v123 : FVec F S8x1024x1 .f32 := (extractStridedSlice S8x1024x1 ![0, 0, 0] · slices_S8x1024x85_S8x1024x1_0_0_0) main_v116
  let main_v124 : FVec F S8x1024 .f32 := shapeCast S8x1024 main_v123 shapeCasts_S8x1024x1_S8x1024
  let main_v125 : FVec F S8x1024 .f32 := Host.negf main_v124
  let main_v126 : FVec F S8x1024 .f32 := Host.exp main_v125
  let main_cst_30 : FVec F S_ .f32 := constant S_ .f32 0x3F800000#32
  let main_v127 : FVec F S8x1024 .f32 := broadcastInDim S8x1024 ![] bcast_S_S8x1024 main_cst_30
  let main_v128 : FVec F S8x1024 .f32 := addf main_v127 main_v126
  let main_cst_31 : FVec F S_ .f32 := constant S_ .f32 0x3F800000#32
  let main_v129 : FVec F S8x1024 .f32 := broadcastInDim S8x1024 ![] bcast_S_S8x1024 main_cst_31
  let main_v130 : FVec F S8x1024 .f32 := Host.divf main_v129 main_v128
  let main_cst_32 : FVec F S_ .f32 := constant S_ .f32 0x40000000#32
  let main_v131 : FVec F S8x1024 .f32 := broadcastInDim S8x1024 ![] bcast_S_S8x1024 main_cst_32
  let main_v132 : FVec F S8x1024 .f32 := mulf main_v130 main_v131
  let main_cst_33 : FVec F S_ .f32 := constant S_ .f32 0x3F000000#32
  fn_part7 (F := F) main_arg0 main_arg1 main_arg2 main_arg3 main_arg4 main_v45 main_v46 main_v47 main_v102 main_v105 main_v108 main_v111 main_v113 main_v114 main_v116 main_v121 main_v122 main_v132 main_cst_33

def fn_part5 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v45 : FVec F S5376 .f32) (main_v46 : FVec F S5376 .f32) (main_v47 : FVec F S5376 .f32) (main_v49 : FVec F S8x4096x85 .f32) (main_v72 : FVec F S8x4096 .f32) (main_v89 : FVec F S8x4096 .f32) (main_v92 : FVec F S8x4096 .f32) (main_v93 : FVec F S8x4096 .f32) : IVec S_ 1 :=
  let main_v94 : FVec F S8x4096 .f32 := mulf main_v92 main_v93
  let main_v95 : FVec F S8x4096x1 .f32 := (extractStridedSlice S8x4096x1 ![0, 0, 3] · slices_S8x4096x85_S8x4096x1_0_0_3) main_v49
  let main_v96 : FVec F S8x4096 .f32 := shapeCast S8x4096 main_v95 shapeCasts_S8x4096x1_S8x4096
  let main_v97 : FVec F S8x4096 .f32 := fn_softplus (F := F) main_v96
  let main_cst_25 : FVec F S_ .f32 := constant S_ .f32 0x41000000#32
  let main_v98 : FVec F S8x4096 .f32 := broadcastInDim S8x4096 ![] bcast_S_S8x4096 main_cst_25
  let main_v99 : FVec F S8x4096 .f32 := mulf main_v97 main_v98
  let main_cst_26 : FVec F S_ .f32 := constant S_ .f32 0x3F000000#32
  let main_v100 : FVec F S8x4096 .f32 := broadcastInDim S8x4096 ![] bcast_S_S8x4096 main_cst_26
  let main_v101 : FVec F S8x4096 .f32 := mulf main_v94 main_v100
  let main_v102 : FVec F S8x4096 .f32 := subf main_v72 main_v101
  let main_cst_27 : FVec F S_ .f32 := constant S_ .f32 0x3F000000#32
  let main_v103 : FVec F S8x4096 .f32 := broadcastInDim S8x4096 ![] bcast_S_S8x4096 main_cst_27
  let main_v104 : FVec F S8x4096 .f32 := mulf main_v99 main_v103
  let main_v105 : FVec F S8x4096 .f32 := subf main_v89 main_v104
  let main_cst_28 : FVec F S_ .f32 := constant S_ .f32 0x3F000000#32
  let main_v106 : FVec F S8x4096 .f32 := broadcastInDim S8x4096 ![] bcast_S_S8x4096 main_cst_28
  let main_v107 : FVec F S8x4096 .f32 := mulf main_v94 main_v106
  let main_v108 : FVec F S8x4096 .f32 := addf main_v72 main_v107
  let main_cst_29 : FVec F S_ .f32 := constant S_ .f32 0x3F000000#32
  let main_v109 : FVec F S8x4096 .f32 := broadcastInDim S8x4096 ![] bcast_S_S8x4096 main_cst_29
  let main_v110 : FVec F S8x4096 .f32 := mulf main_v99 main_v109
  let main_v111 : FVec F S8x4096 .f32 := addf main_v89 main_v110
  let main_v112 : FVec F S8x4096x1 .f32 := (extractStridedSlice S8x4096x1 ![0, 0, 4] · slices_S8x4096x85_S8x4096x1_0_0_4) main_v49
  fn_part6 (F := F) main_arg0 main_arg1 main_arg2 main_arg3 main_arg4 main_v45 main_v46 main_v47 main_v49 main_v102 main_v105 main_v108 main_v111 main_v112

def fn_part4 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v45 : FVec F S5376 .f32) (main_v46 : FVec F S5376 .f32) (main_v47 : FVec F S5376 .f32) (main_v49 : FVec F S8x4096x85 .f32) (main_v55 : FVec F S4096 .f32) (main_v72 : FVec F S8x4096 .f32) (main_v75 : FVec F S8x4096 .f32) : IVec S_ 1 :=
  let main_v76 : FVec F S8x4096 .f32 := Host.exp main_v75
  let main_cst_19 : FVec F S_ .f32 := constant S_ .f32 0x3F800000#32
  let main_v77 : FVec F S8x4096 .f32 := broadcastInDim S8x4096 ![] bcast_S_S8x4096 main_cst_19
  let main_v78 : FVec F S8x4096 .f32 := addf main_v77 main_v76
  let main_cst_20 : FVec F S_ .f32 := constant S_ .f32 0x3F800000#32
  let main_v79 : FVec F S8x4096 .f32 := broadcastInDim S8x4096 ![] bcast_S_S8x4096 main_cst_20
  let main_v80 : FVec F S8x4096 .f32 := Host.divf main_v79 main_v78
  let main_cst_21 : FVec F S_ .f32 := constant S_ .f32 0x40000000#32
  let main_v81 : FVec F S8x4096 .f32 := broadcastInDim S8x4096 ![] bcast_S_S8x4096 main_cst_21
  let main_v82 : FVec F S8x4096 .f32 := mulf main_v80 main_v81
  let main_cst_22 : FVec F S_ .f32 := constant S_ .f32 0x3F000000#32
  let main_v83 : FVec F S8x4096 .f32 := broadcastInDim S8x4096 ![] bcast_S_S8x4096 main_cst_22
  let main_v84 : FVec F S8x4096 .f32 := subf main_v82 main_v83
  let main_v85 : FVec F S1x4096 .f32 := broadcastInDim S1x4096 ![1] bcast_S4096_S1x4096_1 main_v55
  let main_v86 : FVec F S8x4096 .f32 := broadcastInDim S8x4096 ![0, 1] bcast_S1x4096_S8x4096_0_1 main_v85
  let main_v87 : FVec F S8x4096 .f32 := addf main_v84 main_v86
  let main_cst_23 : FVec F S_ .f32 := constant S_ .f32 0x41000000#32
  let main_v88 : FVec F S8x4096 .f32 := broadcastInDim S8x4096 ![] bcast_S_S8x4096 main_cst_23
  let main_v89 : FVec F S8x4096 .f32 := mulf main_v87 main_v88
  let main_v90 : FVec F S8x4096x1 .f32 := (extractStridedSlice S8x4096x1 ![0, 0, 2] · slices_S8x4096x85_S8x4096x1_0_0_2) main_v49
  let main_v91 : FVec F S8x4096 .f32 := shapeCast S8x4096 main_v90 shapeCasts_S8x4096x1_S8x4096
  let main_v92 : FVec F S8x4096 .f32 := fn_softplus (F := F) main_v91
  let main_cst_24 : FVec F S_ .f32 := constant S_ .f32 0x41000000#32
  let main_v93 : FVec F S8x4096 .f32 := broadcastInDim S8x4096 ![] bcast_S_S8x4096 main_cst_24
  fn_part5 (F := F) main_arg0 main_arg1 main_arg2 main_arg3 main_arg4 main_v45 main_v46 main_v47 main_v49 main_v72 main_v89 main_v92 main_v93

def fn_part3 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v45 : FVec F S5376 .f32) (main_v46 : FVec F S5376 .f32) (main_v47 : FVec F S5376 .f32) (main_v49 : FVec F S8x4096x85 .f32) (main_v54 : FVec F S4096 .f32) (main_v55 : FVec F S4096 .f32) (main_v56 : FVec F S8x4096x1 .f32) : IVec S_ 1 :=
  let main_v57 : FVec F S8x4096 .f32 := shapeCast S8x4096 main_v56 shapeCasts_S8x4096x1_S8x4096
  let main_v58 : FVec F S8x4096 .f32 := Host.negf main_v57
  let main_v59 : FVec F S8x4096 .f32 := Host.exp main_v58
  let main_cst_14 : FVec F S_ .f32 := constant S_ .f32 0x3F800000#32
  let main_v60 : FVec F S8x4096 .f32 := broadcastInDim S8x4096 ![] bcast_S_S8x4096 main_cst_14
  let main_v61 : FVec F S8x4096 .f32 := addf main_v60 main_v59
  let main_cst_15 : FVec F S_ .f32 := constant S_ .f32 0x3F800000#32
  let main_v62 : FVec F S8x4096 .f32 := broadcastInDim S8x4096 ![] bcast_S_S8x4096 main_cst_15
  let main_v63 : FVec F S8x4096 .f32 := Host.divf main_v62 main_v61
  let main_cst_16 : FVec F S_ .f32 := constant S_ .f32 0x40000000#32
  let main_v64 : FVec F S8x4096 .f32 := broadcastInDim S8x4096 ![] bcast_S_S8x4096 main_cst_16
  let main_v65 : FVec F S8x4096 .f32 := mulf main_v63 main_v64
  let main_cst_17 : FVec F S_ .f32 := constant S_ .f32 0x3F000000#32
  let main_v66 : FVec F S8x4096 .f32 := broadcastInDim S8x4096 ![] bcast_S_S8x4096 main_cst_17
  let main_v67 : FVec F S8x4096 .f32 := subf main_v65 main_v66
  let main_v68 : FVec F S1x4096 .f32 := broadcastInDim S1x4096 ![1] bcast_S4096_S1x4096_1 main_v54
  let main_v69 : FVec F S8x4096 .f32 := broadcastInDim S8x4096 ![0, 1] bcast_S1x4096_S8x4096_0_1 main_v68
  let main_v70 : FVec F S8x4096 .f32 := addf main_v67 main_v69
  let main_cst_18 : FVec F S_ .f32 := constant S_ .f32 0x41000000#32
  let main_v71 : FVec F S8x4096 .f32 := broadcastInDim S8x4096 ![] bcast_S_S8x4096 main_cst_18
  let main_v72 : FVec F S8x4096 .f32 := mulf main_v70 main_v71
  let main_v73 : FVec F S8x4096x1 .f32 := (extractStridedSlice S8x4096x1 ![0, 0, 1] · slices_S8x4096x85_S8x4096x1_0_0_1) main_v49
  let main_v74 : FVec F S8x4096 .f32 := shapeCast S8x4096 main_v73 shapeCasts_S8x4096x1_S8x4096
  let main_v75 : FVec F S8x4096 .f32 := Host.negf main_v74
  fn_part4 (F := F) main_arg0 main_arg1 main_arg2 main_arg3 main_arg4 main_v45 main_v46 main_v47 main_v49 main_v55 main_v72 main_v75

def fn_part2 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v8 : FVec F S4096 .f32) (main_v13 : FVec F S4096 .f32) (main_v14 : FVec F S4096 .f32) (main_v23 : FVec F S1024 .f32) (main_v28 : FVec F S1024 .f32) (main_v29 : FVec F S1024 .f32) (main_v32 : FVec F S16x16 .f32) (main_v36 : FVec F S256 .f32) : IVec S_ 1 :=
  let main_cst_10 : FVec F S_ .f32 := constant S_ .f32 0x42000000#32
  let main_v37 : FVec F S256 .f32 := broadcastInDim S256 ![] bcast_S_S256 main_cst_10
  let main_v38 : FVec F S256 .f32 := mulf main_v36 main_v37
  let main_v39 : FVec F S256 .f32 := shapeCast S256 main_v32 shapeCasts_S16x16_S256
  let main_cst_11 : FVec F S_ .f32 := constant S_ .f32 0x3F000000#32
  let main_v40 : FVec F S256 .f32 := broadcastInDim S256 ![] bcast_S_S256 main_cst_11
  let main_v41 : FVec F S256 .f32 := addf main_v39 main_v40
  let main_cst_12 : FVec F S_ .f32 := constant S_ .f32 0x42000000#32
  let main_v42 : FVec F S256 .f32 := broadcastInDim S256 ![] bcast_S_S256 main_cst_12
  let main_v43 : FVec F S256 .f32 := mulf main_v41 main_v42
  let main_cst_13 : FVec F S_ .f32 := constant S_ .f32 0x42000000#32
  let main_v44 : FVec F S256 .f32 := broadcastInDim S256 ![] bcast_S_S256 main_cst_13
  let main_v45 : FVec F S5376 .f32 := concatenate S5376 0 [⟨S4096, main_v8⟩, ⟨S1024, main_v23⟩, ⟨S256, main_v38⟩] concatenates_S4096_S1024_S256_S5376_d0
  let main_v46 : FVec F S5376 .f32 := concatenate S5376 0 [⟨S4096, main_v13⟩, ⟨S1024, main_v28⟩, ⟨S256, main_v43⟩] concatenates_S4096_S1024_S256_S5376_d0
  let main_v47 : FVec F S5376 .f32 := concatenate S5376 0 [⟨S4096, main_v14⟩, ⟨S1024, main_v29⟩, ⟨S256, main_v44⟩] concatenates_S4096_S1024_S256_S5376_d0
  let main_v48 : FVec F S8x64x64x85 .f32 := (transpose S8x64x64x85 [0, 2, 3, 1] · transposes_S8x85x64x64_S8x64x64x85_0_2_3_1) main_arg0
  let main_v49 : FVec F S8x4096x85 .f32 := shapeCast S8x4096x85 main_v48 shapeCasts_S8x64x64x85_S8x4096x85
  let main_v50 : FVec F S64 .f32 := sitofp .f32 (iotaInDim S64 32 0)
  let main_v51 : FVec F S64 .f32 := sitofp .f32 (iotaInDim S64 32 0)
  let main_v52 : FVec F S64x64 .f32 := broadcastInDim S64x64 ![0] bcast_S64_S64x64_0 main_v50
  let main_v53 : FVec F S64x64 .f32 := broadcastInDim S64x64 ![1] bcast_S64_S64x64_1 main_v51
  let main_v54 : FVec F S4096 .f32 := shapeCast S4096 main_v53 shapeCasts_S64x64_S4096
  let main_v55 : FVec F S4096 .f32 := shapeCast S4096 main_v52 shapeCasts_S64x64_S4096
  let main_v56 : FVec F S8x4096x1 .f32 := (extractStridedSlice S8x4096x1 ![0, 0, 0] · slices_S8x4096x85_S8x4096x1_0_0_0) main_v49
  fn_part3 (F := F) main_arg0 main_arg1 main_arg2 main_arg3 main_arg4 main_v45 main_v46 main_v47 main_v49 main_v54 main_v55 main_v56

def fn_part1 {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) (main_v8 : FVec F S4096 .f32) (main_v13 : FVec F S4096 .f32) (main_v14 : FVec F S4096 .f32) (main_v17 : FVec F S32x32 .f32) (main_v18 : FVec F S32x32 .f32) : IVec S_ 1 :=
  let main_v19 : FVec F S1024 .f32 := shapeCast S1024 main_v18 shapeCasts_S32x32_S1024
  let main_cst_4 : FVec F S_ .f32 := constant S_ .f32 0x3F000000#32
  let main_v20 : FVec F S1024 .f32 := broadcastInDim S1024 ![] bcast_S_S1024 main_cst_4
  let main_v21 : FVec F S1024 .f32 := addf main_v19 main_v20
  let main_cst_5 : FVec F S_ .f32 := constant S_ .f32 0x41800000#32
  let main_v22 : FVec F S1024 .f32 := broadcastInDim S1024 ![] bcast_S_S1024 main_cst_5
  let main_v23 : FVec F S1024 .f32 := mulf main_v21 main_v22
  let main_v24 : FVec F S1024 .f32 := shapeCast S1024 main_v17 shapeCasts_S32x32_S1024
  let main_cst_6 : FVec F S_ .f32 := constant S_ .f32 0x3F000000#32
  let main_v25 : FVec F S1024 .f32 := broadcastInDim S1024 ![] bcast_S_S1024 main_cst_6
  let main_v26 : FVec F S1024 .f32 := addf main_v24 main_v25
  let main_cst_7 : FVec F S_ .f32 := constant S_ .f32 0x41800000#32
  let main_v27 : FVec F S1024 .f32 := broadcastInDim S1024 ![] bcast_S_S1024 main_cst_7
  let main_v28 : FVec F S1024 .f32 := mulf main_v26 main_v27
  let main_cst_8 : FVec F S_ .f32 := constant S_ .f32 0x41800000#32
  let main_v29 : FVec F S1024 .f32 := broadcastInDim S1024 ![] bcast_S_S1024 main_cst_8
  let main_v30 : FVec F S16 .f32 := sitofp .f32 (iotaInDim S16 32 0)
  let main_v31 : FVec F S16 .f32 := sitofp .f32 (iotaInDim S16 32 0)
  let main_v32 : FVec F S16x16 .f32 := broadcastInDim S16x16 ![0] bcast_S16_S16x16_0 main_v30
  let main_v33 : FVec F S16x16 .f32 := broadcastInDim S16x16 ![1] bcast_S16_S16x16_1 main_v31
  let main_v34 : FVec F S256 .f32 := shapeCast S256 main_v33 shapeCasts_S16x16_S256
  let main_cst_9 : FVec F S_ .f32 := constant S_ .f32 0x3F000000#32
  let main_v35 : FVec F S256 .f32 := broadcastInDim S256 ![] bcast_S_S256 main_cst_9
  let main_v36 : FVec F S256 .f32 := addf main_v34 main_v35
  fn_part2 (F := F) main_arg0 main_arg1 main_arg2 main_arg3 main_arg4 main_v8 main_v13 main_v14 main_v23 main_v28 main_v29 main_v32 main_v36

def fn {F : FTy → Type} [FloatOps F] (main_arg0 : FVec F S8x85x64x64 .f32) (main_arg1 : FVec F S8x85x32x32 .f32) (main_arg2 : FVec F S8x85x16x16 .f32) (main_arg3 : FVec F S8x30x4 .f32) (main_arg4 : IVec S8x30 32) : IVec S_ 1 :=
  let main_v0 : FVec F S64 .f32 := sitofp .f32 (iotaInDim S64 32 0)
  let main_v1 : FVec F S64 .f32 := sitofp .f32 (iotaInDim S64 32 0)
  let main_v2 : FVec F S64x64 .f32 := broadcastInDim S64x64 ![0] bcast_S64_S64x64_0 main_v0
  let main_v3 : FVec F S64x64 .f32 := broadcastInDim S64x64 ![1] bcast_S64_S64x64_1 main_v1
  let main_v4 : FVec F S4096 .f32 := shapeCast S4096 main_v3 shapeCasts_S64x64_S4096
  let main_cst : FVec F S_ .f32 := constant S_ .f32 0x3F000000#32
  let main_v5 : FVec F S4096 .f32 := broadcastInDim S4096 ![] bcast_S_S4096 main_cst
  let main_v6 : FVec F S4096 .f32 := addf main_v4 main_v5
  let main_cst_0 : FVec F S_ .f32 := constant S_ .f32 0x41000000#32
  let main_v7 : FVec F S4096 .f32 := broadcastInDim S4096 ![] bcast_S_S4096 main_cst_0
  let main_v8 : FVec F S4096 .f32 := mulf main_v6 main_v7
  let main_v9 : FVec F S4096 .f32 := shapeCast S4096 main_v2 shapeCasts_S64x64_S4096
  let main_cst_1 : FVec F S_ .f32 := constant S_ .f32 0x3F000000#32
  let main_v10 : FVec F S4096 .f32 := broadcastInDim S4096 ![] bcast_S_S4096 main_cst_1
  let main_v11 : FVec F S4096 .f32 := addf main_v9 main_v10
  let main_cst_2 : FVec F S_ .f32 := constant S_ .f32 0x41000000#32
  let main_v12 : FVec F S4096 .f32 := broadcastInDim S4096 ![] bcast_S_S4096 main_cst_2
  let main_v13 : FVec F S4096 .f32 := mulf main_v11 main_v12
  let main_cst_3 : FVec F S_ .f32 := constant S_ .f32 0x41000000#32
  let main_v14 : FVec F S4096 .f32 := broadcastInDim S4096 ![] bcast_S_S4096 main_cst_3
  let main_v15 : FVec F S32 .f32 := sitofp .f32 (iotaInDim S32 32 0)
  let main_v16 : FVec F S32 .f32 := sitofp .f32 (iotaInDim S32 32 0)
  let main_v17 : FVec F S32x32 .f32 := broadcastInDim S32x32 ![0] bcast_S32_S32x32_0 main_v15
  let main_v18 : FVec F S32x32 .f32 := broadcastInDim S32x32 ![1] bcast_S32_S32x32_1 main_v16
  fn_part1 (F := F) main_arg0 main_arg1 main_arg2 main_arg3 main_arg4 main_v8 main_v13 main_v14 main_v17 main_v18
-- ==== Kernel.lean ====
abbrev S8x85x64x64 : Shape := ⟨4, ![8, 85, 64, 64]⟩
abbrev S8x85x32x32 : Shape := ⟨4, ![8, 85, 32, 32]⟩
abbrev S8x85x16x16 : Shape := ⟨4, ![8, 85, 16, 16]⟩
abbrev S8x30x4 : Shape := ⟨3, ![8, 30, 4]⟩
abbrev S8x30 : Shape := ⟨2, ![8, 30]⟩
abbrev S5376 : Shape := ⟨1, ![5376]⟩
abbrev S1x5376 : Shape := ⟨2, ![1, 5376]⟩
abbrev S8x85x4096 : Shape := ⟨3, ![8, 85, 4096]⟩
abbrev S8x85x1024 : Shape := ⟨3, ![8, 85, 1024]⟩
abbrev S8x85x256 : Shape := ⟨3, ![8, 85, 256]⟩
abbrev S8x1x30 : Shape := ⟨3, ![8, 1, 30]⟩
abbrev S8x30x1 : Shape := ⟨3, ![8, 30, 1]⟩
abbrev S_ : Shape := ⟨0, ![]⟩
abbrev S8x4x30 : Shape := ⟨3, ![8, 4, 30]⟩
abbrev S8x1x1 : Shape := ⟨3, ![8, 1, 1]⟩
abbrev S1x85x4096 : Shape := ⟨3, ![1, 85, 4096]⟩
abbrev S1x85x1024 : Shape := ⟨3, ![1, 85, 1024]⟩
abbrev S1x85x256 : Shape := ⟨3, ![1, 85, 256]⟩
abbrev S1x30x4 : Shape := ⟨3, ![1, 30, 4]⟩
abbrev S1x4x30 : Shape := ⟨3, ![1, 4, 30]⟩
abbrev S1x1x30 : Shape := ⟨3, ![1, 1, 30]⟩
abbrev S1x1x1 : Shape := ⟨3, ![1, 1, 1]⟩
abbrev S30x5376 : Shape := ⟨2, ![30, 5376]⟩
abbrev S85x4096 : Shape := ⟨2, ![85, 4096]⟩
abbrev S85x1024 : Shape := ⟨2, ![85, 1024]⟩
abbrev S85x256 : Shape := ⟨2, ![85, 256]⟩
abbrev S85x5376 : Shape := ⟨2, ![85, 5376]⟩
abbrev S80x5376 : Shape := ⟨2, ![80, 5376]⟩
abbrev S30x4 : Shape := ⟨2, ![30, 4]⟩
abbrev S30x1 : Shape := ⟨2, ![30, 1]⟩
abbrev S40x5376 : Shape := ⟨2, ![40, 5376]⟩
abbrev S20x5376 : Shape := ⟨2, ![20, 5376]⟩
abbrev S10x5376 : Shape := ⟨2, ![10, 5376]⟩
abbrev S1x30 : Shape := ⟨2, ![1, 30]⟩
abbrev S80x30 : Shape := ⟨2, ![80, 30]⟩
abbrev S30x20 : Shape := ⟨2, ![30, 20]⟩
abbrev S30x2688 : Shape := ⟨2, ![30, 2688]⟩
abbrev S30 : Shape := ⟨1, ![30]⟩
abbrev S4x30 : Shape := ⟨2, ![4, 30]⟩
abbrev S4x5376 : Shape := ⟨2, ![4, 5376]⟩
abbrev S1x1x5376 : Shape := ⟨3, ![1, 1, 5376]⟩
abbrev S1 : Shape := ⟨1, ![1]⟩

abbrev nBuf : Space → Nat
  | .hbm => 61
  | .vmem => 19
  | .smem => 0
  | _ => 0

abbrev bufTy : (tb : Table) → Fin (tcTables nBuf tb) → BufTy
  | .hbm, ⟨0, _⟩ => ⟨S8x85x64x64, .f32⟩
  | .hbm, ⟨1, _⟩ => ⟨S8x85x32x32, .f32⟩
  | .hbm, ⟨2, _⟩ => ⟨S8x85x16x16, .f32⟩
  | .hbm, ⟨3, _⟩ => ⟨S8x30x4, .f32⟩
  | .hbm, ⟨4, _⟩ => ⟨S8x30, .i32⟩
  | .hbm, ⟨5, _⟩ => ⟨S5376, .f32⟩
  | .hbm, ⟨6, _⟩ => ⟨S1x5376, .f32⟩
  | .hbm, ⟨7, _⟩ => ⟨S5376, .f32⟩
  | .hbm, ⟨8, _⟩ => ⟨S1x5376, .f32⟩
  | .hbm, ⟨9, _⟩ => ⟨S5376, .f32⟩
  | .hbm, ⟨10, _⟩ => ⟨S1x5376, .f32⟩
  | .hbm, ⟨11, _⟩ => ⟨S8x85x4096, .f32⟩
  | .hbm, ⟨12, _⟩ => ⟨S8x85x1024, .f32⟩
  | .hbm, ⟨13, _⟩ => ⟨S8x85x256, .f32⟩
  | .hbm, ⟨14, _⟩ => ⟨S8x1x30, .i32⟩
  | .hbm, ⟨15, _⟩ => ⟨S8x30x1, .f32⟩
  | .hbm, ⟨16, _⟩ => ⟨S8x30, .f32⟩
  | .hbm, ⟨17, _⟩ => ⟨S_, .f32⟩
  | .hbm, ⟨18, _⟩ => ⟨S8x30, .f32⟩
  | .hbm, ⟨19, _⟩ => ⟨S8x30, .f32⟩
  | .hbm, ⟨20, _⟩ => ⟨S8x30x1, .f32⟩
  | .hbm, ⟨21, _⟩ => ⟨S8x30, .f32⟩
  | .hbm, ⟨22, _⟩ => ⟨S_, .f32⟩
  | .hbm, ⟨23, _⟩ => ⟨S8x30, .f32⟩
  | .hbm, ⟨24, _⟩ => ⟨S8x30, .f32⟩
  | .hbm, ⟨25, _⟩ => ⟨S8x30x1, .f32⟩
  | .hbm, ⟨26, _⟩ => ⟨S8x30, .f32⟩
  | .hbm, ⟨27, _⟩ => ⟨S_, .f32⟩
  | .hbm, ⟨28, _⟩ => ⟨S8x30, .f32⟩
  | .hbm, ⟨29, _⟩ => ⟨S8x30, .f32⟩
  | .hbm, ⟨30, _⟩ => ⟨S8x30x1, .f32⟩
  | .hbm, ⟨31, _⟩ => ⟨S8x30, .f32⟩
  | .hbm, ⟨32, _⟩ => ⟨S_, .f32⟩
  | .hbm, ⟨33, _⟩ => ⟨S8x30, .f32⟩
  | .hbm, ⟨34, _⟩ => ⟨S8x30, .f32⟩
  | .hbm, ⟨35, _⟩ => ⟨S_, .f32⟩
  | .hbm, ⟨36, _⟩ => ⟨S8x30, .f32⟩
  | .hbm, ⟨37, _⟩ => ⟨S8x30, .f32⟩
  | .hbm, ⟨38, _⟩ => ⟨S8x30, .f32⟩
  | .hbm, ⟨39, _⟩ => ⟨S_, .f32⟩
  | .hbm, ⟨40, _⟩ => ⟨S8x30, .f32⟩
  | .hbm, ⟨41, _⟩ => ⟨S8x30, .f32⟩
  | .hbm, ⟨42, _⟩ => ⟨S8x30, .f32⟩
  | .hbm, ⟨43, _⟩ => ⟨S_, .f32⟩
  | .hbm, ⟨44, _⟩ => ⟨S8x30, .f32⟩
  | .hbm, ⟨45, _⟩ => ⟨S8x30, .f32⟩
  | .hbm, ⟨46, _⟩ => ⟨S8x30, .f32⟩
  | .hbm, ⟨47, _⟩ => ⟨S_, .f32⟩
  | .hbm, ⟨48, _⟩ => ⟨S8x30, .f32⟩
  | .hbm, ⟨49, _⟩ => ⟨S8x30, .f32⟩
  | .hbm, ⟨50, _⟩ => ⟨S8x30, .f32⟩
  | .hbm, ⟨51, _⟩ => ⟨S8x1x30, .f32⟩
  | .hbm, ⟨52, _⟩ => ⟨S8x1x30, .f32⟩
  | .hbm, ⟨53, _⟩ => ⟨S8x1x30, .f32⟩
  | .hbm, ⟨54, _⟩ => ⟨S8x1x30, .f32⟩
  | .hbm, ⟨55, _⟩ => ⟨S8x4x30, .f32⟩
  | .hbm, ⟨56, _⟩ => ⟨S8x1x1, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S1x85x4096, .f32⟩
  | .local _ .vmem, ⟨1, _⟩ => ⟨S1x85x4096, .f32⟩
  | .local _ .vmem, ⟨2, _⟩ => ⟨S1x85x1024, .f32⟩
  | .local _ .vmem, ⟨3, _⟩ => ⟨S1x85x1024, .f32⟩
  | .local _ .vmem, ⟨4, _⟩ => ⟨S1x85x256, .f32⟩
  | .local _ .vmem, ⟨5, _⟩ => ⟨S1x85x256, .f32⟩
  | .local _ .vmem, ⟨6, _⟩ => ⟨S1x30x4, .f32⟩
  | .local _ .vmem, ⟨7, _⟩ => ⟨S1x30x4, .f32⟩
  | .local _ .vmem, ⟨8, _⟩ => ⟨S1x4x30, .f32⟩
  | .local _ .vmem, ⟨9, _⟩ => ⟨S1x4x30, .f32⟩
  | .local _ .vmem, ⟨10, _⟩ => ⟨S1x1x30, .i32⟩
  | .local _ .vmem, ⟨11, _⟩ => ⟨S1x1x30, .i32⟩
  | .local _ .vmem, ⟨12, _⟩ => ⟨S1x5376, .f32⟩
  | .local _ .vmem, ⟨13, _⟩ => ⟨S1x5376, .f32⟩
  | .local _ .vmem, ⟨14, _⟩ => ⟨S1x5376, .f32⟩
  | .local _ .vmem, ⟨15, _⟩ => ⟨S1x1x1, .f32⟩
  | .local _ .vmem, ⟨16, _⟩ => ⟨S1x1x1, .f32⟩
  | .local _ .vmem, ⟨17, _⟩ => ⟨S30x5376, .f32⟩
  | .local _ .vmem, ⟨18, _⟩ => ⟨S30x5376, .f32⟩
  | _, _ => ⟨S8x85x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c10_i32 : BitVec 32 := 10#32
  let v326 : BitVec 32 := Scalar.addi c0_i32 c10_i32
  let c1_i32 : BitVec 32 := 1#32
  ⟨c0_i32, v326, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x85x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x85x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x85x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x30x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x30 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x30 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x5376 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5376 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5376 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8x85x64x64 : Shape := ⟨4, ![8, 85, 64, 64]⟩
abbrev S8x85x32x32 : Shape := ⟨4, ![8, 85, 32, 32]⟩
abbrev S8x85x16x16 : Shape := ⟨4, ![8, 85, 16, 16]⟩
abbrev S8x30x4 : Shape := ⟨3, ![8, 30, 4]⟩
abbrev S8x30 : Shape := ⟨2, ![8, 30]⟩
abbrev S64 : Shape := ⟨1, ![64]⟩
abbrev S64x64 : Shape := ⟨2, ![64, 64]⟩
abbrev S4096 : Shape := ⟨1, ![4096]⟩
abbrev S_ : Shape := ⟨0, ![]⟩
abbrev S32 : Shape := ⟨1, ![32]⟩
abbrev S32x32 : Shape := ⟨2, ![32, 32]⟩
abbrev S1024 : Shape := ⟨1, ![1024]⟩
abbrev S16 : Shape := ⟨1, ![16]⟩
abbrev S16x16 : Shape := ⟨2, ![16, 16]⟩
abbrev S256 : Shape := ⟨1, ![256]⟩
abbrev S5376 : Shape := ⟨1, ![5376]⟩
abbrev S8x64x64x85 : Shape := ⟨4, ![8, 64, 64, 85]⟩
abbrev S8x4096x85 : Shape := ⟨3, ![8, 4096, 85]⟩
abbrev S8x4096x1 : Shape := ⟨3, ![8, 4096, 1]⟩
abbrev S8x4096 : Shape := ⟨2, ![8, 4096]⟩
abbrev S1x4096 : Shape := ⟨2, ![1, 4096]⟩
abbrev S8x4096x80 : Shape := ⟨3, ![8, 4096, 80]⟩
abbrev S8x32x32x85 : Shape := ⟨4, ![8, 32, 32, 85]⟩
abbrev S8x1024x85 : Shape := ⟨3, ![8, 1024, 85]⟩
abbrev S8x1024x1 : Shape := ⟨3, ![8, 1024, 1]⟩
abbrev S8x1024 : Shape := ⟨2, ![8, 1024]⟩
abbrev S1x1024 : Shape := ⟨2, ![1, 1024]⟩
abbrev S8x1024x80 : Shape := ⟨3, ![8, 1024, 80]⟩
abbrev S8x16x16x85 : Shape := ⟨4, ![8, 16, 16, 85]⟩
abbrev S8x256x85 : Shape := ⟨3, ![8, 256, 85]⟩
abbrev S8x256x1 : Shape := ⟨3, ![8, 256, 1]⟩
abbrev S8x256 : Shape := ⟨2, ![8, 256]⟩
abbrev S1x256 : Shape := ⟨2, ![1, 256]⟩
abbrev S8x256x80 : Shape := ⟨3, ![8, 256, 80]⟩
abbrev S8x5376 : Shape := ⟨2, ![8, 5376]⟩
abbrev S8x5376x80 : Shape := ⟨3, ![8, 5376, 80]⟩
abbrev S8x30x1 : Shape := ⟨3, ![8, 30, 1]⟩
abbrev S1x1x5376 : Shape := ⟨3, ![1, 1, 5376]⟩
abbrev S8x30x5376 : Shape := ⟨3, ![8, 30, 5376]⟩
abbrev S8x1x5376 : Shape := ⟨3, ![8, 1, 5376]⟩
abbrev S8x5376x1 : Shape := ⟨3, ![8, 5376, 1]⟩
abbrev S8x1x5376x80 : Shape := ⟨4, ![8, 1, 5376, 80]⟩
abbrev S1x1x80 : Shape := ⟨3, ![1, 1, 80]⟩
abbrev S8x30x80 : Shape := ⟨3, ![8, 30, 80]⟩
abbrev S8x30x1x80 : Shape := ⟨4, ![8, 30, 1, 80]⟩
abbrev S8x30x5376x80 : Shape := ⟨4, ![8, 30, 5376, 80]⟩
abbrev S8x30x20 : Shape := ⟨3, ![8, 30, 20]⟩
abbrev S8x1x5376x1 : Shape := ⟨4, ![8, 1, 5376, 1]⟩
abbrev S8 : Shape := ⟨1, ![8]⟩

abbrev nBuf : Space → Nat
  | .hbm => 1073
  | .vmem => 0
  | .smem => 0
  | _ => 0

abbrev hbmTy0_0 (i : Nat) : BufTy := match i % 128 with
  | 0 => ⟨S8x85x64x64, .f32⟩
  | 1 => ⟨S8x85x32x32, .f32⟩
  | 2 => ⟨S8x85x16x16, .f32⟩
  | 3 => ⟨S8x30x4, .f32⟩
  | 4 => ⟨S8x30, .i32⟩
  | 5 => ⟨S64, .f32⟩
  | 6 => ⟨S64, .f32⟩
  | 7 => ⟨S64x64, .f32⟩
  | 8 => ⟨S64x64, .f32⟩
  | 9 => ⟨S4096, .f32⟩
  | 10 => ⟨S_, .f32⟩
  | 11 => ⟨S4096, .f32⟩
  | 12 => ⟨S4096, .f32⟩
  | 13 => ⟨S_, .f32⟩
  | 14 => ⟨S4096, .f32⟩
  | 15 => ⟨S4096, .f32⟩
  | 16 => ⟨S4096, .f32⟩
  | 17 => ⟨S_, .f32⟩
  | 18 => ⟨S4096, .f32⟩
  | 19 => ⟨S4096, .f32⟩
  | 20 => ⟨S_, .f32⟩
  | 21 => ⟨S4096, .f32⟩
  | 22 => ⟨S4096, .f32⟩
  | 23 => ⟨S_, .f32⟩
  | 24 => ⟨S4096, .f32⟩
  | 25 => ⟨S32, .f32⟩
  | 26 => ⟨S32, .f32⟩
  | 27 => ⟨S32x32, .f32⟩
  | 28 => ⟨S32x32, .f32⟩
  | 29 => ⟨S1024, .f32⟩
  | 30 => ⟨S_, .f32⟩
  | 31 => ⟨S1024, .f32⟩
  | 32 => ⟨S1024, .f32⟩
  | 33 => ⟨S_, .f32⟩
  | 34 => ⟨S1024, .f32⟩
  | 35 => ⟨S1024, .f32⟩
  | 36 => ⟨S1024, .f32⟩
  | 37 => ⟨S_, .f32⟩
  | 38 => ⟨S1024, .f32⟩
  | 39 => ⟨S1024, .f32⟩
  | 40 => ⟨S_, .f32⟩
  | 41 => ⟨S1024, .f32⟩
  | 42 => ⟨S1024, .f32⟩
  | 43 => ⟨S_, .f32⟩
  | 44 => ⟨S1024, .f32⟩
  | 45 => ⟨S16, .f32⟩
  | 46 => ⟨S16, .f32⟩
  | 47 => ⟨S16x16, .f32⟩
  | 48 => ⟨S16x16, .f32⟩
  | 49 => ⟨S256, .f32⟩
  | 50 => ⟨S_, .f32⟩
  | 51 => ⟨S256, .f32⟩
  | 52 => ⟨S256, .f32⟩
  | 53 => ⟨S_, .f32⟩
  | 54 => ⟨S256, .f32⟩
  | 55 => ⟨S256, .f32⟩
  | 56 => ⟨S256, .f32⟩
  | 57 => ⟨S_, .f32⟩
  | 58 => ⟨S256, .f32⟩
  | 59 => ⟨S256, .f32⟩
  | 60 => ⟨S_, .f32⟩
  | 61 => ⟨S256, .f32⟩
  | 62 => ⟨S256, .f32⟩
  | 63 => ⟨S_, .f32⟩
  | 64 => ⟨S256, .f32⟩
  | 65 => ⟨S5376, .f32⟩
  | 66 => ⟨S5376, .f32⟩
  | 67 => ⟨S5376, .f32⟩
  | 68 => ⟨S8x64x64x85, .f32⟩
  | 69 => ⟨S8x4096x85, .f32⟩
  | 70 => ⟨S64, .f32⟩
  | 71 => ⟨S64, .f32⟩
  | 72 => ⟨S64x64, .f32⟩
  | 73 => ⟨S64x64, .f32⟩
  | 74 => ⟨S4096, .f32⟩
  | 75 => ⟨S4096, .f32⟩
  | 76 => ⟨S8x4096x1, .f32⟩
  | 77 => ⟨S8x4096, .f32⟩
  | 78 => ⟨S8x4096, .f32⟩
  | 79 => ⟨S8x4096, .f32⟩
  | 80 => ⟨S_, .f32⟩
  | 81 => ⟨S8x4096, .f32⟩
  | 82 => ⟨S8x4096, .f32⟩
  | 83 => ⟨S_, .f32⟩
  | 84 => ⟨S8x4096, .f32⟩
  | 85 => ⟨S8x4096, .f32⟩
  | 86 => ⟨S_, .f32⟩
  | 87 => ⟨S8x4096, .f32⟩
  | 88 => ⟨S8x4096, .f32⟩
  | 89 => ⟨S_, .f32⟩
  | 90 => ⟨S8x4096, .f32⟩
  | 91 => ⟨S8x4096, .f32⟩
  | 92 => ⟨S1x4096, .f32⟩
  | 93 => ⟨S8x4096, .f32⟩
  | 94 => ⟨S8x4096, .f32⟩
  | 95 => ⟨S_, .f32⟩
  | 96 => ⟨S8x4096, .f32⟩
  | 97 => ⟨S8x4096, .f32⟩
  | 98 => ⟨S8x4096x1, .f32⟩
  | 99 => ⟨S8x4096, .f32⟩
  | 100 => ⟨S8x4096, .f32⟩
  | 101 => ⟨S8x4096, .f32⟩
  | 102 => ⟨S_, .f32⟩
  | 103 => ⟨S8x4096, .f32⟩
  | 104 => ⟨S8x4096, .f32⟩
  | 105 => ⟨S_, .f32⟩
  | 106 => ⟨S8x4096, .f32⟩
  | 107 => ⟨S8x4096, .f32⟩
  | 108 => ⟨S_, .f32⟩
  | 109 => ⟨S8x4096, .f32⟩
  | 110 => ⟨S8x4096, .f32⟩
  | 111 => ⟨S_, .f32⟩
  | 112 => ⟨S8x4096, .f32⟩
  | 113 => ⟨S8x4096, .f32⟩
  | 114 => ⟨S1x4096, .f32⟩
  | 115 => ⟨S8x4096, .f32⟩
  | 116 => ⟨S8x4096, .f32⟩
  | 117 => ⟨S_, .f32⟩
  | 118 => ⟨S8x4096, .f32⟩
  | 119 => ⟨S8x4096, .f32⟩
  | 120 => ⟨S8x4096x1, .f32⟩
  | 121 => ⟨S8x4096, .f32⟩
  | 122 => ⟨S_, .f32⟩
  | 123 => ⟨S8x4096, .f32⟩
  | 124 => ⟨S8x4096, .f32⟩
  | 125 => ⟨S8x4096, .f32⟩
  | 126 => ⟨S8x4096, .f32⟩
  | 127 => ⟨S8x4096, .i1⟩
  | _ => ⟨S8x85x64x64, .f32⟩

abbrev hbmTy0_1 (i : Nat) : BufTy := match i % 128 with
  | 0 => ⟨S8x4096, .f32⟩
  | 1 => ⟨S8x4096, .f32⟩
  | 2 => ⟨S8x4096, .f32⟩
  | 3 => ⟨S8x4096, .f32⟩
  | 4 => ⟨S8x4096, .f32⟩
  | 5 => ⟨S8x4096, .f32⟩
  | 6 => ⟨S8x4096, .f32⟩
  | 7 => ⟨S8x4096, .f32⟩
  | 8 => ⟨S_, .f32⟩
  | 9 => ⟨S8x4096, .f32⟩
  | 10 => ⟨S8x4096, .f32⟩
  | 11 => ⟨S8x4096x1, .f32⟩
  | 12 => ⟨S8x4096, .f32⟩
  | 13 => ⟨S_, .f32⟩
  | 14 => ⟨S8x4096, .f32⟩
  | 15 => ⟨S8x4096, .f32⟩
  | 16 => ⟨S8x4096, .f32⟩
  | 17 => ⟨S8x4096, .f32⟩
  | 18 => ⟨S8x4096, .i1⟩
  | 19 => ⟨S8x4096, .f32⟩
  | 20 => ⟨S8x4096, .f32⟩
  | 21 => ⟨S8x4096, .f32⟩
  | 22 => ⟨S8x4096, .f32⟩
  | 23 => ⟨S8x4096, .f32⟩
  | 24 => ⟨S8x4096, .f32⟩
  | 25 => ⟨S8x4096, .f32⟩
  | 26 => ⟨S8x4096, .f32⟩
  | 27 => ⟨S_, .f32⟩
  | 28 => ⟨S8x4096, .f32⟩
  | 29 => ⟨S8x4096, .f32⟩
  | 30 => ⟨S_, .f32⟩
  | 31 => ⟨S8x4096, .f32⟩
  | 32 => ⟨S8x4096, .f32⟩
  | 33 => ⟨S8x4096, .f32⟩
  | 34 => ⟨S_, .f32⟩
  | 35 => ⟨S8x4096, .f32⟩
  | 36 => ⟨S8x4096, .f32⟩
  | 37 => ⟨S8x4096, .f32⟩
  | 38 => ⟨S_, .f32⟩
  | 39 => ⟨S8x4096, .f32⟩
  | 40 => ⟨S8x4096, .f32⟩
  | 41 => ⟨S8x4096, .f32⟩
  | 42 => ⟨S_, .f32⟩
  | 43 => ⟨S8x4096, .f32⟩
  | 44 => ⟨S8x4096, .f32⟩
  | 45 => ⟨S8x4096, .f32⟩
  | 46 => ⟨S8x4096x1, .f32⟩
  | 47 => ⟨S8x4096, .f32⟩
  | 48 => ⟨S8x4096x80, .f32⟩
  | 49 => ⟨S8x32x32x85, .f32⟩
  | 50 => ⟨S8x1024x85, .f32⟩
  | 51 => ⟨S32, .f32⟩
  | 52 => ⟨S32, .f32⟩
  | 53 => ⟨S32x32, .f32⟩
  | 54 => ⟨S32x32, .f32⟩
  | 55 => ⟨S1024, .f32⟩
  | 56 => ⟨S1024, .f32⟩
  | 57 => ⟨S8x1024x1, .f32⟩
  | 58 => ⟨S8x1024, .f32⟩
  | 59 => ⟨S8x1024, .f32⟩
  | 60 => ⟨S8x1024, .f32⟩
  | 61 => ⟨S_, .f32⟩
  | 62 => ⟨S8x1024, .f32⟩
  | 63 => ⟨S8x1024, .f32⟩
  | 64 => ⟨S_, .f32⟩
  | 65 => ⟨S8x1024, .f32⟩
  | 66 => ⟨S8x1024, .f32⟩
  | 67 => ⟨S_, .f32⟩
  | 68 => ⟨S8x1024, .f32⟩
  | 69 => ⟨S8x1024, .f32⟩
  | 70 => ⟨S_, .f32⟩
  | 71 => ⟨S8x1024, .f32⟩
  | 72 => ⟨S8x1024, .f32⟩
  | 73 => ⟨S1x1024, .f32⟩
  | 74 => ⟨S8x1024, .f32⟩
  | 75 => ⟨S8x1024, .f32⟩
  | 76 => ⟨S_, .f32⟩
  | 77 => ⟨S8x1024, .f32⟩
  | 78 => ⟨S8x1024, .f32⟩
  | 79 => ⟨S8x1024x1, .f32⟩
  | 80 => ⟨S8x1024, .f32⟩
  | 81 => ⟨S8x1024, .f32⟩
  | 82 => ⟨S8x1024, .f32⟩
  | 83 => ⟨S_, .f32⟩
  | 84 => ⟨S8x1024, .f32⟩
  | 85 => ⟨S8x1024, .f32⟩
  | 86 => ⟨S_, .f32⟩
  | 87 => ⟨S8x1024, .f32⟩
  | 88 => ⟨S8x1024, .f32⟩
  | 89 => ⟨S_, .f32⟩
  | 90 => ⟨S8x1024, .f32⟩
  | 91 => ⟨S8x1024, .f32⟩
  | 92 => ⟨S_, .f32⟩
  | 93 => ⟨S8x1024, .f32⟩
  | 94 => ⟨S8x1024, .f32⟩
  | 95 => ⟨S1x1024, .f32⟩
  | 96 => ⟨S8x1024, .f32⟩
  | 97 => ⟨S8x1024, .f32⟩
  | 98 => ⟨S_, .f32⟩
  | 99 => ⟨S8x1024, .f32⟩
  | 100 => ⟨S8x1024, .f32⟩
  | 101 => ⟨S8x1024x1, .f32⟩
  | 102 => ⟨S8x1024, .f32⟩
  | 103 => ⟨S_, .f32⟩
  | 104 => ⟨S8x1024, .f32⟩
  | 105 => ⟨S8x1024, .f32⟩
  | 106 => ⟨S8x1024, .f32⟩
  | 107 => ⟨S8x1024, .f32⟩
  | 108 => ⟨S8x1024, .i1⟩
  | 109 => ⟨S8x1024, .f32⟩
  | 110 => ⟨S8x1024, .f32⟩
  | 111 => ⟨S8x1024, .f32⟩
  | 112 => ⟨S8x1024, .f32⟩
  | 113 => ⟨S8x1024, .f32⟩
  | 114 => ⟨S8x1024, .f32⟩
  | 115 => ⟨S8x1024, .f32⟩
  | 116 => ⟨S8x1024, .f32⟩
  | 117 => ⟨S_, .f32⟩
  | 118 => ⟨S8x1024, .f32⟩
  | 119 => ⟨S8x1024, .f32⟩
  | 120 => ⟨S8x1024x1, .f32⟩
  | 121 => ⟨S8x1024, .f32⟩
  | 122 => ⟨S_, .f32⟩
  | 123 => ⟨S8x1024, .f32⟩
  | 124 => ⟨S8x1024, .f32⟩
  | 125 => ⟨S8x1024, .f32⟩
  | 126 => ⟨S8x1024, .f32⟩
  | 127 => ⟨S8x1024, .i1⟩
  | _ => ⟨S8x85x64x64, .f32⟩

abbrev hbmTy0_2 (i : Nat) : BufTy := match i % 128 with
  | 0 => ⟨S8x1024, .f32⟩
  | 1 => ⟨S8x1024, .f32⟩
  | 2 => ⟨S8x1024, .f32⟩
  | 3 => ⟨S8x1024, .f32⟩
  | 4 => ⟨S8x1024, .f32⟩
  | 5 => ⟨S8x1024, .f32⟩
  | 6 => ⟨S8x1024, .f32⟩
  | 7 => ⟨S8x1024, .f32⟩
  | 8 => ⟨S_, .f32⟩
  | 9 => ⟨S8x1024, .f32⟩
  | 10 => ⟨S8x1024, .f32⟩
  | 11 => ⟨S_, .f32⟩
  | 12 => ⟨S8x1024, .f32⟩
  | 13 => ⟨S8x1024, .f32⟩
  | 14 => ⟨S8x1024, .f32⟩
  | 15 => ⟨S_, .f32⟩
  | 16 => ⟨S8x1024, .f32⟩
  | 17 => ⟨S8x1024, .f32⟩
  | 18 => ⟨S8x1024, .f32⟩
  | 19 => ⟨S_, .f32⟩
  | 20 => ⟨S8x1024, .f32⟩
  | 21 => ⟨S8x1024, .f32⟩
  | 22 => ⟨S8x1024, .f32⟩
  | 23 => ⟨S_, .f32⟩
  | 24 => ⟨S8x1024, .f32⟩
  | 25 => ⟨S8x1024, .f32⟩
  | 26 => ⟨S8x1024, .f32⟩
  | 27 => ⟨S8x1024x1, .f32⟩
  | 28 => ⟨S8x1024, .f32⟩
  | 29 => ⟨S8x1024x80, .f32⟩
  | 30 => ⟨S8x16x16x85, .f32⟩
  | 31 => ⟨S8x256x85, .f32⟩
  | 32 => ⟨S16, .f32⟩
  | 33 => ⟨S16, .f32⟩
  | 34 => ⟨S16x16, .f32⟩
  | 35 => ⟨S16x16, .f32⟩
  | 36 => ⟨S256, .f32⟩
  | 37 => ⟨S256, .f32⟩
  | 38 => ⟨S8x256x1, .f32⟩
  | 39 => ⟨S8x256, .f32⟩
  | 40 => ⟨S8x256, .f32⟩
  | 41 => ⟨S8x256, .f32⟩
  | 42 => ⟨S_, .f32⟩
  | 43 => ⟨S8x256, .f32⟩
  | 44 => ⟨S8x256, .f32⟩
  | 45 => ⟨S_, .f32⟩
  | 46 => ⟨S8x256, .f32⟩
  | 47 => ⟨S8x256, .f32⟩
  | 48 => ⟨S_, .f32⟩
  | 49 => ⟨S8x256, .f32⟩
  | 50 => ⟨S8x256, .f32⟩
  | 51 => ⟨S_, .f32⟩
  | 52 => ⟨S8x256, .f32⟩
  | 53 => ⟨S8x256, .f32⟩
  | 54 => ⟨S1x256, .f32⟩
  | 55 => ⟨S8x256, .f32⟩
  | 56 => ⟨S8x256, .f32⟩
  | 57 => ⟨S_, .f32⟩
  | 58 => ⟨S8x256, .f32⟩
  | 59 => ⟨S8x256, .f32⟩
  | 60 => ⟨S8x256x1, .f32⟩
  | 61 => ⟨S8x256, .f32⟩
  | 62 => ⟨S8x256, .f32⟩
  | 63 => ⟨S8x256, .f32⟩
  | 64 => ⟨S_, .f32⟩
  | 65 => ⟨S8x256, .f32⟩
  | 66 => ⟨S8x256, .f32⟩
  | 67 => ⟨S_, .f32⟩
  | 68 => ⟨S8x256, .f32⟩
  | 69 => ⟨S8x256, .f32⟩
  | 70 => ⟨S_, .f32⟩
  | 71 => ⟨S8x256, .f32⟩
  | 72 => ⟨S8x256, .f32⟩
  | 73 => ⟨S_, .f32⟩
  | 74 => ⟨S8x256, .f32⟩
  | 75 => ⟨S8x256, .f32⟩
  | 76 => ⟨S1x256, .f32⟩
  | 77 => ⟨S8x256, .f32⟩
  | 78 => ⟨S8x256, .f32⟩
  | 79 => ⟨S_, .f32⟩
  | 80 => ⟨S8x256, .f32⟩
  | 81 => ⟨S8x256, .f32⟩
  | 82 => ⟨S8x256x1, .f32⟩
  | 83 => ⟨S8x256, .f32⟩
  | 84 => ⟨S_, .f32⟩
  | 85 => ⟨S8x256, .f32⟩
  | 86 => ⟨S8x256, .f32⟩
  | 87 => ⟨S8x256, .f32⟩
  | 88 => ⟨S8x256, .f32⟩
  | 89 => ⟨S8x256, .i1⟩
  | 90 => ⟨S8x256, .f32⟩
  | 91 => ⟨S8x256, .f32⟩
  | 92 => ⟨S8x256, .f32⟩
  | 93 => ⟨S8x256, .f32⟩
  | 94 => ⟨S8x256, .f32⟩
  | 95 => ⟨S8x256, .f32⟩
  | 96 => ⟨S8x256, .f32⟩
  | 97 => ⟨S8x256, .f32⟩
  | 98 => ⟨S_, .f32⟩
  | 99 => ⟨S8x256, .f32⟩
  | 100 => ⟨S8x256, .f32⟩
  | 101 => ⟨S8x256x1, .f32⟩
  | 102 => ⟨S8x256, .f32⟩
  | 103 => ⟨S_, .f32⟩
  | 104 => ⟨S8x256, .f32⟩
  | 105 => ⟨S8x256, .f32⟩
  | 106 => ⟨S8x256, .f32⟩
  | 107 => ⟨S8x256, .f32⟩
  | 108 => ⟨S8x256, .i1⟩
  | 109 => ⟨S8x256, .f32⟩
  | 110 => ⟨S8x256, .f32⟩
  | 111 => ⟨S8x256, .f32⟩
  | 112 => ⟨S8x256, .f32⟩
  | 113 => ⟨S8x256, .f32⟩
  | 114 => ⟨S8x256, .f32⟩
  | 115 => ⟨S8x256, .f32⟩
  | 116 => ⟨S8x256, .f32⟩
  | 117 => ⟨S_, .f32⟩
  | 118 => ⟨S8x256, .f32⟩
  | 119 => ⟨S8x256, .f32⟩
  | 120 => ⟨S_, .f32⟩
  | 121 => ⟨S8x256, .f32⟩
  | 122 => ⟨S8x256, .f32⟩
  | 123 => ⟨S8x256, .f32⟩
  | 124 => ⟨S_, .f32⟩
  | 125 => ⟨S8x256, .f32⟩
  | 126 => ⟨S8x256, .f32⟩
  | 127 => ⟨S8x256, .f32⟩
  | _ => ⟨S8x85x64x64, .f32⟩

abbrev hbmTy0_3 (i : Nat) : BufTy := match i % 128 with
  | 0 => ⟨S_, .f32⟩
  | 1 => ⟨S8x256, .f32⟩
  | 2 => ⟨S8x256, .f32⟩
  | 3 => ⟨S8x256, .f32⟩
  | 4 => ⟨S_, .f32⟩
  | 5 => ⟨S8x256, .f32⟩
  | 6 => ⟨S8x256, .f32⟩
  | 7 => ⟨S8x256, .f32⟩
  | 8 => ⟨S8x256x1, .f32⟩
  | 9 => ⟨S8x256, .f32⟩
  | 10 => ⟨S8x256x80, .f32⟩
  | 11 => ⟨S8x5376, .f32⟩
  | 12 => ⟨S8x5376, .f32⟩
  | 13 => ⟨S8x5376, .f32⟩
  | 14 => ⟨S8x5376, .f32⟩
  | 15 => ⟨S8x5376, .f32⟩
  | 16 => ⟨S8x5376x80, .f32⟩
  | 17 => ⟨S8x30x1, .f32⟩
  | 18 => ⟨S8x30, .f32⟩
  | 19 => ⟨S_, .f32⟩
  | 20 => ⟨S8x30, .f32⟩
  | 21 => ⟨S8x30, .f32⟩
  | 22 => ⟨S8x30x1, .f32⟩
  | 23 => ⟨S8x30, .f32⟩
  | 24 => ⟨S_, .f32⟩
  | 25 => ⟨S8x30, .f32⟩
  | 26 => ⟨S8x30, .f32⟩
  | 27 => ⟨S8x30x1, .f32⟩
  | 28 => ⟨S8x30, .f32⟩
  | 29 => ⟨S_, .f32⟩
  | 30 => ⟨S8x30, .f32⟩
  | 31 => ⟨S8x30, .f32⟩
  | 32 => ⟨S8x30x1, .f32⟩
  | 33 => ⟨S8x30, .f32⟩
  | 34 => ⟨S_, .f32⟩
  | 35 => ⟨S8x30, .f32⟩
  | 36 => ⟨S8x30, .f32⟩
  | 37 => ⟨S_, .f32⟩
  | 38 => ⟨S8x30, .f32⟩
  | 39 => ⟨S8x30, .f32⟩
  | 40 => ⟨S8x30, .f32⟩
  | 41 => ⟨S_, .f32⟩
  | 42 => ⟨S8x30, .f32⟩
  | 43 => ⟨S8x30, .f32⟩
  | 44 => ⟨S8x30, .f32⟩
  | 45 => ⟨S_, .f32⟩
  | 46 => ⟨S8x30, .f32⟩
  | 47 => ⟨S8x30, .f32⟩
  | 48 => ⟨S8x30, .f32⟩
  | 49 => ⟨S_, .f32⟩
  | 50 => ⟨S8x30, .f32⟩
  | 51 => ⟨S8x30, .f32⟩
  | 52 => ⟨S8x30, .f32⟩
  | 53 => ⟨S8x30x1, .f32⟩
  | 54 => ⟨S8x30x1, .f32⟩
  | 55 => ⟨S8x30x1, .f32⟩
  | 56 => ⟨S8x30x1, .f32⟩
  | 57 => ⟨S1x1x5376, .f32⟩
  | 58 => ⟨S1x1x5376, .f32⟩
  | 59 => ⟨S1x1x5376, .f32⟩
  | 60 => ⟨S8x30x1, .f32⟩
  | 61 => ⟨S_, .f32⟩
  | 62 => ⟨S8x30x1, .f32⟩
  | 63 => ⟨S8x30x1, .f32⟩
  | 64 => ⟨S8x30x1, .f32⟩
  | 65 => ⟨S_, .f32⟩
  | 66 => ⟨S8x30x1, .f32⟩
  | 67 => ⟨S8x30x1, .f32⟩
  | 68 => ⟨S8x30x1, .f32⟩
  | 69 => ⟨S1x1x5376, .f32⟩
  | 70 => ⟨S8x30x5376, .f32⟩
  | 71 => ⟨S8x30x5376, .f32⟩
  | 72 => ⟨S8x30x5376, .f32⟩
  | 73 => ⟨S_, .f32⟩
  | 74 => ⟨S8x30x5376, .f32⟩
  | 75 => ⟨S8x30x5376, .i1⟩
  | 76 => ⟨S_, .f32⟩
  | 77 => ⟨S8x30x5376, .f32⟩
  | 78 => ⟨S8x30x5376, .i1⟩
  | 79 => ⟨S8x30x5376, .i1⟩
  | 80 => ⟨S8x30x1, .f32⟩
  | 81 => ⟨S_, .f32⟩
  | 82 => ⟨S8x30x1, .f32⟩
  | 83 => ⟨S8x30x1, .f32⟩
  | 84 => ⟨S8x30x5376, .f32⟩
  | 85 => ⟨S8x30x5376, .f32⟩
  | 86 => ⟨S8x30x5376, .f32⟩
  | 87 => ⟨S8x30x5376, .f32⟩
  | 88 => ⟨S8x30x1, .f32⟩
  | 89 => ⟨S_, .f32⟩
  | 90 => ⟨S8x30x1, .f32⟩
  | 91 => ⟨S8x30x1, .f32⟩
  | 92 => ⟨S8x30x5376, .f32⟩
  | 93 => ⟨S8x30x5376, .f32⟩
  | 94 => ⟨S8x30x5376, .f32⟩
  | 95 => ⟨S8x30x5376, .f32⟩
  | 96 => ⟨S_, .f32⟩
  | 97 => ⟨S1x1x5376, .f32⟩
  | 98 => ⟨S1x1x5376, .f32⟩
  | 99 => ⟨S8x30x5376, .f32⟩
  | 100 => ⟨S8x30x5376, .i1⟩
  | 101 => ⟨S8x30x5376, .f32⟩
  | 102 => ⟨S8x30x5376, .i1⟩
  | 103 => ⟨S8x30x5376, .i1⟩
  | 104 => ⟨S8x30x5376, .f32⟩
  | 105 => ⟨S8x30x5376, .f32⟩
  | 106 => ⟨S8x30x5376, .i1⟩
  | 107 => ⟨S8x30x5376, .f32⟩
  | 108 => ⟨S8x30x5376, .f32⟩
  | 109 => ⟨S8x30x5376, .i1⟩
  | 110 => ⟨S8x30x5376, .i1⟩
  | 111 => ⟨S8x30x5376, .f32⟩
  | 112 => ⟨S8x30x5376, .f32⟩
  | 113 => ⟨S8x30x5376, .i1⟩
  | 114 => ⟨S8x30x5376, .i1⟩
  | 115 => ⟨S8x30x5376, .f32⟩
  | 116 => ⟨S8x30x5376, .f32⟩
  | 117 => ⟨S8x30x5376, .i1⟩
  | 118 => ⟨S8x30x5376, .i1⟩
  | 119 => ⟨S8x30x5376, .i1⟩
  | 120 => ⟨S8x30x5376, .i1⟩
  | 121 => ⟨S8x30x1, .f32⟩
  | 122 => ⟨S8x30x1, .f32⟩
  | 123 => ⟨S8x30x1, .f32⟩
  | 124 => ⟨S8x30x1, .f32⟩
  | 125 => ⟨S8x1x5376, .f32⟩
  | 126 => ⟨S8x1x5376, .f32⟩
  | 127 => ⟨S8x1x5376, .f32⟩
  | _ => ⟨S8x85x64x64, .f32⟩

abbrev hbmTy0_4 (i : Nat) : BufTy := match i % 128 with
  | 0 => ⟨S8x1x5376, .f32⟩
  | 1 => ⟨S8x30x1, .f32⟩
  | 2 => ⟨S_, .f32⟩
  | 3 => ⟨S8x30x1, .f32⟩
  | 4 => ⟨S8x30x1, .f32⟩
  | 5 => ⟨S8x30x1, .f32⟩
  | 6 => ⟨S_, .f32⟩
  | 7 => ⟨S8x30x1, .f32⟩
  | 8 => ⟨S8x30x1, .f32⟩
  | 9 => ⟨S8x30x1, .f32⟩
  | 10 => ⟨S8x1x5376, .f32⟩
  | 11 => ⟨S_, .f32⟩
  | 12 => ⟨S8x1x5376, .f32⟩
  | 13 => ⟨S8x1x5376, .f32⟩
  | 14 => ⟨S8x1x5376, .f32⟩
  | 15 => ⟨S_, .f32⟩
  | 16 => ⟨S8x1x5376, .f32⟩
  | 17 => ⟨S8x1x5376, .f32⟩
  | 18 => ⟨S8x1x5376, .f32⟩
  | 19 => ⟨S8x30x5376, .f32⟩
  | 20 => ⟨S8x30x5376, .f32⟩
  | 21 => ⟨S8x30x5376, .f32⟩
  | 22 => ⟨S8x30x5376, .f32⟩
  | 23 => ⟨S8x30x5376, .f32⟩
  | 24 => ⟨S8x30x5376, .f32⟩
  | 25 => ⟨S8x30x5376, .f32⟩
  | 26 => ⟨S8x30x5376, .f32⟩
  | 27 => ⟨S8x30x5376, .f32⟩
  | 28 => ⟨S8x30x5376, .f32⟩
  | 29 => ⟨S8x30x5376, .f32⟩
  | 30 => ⟨S8x30x5376, .f32⟩
  | 31 => ⟨S8x30x5376, .f32⟩
  | 32 => ⟨S_, .f32⟩
  | 33 => ⟨S8x30x5376, .f32⟩
  | 34 => ⟨S8x30x5376, .f32⟩
  | 35 => ⟨S8x30x5376, .f32⟩
  | 36 => ⟨S_, .f32⟩
  | 37 => ⟨S8x30x5376, .f32⟩
  | 38 => ⟨S8x30x5376, .f32⟩
  | 39 => ⟨S8x30x5376, .f32⟩
  | 40 => ⟨S8x30x5376, .f32⟩
  | 41 => ⟨S8x30x5376, .f32⟩
  | 42 => ⟨S8x30x5376, .f32⟩
  | 43 => ⟨S8x30x5376, .f32⟩
  | 44 => ⟨S_, .f32⟩
  | 45 => ⟨S8x30x5376, .f32⟩
  | 46 => ⟨S8x30x5376, .f32⟩
  | 47 => ⟨S8x30x5376, .f32⟩
  | 48 => ⟨S_, .f32⟩
  | 49 => ⟨S8x30x5376, .f32⟩
  | 50 => ⟨S8x30x5376, .f32⟩
  | 51 => ⟨S_, .f32⟩
  | 52 => ⟨S8x30x5376, .f32⟩
  | 53 => ⟨S8x30x5376, .f32⟩
  | 54 => ⟨S8x5376x80, .f32⟩
  | 55 => ⟨S8x5376x80, .f32⟩
  | 56 => ⟨S_, .f32⟩
  | 57 => ⟨S8x5376x80, .f32⟩
  | 58 => ⟨S8x5376x80, .f32⟩
  | 59 => ⟨S_, .f32⟩
  | 60 => ⟨S8x5376x80, .f32⟩
  | 61 => ⟨S8x5376x80, .f32⟩
  | 62 => ⟨S8x5376, .f32⟩
  | 63 => ⟨S8x5376, .f32⟩
  | 64 => ⟨S_, .f32⟩
  | 65 => ⟨S8x5376, .f32⟩
  | 66 => ⟨S8x5376, .f32⟩
  | 67 => ⟨S_, .f32⟩
  | 68 => ⟨S8x5376, .f32⟩
  | 69 => ⟨S8x5376, .f32⟩
  | 70 => ⟨S8x5376x1, .f32⟩
  | 71 => ⟨S8x5376x80, .f32⟩
  | 72 => ⟨S8x5376x80, .f32⟩
  | 73 => ⟨S8x1x5376x80, .f32⟩
  | 74 => ⟨S8x30x1, .i32⟩
  | 75 => ⟨S1x1x80, .i32⟩
  | 76 => ⟨S8x30x80, .i32⟩
  | 77 => ⟨S8x30x80, .i32⟩
  | 78 => ⟨S8x30x80, .i1⟩
  | 79 => ⟨S8x30x80, .f32⟩
  | 80 => ⟨S8x30x1x80, .f32⟩
  | 81 => ⟨S_, .f32⟩
  | 82 => ⟨S8x1x5376x80, .f32⟩
  | 83 => ⟨S8x1x5376x80, .f32⟩
  | 84 => ⟨S8x1x5376x80, .f32⟩
  | 85 => ⟨S8x30x5376x80, .f32⟩
  | 86 => ⟨S8x30x5376x80, .f32⟩
  | 87 => ⟨S8x30x5376x80, .f32⟩
  | 88 => ⟨S_, .f32⟩
  | 89 => ⟨S8x30x1x80, .f32⟩
  | 90 => ⟨S8x30x1x80, .f32⟩
  | 91 => ⟨S_, .f32⟩
  | 92 => ⟨S8x1x5376x80, .f32⟩
  | 93 => ⟨S8x1x5376x80, .f32⟩
  | 94 => ⟨S_, .f32⟩
  | 95 => ⟨S8x1x5376x80, .f32⟩
  | 96 => ⟨S8x1x5376x80, .f32⟩
  | 97 => ⟨S8x1x5376x80, .f32⟩
  | 98 => ⟨S8x30x5376x80, .f32⟩
  | 99 => ⟨S8x30x5376x80, .f32⟩
  | 100 => ⟨S8x30x5376x80, .f32⟩
  | 101 => ⟨S8x30x5376x80, .f32⟩
  | 102 => ⟨S_, .f32⟩
  | 103 => ⟨S8x30x5376, .f32⟩
  | 104 => ⟨S8x30x5376, .f32⟩
  | 105 => ⟨S8x30x1, .f32⟩
  | 106 => ⟨S8x30x1, .f32⟩
  | 107 => ⟨S8x30x1, .f32⟩
  | 108 => ⟨S8x30x1, .f32⟩
  | 109 => ⟨S8x1x5376, .f32⟩
  | 110 => ⟨S8x1x5376, .f32⟩
  | 111 => ⟨S8x1x5376, .f32⟩
  | 112 => ⟨S8x1x5376, .f32⟩
  | 113 => ⟨S1x1x5376, .f32⟩
  | 114 => ⟨S1x1x5376, .f32⟩
  | 115 => ⟨S1x1x5376, .f32⟩
  | 116 => ⟨S8x30x1, .f32⟩
  | 117 => ⟨S_, .f32⟩
  | 118 => ⟨S8x30x1, .f32⟩
  | 119 => ⟨S8x30x1, .f32⟩
  | 120 => ⟨S8x30x1, .f32⟩
  | 121 => ⟨S_, .f32⟩
  | 122 => ⟨S8x30x1, .f32⟩
  | 123 => ⟨S8x30x1, .f32⟩
  | 124 => ⟨S8x1x5376, .f32⟩
  | 125 => ⟨S_, .f32⟩
  | 126 => ⟨S8x1x5376, .f32⟩
  | 127 => ⟨S8x1x5376, .f32⟩
  | _ => ⟨S8x85x64x64, .f32⟩

abbrev hbmTy0_5 (i : Nat) : BufTy := match i % 128 with
  | 0 => ⟨S8x1x5376, .f32⟩
  | 1 => ⟨S_, .f32⟩
  | 2 => ⟨S8x1x5376, .f32⟩
  | 3 => ⟨S8x1x5376, .f32⟩
  | 4 => ⟨S8x30x5376, .f32⟩
  | 5 => ⟨S8x30x5376, .f32⟩
  | 6 => ⟨S8x30x5376, .f32⟩
  | 7 => ⟨S8x30x5376, .f32⟩
  | 8 => ⟨S8x30x5376, .f32⟩
  | 9 => ⟨S8x30x5376, .f32⟩
  | 10 => ⟨S8x30x5376, .f32⟩
  | 11 => ⟨S8x30x5376, .f32⟩
  | 12 => ⟨S8x30x5376, .f32⟩
  | 13 => ⟨S8x30x5376, .f32⟩
  | 14 => ⟨S8x30x5376, .f32⟩
  | 15 => ⟨S8x1x5376, .f32⟩
  | 16 => ⟨S8x1x5376, .f32⟩
  | 17 => ⟨S8x30x1, .f32⟩
  | 18 => ⟨S8x30x1, .f32⟩
  | 19 => ⟨S8x30x5376, .f32⟩
  | 20 => ⟨S8x30x5376, .f32⟩
  | 21 => ⟨S8x30x5376, .f32⟩
  | 22 => ⟨S8x30x5376, .f32⟩
  | 23 => ⟨S8x30x1, .f32⟩
  | 24 => ⟨S_, .f32⟩
  | 25 => ⟨S8x30x1, .f32⟩
  | 26 => ⟨S8x30x1, .f32⟩
  | 27 => ⟨S8x30x5376, .f32⟩
  | 28 => ⟨S8x30x5376, .f32⟩
  | 29 => ⟨S8x30x5376, .f32⟩
  | 30 => ⟨S8x30x5376, .f32⟩
  | 31 => ⟨S8x30x1, .f32⟩
  | 32 => ⟨S_, .f32⟩
  | 33 => ⟨S8x30x1, .f32⟩
  | 34 => ⟨S8x30x1, .f32⟩
  | 35 => ⟨S8x30x5376, .f32⟩
  | 36 => ⟨S8x30x5376, .f32⟩
  | 37 => ⟨S8x30x5376, .f32⟩
  | 38 => ⟨S8x30x5376, .f32⟩
  | 39 => ⟨S8x30x5376, .f32⟩
  | 40 => ⟨S8x30x5376, .f32⟩
  | 41 => ⟨S8x30x5376, .f32⟩
  | 42 => ⟨S8x30x5376, .f32⟩
  | 43 => ⟨S8x30x5376, .f32⟩
  | 44 => ⟨S8x30x5376, .f32⟩
  | 45 => ⟨S_, .f32⟩
  | 46 => ⟨S8x30x5376, .f32⟩
  | 47 => ⟨S8x30x5376, .f32⟩
  | 48 => ⟨S_, .f32⟩
  | 49 => ⟨S8x30x5376, .f32⟩
  | 50 => ⟨S8x30x5376, .f32⟩
  | 51 => ⟨S_, .f32⟩
  | 52 => ⟨S8x30x5376, .f32⟩
  | 53 => ⟨S8x30x5376, .f32⟩
  | 54 => ⟨S8x30x5376, .f32⟩
  | 55 => ⟨S_, .f32⟩
  | 56 => ⟨S8x30x5376, .f32⟩
  | 57 => ⟨S8x30x5376, .f32⟩
  | 58 => ⟨S8x30x5376, .f32⟩
  | 59 => ⟨S_, .f32⟩
  | 60 => ⟨S8x30x5376, .f32⟩
  | 61 => ⟨S8x30x5376, .f32⟩
  | 62 => ⟨S8x30x5376, .f32⟩
  | 63 => ⟨S_, .f32⟩
  | 64 => ⟨S8x30x5376, .f32⟩
  | 65 => ⟨S8x30x5376, .f32⟩
  | 66 => ⟨S8x30x5376, .f32⟩
  | 67 => ⟨S_, .f32⟩
  | 68 => ⟨S_, .f32⟩
  | 69 => ⟨S8x30x5376, .f32⟩
  | 70 => ⟨S8x30x5376, .f32⟩
  | 71 => ⟨S8x30x5376, .f32⟩
  | 72 => ⟨S8x30x5376, .f32⟩
  | 73 => ⟨S8x30x5376, .f32⟩
  | 74 => ⟨S_, .f32⟩
  | 75 => ⟨S_, .f32⟩
  | 76 => ⟨S8x30x5376, .f32⟩
  | 77 => ⟨S8x30x5376, .f32⟩
  | 78 => ⟨S8x30x20, .f32⟩
  | 79 => ⟨S8x30x20, .i32⟩
  | 80 => ⟨S_, .f32⟩
  | 81 => ⟨S8x30, .f32⟩
  | 82 => ⟨S8x30, .i32⟩
  | 83 => ⟨S_, .i32⟩
  | 84 => ⟨S_, .i32⟩
  | 85 => ⟨S_, .i32⟩
  | 86 => ⟨S8x30, .i32⟩
  | 87 => ⟨S8x30, .i32⟩
  | 88 => ⟨S_, .i32⟩
  | 89 => ⟨S8x30, .i32⟩
  | 90 => ⟨S8x30, .i32⟩
  | 91 => ⟨S8x30x5376, .i32⟩
  | 92 => ⟨S8x30x5376, .f32⟩
  | 93 => ⟨S8x30x5376, .i32⟩
  | 94 => ⟨S8x30x5376, .i32⟩
  | 95 => ⟨S8x30x5376, .i32⟩
  | 96 => ⟨S8x30x5376, .i32⟩
  | 97 => ⟨S8x30x1, .i32⟩
  | 98 => ⟨S8x30x5376, .i32⟩
  | 99 => ⟨S8x30x5376, .i1⟩
  | 100 => ⟨S8x30x5376, .i1⟩
  | 101 => ⟨S_, .f32⟩
  | 102 => ⟨S_, .f32⟩
  | 103 => ⟨S8x30x5376, .f32⟩
  | 104 => ⟨S8x30x5376, .f32⟩
  | 105 => ⟨S8x30x5376, .i32⟩
  | 106 => ⟨S8x30x5376, .f32⟩
  | 107 => ⟨S8x30x5376, .i32⟩
  | 108 => ⟨S8x1x5376, .i32⟩
  | 109 => ⟨S8x5376, .i32⟩
  | 110 => ⟨S_, .i1⟩
  | 111 => ⟨S8x5376, .i1⟩
  | 112 => ⟨S8x1x5376, .i32⟩
  | 113 => ⟨S_, .i32⟩
  | 114 => ⟨S8x1x5376, .i32⟩
  | 115 => ⟨S8x1x5376, .i1⟩
  | 116 => ⟨S_, .i32⟩
  | 117 => ⟨S8x1x5376, .i32⟩
  | 118 => ⟨S8x1x5376, .i32⟩
  | 119 => ⟨S8x1x5376, .i32⟩
  | 120 => ⟨S8x1x5376x1, .i32⟩
  | 121 => ⟨S8x1x5376, .f32⟩
  | 122 => ⟨S8x5376, .f32⟩
  | 123 => ⟨S_, .i32⟩
  | 124 => ⟨S8x5376, .i32⟩
  | 125 => ⟨S8x5376, .i1⟩
  | 126 => ⟨S_, .i32⟩
  | 127 => ⟨S8x5376, .i32⟩
  | _ => ⟨S8x85x64x64, .f32⟩

abbrev hbmTy0_6 (i : Nat) : BufTy := match i % 128 with
  | 0 => ⟨S8x5376, .i32⟩
  | 1 => ⟨S8x5376, .i32⟩
  | 2 => ⟨S8x5376x1, .i32⟩
  | 3 => ⟨S8x5376, .f32⟩
  | 4 => ⟨S_, .i32⟩
  | 5 => ⟨S8x5376, .i32⟩
  | 6 => ⟨S8x5376, .i1⟩
  | 7 => ⟨S_, .i32⟩
  | 8 => ⟨S8x5376, .i32⟩
  | 9 => ⟨S8x5376, .i32⟩
  | 10 => ⟨S8x5376, .i32⟩
  | 11 => ⟨S8x5376x1, .i32⟩
  | 12 => ⟨S8x5376, .f32⟩
  | 13 => ⟨S_, .i32⟩
  | 14 => ⟨S8x5376, .i32⟩
  | 15 => ⟨S8x5376, .i1⟩
  | 16 => ⟨S_, .i32⟩
  | 17 => ⟨S8x5376, .i32⟩
  | 18 => ⟨S8x5376, .i32⟩
  | 19 => ⟨S8x5376, .i32⟩
  | 20 => ⟨S8x5376x1, .i32⟩
  | 21 => ⟨S8x5376, .f32⟩
  | 22 => ⟨S_, .i32⟩
  | 23 => ⟨S8x5376, .i32⟩
  | 24 => ⟨S8x5376, .i1⟩
  | 25 => ⟨S_, .i32⟩
  | 26 => ⟨S8x5376, .i32⟩
  | 27 => ⟨S8x5376, .i32⟩
  | 28 => ⟨S8x5376, .i32⟩
  | 29 => ⟨S8x5376x1, .i32⟩
  | 30 => ⟨S8x5376, .f32⟩
  | 31 => ⟨S_, .i32⟩
  | 32 => ⟨S8x5376, .i32⟩
  | 33 => ⟨S8x5376, .i1⟩
  | 34 => ⟨S_, .i32⟩
  | 35 => ⟨S8x5376, .i32⟩
  | 36 => ⟨S8x5376, .i32⟩
  | 37 => ⟨S8x5376, .i32⟩
  | 38 => ⟨S8x5376x1, .i32⟩
  | 39 => ⟨S8x5376, .i32⟩
  | 40 => ⟨S8x5376, .f32⟩
  | 41 => ⟨S_, .f32⟩
  | 42 => ⟨S8, .f32⟩
  | 43 => ⟨S_, .f32⟩
  | 44 => ⟨S8, .f32⟩
  | 45 => ⟨S8, .f32⟩
  | 46 => ⟨S8x5376, .f32⟩
  | 47 => ⟨S_, .f32⟩
  | 48 => ⟨S8x5376, .f32⟩
  | 49 => ⟨S8x5376, .f32⟩
  | 50 => ⟨S8x5376, .f32⟩
  | 51 => ⟨S_, .f32⟩
  | 52 => ⟨S8x5376, .f32⟩
  | 53 => ⟨S8x5376, .f32⟩
  | 54 => ⟨S8x5376, .f32⟩
  | 55 => ⟨S_, .f32⟩
  | 56 => ⟨S8x5376, .f32⟩
  | 57 => ⟨S8x5376, .f32⟩
  | 58 => ⟨S8x5376, .f32⟩
  | 59 => ⟨S_, .f32⟩
  | 60 => ⟨S8x5376, .f32⟩
  | 61 => ⟨S8x5376, .f32⟩
  | 62 => ⟨S8x5376, .f32⟩
  | 63 => ⟨S8x5376, .f32⟩
  | 64 => ⟨S8x5376, .f32⟩
  | 65 => ⟨S_, .f32⟩
  | 66 => ⟨S8x5376, .f32⟩
  | 67 => ⟨S8x5376, .f32⟩
  | 68 => ⟨S8x5376, .f32⟩
  | 69 => ⟨S8x5376, .f32⟩
  | 70 => ⟨S8x5376, .f32⟩
  | 71 => ⟨S_, .f32⟩
  | 72 => ⟨S8x5376, .f32⟩
  | 73 => ⟨S8x5376, .f32⟩
  | 74 => ⟨S8x5376, .f32⟩
  | 75 => ⟨S8x5376, .f32⟩
  | 76 => ⟨S8x5376, .f32⟩
  | 77 => ⟨S8x5376, .f32⟩
  | 78 => ⟨S8x5376, .f32⟩
  | 79 => ⟨S_, .f32⟩
  | 80 => ⟨S8x5376, .f32⟩
  | 81 => ⟨S8x5376, .f32⟩
  | 82 => ⟨S8x5376, .f32⟩
  | 83 => ⟨S8x5376, .f32⟩
  | 84 => ⟨S_, .f32⟩
  | 85 => ⟨S8x5376, .f32⟩
  | 86 => ⟨S8x5376, .f32⟩
  | 87 => ⟨S8x5376, .f32⟩
  | 88 => ⟨S_, .f32⟩
  | 89 => ⟨S8x5376, .f32⟩
  | 90 => ⟨S8x5376, .f32⟩
  | 91 => ⟨S8x5376, .f32⟩
  | 92 => ⟨S8x5376, .f32⟩
  | 93 => ⟨S8x5376, .f32⟩
  | 94 => ⟨S_, .f32⟩
  | 95 => ⟨S8x5376, .f32⟩
  | 96 => ⟨S8x5376, .f32⟩
  | 97 => ⟨S8x5376, .f32⟩
  | 98 => ⟨S_, .f32⟩
  | 99 => ⟨S8x5376, .f32⟩
  | 100 => ⟨S8x5376, .f32⟩
  | 101 => ⟨S8x5376, .f32⟩
  | 102 => ⟨S8x5376, .f32⟩
  | 103 => ⟨S8x5376, .f32⟩
  | 104 => ⟨S8x5376, .f32⟩
  | 105 => ⟨S8x5376, .f32⟩
  | 106 => ⟨S8x5376, .f32⟩
  | 107 => ⟨S8x5376, .f32⟩
  | 108 => ⟨S8x5376, .f32⟩
  | 109 => ⟨S8x5376, .f32⟩
  | 110 => ⟨S8x5376, .f32⟩
  | 111 => ⟨S8x5376, .f32⟩
  | 112 => ⟨S8x5376, .f32⟩
  | 113 => ⟨S_, .f32⟩
  | 114 => ⟨S8x5376, .f32⟩
  | 115 => ⟨S8x5376, .f32⟩
  | 116 => ⟨S8x5376, .f32⟩
  | 117 => ⟨S_, .f32⟩
  | 118 => ⟨S8x5376, .f32⟩
  | 119 => ⟨S8x5376, .i1⟩
  | 120 => ⟨S_, .f32⟩
  | 121 => ⟨S8x5376, .f32⟩
  | 122 => ⟨S8x5376, .i1⟩
  | 123 => ⟨S_, .f32⟩
  | 124 => ⟨S8x5376, .f32⟩
  | 125 => ⟨S8x5376, .f32⟩
  | 126 => ⟨S_, .f32⟩
  | 127 => ⟨S8x5376, .f32⟩
  | _ => ⟨S8x85x64x64, .f32⟩

abbrev hbmTy0_7 (i : Nat) : BufTy := match i % 128 with
  | 0 => ⟨S8x5376, .f32⟩
  | 1 => ⟨S_, .f32⟩
  | 2 => ⟨S8x5376, .f32⟩
  | 3 => ⟨S8x5376, .f32⟩
  | 4 => ⟨S8x5376, .f32⟩
  | 5 => ⟨S8x5376, .f32⟩
  | 6 => ⟨S8x5376, .f32⟩
  | 7 => ⟨S_, .f32⟩
  | 8 => ⟨S_, .f32⟩
  | 9 => ⟨S8x5376, .f32⟩
  | 10 => ⟨S8x5376, .f32⟩
  | 11 => ⟨S8x5376, .f32⟩
  | 12 => ⟨S_, .f32⟩
  | 13 => ⟨S8x5376, .f32⟩
  | 14 => ⟨S8x5376, .f32⟩
  | 15 => ⟨S8x5376, .f32⟩
  | 16 => ⟨S_, .f32⟩
  | 17 => ⟨S8x5376, .f32⟩
  | 18 => ⟨S8x5376, .f32⟩
  | 19 => ⟨S_, .f32⟩
  | 20 => ⟨S8x5376, .f32⟩
  | 21 => ⟨S8x5376, .f32⟩
  | 22 => ⟨S8x5376, .f32⟩
  | 23 => ⟨S_, .f32⟩
  | 24 => ⟨S8x5376, .f32⟩
  | 25 => ⟨S8x5376, .f32⟩
  | 26 => ⟨S8x5376, .f32⟩
  | 27 => ⟨S_, .f32⟩
  | 28 => ⟨S8x5376, .f32⟩
  | 29 => ⟨S8x5376, .f32⟩
  | 30 => ⟨S8x5376, .f32⟩
  | 31 => ⟨S8x5376, .f32⟩
  | 32 => ⟨S8x5376, .f32⟩
  | 33 => ⟨S8x5376, .f32⟩
  | 34 => ⟨S8x5376, .f32⟩
  | 35 => ⟨S8x5376, .f32⟩
  | 36 => ⟨S_, .f32⟩
  | 37 => ⟨S8x5376, .f32⟩
  | 38 => ⟨S8x5376, .i1⟩
  | 39 => ⟨S_, .f32⟩
  | 40 => ⟨S8x5376, .f32⟩
  | 41 => ⟨S8x5376, .i1⟩
  | 42 => ⟨S_, .f32⟩
  | 43 => ⟨S8x5376, .f32⟩
  | 44 => ⟨S8x5376, .f32⟩
  | 45 => ⟨S_, .f32⟩
  | 46 => ⟨S8x5376, .f32⟩
  | 47 => ⟨S8x5376, .f32⟩
  | 48 => ⟨S_, .f32⟩
  | 49 => ⟨S8x5376, .f32⟩
  | 50 => ⟨S8x5376, .f32⟩
  | 51 => ⟨S8x5376, .f32⟩
  | 52 => ⟨S8x5376, .f32⟩
  | 53 => ⟨S8x5376, .f32⟩
  | 54 => ⟨S_, .f32⟩
  | 55 => ⟨S_, .f32⟩
  | 56 => ⟨S8x5376, .f32⟩
  | 57 => ⟨S8x5376, .f32⟩
  | 58 => ⟨S8x5376, .f32⟩
  | 59 => ⟨S_, .f32⟩
  | 60 => ⟨S8x5376, .f32⟩
  | 61 => ⟨S8x5376, .f32⟩
  | 62 => ⟨S8x5376, .f32⟩
  | 63 => ⟨S_, .f32⟩
  | 64 => ⟨S8x5376, .f32⟩
  | 65 => ⟨S8x5376, .f32⟩
  | 66 => ⟨S_, .f32⟩
  | 67 => ⟨S8x5376, .f32⟩
  | 68 => ⟨S8x5376, .f32⟩
  | 69 => ⟨S8x5376, .f32⟩
  | 70 => ⟨S_, .f32⟩
  | 71 => ⟨S8x5376, .f32⟩
  | 72 => ⟨S8x5376, .f32⟩
  | 73 => ⟨S8x5376, .f32⟩
  | 74 => ⟨S_, .f32⟩
  | 75 => ⟨S8x5376, .f32⟩
  | 76 => ⟨S8x5376, .f32⟩
  | 77 => ⟨S8x5376, .f32⟩
  | 78 => ⟨S8x5376, .f32⟩
  | 79 => ⟨S8x5376, .f32⟩
  | 80 => ⟨S8x5376, .f32⟩
  | 81 => ⟨S8x5376, .f32⟩
  | 82 => ⟨S8x5376, .f32⟩
  | 83 => ⟨S8x5376, .f32⟩
  | 84 => ⟨S_, .f32⟩
  | 85 => ⟨S8x5376, .f32⟩
  | 86 => ⟨S8x5376, .f32⟩
  | 87 => ⟨S8x5376, .f32⟩
  | 88 => ⟨S_, .f32⟩
  | 89 => ⟨S8x5376, .f32⟩
  | 90 => ⟨S8x5376, .f32⟩
  | 91 => ⟨S_, .f32⟩
  | 92 => ⟨S8x5376, .f32⟩
  | 93 => ⟨S8x5376, .f32⟩
  | 94 => ⟨S8x5376, .f32⟩
  | 95 => ⟨S8x5376, .f32⟩
  | 96 => ⟨S8x5376, .f32⟩
  | 97 => ⟨S8x5376, .f32⟩
  | 98 => ⟨S8x5376, .f32⟩
  | 99 => ⟨S_, .f32⟩
  | 100 => ⟨S8x5376, .f32⟩
  | 101 => ⟨S8x5376, .f32⟩
  | 102 => ⟨S8x5376, .f32⟩
  | 103 => ⟨S_, .f32⟩
  | 104 => ⟨S8, .f32⟩
  | 105 => ⟨S8, .f32⟩
  | 106 => ⟨S_, .f32⟩
  | 107 => ⟨S8x5376, .f32⟩
  | 108 => ⟨S8x5376, .f32⟩
  | 109 => ⟨S_, .f32⟩
  | 110 => ⟨S8x5376, .f32⟩
  | 111 => ⟨S8x5376, .f32⟩
  | 112 => ⟨S_, .f32⟩
  | 113 => ⟨S_, .f32⟩
  | 114 => ⟨S8x5376, .f32⟩
  | 115 => ⟨S8x5376, .f32⟩
  | 116 => ⟨S_, .f32⟩
  | 117 => ⟨S8x5376, .f32⟩
  | 118 => ⟨S8x5376, .f32⟩
  | 119 => ⟨S8x5376, .f32⟩
  | 120 => ⟨S8x5376, .f32⟩
  | 121 => ⟨S8x5376, .f32⟩
  | 122 => ⟨S8x5376, .f32⟩
  | 123 => ⟨S8x5376, .f32⟩
  | 124 => ⟨S8x5376, .f32⟩
  | 125 => ⟨S8x5376, .f32⟩
  | 126 => ⟨S_, .f32⟩
  | 127 => ⟨S8, .f32⟩
  | _ => ⟨S8x85x64x64, .f32⟩

abbrev hbmTy0_8 (i : Nat) : BufTy := match i % 128 with
  | 0 => ⟨S_, .f32⟩
  | 1 => ⟨S8, .f32⟩
  | 2 => ⟨S8, .f32⟩
  | 3 => ⟨S8x5376x1, .i32⟩
  | 4 => ⟨S1x1x80, .i32⟩
  | 5 => ⟨S8x5376x80, .i32⟩
  | 6 => ⟨S8x5376x80, .i32⟩
  | 7 => ⟨S8x5376x80, .i1⟩
  | 8 => ⟨S8x5376x80, .f32⟩
  | 9 => ⟨S_, .f32⟩
  | 10 => ⟨S8x5376x80, .f32⟩
  | 11 => ⟨S8x5376x80, .f32⟩
  | 12 => ⟨S_, .f32⟩
  | 13 => ⟨S8x5376x80, .f32⟩
  | 14 => ⟨S8x5376x80, .f32⟩
  | 15 => ⟨S_, .f32⟩
  | 16 => ⟨S8x5376x80, .f32⟩
  | 17 => ⟨S8x5376x80, .f32⟩
  | 18 => ⟨S8x5376x80, .f32⟩
  | 19 => ⟨S8x5376x80, .f32⟩
  | 20 => ⟨S8x5376x80, .f32⟩
  | 21 => ⟨S8x5376x80, .f32⟩
  | 22 => ⟨S8x5376x80, .f32⟩
  | 23 => ⟨S8x5376x80, .f32⟩
  | 24 => ⟨S8x5376x80, .f32⟩
  | 25 => ⟨S_, .f32⟩
  | 26 => ⟨S8x5376, .f32⟩
  | 27 => ⟨S_, .f32⟩
  | 28 => ⟨S8x5376, .f32⟩
  | 29 => ⟨S8x5376, .f32⟩
  | 30 => ⟨S8x5376, .f32⟩
  | 31 => ⟨S_, .f32⟩
  | 32 => ⟨S8, .f32⟩
  | 33 => ⟨S8, .f32⟩
  | 34 => ⟨S_, .f32⟩
  | 35 => ⟨S8, .f32⟩
  | 36 => ⟨S8, .f32⟩
  | 37 => ⟨S_, .f32⟩
  | 38 => ⟨S8, .f32⟩
  | 39 => ⟨S8, .f32⟩
  | 40 => ⟨S8, .f32⟩
  | 41 => ⟨S_, .f32⟩
  | 42 => ⟨S8, .f32⟩
  | 43 => ⟨S8, .f32⟩
  | 44 => ⟨S8, .f32⟩
  | 45 => ⟨S_, .f32⟩
  | 46 => ⟨S_, .f32⟩
  | 47 => ⟨S_, .f32⟩
  | 48 => ⟨S_, .f32⟩
  | _ => ⟨S8x85x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S8x85x64x64, .f32⟩

abbrev bufTy : (tb : Table) → Fin (tcTables nBuf tb) → BufTy
  | .hbm, ⟨i, _⟩ => hbmTy i
  | _, _ => ⟨S8x85x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_14 : Ref sig .tc := ⟨.hbm, 80, rfl⟩
abbrev main_v60 : Ref sig .tc := ⟨.hbm, 81, rfl⟩
abbrev main_v61 : Ref sig .tc := ⟨.hbm, 82, rfl⟩
abbrev main_cst_15 : Ref sig .tc := ⟨.hbm, 83, rfl⟩
abbrev main_v62 : Ref sig .tc := ⟨.hbm, 84, rfl⟩
abbrev main_v63 : Ref sig .tc := ⟨.hbm, 85, rfl⟩
abbrev main_cst_16 : Ref sig .tc := ⟨.hbm, 86, rfl⟩
abbrev main_v64 : Ref sig .tc := ⟨.hbm, 87, rfl⟩
abbrev main_v65 : Ref sig .tc := ⟨.hbm, 88, rfl⟩
abbrev main_cst_17 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_18 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_19 : Ref sig .tc := ⟨.hbm, 102, rfl⟩
abbrev main_v77 : Ref sig .tc := ⟨.hbm, 103, rfl⟩
abbrev main_v78 : Ref sig .tc := ⟨.hbm, 104, rfl⟩
abbrev main_cst_20 : Ref sig .tc := ⟨.hbm, 105, rfl⟩
abbrev main_v79 : Ref sig .tc := ⟨.hbm, 106, rfl⟩
abbrev main_v80 : Ref sig .tc := ⟨.hbm, 107, rfl⟩
abbrev main_cst_21 : Ref sig .tc := ⟨.hbm, 108, rfl⟩
abbrev main_v81 : Ref sig .tc := ⟨.hbm, 109, rfl⟩
abbrev main_v82 : Ref sig .tc := ⟨.hbm, 110, rfl⟩
abbrev main_cst_22 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_23 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_call0_cst : Ref sig .tc := ⟨.hbm, 122, rfl⟩
abbrev main_call0_v0 : Ref sig .tc := ⟨.hbm, 123, rfl⟩
abbrev main_call0_v1 : Ref sig .tc := ⟨.hbm, 124, rfl⟩
abbrev main_call0_v2 : Ref sig .tc := ⟨.hbm, 125, rfl⟩
abbrev main_call0_v3 : Ref sig .tc := ⟨.hbm, 126, rfl⟩
abbrev main_call0_v4 : Ref sig .tc := ⟨.hbm, 127, rfl⟩
abbrev main_call0_v5 : Ref sig .tc := ⟨.hbm, 128, rfl⟩
abbrev main_call0_v6 : Ref sig .tc := ⟨.hbm, 129, rfl⟩
abbrev main_call0_v7 : Ref sig .tc := ⟨.hbm, 130, rfl⟩
abbrev main_call0_v8 : Ref sig .tc := ⟨.hbm, 131, rfl⟩
abbrev main_call0_v9 : Ref sig .tc := ⟨.hbm, 132, rfl⟩
abbrev main_call0_v10 : Ref sig .tc := ⟨.hbm, 133, rfl⟩
abbrev main_call0_v11 : Ref sig .tc := ⟨.hbm, 134, rfl⟩
abbrev main_v92 : Ref sig .tc := ⟨.hbm, 135, rfl⟩
abbrev main_cst_24 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_call1_cst : Ref sig .tc := ⟨.hbm, 141, rfl⟩
abbrev main_call1_v0 : Ref sig .tc := ⟨.hbm, 142, rfl⟩
abbrev main_call1_v1 : Ref sig .tc := ⟨.hbm, 143, rfl⟩
abbrev main_call1_v2 : Ref sig .tc := ⟨.hbm, 144, rfl⟩
abbrev main_call1_v3 : Ref sig .tc := ⟨.hbm, 145, rfl⟩
abbrev main_call1_v4 : Ref sig .tc := ⟨.hbm, 146, rfl⟩
abbrev main_call1_v5 : Ref sig .tc := ⟨.hbm, 147, rfl⟩
abbrev main_call1_v6 : Ref sig .tc := ⟨.hbm, 148, rfl⟩
abbrev main_call1_v7 : Ref sig .tc := ⟨.hbm, 149, rfl⟩
abbrev main_call1_v8 : Ref sig .tc := ⟨.hbm, 150, rfl⟩
abbrev main_call1_v9 : Ref sig .tc := ⟨.hbm, 151, rfl⟩
abbrev main_call1_v10 : Ref sig .tc := ⟨.hbm, 152, rfl⟩
abbrev main_call1_v11 : Ref sig .tc := ⟨.hbm, 153, rfl⟩
abbrev main_v97 : Ref sig .tc := ⟨.hbm, 154, rfl⟩
abbrev main_cst_25 : Ref sig .tc := ⟨.hbm, 155, rfl⟩
abbrev main_v98 : Ref sig .tc := ⟨.hbm, 156, rfl⟩
abbrev main_v99 : Ref sig .tc := ⟨.hbm, 157, rfl⟩
abbrev main_cst_26 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_cst_27 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_cst_28 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_cst_29 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_cst_30 : Ref sig .tc := ⟨.hbm, 189, rfl⟩
abbrev main_v127 : Ref sig .tc := ⟨.hbm, 190, rfl⟩
abbrev main_v128 : Ref sig .tc := ⟨.hbm, 191, rfl⟩
abbrev main_cst_31 : Ref sig .tc := ⟨.hbm, 192, rfl⟩
abbrev main_v129 : Ref sig .tc := ⟨.hbm, 193, rfl⟩
abbrev main_v130 : Ref sig .tc := ⟨.hbm, 194, rfl⟩
abbrev main_cst_32 : Ref sig .tc := ⟨.hbm, 195, rfl⟩
abbrev main_v131 : Ref sig .tc := ⟨.hbm, 196, rfl⟩
abbrev main_v132 : Ref sig .tc := ⟨.hbm, 197, rfl⟩
abbrev main_cst_33 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_cst_34 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_cst_35 : Ref sig .tc := ⟨.hbm, 211, rfl⟩
abbrev main_v144 : Ref sig .tc := ⟨.hbm, 212, rfl⟩
abbrev main_v145 : Ref sig .tc := ⟨.hbm, 213, rfl⟩
abbrev main_cst_36 : Ref sig .tc := ⟨.hbm, 214, rfl⟩
abbrev main_v146 : Ref sig .tc := ⟨.hbm, 215, rfl⟩
abbrev main_v147 : Ref sig .tc := ⟨.hbm, 216, rfl⟩
abbrev main_cst_37 : Ref sig .tc := ⟨.hbm, 217, rfl⟩
abbrev main_v148 : Ref sig .tc := ⟨.hbm, 218, rfl⟩
abbrev main_v149 : Ref sig .tc := ⟨.hbm, 219, rfl⟩
abbrev main_cst_38 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_cst_39 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_call2_cst : Ref sig .tc := ⟨.hbm, 231, rfl⟩
abbrev main_call2_v0 : Ref sig .tc := ⟨.hbm, 232, rfl⟩
abbrev main_call2_v1 : Ref sig .tc := ⟨.hbm, 233, rfl⟩
abbrev main_call2_v2 : Ref sig .tc := ⟨.hbm, 234, rfl⟩
abbrev main_call2_v3 : Ref sig .tc := ⟨.hbm, 235, rfl⟩
abbrev main_call2_v4 : Ref sig .tc := ⟨.hbm, 236, rfl⟩
abbrev main_call2_v5 : Ref sig .tc := ⟨.hbm, 237, rfl⟩
abbrev main_call2_v6 : Ref sig .tc := ⟨.hbm, 238, rfl⟩
abbrev main_call2_v7 : Ref sig .tc := ⟨.hbm, 239, rfl⟩
abbrev main_call2_v8 : Ref sig .tc := ⟨.hbm, 240, rfl⟩
abbrev main_call2_v9 : Ref sig .tc := ⟨.hbm, 241, rfl⟩
abbrev main_call2_v10 : Ref sig .tc := ⟨.hbm, 242, rfl⟩
abbrev main_call2_v11 : Ref sig .tc := ⟨.hbm, 243, rfl⟩
abbrev main_v159 : Ref sig .tc := ⟨.hbm, 244, rfl⟩
abbrev main_cst_40 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_call3_cst : Ref sig .tc := ⟨.hbm, 250, rfl⟩
abbrev main_call3_v0 : Ref sig .tc := ⟨.hbm, 251, rfl⟩
abbrev main_call3_v1 : Ref sig .tc := ⟨.hbm, 252, rfl⟩
abbrev main_call3_v2 : Ref sig .tc := ⟨.hbm, 253, rfl⟩
abbrev main_call3_v3 : Ref sig .tc := ⟨.hbm, 254, rfl⟩
abbrev main_call3_v4 : Ref sig .tc := ⟨.hbm, 255, rfl⟩
abbrev main_call3_v5 : Ref sig .tc := ⟨.hbm, 256, rfl⟩
abbrev main_call3_v6 : Ref sig .tc := ⟨.hbm, 257, rfl⟩
abbrev main_call3_v7 : Ref sig .tc := ⟨.hbm, 258, rfl⟩
abbrev main_call3_v8 : Ref sig .tc := ⟨.hbm, 259, rfl⟩
abbrev main_call3_v9 : Ref sig .tc := ⟨.hbm, 260, rfl⟩
abbrev main_call3_v10 : Ref sig .tc := ⟨.hbm, 261, rfl⟩
abbrev main_call3_v11 : Ref sig .tc := ⟨.hbm, 262, rfl⟩
abbrev main_v164 : Ref sig .tc := ⟨.hbm, 263, rfl⟩
abbrev main_cst_41 : Ref sig .tc := ⟨.hbm, 264, rfl⟩
abbrev main_v165 : Ref sig .tc := ⟨.hbm, 265, rfl⟩
abbrev main_v166 : Ref sig .tc := ⟨.hbm, 266, rfl⟩
abbrev main_cst_42 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_cst_43 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩
abbrev main_cst_44 : Ref sig .tc := ⟨.hbm, 275, rfl⟩
abbrev main_v173 : Ref sig .tc := ⟨.hbm, 276, rfl⟩
abbrev main_v174 : Ref sig .tc := ⟨.hbm, 277, rfl⟩
abbrev main_v175 : Ref sig .tc := ⟨.hbm, 278, rfl⟩
abbrev main_cst_45 : Ref sig .tc := ⟨.hbm, 279, rfl⟩
abbrev main_v176 : Ref sig .tc := ⟨.hbm, 280, rfl⟩
abbrev main_v177 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_v192 : Ref sig .tc := ⟨.hbm, 296, rfl⟩
abbrev main_v193 : Ref sig .tc := ⟨.hbm, 297, rfl⟩
abbrev main_cst_46 : Ref sig .tc := ⟨.hbm, 298, rfl⟩
abbrev main_v194 : Ref sig .tc := ⟨.hbm, 299, rfl⟩
abbrev main_v195 : Ref sig .tc := ⟨.hbm, 300, rfl⟩
abbrev main_cst_47 : Ref sig .tc := ⟨.hbm, 301, rfl⟩
abbrev main_v196 : Ref sig .tc := ⟨.hbm, 302, rfl⟩
abbrev main_v197 : Ref sig .tc := ⟨.hbm, 303, rfl⟩
abbrev main_cst_48 : Ref sig .tc := ⟨.hbm, 304, rfl⟩
abbrev main_v198 : Ref sig .tc := ⟨.hbm, 305, rfl⟩
abbrev main_v199 : Ref sig .tc := ⟨.hbm, 306, rfl⟩
abbrev main_cst_49 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_v203 : Ref sig .tc := ⟨.hbm, 311, rfl⟩
abbrev main_v204 : Ref sig .tc := ⟨.hbm, 312, rfl⟩
abbrev main_cst_50 : Ref sig .tc := ⟨.hbm, 313, rfl⟩
abbrev main_v205 : Ref sig .tc := ⟨.hbm, 314, rfl⟩
abbrev main_v206 : Ref sig .tc := ⟨.hbm, 315, rfl⟩
abbrev main_v207 : Ref sig .tc := ⟨.hbm, 316, rfl⟩
abbrev main_v208 : Ref sig .tc := ⟨.hbm, 317, rfl⟩
abbrev main_v209 : Ref sig .tc := ⟨.hbm, 318, rfl⟩
abbrev main_v210 : Ref sig .tc := ⟨.hbm, 319, rfl⟩
abbrev main_cst_51 : Ref sig .tc := ⟨.hbm, 320, rfl⟩
abbrev main_v211 : Ref sig .tc := ⟨.hbm, 321, rfl⟩
abbrev main_v212 : Ref sig .tc := ⟨.hbm, 322, rfl⟩
abbrev main_cst_52 : Ref sig .tc := ⟨.hbm, 323, rfl⟩
abbrev main_v213 : Ref sig .tc := ⟨.hbm, 324, rfl⟩
abbrev main_v214 : Ref sig .tc := ⟨.hbm, 325, rfl⟩
abbrev main_cst_53 : Ref sig .tc := ⟨.hbm, 326, rfl⟩
abbrev main_v215 : Ref sig .tc := ⟨.hbm, 327, rfl⟩
abbrev main_v216 : Ref sig .tc := ⟨.hbm, 328, rfl⟩
abbrev main_cst_54 : Ref sig .tc := ⟨.hbm, 329, rfl⟩
abbrev main_v217 : Ref sig .tc := ⟨.hbm, 330, rfl⟩
abbrev main_v218 : Ref sig .tc := ⟨.hbm, 331, rfl⟩
abbrev main_v219 : Ref sig .tc := ⟨.hbm, 332, rfl⟩
abbrev main_v220 : Ref sig .tc := ⟨.hbm, 333, rfl⟩
abbrev main_v221 : Ref sig .tc := ⟨.hbm, 334, rfl⟩
abbrev main_cst_55 : Ref sig .tc := ⟨.hbm, 335, rfl⟩
abbrev main_v222 : Ref sig .tc := ⟨.hbm, 336, rfl⟩
abbrev main_v223 : Ref sig .tc := ⟨.hbm, 337, rfl⟩
abbrev main_v224 : Ref sig .tc := ⟨.hbm, 338, rfl⟩
abbrev main_v225 : Ref sig .tc := ⟨.hbm, 339, rfl⟩
abbrev main_call4_cst : Ref sig .tc := ⟨.hbm, 340, rfl⟩
abbrev main_call4_v0 : Ref sig .tc := ⟨.hbm, 341, rfl⟩
abbrev main_call4_v1 : Ref sig .tc := ⟨.hbm, 342, rfl⟩
abbrev main_call4_v2 : Ref sig .tc := ⟨.hbm, 343, rfl⟩
abbrev main_call4_v3 : Ref sig .tc := ⟨.hbm, 344, rfl⟩
abbrev main_call4_v4 : Ref sig .tc := ⟨.hbm, 345, rfl⟩
abbrev main_call4_v5 : Ref sig .tc := ⟨.hbm, 346, rfl⟩
abbrev main_call4_v6 : Ref sig .tc := ⟨.hbm, 347, rfl⟩
abbrev main_call4_v7 : Ref sig .tc := ⟨.hbm, 348, rfl⟩
abbrev main_call4_v8 : Ref sig .tc := ⟨.hbm, 349, rfl⟩
abbrev main_call4_v9 : Ref sig .tc := ⟨.hbm, 350, rfl⟩
abbrev main_call4_v10 : Ref sig .tc := ⟨.hbm, 351, rfl⟩
abbrev main_call4_v11 : Ref sig .tc := ⟨.hbm, 352, rfl⟩
abbrev main_v226 : Ref sig .tc := ⟨.hbm, 353, rfl⟩
abbrev main_cst_56 : Ref sig .tc := ⟨.hbm, 354, rfl⟩
abbrev main_v227 : Ref sig .tc := ⟨.hbm, 355, rfl⟩
abbrev main_v228 : Ref sig .tc := ⟨.hbm, 356, rfl⟩
abbrev main_v229 : Ref sig .tc := ⟨.hbm, 357, rfl⟩
abbrev main_v230 : Ref sig .tc := ⟨.hbm, 358, rfl⟩
abbrev main_call5_cst : Ref sig .tc := ⟨.hbm, 359, rfl⟩
abbrev main_call5_v0 : Ref sig .tc := ⟨.hbm, 360, rfl⟩
abbrev main_call5_v1 : Ref sig .tc := ⟨.hbm, 361, rfl⟩
abbrev main_call5_v2 : Ref sig .tc := ⟨.hbm, 362, rfl⟩
abbrev main_call5_v3 : Ref sig .tc := ⟨.hbm, 363, rfl⟩
abbrev main_call5_v4 : Ref sig .tc := ⟨.hbm, 364, rfl⟩
abbrev main_call5_v5 : Ref sig .tc := ⟨.hbm, 365, rfl⟩
abbrev main_call5_v6 : Ref sig .tc := ⟨.hbm, 366, rfl⟩
abbrev main_call5_v7 : Ref sig .tc := ⟨.hbm, 367, rfl⟩
abbrev main_call5_v8 : Ref sig .tc := ⟨.hbm, 368, rfl⟩
abbrev main_call5_v9 : Ref sig .tc := ⟨.hbm, 369, rfl⟩
abbrev main_call5_v10 : Ref sig .tc := ⟨.hbm, 370, rfl⟩
abbrev main_call5_v11 : Ref sig .tc := ⟨.hbm, 371, rfl⟩
abbrev main_v231 : Ref sig .tc := ⟨.hbm, 372, rfl⟩
abbrev main_cst_57 : Ref sig .tc := ⟨.hbm, 373, rfl⟩
abbrev main_v232 : Ref sig .tc := ⟨.hbm, 374, rfl⟩
abbrev main_v233 : Ref sig .tc := ⟨.hbm, 375, rfl⟩
abbrev main_cst_58 : Ref sig .tc := ⟨.hbm, 376, rfl⟩
abbrev main_v234 : Ref sig .tc := ⟨.hbm, 377, rfl⟩
abbrev main_v235 : Ref sig .tc := ⟨.hbm, 378, rfl⟩
abbrev main_v236 : Ref sig .tc := ⟨.hbm, 379, rfl⟩
abbrev main_cst_59 : Ref sig .tc := ⟨.hbm, 380, rfl⟩
abbrev main_v237 : Ref sig .tc := ⟨.hbm, 381, rfl⟩
abbrev main_v238 : Ref sig .tc := ⟨.hbm, 382, rfl⟩
abbrev main_v239 : Ref sig .tc := ⟨.hbm, 383, rfl⟩
abbrev main_cst_60 : Ref sig .tc := ⟨.hbm, 384, rfl⟩
abbrev main_v240 : Ref sig .tc := ⟨.hbm, 385, rfl⟩
abbrev main_v241 : Ref sig .tc := ⟨.hbm, 386, rfl⟩
abbrev main_v242 : Ref sig .tc := ⟨.hbm, 387, rfl⟩
abbrev main_cst_61 : Ref sig .tc := ⟨.hbm, 388, rfl⟩
abbrev main_v243 : Ref sig .tc := ⟨.hbm, 389, rfl⟩
abbrev main_v244 : Ref sig .tc := ⟨.hbm, 390, rfl⟩
abbrev main_v245 : Ref sig .tc := ⟨.hbm, 391, rfl⟩
abbrev main_v246 : Ref sig .tc := ⟨.hbm, 392, rfl⟩
abbrev main_v247 : Ref sig .tc := ⟨.hbm, 393, rfl⟩
abbrev main_v248 : Ref sig .tc := ⟨.hbm, 394, rfl⟩
abbrev main_v249 : Ref sig .tc := ⟨.hbm, 395, rfl⟩
abbrev main_v250 : Ref sig .tc := ⟨.hbm, 396, rfl⟩
abbrev main_v251 : Ref sig .tc := ⟨.hbm, 397, rfl⟩
abbrev main_v252 : Ref sig .tc := ⟨.hbm, 398, rfl⟩
abbrev main_v253 : Ref sig .tc := ⟨.hbm, 399, rfl⟩
abbrev main_v254 : Ref sig .tc := ⟨.hbm, 400, rfl⟩
abbrev main_v255 : Ref sig .tc := ⟨.hbm, 401, rfl⟩
abbrev main_v256 : Ref sig .tc := ⟨.hbm, 402, rfl⟩
abbrev main_cst_62 : Ref sig .tc := ⟨.hbm, 403, rfl⟩
abbrev main_v257 : Ref sig .tc := ⟨.hbm, 404, rfl⟩
abbrev main_v258 : Ref sig .tc := ⟨.hbm, 405, rfl⟩
abbrev main_v259 : Ref sig .tc := ⟨.hbm, 406, rfl⟩
abbrev main_v260 : Ref sig .tc := ⟨.hbm, 407, rfl⟩
abbrev main_cst_63 : Ref sig .tc := ⟨.hbm, 408, rfl⟩
abbrev main_v261 : Ref sig .tc := ⟨.hbm, 409, rfl⟩
abbrev main_v262 : Ref sig .tc := ⟨.hbm, 410, rfl⟩
abbrev main_v263 : Ref sig .tc := ⟨.hbm, 411, rfl⟩
abbrev main_v264 : Ref sig .tc := ⟨.hbm, 412, rfl⟩
abbrev main_cst_64 : Ref sig .tc := ⟨.hbm, 413, rfl⟩
abbrev main_v265 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_cst_65 : Ref sig .tc := ⟨.hbm, 418, rfl⟩
abbrev main_v269 : Ref sig .tc := ⟨.hbm, 419, rfl⟩
abbrev main_v270 : Ref sig .tc := ⟨.hbm, 420, rfl⟩
abbrev main_cst_66 : Ref sig .tc := ⟨.hbm, 421, rfl⟩
abbrev main_v271 : Ref sig .tc := ⟨.hbm, 422, rfl⟩
abbrev main_v272 : Ref sig .tc := ⟨.hbm, 423, rfl⟩
abbrev main_v273 : Ref sig .tc := ⟨.hbm, 424, rfl⟩
abbrev main_cst_67 : Ref sig .tc := ⟨.hbm, 425, rfl⟩
abbrev main_v274 : Ref sig .tc := ⟨.hbm, 426, rfl⟩
abbrev main_v275 : Ref sig .tc := ⟨.hbm, 427, rfl⟩
abbrev main_v276 : Ref sig .tc := ⟨.hbm, 428, rfl⟩
abbrev main_cst_68 : Ref sig .tc := ⟨.hbm, 429, rfl⟩
abbrev main_v277 : Ref sig .tc := ⟨.hbm, 430, rfl⟩
abbrev main_v278 : Ref sig .tc := ⟨.hbm, 431, rfl⟩
abbrev main_v279 : Ref sig .tc := ⟨.hbm, 432, rfl⟩
abbrev main_cst_69 : Ref sig .tc := ⟨.hbm, 433, rfl⟩
abbrev main_v280 : Ref sig .tc := ⟨.hbm, 434, rfl⟩
abbrev main_v281 : Ref sig .tc := ⟨.hbm, 435, rfl⟩
abbrev main_v282 : Ref sig .tc := ⟨.hbm, 436, rfl⟩
abbrev main_v283 : Ref sig .tc := ⟨.hbm, 437, rfl⟩
abbrev main_v284 : Ref sig .tc := ⟨.hbm, 438, rfl⟩
abbrev main_v285 : Ref sig .tc := ⟨.hbm, 439, rfl⟩
abbrev main_v286 : Ref sig .tc := ⟨.hbm, 440, rfl⟩
abbrev main_v287 : Ref sig .tc := ⟨.hbm, 441, rfl⟩
abbrev main_v288 : Ref sig .tc := ⟨.hbm, 442, rfl⟩
abbrev main_v289 : Ref sig .tc := ⟨.hbm, 443, rfl⟩
abbrev main_v290 : Ref sig .tc := ⟨.hbm, 444, rfl⟩
abbrev main_cst_70 : Ref sig .tc := ⟨.hbm, 445, rfl⟩
abbrev main_v291 : Ref sig .tc := ⟨.hbm, 446, rfl⟩
abbrev main_v292 : Ref sig .tc := ⟨.hbm, 447, rfl⟩
abbrev main_v293 : Ref sig .tc := ⟨.hbm, 448, rfl⟩
abbrev main_cst_71 : Ref sig .tc := ⟨.hbm, 449, rfl⟩
abbrev main_v294 : Ref sig .tc := ⟨.hbm, 450, rfl⟩
abbrev main_v295 : Ref sig .tc := ⟨.hbm, 451, rfl⟩
abbrev main_v296 : Ref sig .tc := ⟨.hbm, 452, rfl⟩
abbrev main_v297 : Ref sig .tc := ⟨.hbm, 453, rfl⟩
abbrev main_v298 : Ref sig .tc := ⟨.hbm, 454, rfl⟩
abbrev main_v299 : Ref sig .tc := ⟨.hbm, 455, rfl⟩
abbrev main_v300 : Ref sig .tc := ⟨.hbm, 456, rfl⟩
abbrev main_cst_72 : Ref sig .tc := ⟨.hbm, 457, rfl⟩
abbrev main_v301 : Ref sig .tc := ⟨.hbm, 458, rfl⟩
abbrev main_v302 : Ref sig .tc := ⟨.hbm, 459, rfl⟩
abbrev main_cst_73 : Ref sig .tc := ⟨.hbm, 460, rfl⟩
abbrev main_v303 : Ref sig .tc := ⟨.hbm, 461, rfl⟩
abbrev main_v304 : Ref sig .tc := ⟨.hbm, 462, rfl⟩
abbrev main_v305 : Ref sig .tc := ⟨.hbm, 463, rfl⟩
abbrev main_v306 : Ref sig .tc := ⟨.hbm, 464, rfl⟩
abbrev main_cst_74 : Ref sig .tc := ⟨.hbm, 465, rfl⟩
abbrev main_v307 : Ref sig .tc := ⟨.hbm, 466, rfl⟩
abbrev main_v308 : Ref sig .tc := ⟨.hbm, 467, rfl⟩
abbrev main_v309 : Ref sig .tc := ⟨.hbm, 468, rfl⟩
abbrev main_v310 : Ref sig .tc := ⟨.hbm, 469, rfl⟩
abbrev main_v311 : Ref sig .tc := ⟨.hbm, 470, rfl⟩
abbrev main_v312 : Ref sig .tc := ⟨.hbm, 471, rfl⟩
abbrev main_v313 : Ref sig .tc := ⟨.hbm, 472, rfl⟩
abbrev main_cst_75 : Ref sig .tc := ⟨.hbm, 473, rfl⟩
abbrev main_v314 : Ref sig .tc := ⟨.hbm, 474, rfl⟩
abbrev main_v315 : Ref sig .tc := ⟨.hbm, 475, rfl⟩
abbrev main_v316 : Ref sig .tc := ⟨.hbm, 476, rfl⟩
abbrev main_v317 : Ref sig .tc := ⟨.hbm, 477, rfl⟩
abbrev main_v318 : Ref sig .tc := ⟨.hbm, 478, rfl⟩
abbrev main_v319 : Ref sig .tc := ⟨.hbm, 479, rfl⟩
abbrev main_cst_76 : Ref sig .tc := ⟨.hbm, 480, rfl⟩
abbrev main_v320 : Ref sig .tc := ⟨.hbm, 481, rfl⟩
abbrev main_v321 : Ref sig .tc := ⟨.hbm, 482, rfl⟩
abbrev main_v322 : Ref sig .tc := ⟨.hbm, 483, rfl⟩
abbrev main_v323 : Ref sig .tc := ⟨.hbm, 484, rfl⟩
abbrev main_v324 : Ref sig .tc := ⟨.hbm, 485, rfl⟩
abbrev main_v325 : Ref sig .tc := ⟨.hbm, 486, rfl⟩
abbrev main_v326 : Ref sig .tc := ⟨.hbm, 487, rfl⟩
abbrev main_v327 : Ref sig .tc := ⟨.hbm, 488, rfl⟩
abbrev main_v328 : Ref sig .tc := ⟨.hbm, 489, rfl⟩
abbrev main_v329 : Ref sig .tc := ⟨.hbm, 490, rfl⟩
abbrev main_v330 : Ref sig .tc := ⟨.hbm, 491, rfl⟩
abbrev main_v331 : Ref sig .tc := ⟨.hbm, 492, rfl⟩
abbrev main_v332 : Ref sig .tc := ⟨.hbm, 493, rfl⟩
abbrev main_v333 : Ref sig .tc := ⟨.hbm, 494, rfl⟩
abbrev main_v334 : Ref sig .tc := ⟨.hbm, 495, rfl⟩
abbrev main_v335 : Ref sig .tc := ⟨.hbm, 496, rfl⟩
abbrev main_v336 : Ref sig .tc := ⟨.hbm, 497, rfl⟩
abbrev main_v337 : Ref sig .tc := ⟨.hbm, 498, rfl⟩
abbrev main_v338 : Ref sig .tc := ⟨.hbm, 499, rfl⟩
abbrev main_v339 : Ref sig .tc := ⟨.hbm, 500, rfl⟩
abbrev main_v340 : Ref sig .tc := ⟨.hbm, 501, rfl⟩
abbrev main_v341 : Ref sig .tc := ⟨.hbm, 502, rfl⟩
abbrev main_v342 : Ref sig .tc := ⟨.hbm, 503, rfl⟩
abbrev main_v343 : Ref sig .tc := ⟨.hbm, 504, rfl⟩
abbrev main_v344 : Ref sig .tc := ⟨.hbm, 505, rfl⟩
abbrev main_v345 : Ref sig .tc := ⟨.hbm, 506, rfl⟩
abbrev main_v346 : Ref sig .tc := ⟨.hbm, 507, rfl⟩
abbrev main_v347 : Ref sig .tc := ⟨.hbm, 508, rfl⟩
abbrev main_v348 : Ref sig .tc := ⟨.hbm, 509, rfl⟩
abbrev main_v349 : Ref sig .tc := ⟨.hbm, 510, rfl⟩
abbrev main_v350 : Ref sig .tc := ⟨.hbm, 511, rfl⟩
abbrev main_v351 : Ref sig .tc := ⟨.hbm, 512, rfl⟩
abbrev main_v352 : Ref sig .tc := ⟨.hbm, 513, rfl⟩
abbrev main_cst_77 : Ref sig .tc := ⟨.hbm, 514, rfl⟩
abbrev main_v353 : Ref sig .tc := ⟨.hbm, 515, rfl⟩
abbrev main_v354 : Ref sig .tc := ⟨.hbm, 516, rfl⟩
abbrev main_v355 : Ref sig .tc := ⟨.hbm, 517, rfl⟩
abbrev main_cst_78 : Ref sig .tc := ⟨.hbm, 518, rfl⟩
abbrev main_v356 : Ref sig .tc := ⟨.hbm, 519, rfl⟩
abbrev main_v357 : Ref sig .tc := ⟨.hbm, 520, rfl⟩
abbrev main_v358 : Ref sig .tc := ⟨.hbm, 521, rfl⟩
abbrev main_v359 : Ref sig .tc := ⟨.hbm, 522, rfl⟩
abbrev main_cst_79 : Ref sig .tc := ⟨.hbm, 523, rfl⟩
abbrev main_v360 : Ref sig .tc := ⟨.hbm, 524, rfl⟩
abbrev main_v361 : Ref sig .tc := ⟨.hbm, 525, rfl⟩
abbrev main_v362 : Ref sig .tc := ⟨.hbm, 526, rfl⟩
abbrev main_cst_80 : Ref sig .tc := ⟨.hbm, 527, rfl⟩
abbrev main_v363 : Ref sig .tc := ⟨.hbm, 528, rfl⟩
abbrev main_v364 : Ref sig .tc := ⟨.hbm, 529, rfl⟩
abbrev main_v365 : Ref sig .tc := ⟨.hbm, 530, rfl⟩
abbrev main_v366 : Ref sig .tc := ⟨.hbm, 531, rfl⟩
abbrev main_v367 : Ref sig .tc := ⟨.hbm, 532, rfl⟩
abbrev main_v368 : Ref sig .tc := ⟨.hbm, 533, rfl⟩
abbrev main_v369 : Ref sig .tc := ⟨.hbm, 534, rfl⟩
abbrev main_v370 : Ref sig .tc := ⟨.hbm, 535, rfl⟩
abbrev main_v371 : Ref sig .tc := ⟨.hbm, 536, rfl⟩
abbrev main_v372 : Ref sig .tc := ⟨.hbm, 537, rfl⟩
abbrev main_v373 : Ref sig .tc := ⟨.hbm, 538, rfl⟩
abbrev main_v374 : Ref sig .tc := ⟨.hbm, 539, rfl⟩
abbrev main_v375 : Ref sig .tc := ⟨.hbm, 540, rfl⟩
abbrev main_v376 : Ref sig .tc := ⟨.hbm, 541, rfl⟩
abbrev main_v377 : Ref sig .tc := ⟨.hbm, 542, rfl⟩
abbrev main_v378 : Ref sig .tc := ⟨.hbm, 543, rfl⟩
abbrev main_cst_81 : Ref sig .tc := ⟨.hbm, 544, rfl⟩
abbrev main_v379 : Ref sig .tc := ⟨.hbm, 545, rfl⟩
abbrev main_v380 : Ref sig .tc := ⟨.hbm, 546, rfl⟩
abbrev main_v381 : Ref sig .tc := ⟨.hbm, 547, rfl⟩
abbrev main_cst_82 : Ref sig .tc := ⟨.hbm, 548, rfl⟩
abbrev main_v382 : Ref sig .tc := ⟨.hbm, 549, rfl⟩
abbrev main_v383 : Ref sig .tc := ⟨.hbm, 550, rfl⟩
abbrev main_v384 : Ref sig .tc := ⟨.hbm, 551, rfl⟩
abbrev main_v385 : Ref sig .tc := ⟨.hbm, 552, rfl⟩
abbrev main_v386 : Ref sig .tc := ⟨.hbm, 553, rfl⟩
abbrev main_v387 : Ref sig .tc := ⟨.hbm, 554, rfl⟩
abbrev main_v388 : Ref sig .tc := ⟨.hbm, 555, rfl⟩
abbrev main_cst_83 : Ref sig .tc := ⟨.hbm, 556, rfl⟩
abbrev main_v389 : Ref sig .tc := ⟨.hbm, 557, rfl⟩
abbrev main_v390 : Ref sig .tc := ⟨.hbm, 558, rfl⟩
abbrev main_v391 : Ref sig .tc := ⟨.hbm, 559, rfl⟩
abbrev main_cst_84 : Ref sig .tc := ⟨.hbm, 560, rfl⟩
abbrev main_v392 : Ref sig .tc := ⟨.hbm, 561, rfl⟩
abbrev main_v393 : Ref sig .tc := ⟨.hbm, 562, rfl⟩
abbrev main_cst_85 : Ref sig .tc := ⟨.hbm, 563, rfl⟩
abbrev main_v394 : Ref sig .tc := ⟨.hbm, 564, rfl⟩
abbrev main_v395 : Ref sig .tc := ⟨.hbm, 565, rfl⟩
abbrev main_v396 : Ref sig .tc := ⟨.hbm, 566, rfl⟩
abbrev main_v397 : Ref sig .tc := ⟨.hbm, 567, rfl⟩
abbrev main_cst_86 : Ref sig .tc := ⟨.hbm, 568, rfl⟩
abbrev main_v398 : Ref sig .tc := ⟨.hbm, 569, rfl⟩
abbrev main_v399 : Ref sig .tc := ⟨.hbm, 570, rfl⟩
abbrev main_cst_87 : Ref sig .tc := ⟨.hbm, 571, rfl⟩
abbrev main_v400 : Ref sig .tc := ⟨.hbm, 572, rfl⟩
abbrev main_v401 : Ref sig .tc := ⟨.hbm, 573, rfl⟩
abbrev main_v402 : Ref sig .tc := ⟨.hbm, 574, rfl⟩
abbrev main_v403 : Ref sig .tc := ⟨.hbm, 575, rfl⟩
abbrev main_cst_88 : Ref sig .tc := ⟨.hbm, 576, rfl⟩
abbrev main_v404 : Ref sig .tc := ⟨.hbm, 577, rfl⟩
abbrev main_v405 : Ref sig .tc := ⟨.hbm, 578, rfl⟩
abbrev main_cst_89 : Ref sig .tc := ⟨.hbm, 579, rfl⟩
abbrev main_v406 : Ref sig .tc := ⟨.hbm, 580, rfl⟩
abbrev main_v407 : Ref sig .tc := ⟨.hbm, 581, rfl⟩
abbrev main_v408 : Ref sig .tc := ⟨.hbm, 582, rfl⟩
abbrev main_v409 : Ref sig .tc := ⟨.hbm, 583, rfl⟩
abbrev main_v410 : Ref sig .tc := ⟨.hbm, 584, rfl⟩
abbrev main_v411 : Ref sig .tc := ⟨.hbm, 585, rfl⟩
abbrev main_call6_v0 : Ref sig .tc := ⟨.hbm, 586, rfl⟩
abbrev main_call6_v1 : Ref sig .tc := ⟨.hbm, 587, rfl⟩
abbrev main_call6_v2 : Ref sig .tc := ⟨.hbm, 588, rfl⟩
abbrev main_call6_v3 : Ref sig .tc := ⟨.hbm, 589, rfl⟩
abbrev main_call6_v4 : Ref sig .tc := ⟨.hbm, 590, rfl⟩
abbrev main_v412 : Ref sig .tc := ⟨.hbm, 591, rfl⟩
abbrev main_v413 : Ref sig .tc := ⟨.hbm, 592, rfl⟩
abbrev main_cst_90 : Ref sig .tc := ⟨.hbm, 593, rfl⟩
abbrev main_v414 : Ref sig .tc := ⟨.hbm, 594, rfl⟩
abbrev main_v415 : Ref sig .tc := ⟨.hbm, 595, rfl⟩
abbrev main_v416 : Ref sig .tc := ⟨.hbm, 596, rfl⟩
abbrev main_v417 : Ref sig .tc := ⟨.hbm, 597, rfl⟩
abbrev main_v418 : Ref sig .tc := ⟨.hbm, 598, rfl⟩
abbrev main_v419 : Ref sig .tc := ⟨.hbm, 599, rfl⟩
abbrev main_cst_91 : Ref sig .tc := ⟨.hbm, 600, rfl⟩
abbrev main_v420 : Ref sig .tc := ⟨.hbm, 601, rfl⟩
abbrev main_v421 : Ref sig .tc := ⟨.hbm, 602, rfl⟩
abbrev main_cst_92 : Ref sig .tc := ⟨.hbm, 603, rfl⟩
abbrev main_v422 : Ref sig .tc := ⟨.hbm, 604, rfl⟩
abbrev main_v423 : Ref sig .tc := ⟨.hbm, 605, rfl⟩
abbrev main_cst_93 : Ref sig .tc := ⟨.hbm, 606, rfl⟩
abbrev main_v424 : Ref sig .tc := ⟨.hbm, 607, rfl⟩
abbrev main_v425 : Ref sig .tc := ⟨.hbm, 608, rfl⟩
abbrev main_v426 : Ref sig .tc := ⟨.hbm, 609, rfl⟩
abbrev main_v427 : Ref sig .tc := ⟨.hbm, 610, rfl⟩
abbrev main_v428 : Ref sig .tc := ⟨.hbm, 611, rfl⟩
abbrev main_v429 : Ref sig .tc := ⟨.hbm, 612, rfl⟩
abbrev main_v430 : Ref sig .tc := ⟨.hbm, 613, rfl⟩
abbrev main_cst_94 : Ref sig .tc := ⟨.hbm, 614, rfl⟩
abbrev main_v431 : Ref sig .tc := ⟨.hbm, 615, rfl⟩
abbrev main_v432 : Ref sig .tc := ⟨.hbm, 616, rfl⟩
abbrev main_v433 : Ref sig .tc := ⟨.hbm, 617, rfl⟩
abbrev main_v434 : Ref sig .tc := ⟨.hbm, 618, rfl⟩
abbrev main_v435 : Ref sig .tc := ⟨.hbm, 619, rfl⟩
abbrev main_v436 : Ref sig .tc := ⟨.hbm, 620, rfl⟩
abbrev main_v437 : Ref sig .tc := ⟨.hbm, 621, rfl⟩
abbrev main_v438 : Ref sig .tc := ⟨.hbm, 622, rfl⟩
abbrev main_v439 : Ref sig .tc := ⟨.hbm, 623, rfl⟩
abbrev main_v440 : Ref sig .tc := ⟨.hbm, 624, rfl⟩
abbrev main_v441 : Ref sig .tc := ⟨.hbm, 625, rfl⟩
abbrev main_v442 : Ref sig .tc := ⟨.hbm, 626, rfl⟩
abbrev main_v443 : Ref sig .tc := ⟨.hbm, 627, rfl⟩
abbrev main_v444 : Ref sig .tc := ⟨.hbm, 628, rfl⟩
abbrev main_cst_95 : Ref sig .tc := ⟨.hbm, 629, rfl⟩
abbrev main_v445 : Ref sig .tc := ⟨.hbm, 630, rfl⟩
abbrev main_v446 : Ref sig .tc := ⟨.hbm, 631, rfl⟩
abbrev main_v447 : Ref sig .tc := ⟨.hbm, 632, rfl⟩
abbrev main_cst_96 : Ref sig .tc := ⟨.hbm, 633, rfl⟩
abbrev main_v448 : Ref sig .tc := ⟨.hbm, 634, rfl⟩
abbrev main_v449 : Ref sig .tc := ⟨.hbm, 635, rfl⟩
abbrev main_v450 : Ref sig .tc := ⟨.hbm, 636, rfl⟩
abbrev main_cst_97 : Ref sig .tc := ⟨.hbm, 637, rfl⟩
abbrev main_v451 : Ref sig .tc := ⟨.hbm, 638, rfl⟩
abbrev main_v452 : Ref sig .tc := ⟨.hbm, 639, rfl⟩
abbrev main_v453 : Ref sig .tc := ⟨.hbm, 640, rfl⟩
abbrev main_cst_98 : Ref sig .tc := ⟨.hbm, 641, rfl⟩
abbrev main_v454 : Ref sig .tc := ⟨.hbm, 642, rfl⟩
abbrev main_v455 : Ref sig .tc := ⟨.hbm, 643, rfl⟩
abbrev main_v456 : Ref sig .tc := ⟨.hbm, 644, rfl⟩
abbrev main_v457 : Ref sig .tc := ⟨.hbm, 645, rfl⟩
abbrev main_v458 : Ref sig .tc := ⟨.hbm, 646, rfl⟩
abbrev main_v459 : Ref sig .tc := ⟨.hbm, 647, rfl⟩
abbrev main_v460 : Ref sig .tc := ⟨.hbm, 648, rfl⟩
abbrev main_v461 : Ref sig .tc := ⟨.hbm, 649, rfl⟩
abbrev main_v462 : Ref sig .tc := ⟨.hbm, 650, rfl⟩
abbrev main_v463 : Ref sig .tc := ⟨.hbm, 651, rfl⟩
abbrev main_v464 : Ref sig .tc := ⟨.hbm, 652, rfl⟩
abbrev main_v465 : Ref sig .tc := ⟨.hbm, 653, rfl⟩
abbrev main_v466 : Ref sig .tc := ⟨.hbm, 654, rfl⟩
abbrev main_v467 : Ref sig .tc := ⟨.hbm, 655, rfl⟩
abbrev main_v468 : Ref sig .tc := ⟨.hbm, 656, rfl⟩
abbrev main_v469 : Ref sig .tc := ⟨.hbm, 657, rfl⟩
abbrev main_v470 : Ref sig .tc := ⟨.hbm, 658, rfl⟩
abbrev main_v471 : Ref sig .tc := ⟨.hbm, 659, rfl⟩
abbrev main_v472 : Ref sig .tc := ⟨.hbm, 660, rfl⟩
abbrev main_v473 : Ref sig .tc := ⟨.hbm, 661, rfl⟩
abbrev main_v474 : Ref sig .tc := ⟨.hbm, 662, rfl⟩
abbrev main_v475 : Ref sig .tc := ⟨.hbm, 663, rfl⟩
abbrev main_cst_99 : Ref sig .tc := ⟨.hbm, 664, rfl⟩
abbrev main_v476 : Ref sig .tc := ⟨.hbm, 665, rfl⟩
abbrev main_v477 : Ref sig .tc := ⟨.hbm, 666, rfl⟩
abbrev main_v478 : Ref sig .tc := ⟨.hbm, 667, rfl⟩
abbrev main_v479 : Ref sig .tc := ⟨.hbm, 668, rfl⟩
abbrev main_v480 : Ref sig .tc := ⟨.hbm, 669, rfl⟩
abbrev main_v481 : Ref sig .tc := ⟨.hbm, 670, rfl⟩
abbrev main_v482 : Ref sig .tc := ⟨.hbm, 671, rfl⟩
abbrev main_cst_100 : Ref sig .tc := ⟨.hbm, 672, rfl⟩
abbrev main_v483 : Ref sig .tc := ⟨.hbm, 673, rfl⟩
abbrev main_v484 : Ref sig .tc := ⟨.hbm, 674, rfl⟩
abbrev main_v485 : Ref sig .tc := ⟨.hbm, 675, rfl⟩
abbrev main_v486 : Ref sig .tc := ⟨.hbm, 676, rfl⟩
abbrev main_v487 : Ref sig .tc := ⟨.hbm, 677, rfl⟩
abbrev main_v488 : Ref sig .tc := ⟨.hbm, 678, rfl⟩
abbrev main_v489 : Ref sig .tc := ⟨.hbm, 679, rfl⟩
abbrev main_v490 : Ref sig .tc := ⟨.hbm, 680, rfl⟩
abbrev main_v491 : Ref sig .tc := ⟨.hbm, 681, rfl⟩
abbrev main_v492 : Ref sig .tc := ⟨.hbm, 682, rfl⟩
abbrev main_v493 : Ref sig .tc := ⟨.hbm, 683, rfl⟩
abbrev main_v494 : Ref sig .tc := ⟨.hbm, 684, rfl⟩
abbrev main_cst_101 : Ref sig .tc := ⟨.hbm, 685, rfl⟩
abbrev main_v495 : Ref sig .tc := ⟨.hbm, 686, rfl⟩
abbrev main_v496 : Ref sig .tc := ⟨.hbm, 687, rfl⟩
abbrev main_cst_102 : Ref sig .tc := ⟨.hbm, 688, rfl⟩
abbrev main_v497 : Ref sig .tc := ⟨.hbm, 689, rfl⟩
abbrev main_v498 : Ref sig .tc := ⟨.hbm, 690, rfl⟩
abbrev main_cst_103 : Ref sig .tc := ⟨.hbm, 691, rfl⟩
abbrev main_v499 : Ref sig .tc := ⟨.hbm, 692, rfl⟩
abbrev main_v500 : Ref sig .tc := ⟨.hbm, 693, rfl⟩
abbrev main_v501 : Ref sig .tc := ⟨.hbm, 694, rfl⟩
abbrev main_cst_104 : Ref sig .tc := ⟨.hbm, 695, rfl⟩
abbrev main_v502 : Ref sig .tc := ⟨.hbm, 696, rfl⟩
abbrev main_v503 : Ref sig .tc := ⟨.hbm, 697, rfl⟩
abbrev main_v504 : Ref sig .tc := ⟨.hbm, 698, rfl⟩
abbrev main_cst_105 : Ref sig .tc := ⟨.hbm, 699, rfl⟩
abbrev main_v505 : Ref sig .tc := ⟨.hbm, 700, rfl⟩
abbrev main_v506 : Ref sig .tc := ⟨.hbm, 701, rfl⟩
abbrev main_v507 : Ref sig .tc := ⟨.hbm, 702, rfl⟩
abbrev main_cst_106 : Ref sig .tc := ⟨.hbm, 703, rfl⟩
abbrev main_v508 : Ref sig .tc := ⟨.hbm, 704, rfl⟩
abbrev main_v509 : Ref sig .tc := ⟨.hbm, 705, rfl⟩
abbrev main_v510 : Ref sig .tc := ⟨.hbm, 706, rfl⟩
abbrev main_cst_107 : Ref sig .tc := ⟨.hbm, 707, rfl⟩
abbrev main_cst_108 : Ref sig .tc := ⟨.hbm, 708, rfl⟩
abbrev main_call7_v0 : Ref sig .tc := ⟨.hbm, 709, rfl⟩
abbrev main_call7_v1 : Ref sig .tc := ⟨.hbm, 710, rfl⟩
abbrev main_v511 : Ref sig .tc := ⟨.hbm, 711, rfl⟩
abbrev main_v512 : Ref sig .tc := ⟨.hbm, 712, rfl⟩
abbrev main_v513 : Ref sig .tc := ⟨.hbm, 713, rfl⟩
abbrev main_cst_109 : Ref sig .tc := ⟨.hbm, 714, rfl⟩
abbrev main_call8_v0 : Ref sig .tc := ⟨.hbm, 715, rfl⟩
abbrev main_call8_v1 : Ref sig .tc := ⟨.hbm, 716, rfl⟩
abbrev main_v514 : Ref sig .tc := ⟨.hbm, 717, rfl⟩
abbrev main_values : Ref sig .tc := ⟨.hbm, 718, rfl⟩
abbrev main_indices : Ref sig .tc := ⟨.hbm, 719, rfl⟩
abbrev main_cst_110 : Ref sig .tc := ⟨.hbm, 720, rfl⟩
abbrev main_v515 : Ref sig .tc := ⟨.hbm, 721, rfl⟩
abbrev main_v516 : Ref sig .tc := ⟨.hbm, 722, rfl⟩
abbrev main_c : Ref sig .tc := ⟨.hbm, 723, rfl⟩
abbrev main_c_111 : Ref sig .tc := ⟨.hbm, 724, rfl⟩
abbrev main_call9_v0 : Ref sig .tc := ⟨.hbm, 725, rfl⟩
abbrev main_call9_v1 : Ref sig .tc := ⟨.hbm, 726, rfl⟩
abbrev main_call9_v2 : Ref sig .tc := ⟨.hbm, 727, rfl⟩
abbrev main_call9_v3 : Ref sig .tc := ⟨.hbm, 728, rfl⟩
abbrev main_call9_v4 : Ref sig .tc := ⟨.hbm, 729, rfl⟩
abbrev main_v517 : Ref sig .tc := ⟨.hbm, 730, rfl⟩
abbrev main_call10_v0 : Ref sig .tc := ⟨.hbm, 731, rfl⟩
abbrev main_call10_v1_0 : Ref sig .tc := ⟨.hbm, 732, rfl⟩
abbrev main_v518 : Ref sig .tc := ⟨.hbm, 733, rfl⟩
abbrev main_call11_v0 : Ref sig .tc := ⟨.hbm, 734, rfl⟩
abbrev main_call11_v1_0 : Ref sig .tc := ⟨.hbm, 735, rfl⟩
abbrev main_v519 : Ref sig .tc := ⟨.hbm, 736, rfl⟩
abbrev main_v520 : Ref sig .tc := ⟨.hbm, 737, rfl⟩
abbrev main_v521 : Ref sig .tc := ⟨.hbm, 738, rfl⟩
abbrev main_v522 : Ref sig .tc := ⟨.hbm, 739, rfl⟩
abbrev main_v523 : Ref sig .tc := ⟨.hbm, 740, rfl⟩
abbrev main_cst_112 : Ref sig .tc := ⟨.hbm, 741, rfl⟩
abbrev main_call12_v0 : Ref sig .tc := ⟨.hbm, 742, rfl⟩
abbrev main_call12_v1 : Ref sig .tc := ⟨.hbm, 743, rfl⟩
abbrev main_v524 : Ref sig .tc := ⟨.hbm, 744, rfl⟩
abbrev main_call13_v0 : Ref sig .tc := ⟨.hbm, 745, rfl⟩
abbrev main_call13_v1_0 : Ref sig .tc := ⟨.hbm, 746, rfl⟩
abbrev main_v525 : Ref sig .tc := ⟨.hbm, 747, rfl⟩
abbrev main_v526 : Ref sig .tc := ⟨.hbm, 748, rfl⟩
abbrev main_v527 : Ref sig .tc := ⟨.hbm, 749, rfl⟩
abbrev main_c_113 : Ref sig .tc := ⟨.hbm, 750, rfl⟩
abbrev main_v528 : Ref sig .tc := ⟨.hbm, 751, rfl⟩
abbrev main_v529 : Ref sig .tc := ⟨.hbm, 752, rfl⟩
abbrev main_call14_c : Ref sig .tc := ⟨.hbm, 753, rfl⟩
abbrev main_call14_v0 : Ref sig .tc := ⟨.hbm, 754, rfl⟩
abbrev main_call14_v1 : Ref sig .tc := ⟨.hbm, 755, rfl⟩
abbrev main_call14_c_0 : Ref sig .tc := ⟨.hbm, 756, rfl⟩
abbrev main_call14_v2 : Ref sig .tc := ⟨.hbm, 757, rfl⟩
abbrev main_call14_v3 : Ref sig .tc := ⟨.hbm, 758, rfl⟩
abbrev main_call14_v4 : Ref sig .tc := ⟨.hbm, 759, rfl⟩
abbrev main_call14_v5 : Ref sig .tc := ⟨.hbm, 760, rfl⟩
abbrev main_v530 : Ref sig .tc := ⟨.hbm, 761, rfl⟩
abbrev main_v531 : Ref sig .tc := ⟨.hbm, 762, rfl⟩
abbrev main_call15_c : Ref sig .tc := ⟨.hbm, 763, rfl⟩
abbrev main_call15_v0 : Ref sig .tc := ⟨.hbm, 764, rfl⟩
abbrev main_call15_v1 : Ref sig .tc := ⟨.hbm, 765, rfl⟩
abbrev main_call15_c_0 : Ref sig .tc := ⟨.hbm, 766, rfl⟩
abbrev main_call15_v2 : Ref sig .tc := ⟨.hbm, 767, rfl⟩
abbrev main_call15_v3 : Ref sig .tc := ⟨.hbm, 768, rfl⟩
abbrev main_call15_v4 : Ref sig .tc := ⟨.hbm, 769, rfl⟩
abbrev main_call15_v5 : Ref sig .tc := ⟨.hbm, 770, rfl⟩
abbrev main_v532 : Ref sig .tc := ⟨.hbm, 771, rfl⟩
abbrev main_call16_c : Ref sig .tc := ⟨.hbm, 772, rfl⟩
abbrev main_call16_v0 : Ref sig .tc := ⟨.hbm, 773, rfl⟩
abbrev main_call16_v1 : Ref sig .tc := ⟨.hbm, 774, rfl⟩
abbrev main_call16_c_0 : Ref sig .tc := ⟨.hbm, 775, rfl⟩
abbrev main_call16_v2 : Ref sig .tc := ⟨.hbm, 776, rfl⟩
abbrev main_call16_v3 : Ref sig .tc := ⟨.hbm, 777, rfl⟩
abbrev main_call16_v4 : Ref sig .tc := ⟨.hbm, 778, rfl⟩
abbrev main_call16_v5 : Ref sig .tc := ⟨.hbm, 779, rfl⟩
abbrev main_v533 : Ref sig .tc := ⟨.hbm, 780, rfl⟩
abbrev main_call17_c : Ref sig .tc := ⟨.hbm, 781, rfl⟩
abbrev main_call17_v0 : Ref sig .tc := ⟨.hbm, 782, rfl⟩
abbrev main_call17_v1 : Ref sig .tc := ⟨.hbm, 783, rfl⟩
abbrev main_call17_c_0 : Ref sig .tc := ⟨.hbm, 784, rfl⟩
abbrev main_call17_v2 : Ref sig .tc := ⟨.hbm, 785, rfl⟩
abbrev main_call17_v3 : Ref sig .tc := ⟨.hbm, 786, rfl⟩
abbrev main_call17_v4 : Ref sig .tc := ⟨.hbm, 787, rfl⟩
abbrev main_call17_v5 : Ref sig .tc := ⟨.hbm, 788, rfl⟩
abbrev main_v534 : Ref sig .tc := ⟨.hbm, 789, rfl⟩
abbrev main_call18_c : Ref sig .tc := ⟨.hbm, 790, rfl⟩
abbrev main_call18_v0 : Ref sig .tc := ⟨.hbm, 791, rfl⟩
abbrev main_call18_v1 : Ref sig .tc := ⟨.hbm, 792, rfl⟩
abbrev main_call18_c_0 : Ref sig .tc := ⟨.hbm, 793, rfl⟩
abbrev main_call18_v2 : Ref sig .tc := ⟨.hbm, 794, rfl⟩
abbrev main_call18_v3 : Ref sig .tc := ⟨.hbm, 795, rfl⟩
abbrev main_call18_v4 : Ref sig .tc := ⟨.hbm, 796, rfl⟩
abbrev main_call18_v5 : Ref sig .tc := ⟨.hbm, 797, rfl⟩
abbrev main_v535 : Ref sig .tc := ⟨.hbm, 798, rfl⟩
abbrev main_call19_c : Ref sig .tc := ⟨.hbm, 799, rfl⟩
abbrev main_call19_v0 : Ref sig .tc := ⟨.hbm, 800, rfl⟩
abbrev main_call19_v1 : Ref sig .tc := ⟨.hbm, 801, rfl⟩
abbrev main_call19_c_0 : Ref sig .tc := ⟨.hbm, 802, rfl⟩
abbrev main_call19_v2 : Ref sig .tc := ⟨.hbm, 803, rfl⟩
abbrev main_call19_v3 : Ref sig .tc := ⟨.hbm, 804, rfl⟩
abbrev main_call19_v4 : Ref sig .tc := ⟨.hbm, 805, rfl⟩
abbrev main_call19_v5 : Ref sig .tc := ⟨.hbm, 806, rfl⟩
abbrev main_v536 : Ref sig .tc := ⟨.hbm, 807, rfl⟩
abbrev main_v537 : Ref sig .tc := ⟨.hbm, 808, rfl⟩
abbrev main_cst_114 : Ref sig .tc := ⟨.hbm, 809, rfl⟩
abbrev main_v538 : Ref sig .tc := ⟨.hbm, 810, rfl⟩
abbrev main_cst_115 : Ref sig .tc := ⟨.hbm, 811, rfl⟩
abbrev main_v539 : Ref sig .tc := ⟨.hbm, 812, rfl⟩
abbrev main_v540 : Ref sig .tc := ⟨.hbm, 813, rfl⟩
abbrev main_v541 : Ref sig .tc := ⟨.hbm, 814, rfl⟩
abbrev main_cst_116 : Ref sig .tc := ⟨.hbm, 815, rfl⟩
abbrev main_v542 : Ref sig .tc := ⟨.hbm, 816, rfl⟩
abbrev main_v543 : Ref sig .tc := ⟨.hbm, 817, rfl⟩
abbrev main_v544 : Ref sig .tc := ⟨.hbm, 818, rfl⟩
abbrev main_cst_117 : Ref sig .tc := ⟨.hbm, 819, rfl⟩
abbrev main_v545 : Ref sig .tc := ⟨.hbm, 820, rfl⟩
abbrev main_v546 : Ref sig .tc := ⟨.hbm, 821, rfl⟩
abbrev main_v547 : Ref sig .tc := ⟨.hbm, 822, rfl⟩
abbrev main_cst_118 : Ref sig .tc := ⟨.hbm, 823, rfl⟩
abbrev main_v548 : Ref sig .tc := ⟨.hbm, 824, rfl⟩
abbrev main_v549 : Ref sig .tc := ⟨.hbm, 825, rfl⟩
abbrev main_v550 : Ref sig .tc := ⟨.hbm, 826, rfl⟩
abbrev main_cst_119 : Ref sig .tc := ⟨.hbm, 827, rfl⟩
abbrev main_v551 : Ref sig .tc := ⟨.hbm, 828, rfl⟩
abbrev main_v552 : Ref sig .tc := ⟨.hbm, 829, rfl⟩
abbrev main_v553 : Ref sig .tc := ⟨.hbm, 830, rfl⟩
abbrev main_v554 : Ref sig .tc := ⟨.hbm, 831, rfl⟩
abbrev main_v555 : Ref sig .tc := ⟨.hbm, 832, rfl⟩
abbrev main_cst_120 : Ref sig .tc := ⟨.hbm, 833, rfl⟩
abbrev main_v556 : Ref sig .tc := ⟨.hbm, 834, rfl⟩
abbrev main_v557 : Ref sig .tc := ⟨.hbm, 835, rfl⟩
abbrev main_v558 : Ref sig .tc := ⟨.hbm, 836, rfl⟩
abbrev main_v559 : Ref sig .tc := ⟨.hbm, 837, rfl⟩
abbrev main_v560 : Ref sig .tc := ⟨.hbm, 838, rfl⟩
abbrev main_cst_121 : Ref sig .tc := ⟨.hbm, 839, rfl⟩
abbrev main_v561 : Ref sig .tc := ⟨.hbm, 840, rfl⟩
abbrev main_v562 : Ref sig .tc := ⟨.hbm, 841, rfl⟩
abbrev main_v563 : Ref sig .tc := ⟨.hbm, 842, rfl⟩
abbrev main_v564 : Ref sig .tc := ⟨.hbm, 843, rfl⟩
abbrev main_v565 : Ref sig .tc := ⟨.hbm, 844, rfl⟩
abbrev main_v566 : Ref sig .tc := ⟨.hbm, 845, rfl⟩
abbrev main_v567 : Ref sig .tc := ⟨.hbm, 846, rfl⟩
abbrev main_cst_122 : Ref sig .tc := ⟨.hbm, 847, rfl⟩
abbrev main_v568 : Ref sig .tc := ⟨.hbm, 848, rfl⟩
abbrev main_v569 : Ref sig .tc := ⟨.hbm, 849, rfl⟩
abbrev main_v570 : Ref sig .tc := ⟨.hbm, 850, rfl⟩
abbrev main_v571 : Ref sig .tc := ⟨.hbm, 851, rfl⟩
abbrev main_cst_123 : Ref sig .tc := ⟨.hbm, 852, rfl⟩
abbrev main_v572 : Ref sig .tc := ⟨.hbm, 853, rfl⟩
abbrev main_v573 : Ref sig .tc := ⟨.hbm, 854, rfl⟩
abbrev main_v574 : Ref sig .tc := ⟨.hbm, 855, rfl⟩
abbrev main_cst_124 : Ref sig .tc := ⟨.hbm, 856, rfl⟩
abbrev main_v575 : Ref sig .tc := ⟨.hbm, 857, rfl⟩
abbrev main_v576 : Ref sig .tc := ⟨.hbm, 858, rfl⟩
abbrev main_v577 : Ref sig .tc := ⟨.hbm, 859, rfl⟩
abbrev main_v578 : Ref sig .tc := ⟨.hbm, 860, rfl⟩
abbrev main_v579 : Ref sig .tc := ⟨.hbm, 861, rfl⟩
abbrev main_cst_125 : Ref sig .tc := ⟨.hbm, 862, rfl⟩
abbrev main_v580 : Ref sig .tc := ⟨.hbm, 863, rfl⟩
abbrev main_v581 : Ref sig .tc := ⟨.hbm, 864, rfl⟩
abbrev main_v582 : Ref sig .tc := ⟨.hbm, 865, rfl⟩
abbrev main_cst_126 : Ref sig .tc := ⟨.hbm, 866, rfl⟩
abbrev main_v583 : Ref sig .tc := ⟨.hbm, 867, rfl⟩
abbrev main_v584 : Ref sig .tc := ⟨.hbm, 868, rfl⟩
abbrev main_v585 : Ref sig .tc := ⟨.hbm, 869, rfl⟩
abbrev main_v586 : Ref sig .tc := ⟨.hbm, 870, rfl⟩
abbrev main_v587 : Ref sig .tc := ⟨.hbm, 871, rfl⟩
abbrev main_v588 : Ref sig .tc := ⟨.hbm, 872, rfl⟩
abbrev main_v589 : Ref sig .tc := ⟨.hbm, 873, rfl⟩
abbrev main_v590 : Ref sig .tc := ⟨.hbm, 874, rfl⟩
abbrev main_v591 : Ref sig .tc := ⟨.hbm, 875, rfl⟩
abbrev main_v592 : Ref sig .tc := ⟨.hbm, 876, rfl⟩
abbrev main_v593 : Ref sig .tc := ⟨.hbm, 877, rfl⟩
abbrev main_v594 : Ref sig .tc := ⟨.hbm, 878, rfl⟩
abbrev main_v595 : Ref sig .tc := ⟨.hbm, 879, rfl⟩
abbrev main_v596 : Ref sig .tc := ⟨.hbm, 880, rfl⟩
abbrev main_cst_127 : Ref sig .tc := ⟨.hbm, 881, rfl⟩
abbrev main_v597 : Ref sig .tc := ⟨.hbm, 882, rfl⟩
abbrev main_v598 : Ref sig .tc := ⟨.hbm, 883, rfl⟩
abbrev main_v599 : Ref sig .tc := ⟨.hbm, 884, rfl⟩
abbrev main_cst_128 : Ref sig .tc := ⟨.hbm, 885, rfl⟩
abbrev main_v600 : Ref sig .tc := ⟨.hbm, 886, rfl⟩
abbrev main_v601 : Ref sig .tc := ⟨.hbm, 887, rfl⟩
abbrev main_cst_129 : Ref sig .tc := ⟨.hbm, 888, rfl⟩
abbrev main_v602 : Ref sig .tc := ⟨.hbm, 889, rfl⟩
abbrev main_v603 : Ref sig .tc := ⟨.hbm, 890, rfl⟩
abbrev main_cst_130 : Ref sig .tc := ⟨.hbm, 891, rfl⟩
abbrev main_v604 : Ref sig .tc := ⟨.hbm, 892, rfl⟩
abbrev main_v605 : Ref sig .tc := ⟨.hbm, 893, rfl⟩
abbrev main_cst_131 : Ref sig .tc := ⟨.hbm, 894, rfl⟩
abbrev main_v606 : Ref sig .tc := ⟨.hbm, 895, rfl⟩
abbrev main_v607 : Ref sig .tc := ⟨.hbm, 896, rfl⟩
abbrev main_cst_132 : Ref sig .tc := ⟨.hbm, 897, rfl⟩
abbrev main_v608 : Ref sig .tc := ⟨.hbm, 898, rfl⟩
abbrev main_v609 : Ref sig .tc := ⟨.hbm, 899, rfl⟩
abbrev main_v610 : Ref sig .tc := ⟨.hbm, 900, rfl⟩
abbrev main_v611 : Ref sig .tc := ⟨.hbm, 901, rfl⟩
abbrev main_v612 : Ref sig .tc := ⟨.hbm, 902, rfl⟩
abbrev main_cst_133 : Ref sig .tc := ⟨.hbm, 903, rfl⟩
abbrev main_cst_134 : Ref sig .tc := ⟨.hbm, 904, rfl⟩
abbrev main_call22_v0 : Ref sig .tc := ⟨.hbm, 905, rfl⟩
abbrev main_call22_v1 : Ref sig .tc := ⟨.hbm, 906, rfl⟩
abbrev main_v613 : Ref sig .tc := ⟨.hbm, 907, rfl⟩
abbrev main_cst_135 : Ref sig .tc := ⟨.hbm, 908, rfl⟩
abbrev main_call23_v0 : Ref sig .tc := ⟨.hbm, 909, rfl⟩
abbrev main_v614 : Ref sig .tc := ⟨.hbm, 910, rfl⟩
abbrev main_v615 : Ref sig .tc := ⟨.hbm, 911, rfl⟩
abbrev main_cst_136 : Ref sig .tc := ⟨.hbm, 912, rfl⟩
abbrev main_v616 : Ref sig .tc := ⟨.hbm, 913, rfl⟩
abbrev main_v617 : Ref sig .tc := ⟨.hbm, 914, rfl⟩
abbrev main_cst_137 : Ref sig .tc := ⟨.hbm, 915, rfl⟩
abbrev main_v618 : Ref sig .tc := ⟨.hbm, 916, rfl⟩
abbrev main_v619 : Ref sig .tc := ⟨.hbm, 917, rfl⟩
abbrev main_v620 : Ref sig .tc := ⟨.hbm, 918, rfl⟩
abbrev main_cst_138 : Ref sig .tc := ⟨.hbm, 919, rfl⟩
abbrev main_v621 : Ref sig .tc := ⟨.hbm, 920, rfl⟩
abbrev main_v622 : Ref sig .tc := ⟨.hbm, 921, rfl⟩
abbrev main_v623 : Ref sig .tc := ⟨.hbm, 922, rfl⟩
abbrev main_cst_139 : Ref sig .tc := ⟨.hbm, 923, rfl⟩
abbrev main_v624 : Ref sig .tc := ⟨.hbm, 924, rfl⟩
abbrev main_v625 : Ref sig .tc := ⟨.hbm, 925, rfl⟩
abbrev main_v626 : Ref sig .tc := ⟨.hbm, 926, rfl⟩
abbrev main_v627 : Ref sig .tc := ⟨.hbm, 927, rfl⟩
abbrev main_v628 : Ref sig .tc := ⟨.hbm, 928, rfl⟩
abbrev main_v629 : Ref sig .tc := ⟨.hbm, 929, rfl⟩
abbrev main_v630 : Ref sig .tc := ⟨.hbm, 930, rfl⟩
abbrev main_v631 : Ref sig .tc := ⟨.hbm, 931, rfl⟩
abbrev main_cst_140 : Ref sig .tc := ⟨.hbm, 932, rfl⟩
abbrev main_v632 : Ref sig .tc := ⟨.hbm, 933, rfl⟩
abbrev main_v633 : Ref sig .tc := ⟨.hbm, 934, rfl⟩
abbrev main_cst_141 : Ref sig .tc := ⟨.hbm, 935, rfl⟩
abbrev main_v634 : Ref sig .tc := ⟨.hbm, 936, rfl⟩
abbrev main_v635 : Ref sig .tc := ⟨.hbm, 937, rfl⟩
abbrev main_cst_142 : Ref sig .tc := ⟨.hbm, 938, rfl⟩
abbrev main_v636 : Ref sig .tc := ⟨.hbm, 939, rfl⟩
abbrev main_v637 : Ref sig .tc := ⟨.hbm, 940, rfl⟩
abbrev main_cst_143 : Ref sig .tc := ⟨.hbm, 941, rfl⟩
abbrev main_v638 : Ref sig .tc := ⟨.hbm, 942, rfl⟩
abbrev main_v639 : Ref sig .tc := ⟨.hbm, 943, rfl⟩
abbrev main_cst_144 : Ref sig .tc := ⟨.hbm, 944, rfl⟩
abbrev main_v640 : Ref sig .tc := ⟨.hbm, 945, rfl⟩
abbrev main_v641 : Ref sig .tc := ⟨.hbm, 946, rfl⟩
abbrev main_v642 : Ref sig .tc := ⟨.hbm, 947, rfl⟩
abbrev main_v643 : Ref sig .tc := ⟨.hbm, 948, rfl⟩
abbrev main_v644 : Ref sig .tc := ⟨.hbm, 949, rfl⟩
abbrev main_cst_145 : Ref sig .tc := ⟨.hbm, 950, rfl⟩
abbrev main_cst_146 : Ref sig .tc := ⟨.hbm, 951, rfl⟩
abbrev main_call26_v0 : Ref sig .tc := ⟨.hbm, 952, rfl⟩
abbrev main_call26_v1 : Ref sig .tc := ⟨.hbm, 953, rfl⟩
abbrev main_v645 : Ref sig .tc := ⟨.hbm, 954, rfl⟩
abbrev main_cst_147 : Ref sig .tc := ⟨.hbm, 955, rfl⟩
abbrev main_call27_v0 : Ref sig .tc := ⟨.hbm, 956, rfl⟩
abbrev main_v646 : Ref sig .tc := ⟨.hbm, 957, rfl⟩
abbrev main_v647 : Ref sig .tc := ⟨.hbm, 958, rfl⟩
abbrev main_cst_148 : Ref sig .tc := ⟨.hbm, 959, rfl⟩
abbrev main_v648 : Ref sig .tc := ⟨.hbm, 960, rfl⟩
abbrev main_v649 : Ref sig .tc := ⟨.hbm, 961, rfl⟩
abbrev main_cst_149 : Ref sig .tc := ⟨.hbm, 962, rfl⟩
abbrev main_v650 : Ref sig .tc := ⟨.hbm, 963, rfl⟩
abbrev main_v651 : Ref sig .tc := ⟨.hbm, 964, rfl⟩
abbrev main_v652 : Ref sig .tc := ⟨.hbm, 965, rfl⟩
abbrev main_cst_150 : Ref sig .tc := ⟨.hbm, 966, rfl⟩
abbrev main_v653 : Ref sig .tc := ⟨.hbm, 967, rfl⟩
abbrev main_v654 : Ref sig .tc := ⟨.hbm, 968, rfl⟩
abbrev main_v655 : Ref sig .tc := ⟨.hbm, 969, rfl⟩
abbrev main_cst_151 : Ref sig .tc := ⟨.hbm, 970, rfl⟩
abbrev main_v656 : Ref sig .tc := ⟨.hbm, 971, rfl⟩
abbrev main_v657 : Ref sig .tc := ⟨.hbm, 972, rfl⟩
abbrev main_v658 : Ref sig .tc := ⟨.hbm, 973, rfl⟩
abbrev main_v659 : Ref sig .tc := ⟨.hbm, 974, rfl⟩
abbrev main_v660 : Ref sig .tc := ⟨.hbm, 975, rfl⟩
abbrev main_v661 : Ref sig .tc := ⟨.hbm, 976, rfl⟩
abbrev main_v662 : Ref sig .tc := ⟨.hbm, 977, rfl⟩
abbrev main_v663 : Ref sig .tc := ⟨.hbm, 978, rfl⟩
abbrev main_v664 : Ref sig .tc := ⟨.hbm, 979, rfl⟩
abbrev main_cst_152 : Ref sig .tc := ⟨.hbm, 980, rfl⟩
abbrev main_v665 : Ref sig .tc := ⟨.hbm, 981, rfl⟩
abbrev main_v666 : Ref sig .tc := ⟨.hbm, 982, rfl⟩
abbrev main_v667 : Ref sig .tc := ⟨.hbm, 983, rfl⟩
abbrev main_cst_153 : Ref sig .tc := ⟨.hbm, 984, rfl⟩
abbrev main_v668 : Ref sig .tc := ⟨.hbm, 985, rfl⟩
abbrev main_v669 : Ref sig .tc := ⟨.hbm, 986, rfl⟩
abbrev main_cst_154 : Ref sig .tc := ⟨.hbm, 987, rfl⟩
abbrev main_v670 : Ref sig .tc := ⟨.hbm, 988, rfl⟩
abbrev main_v671 : Ref sig .tc := ⟨.hbm, 989, rfl⟩
abbrev main_v672 : Ref sig .tc := ⟨.hbm, 990, rfl⟩
abbrev main_v673 : Ref sig .tc := ⟨.hbm, 991, rfl⟩
abbrev main_v674 : Ref sig .tc := ⟨.hbm, 992, rfl⟩
abbrev main_v675 : Ref sig .tc := ⟨.hbm, 993, rfl⟩
abbrev main_v676 : Ref sig .tc := ⟨.hbm, 994, rfl⟩
abbrev main_cst_155 : Ref sig .tc := ⟨.hbm, 995, rfl⟩
abbrev main_v677 : Ref sig .tc := ⟨.hbm, 996, rfl⟩
abbrev main_v678 : Ref sig .tc := ⟨.hbm, 997, rfl⟩
abbrev main_v679 : Ref sig .tc := ⟨.hbm, 998, rfl⟩
abbrev main_cst_156 : Ref sig .tc := ⟨.hbm, 999, rfl⟩
abbrev main_v680 : Ref sig .tc := ⟨.hbm, 1000, rfl⟩
abbrev main_v681 : Ref sig .tc := ⟨.hbm, 1001, rfl⟩
abbrev main_cst_157 : Ref sig .tc := ⟨.hbm, 1002, rfl⟩
abbrev main_v682 : Ref sig .tc := ⟨.hbm, 1003, rfl⟩
abbrev main_v683 : Ref sig .tc := ⟨.hbm, 1004, rfl⟩
abbrev main_cst_158 : Ref sig .tc := ⟨.hbm, 1005, rfl⟩
abbrev main_v684 : Ref sig .tc := ⟨.hbm, 1006, rfl⟩
abbrev main_v685 : Ref sig .tc := ⟨.hbm, 1007, rfl⟩
abbrev main_cst_159 : Ref sig .tc := ⟨.hbm, 1008, rfl⟩
abbrev main_call28_v0 : Ref sig .tc := ⟨.hbm, 1009, rfl⟩
abbrev main_call28_v1 : Ref sig .tc := ⟨.hbm, 1010, rfl⟩
abbrev main_v686 : Ref sig .tc := ⟨.hbm, 1011, rfl⟩
abbrev main_cst_160 : Ref sig .tc := ⟨.hbm, 1012, rfl⟩
abbrev main_v687 : Ref sig .tc := ⟨.hbm, 1013, rfl⟩
abbrev main_v688 : Ref sig .tc := ⟨.hbm, 1014, rfl⟩
abbrev main_v689 : Ref sig .tc := ⟨.hbm, 1015, rfl⟩
abbrev main_v690 : Ref sig .tc := ⟨.hbm, 1016, rfl⟩
abbrev main_v691 : Ref sig .tc := ⟨.hbm, 1017, rfl⟩
abbrev main_v692 : Ref sig .tc := ⟨.hbm, 1018, rfl⟩
abbrev main_v693 : Ref sig .tc := ⟨.hbm, 1019, rfl⟩
abbrev main_v694 : Ref sig .tc := ⟨.hbm, 1020, rfl⟩
abbrev main_v695 : Ref sig .tc := ⟨.hbm, 1021, rfl⟩
abbrev main_cst_161 : Ref sig .tc := ⟨.hbm, 1022, rfl⟩
abbrev main_v696 : Ref sig .tc := ⟨.hbm, 1023, rfl⟩
abbrev main_cst_162 : Ref sig .tc := ⟨.hbm, 1024, rfl⟩
abbrev main_v697 : Ref sig .tc := ⟨.hbm, 1025, rfl⟩
abbrev main_v698 : Ref sig .tc := ⟨.hbm, 1026, rfl⟩
abbrev main_call29_v0 : Ref sig .tc := ⟨.hbm, 1027, rfl⟩
abbrev main_call29_v1 : Ref sig .tc := ⟨.hbm, 1028, rfl⟩
abbrev main_call29_v2 : Ref sig .tc := ⟨.hbm, 1029, rfl⟩
abbrev main_call29_v3 : Ref sig .tc := ⟨.hbm, 1030, rfl⟩
abbrev main_call29_v4 : Ref sig .tc := ⟨.hbm, 1031, rfl⟩
abbrev main_v699 : Ref sig .tc := ⟨.hbm, 1032, rfl⟩
abbrev main_cst_163 : Ref sig .tc := ⟨.hbm, 1033, rfl⟩
abbrev main_v700 : Ref sig .tc := ⟨.hbm, 1034, rfl⟩
abbrev main_v701 : Ref sig .tc := ⟨.hbm, 1035, rfl⟩
abbrev main_cst_164 : Ref sig .tc := ⟨.hbm, 1036, rfl⟩
abbrev main_v702 : Ref sig .tc := ⟨.hbm, 1037, rfl⟩
abbrev main_v703 : Ref sig .tc := ⟨.hbm, 1038, rfl⟩
abbrev main_cst_165 : Ref sig .tc := ⟨.hbm, 1039, rfl⟩
abbrev main_v704 : Ref sig .tc := ⟨.hbm, 1040, rfl⟩
abbrev main_v705 : Ref sig .tc := ⟨.hbm, 1041, rfl⟩
abbrev main_v706 : Ref sig .tc := ⟨.hbm, 1042, rfl⟩
abbrev main_v707 : Ref sig .tc := ⟨.hbm, 1043, rfl⟩
abbrev main_v708 : Ref sig .tc := ⟨.hbm, 1044, rfl⟩
abbrev main_v709 : Ref sig .tc := ⟨.hbm, 1045, rfl⟩
abbrev main_v710 : Ref sig .tc := ⟨.hbm, 1046, rfl⟩
abbrev main_v711 : Ref sig .tc := ⟨.hbm, 1047, rfl⟩
abbrev main_v712 : Ref sig .tc := ⟨.hbm, 1048, rfl⟩
abbrev main_cst_166 : Ref sig .tc := ⟨.hbm, 1049, rfl⟩
abbrev main_v713 : Ref sig .tc := ⟨.hbm, 1050, rfl⟩
abbrev main_cst_167 : Ref sig .tc := ⟨.hbm, 1051, rfl⟩
abbrev main_v714 : Ref sig .tc := ⟨.hbm, 1052, rfl⟩
abbrev main_v715 : Ref sig .tc := ⟨.hbm, 1053, rfl⟩
abbrev main_v716 : Ref sig .tc := ⟨.hbm, 1054, rfl⟩
abbrev main_cst_168 : Ref sig .tc := ⟨.hbm, 1055, rfl⟩
abbrev main_v717 : Ref sig .tc := ⟨.hbm, 1056, rfl⟩
abbrev main_v718 : Ref sig .tc := ⟨.hbm, 1057, rfl⟩
abbrev main_cst_169 : Ref sig .tc := ⟨.hbm, 1058, rfl⟩
abbrev main_v719 : Ref sig .tc := ⟨.hbm, 1059, rfl⟩
abbrev main_v720 : Ref sig .tc := ⟨.hbm, 1060, rfl⟩
abbrev main_cst_170 : Ref sig .tc := ⟨.hbm, 1061, rfl⟩
abbrev main_v721 : Ref sig .tc := ⟨.hbm, 1062, rfl⟩
abbrev main_v722 : Ref sig .tc := ⟨.hbm, 1063, rfl⟩
abbrev main_v723 : Ref sig .tc := ⟨.hbm, 1064, rfl⟩
abbrev main_cst_171 : Ref sig .tc := ⟨.hbm, 1065, rfl⟩
abbrev main_v724 : Ref sig .tc := ⟨.hbm, 1066, rfl⟩
abbrev main_v725 : Ref sig .tc := ⟨.hbm, 1067, rfl⟩
abbrev main_v726 : Ref sig .tc := ⟨.hbm, 1068, rfl⟩
abbrev main_cst_172 : Ref sig .tc := ⟨.hbm, 1069, rfl⟩
abbrev main_v727 : Ref sig .tc := ⟨.hbm, 1070, rfl⟩
abbrev main_cst_173 : Ref sig .tc := ⟨.hbm, 1071, rfl⟩
abbrev main_v728 : Ref sig .tc := ⟨.hbm, 1072, rfl⟩

abbrev nD : Nat := 1
abbrev τ : Topo := Topo.v7x

variable {F : FTy → Type} [FloatOps F]
-- ==== Proof.KernelRun.lean ====
module

public import proofs.«01_k».proof.Proof.Gen.KernelIdeal.Frame
public import Idealize.ShloMosaic.Lib.VecWindow
public import Idealize.ShloMosaic.Lib.Pipeline.ValueKit.Basic

@[expose] public section

set_option maxRecDepth 16384
set_option maxHeartbeats 4000000

noncomputable section

namespace Cert.Loss

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

/-! # What one grid step of the kernel leaves

The ten trips of the loop are restated on plain values (`trip`, `rows`): the two scratch buffers are read whole and
written whole, so a trip is a function of their contents. The step's result is then one plain expression `step`. -/

variable {F : FTy → Type} [FloatOps F]

abbrev Row (F : FTy → Type) [FloatOps F] := FVec F S30x5376 .f32
abbrev Low (F : FTy → Type) [FloatOps F] := FVec F S30x20 .f32

/-- The column numbers the loop compares with. -/
def cols : IVec S30x20 32 := iota .tc S30x20 32 [1] iota_S30x20_d1_w32

/-- One trip: both row states lose their least entry twice, and the two minima are recorded. -/
def trip (r : Fin k0_t1_loop.trips) (s : (Low F × Low F) × (Row F × Row F)) : (Low F × Low F) × (Row F × Row F) :=
  ((k0_pay64 (k0_pay5 cols 0#32 1#32 r s.1.1 s.2.1) (Scalar.addi (Scalar.muli 2#32 (Scf.iv 0#32 1#32 r)) 1#32) (k0_pay2 s.2.1),
    k0_pay65 (k0_pay6 cols 0#32 1#32 r s.1.2 s.2.2) (Scalar.addi (Scalar.muli 2#32 (Scf.iv 0#32 1#32 r)) 1#32) (k0_pay4 s.2.2)),
   (k0_pay61 (k0_pay2 s.2.1), k0_pay63 (k0_pay4 s.2.2)))

/-- The state after `r` trips. -/
def rows (s : (Low F × Low F) × (Row F × Row F)) : ℕ → (Low F × Low F) × (Row F × Row F)
  | 0 => s
  | r + 1 => if h : r < k0_t1_loop.trips then trip ⟨r, h⟩ (rows s r) else rows s r

theorem zz2 : ∀ a : Fin 2, (![0, 0] : Fin 2 → ℕ) a = 0 := by decide
theorem zz3 : ∀ a : Fin 3, (![0, 0, 0] : Fin 3 → ℕ) a = 0 := by decide

theorem ld_full {S : Shape} {e : EltTy} (off : Fin S.rank → ℕ) (hz : ∀ a, off a = 0) (inb : ∀ a : Fin S.rank, off a + S.size a ≤ S.size a) (X : Vec F S e) :
    View.ld (e' := e) (Val := Elt F) X (Rect.unit (s := S) off S.size inb) = X :=
  View.ld_unit_lit (Val := Elt F) (e := e) (S := S) inb X hz
theorem readCov_full' {S : Shape} {e : EltTy} (v : View sig .tc .vmem S e) (off : Fin S.rank → ℕ) (hz : ∀ a, off a = 0) (inb inb' : ∀ a, off a + S.size a ≤ S.size a) (w : Vec F S e) :
    v.readCov (Val := Elt F) [(⟨Rect.unit (s := S) off S.size inb', w⟩ : View.Piece (Elt F) S e)]
      (Rect.unit (s := S) off S.size inb).toLoadRect = w :=
  View.readCov_unit_lit (S := S) (Val := Elt F) (e := e) v inb w hz
theorem readCov_row (v : View sig .tc .vmem S30x5376 .f32) (inb inb' : ∀ a, (![0, 0] : Fin 2 → ℕ) a + (![30, 5376] : Fin 2 → ℕ) a ≤ S30x5376.size a) (w : Vec F S30x5376 .f32) :
    v.readCov (Val := Elt F) [(⟨Rect.unit (s := S30x5376) ![0, 0] ![30, 5376] inb', w⟩ : View.Piece (Elt F) S30x5376 .f32)]
      (Rect.unit (s := S30x5376) ![0, 0] ![30, 5376] inb).toLoadRect = w :=
  readCov_full' (S := S30x5376) v _ zz2 inb inb' w

theorem ld_row (inb : ∀ a, (![0, 0] : Fin 2 → ℕ) a + (![30, 5376] : Fin 2 → ℕ) a ≤ S30x5376.size a) (X : Vec F S30x5376 .f32) :
    View.ld (e' := .f32) (Val := Elt F) X (Rect.unit (s := S30x5376) ![0, 0] ![30, 5376] inb) = X :=
  ld_full (S := S30x5376) _ zz2 inb X

section Trip

variable (𝒱 : Variants) (c : Dev nD) (bd : Option 𝒱.V) (i : grid0.Coords) (arg1 : Memref sig .tc .vmem S1x85x4096 .f32) (harg1 : arg1.IsWhole) (arg2 : Memref sig .tc .vmem S1x85x1024 .f32) (harg2 : arg2.IsWhole) (arg3 : Memref sig .tc .vmem S1x85x256 .f32) (harg3 : arg3.IsWhole) (arg4 : Memref sig .tc .vmem S1x30x4 .f32) (harg4 : arg4.IsWhole) (arg5 : Memref sig .tc .vmem S1x4x30 .f32) (harg5 : arg5.IsWhole) (arg6 : Memref sig .tc .vmem S1x1x30 .i32) (harg6 : arg6.IsWhole) (arg7 : Memref sig .tc .vmem S1x5376 .f32) (harg7 : arg7.IsWhole) (arg8 : Memref sig .tc .vmem S1x5376 .f32) (harg8 : arg8.IsWhole) (arg9 : Memref sig .tc .vmem S1x5376 .f32) (harg9 : arg9.IsWhole) (arg10 : Memref sig .tc .vmem S1x1x1 .f32) (harg10 : arg10.IsWhole) (arg11 : Memref sig .tc .vmem S30x5376 .f32) (harg11 : arg11.IsWhole) (arg12 : Memref sig .tc .vmem S30x5376 .f32) (harg12 : arg12.IsWhole)
    (v147 : IVec S30x5376 1) (v191 v311 v320 : FVec F S30x5376 .f32) (r : Fin k0_t1_loop.trips) (acc : Low F × Low F)
    (f11 : BufTy.Contents (Elt F) arg11.view.ty) (f12 : BufTy.Contents (Elt F) arg12.view.ty)

theorem tripR_eq : tripR_k0_t1 𝒱 c bd i arg1 harg1 arg2 harg2 arg3 harg3 arg4 harg4 arg5 harg5 arg6 harg6 arg7 harg7 arg8 harg8 arg9 harg9 arg10 harg10 arg11 harg11 arg12 harg12 v147 v191 v311 v320 cols r acc f11 f12
    = (trip r (acc, (arg11.view.read (Elt F) f11, arg12.view.read (Elt F) f12))).1 := by
  unfold tripR_k0_t1 trip_k0_t1
  dsimp only
  sl_unfold_words
  simp only [View.readAt_eq_ld, ld_row, readCov_row, trip]
  done

theorem tripL_eq1 (f : BufTy.Contents (Elt F) arg11.view.ty) (L : List (View.Piece (Elt F) S30x5376 .f32)) :
    arg11.view.read (Elt F) (arg11.view.writes (Elt F) f ((tripL_k0_t1 𝒱 c bd i arg1 harg1 arg2 harg2 arg3 harg3 arg4 harg4 arg5 harg5 arg6 harg6 arg7 harg7 arg8 harg8 arg9 harg9 arg10 harg10 arg11 harg11 arg12 harg12 v147 v191 v311 v320 cols r acc f11 f12).1 ++ L))
    = (trip r (acc, (arg11.view.read (Elt F) f11, arg12.view.read (Elt F) f12))).2.1 := by
  unfold tripL_k0_t1 trip_k0_t1
  dsimp only
  sl_unfold_words
  simp only [List.cons_append, List.nil_append]
  refine (View.read_writes_full (Val := Elt F) (s := S30x5376) _ _ _ _ _).trans ?_
  simp only [View.readAt_eq_ld, ld_row, readCov_row, trip]
  done

theorem tripL_eq2 (f : BufTy.Contents (Elt F) arg12.view.ty) (L : List (View.Piece (Elt F) S30x5376 .f32)) :
    arg12.view.read (Elt F) (arg12.view.writes (Elt F) f ((tripL_k0_t1 𝒱 c bd i arg1 harg1 arg2 harg2 arg3 harg3 arg4 harg4 arg5 harg5 arg6 harg6 arg7 harg7 arg8 harg8 arg9 harg9 arg10 harg10 arg11 harg11 arg12 harg12 v147 v191 v311 v320 cols r acc f11 f12).2 ++ L))
    = (trip r (acc, (arg11.view.read (Elt F) f11, arg12.view.read (Elt F) f12))).2.2 := by
  unfold tripL_k0_t1 trip_k0_t1
  dsimp only
  sl_unfold_words
  simp only [List.cons_append, List.nil_append]
  refine (View.read_writes_full (Val := Elt F) (s := S30x5376) _ _ _ _ _).trans ?_
  simp only [View.readAt_eq_ld, ld_row, readCov_row, trip]
  done

end Trip

theorem st_rows (𝒱 : Variants) (c : Dev nD) (bd : Option 𝒱.V) (i : grid0.Coords) (arg1 : Memref sig .tc .vmem S1x85x4096 .f32) (harg1 : arg1.IsWhole) (arg2 : Memref sig .tc .vmem S1x85x1024 .f32) (harg2 : arg2.IsWhole) (arg3 : Memref sig .tc .vmem S1x85x256 .f32) (harg3 : arg3.IsWhole) (arg4 : Memref sig .tc .vmem S1x30x4 .f32) (harg4 : arg4.IsWhole) (arg5 : Memref sig .tc .vmem S1x4x30 .f32) (harg5 : arg5.IsWhole) (arg6 : Memref sig .tc .vmem S1x1x30 .i32) (harg6 : arg6.IsWhole) (arg7 : Memref sig .tc .vmem S1x5376 .f32) (harg7 : arg7.IsWhole) (arg8 : Memref sig .tc .vmem S1x5376 .f32) (harg8 : arg8.IsWhole) (arg9 : Memref sig .tc .vmem S1x5376 .f32) (harg9 : arg9.IsWhole) (arg10 : Memref sig .tc .vmem S1x1x1 .f32) (harg10 : arg10.IsWhole) (arg11 : Memref sig .tc .vmem S30x5376 .f32) (harg11 : arg11.IsWhole) (arg12 : Memref sig .tc .vmem S30x5376 .f32) (harg12 : arg12.IsWhole)
    (v147 : IVec S30x5376 1) (v191 v311 v320 : FVec F S30x5376 .f32)
    (G11 : BufTy.Contents (Elt F) arg11.view.ty) (G12 : BufTy.Contents (Elt F) arg12.view.ty) (init : Low F × Low F) (r : ℕ)
    (hr : r ≤ k0_t1_loop.trips) :
    (st_k0_t1 𝒱 c bd i arg1 harg1 arg2 harg2 arg3 harg3 arg4 harg4 arg5 harg5 arg6 harg6 arg7 harg7 arg8 harg8 arg9 harg9 arg10 harg10 arg11 harg11 arg12 harg12 v147 v191 v311 v320 cols G11 G12 init r).1
        = (rows (init, (arg11.view.read (Elt F) G11, arg12.view.read (Elt F) G12)) r).1
    ∧ arg11.view.read (Elt F) (arg11.view.writes (Elt F) G11 (st_k0_t1 𝒱 c bd i arg1 harg1 arg2 harg2 arg3 harg3 arg4 harg4 arg5 harg5 arg6 harg6 arg7 harg7 arg8 harg8 arg9 harg9 arg10 harg10 arg11 harg11 arg12 harg12 v147 v191 v311 v320 cols G11 G12 init r).2.1)
        = (rows (init, (arg11.view.read (Elt F) G11, arg12.view.read (Elt F) G12)) r).2.1
    ∧ arg12.view.read (Elt F) (arg12.view.writes (Elt F) G12 (st_k0_t1 𝒱 c bd i arg1 harg1 arg2 harg2 arg3 harg3 arg4 harg4 arg5 harg5 arg6 harg6 arg7 harg7 arg8 harg8 arg9 harg9 arg10 harg10 arg11 harg11 arg12 harg12 v147 v191 v311 v320 cols G11 G12 init r).2.2)
        = (rows (init, (arg11.view.read (Elt F) G11, arg12.view.read (Elt F) G12)) r).2.2 := by
  induction r with
  | zero => exact ⟨rfl, rfl, rfl⟩
  | succ r ih =>
    obtain ⟨h1, h2, h3⟩ := ih (Nat.le_of_succ_le hr)
    have e2 : rows (init, (arg11.view.read (Elt F) G11, arg12.view.read (Elt F) G12)) (r + 1)
        = trip ⟨r, hr⟩ (rows (init, (arg11.view.read (Elt F) G11, arg12.view.read (Elt F) G12)) r) := by
      rw [rows, dif_pos]
    rw [e2, st_k0_t1_succ (F := F) 𝒱 c bd i arg1 harg1 arg2 harg2 arg3 harg3 arg4 harg4 arg5 harg5 arg6 harg6 arg7 harg7 arg8 harg8 arg9 harg9 arg10 harg10 arg11 harg11 arg12 harg12 v147 v191 v311 v320 cols G11 G12 init ⟨r, hr⟩]
    refine ⟨?_, ?_, ?_⟩
    · refine (tripR_eq ..).trans ?_
      rw [h1, h2, h3]
    · refine (tripL_eq1 ..).trans ?_
      rw [h1, h2, h3]
    · refine (tripL_eq2 ..).trans ?_
      rw [h1, h2, h3]

theorem st_fin (𝒱 : Variants) (c : Dev nD) (bd : Option 𝒱.V) (i : grid0.Coords) (arg1 : Memref sig .tc .vmem S1x85x4096 .f32) (harg1 : arg1.IsWhole) (arg2 : Memref sig .tc .vmem S1x85x1024 .f32) (harg2 : arg2.IsWhole) (arg3 : Memref sig .tc .vmem S1x85x256 .f32) (harg3 : arg3.IsWhole) (arg4 : Memref sig .tc .vmem S1x30x4 .f32) (harg4 : arg4.IsWhole) (arg5 : Memref sig .tc .vmem S1x4x30 .f32) (harg5 : arg5.IsWhole) (arg6 : Memref sig .tc .vmem S1x1x30 .i32) (harg6 : arg6.IsWhole) (arg7 : Memref sig .tc .vmem S1x5376 .f32) (harg7 : arg7.IsWhole) (arg8 : Memref sig .tc .vmem S1x5376 .f32) (harg8 : arg8.IsWhole) (arg9 : Memref sig .tc .vmem S1x5376 .f32) (harg9 : arg9.IsWhole) (arg10 : Memref sig .tc .vmem S1x1x1 .f32) (harg10 : arg10.IsWhole) (arg11 : Memref sig .tc .vmem S30x5376 .f32) (harg11 : arg11.IsWhole) (arg12 : Memref sig .tc .vmem S30x5376 .f32) (harg12 : arg12.IsWhole)
    (v147 : IVec S30x5376 1) (v191 v311 v320 : FVec F S30x5376 .f32)
    (G11 : BufTy.Contents (Elt F) arg11.view.ty) (G12 : BufTy.Contents (Elt F) arg12.view.ty) (init : Low F × Low F) (n : ℕ) (hn : n = 10) :
    (st_k0_t1 𝒱 c bd i arg1 harg1 arg2 harg2 arg3 harg3 arg4 harg4 arg5 harg5 arg6 harg6 arg7 harg7 arg8 harg8 arg9 harg9 arg10 harg10 arg11 harg11 arg12 harg12 v147 v191 v311 v320 (iota .tc S30x20 32 [1] iota_S30x20_d1_w32) G11 G12 init n).1
        = (rows (init, (arg11.view.read (Elt F) G11, arg12.view.read (Elt F) G12)) 10).1 := by
  subst hn
  exact (st_rows 𝒱 c bd i arg1 harg1 arg2 harg2 arg3 harg3 arg4 harg4 arg5 harg5 arg6 harg6 arg7 harg7 arg8 harg8 arg9 harg9 arg10 harg10 arg11 harg11 arg12 harg12 v147 v191 v311 v320 _ _ init 10 (by decide)).1

theorem read_row (v : View sig .tc .vmem S30x5376 .f32) (f : BufTy.Contents (Elt F) v.ty) (inb : ∀ a, (![0, 0] : Fin 2 → ℕ) a + (![30, 5376] : Fin 2 → ℕ) a ≤ S30x5376.size a) (w : Vec F S30x5376 .f32) :
    v.read (Elt F) (v.writes (Elt F) f [(⟨Rect.unit (s := S30x5376) ![0, 0] ![30, 5376] inb, w⟩ : View.Piece (Elt F) S30x5376 .f32)]) = w :=
  View.read_writes_full (Val := Elt F) (s := S30x5376) _ _ _ _ _

theorem ld_S1x85x4096 (inb : ∀ a, (![0, 0, 0] : Fin 3 → ℕ) a + (![1, 85, 4096] : Fin 3 → ℕ) a ≤ S1x85x4096.size a) (X : Vec F S1x85x4096 .f32) :
    View.ld (e' := .f32) (Val := Elt F) X (Rect.unit (s := S1x85x4096) ![0, 0, 0] ![1, 85, 4096] inb) = X :=
  ld_full (S := S1x85x4096) _ zz3 inb X
theorem ld_S1x85x1024 (inb : ∀ a, (![0, 0, 0] : Fin 3 → ℕ) a + (![1, 85, 1024] : Fin 3 → ℕ) a ≤ S1x85x1024.size a) (X : Vec F S1x85x1024 .f32) :
    View.ld (e' := .f32) (Val := Elt F) X (Rect.unit (s := S1x85x1024) ![0, 0, 0] ![1, 85, 1024] inb) = X :=
  ld_full (S := S1x85x1024) _ zz3 inb X
theorem ld_S1x85x256 (inb : ∀ a, (![0, 0, 0] : Fin 3 → ℕ) a + (![1, 85, 256] : Fin 3 → ℕ) a ≤ S1x85x256.size a) (X : Vec F S1x85x256 .f32) :
    View.ld (e' := .f32) (Val := Elt F) X (Rect.unit (s := S1x85x256) ![0, 0, 0] ![1, 85, 256] inb) = X :=
  ld_full (S := S1x85x256) _ zz3 inb X
theorem ld_S1x30x4 (inb : ∀ a, (![0, 0, 0] : Fin 3 → ℕ) a + (![1, 30, 4] : Fin 3 → ℕ) a ≤ S1x30x4.size a) (X : Vec F S1x30x4 .f32) :
    View.ld (e' := .f32) (Val := Elt F) X (Rect.unit (s := S1x30x4) ![0, 0, 0] ![1, 30, 4] inb) = X :=
  ld_full (S := S1x30x4) _ zz3 inb X
theorem ld_S1x4x30 (inb : ∀ a, (![0, 0, 0] : Fin 3 → ℕ) a + (![1, 4, 30] : Fin 3 → ℕ) a ≤ S1x4x30.size a) (X : Vec F S1x4x30 .f32) :
    View.ld (e' := .f32) (Val := Elt F) X (Rect.unit (s := S1x4x30) ![0, 0, 0] ![1, 4, 30] inb) = X :=
  ld_full (S := S1x4x30) _ zz3 inb X
theorem ld_S1x1x30 (inb : ∀ a, (![0, 0, 0] : Fin 3 → ℕ) a + (![1, 1, 30] : Fin 3 → ℕ) a ≤ S1x1x30.size a) (X : Vec F S1x1x30 .i32) :
    View.ld (e' := .i32) (Val := Elt F) X (Rect.unit (s := S1x1x30) ![0, 0, 0] ![1, 1, 30] inb) = X :=
  ld_full (S := S1x1x30) _ zz3 inb X
theorem ld_S1x5376 (inb : ∀ a, (![0, 0] : Fin 2 → ℕ) a + (![1, 5376] : Fin 2 → ℕ) a ≤ S1x5376.size a) (X : Vec F S1x5376 .f32) :
    View.ld (e' := .f32) (Val := Elt F) X (Rect.unit (s := S1x5376) ![0, 0] ![1, 5376] inb) = X :=
  ld_full (S := S1x5376) _ zz2 inb X

/-- What one grid step writes, as one expression in the nine blocks it reads. -/
def step (x0 : Vec F S1x85x4096 .f32) (x1 : Vec F S1x85x1024 .f32) (x2 : Vec F S1x85x256 .f32) (x3 : Vec F S1x30x4 .f32) (x4 : Vec F S1x4x30 .f32) (x5 : Vec F S1x1x30 .i32) (x6 : Vec F S1x5376 .f32) (x7 : Vec F S1x5376 .f32) (x8 : Vec F S1x5376 .f32) : Vec F S1x1x1 .f32 :=
  let v6 := k0_pay7 x0 x1 x2
  let v10 := k0_pay8 x0 x1 x2
  let v11 := k0_pay9 x0 x1 x2
  let v25 := k0_pay10 x0 x1 x2 x6 x8
  let v33 := k0_pay11 x0 x1 x2
  let v34 := k0_pay12
  let v62 := k0_pay16 v6 x8 v25
  let v65 := k0_pay17 v6 x8 v25
  let v68 := k0_pay18 v6 x7 x8 v33 v34
  let v71 := k0_pay19 v6 x7 x8 v33 v34
  let v73 := k0_pay20 x3
  let v76 := k0_pay21 x3
  let v79 := k0_pay22 x3
  let v80 := k0_pay23 x3
  let v88 := k0_pay26 v76 v80
  let v91 := k0_pay27 v76 v80
  let v94 := k0_pay28 v73 v79
  let v97 := k0_pay29 v73 v79
  let v100 := k0_pay30 v76 v80
  let v103 := k0_pay31 v73 v79
  let v115 := k0_pay32 x8 v73 v76 v79 v80
  let v119 := k0_pay33 x6 v76
  let v123 := k0_pay34 x7 v79
  let v127 := k0_pay36 x6 x8 v76
  let v128 := k0_pay37 x8
  let v147 := k0_pay38 x6 x7 v88 v91 v94 v97 v115 v123 v127 v128
  let v180 := k0_pay39 v62 v65 v68 v71 v88 v91 v94 v97
  let v181 := k0_pay40 v88 v91 v94 v97
  let v182 := k0_pay41 v62 v65 v68 v71
  let v191 := k0_pay42 v180 v181 v182
  let v198 := k0_pay43 v10
  let v223 := k0_pay44 v10 v11
  let v226 : IVec S80x30 32 := iota .tc S80x30 32 [0] iota_S80x30_d0_w32
  let v227 := k0_pay45 x5
  let v238 := k0_pay46 v11 v226 v227
  let v260 := k0_pay47 v11 v198 v223 v226 v227
  let v264 := k0_pay48 v62 v65
  let v268 := k0_pay49 v68 v71
  let v269 := k0_pay50 v100
  let v270 := k0_pay51 v103
  let v274 := k0_pay52 v62 v65 v100
  let v275 := k0_pay53 v68 v71
  let v276 := k0_pay54 v103
  let v311 := k0_pay55 x8 v119 v123 v147 v191 v260 v264 v268 v269 v270 v274 v275 v276
  let v320 := k0_pay57 x8 v119 v123 v147 v191 v260 v264 v268 v269 v270 v274 v275 v276
  let v327 := rows ((k0_pay59, k0_pay59), (k0_pay56 v147 v191, k0_pay58 v320)) 10
  let v327_0 := v327.1.1
  let v327_1 := v327.1.2
  let v358 := k0_pay67 v147 v311 v327_0 v327_1
  let v362 := k0_pay68 v147 v311 v327_0 v327_1
  let v363 := k0_pay69 v147 v191 v311 v327_0 v327_1
  let v365 := k0_pay70 v363
  let v368 := k0_pay71 v238 v358
  let v379 := k0_pay73 v358 x4
  let v380 := k0_pay74 v358 x4
  let v381 := k0_pay75 v358 x4
  let v382 := k0_pay76 v358 x4
  let v387 := k0_pay77 v362
  let v390 := k0_pay78 v62 v65
  let v393 := k0_pay79 v68 v71
  let v396 := k0_pay80 v358 x4
  let v399 := k0_pay81 v358 x4
  let v404 := k0_pay82 v62 v65 v358 x4
  let v407 := k0_pay83 v68 v71 v358 x4
  let v408 := k0_pay84
  let v417 := k0_pay85 v390 v393 v396 v399 v404 v407 v408
  let v434 := k0_pay86 v62 v65 v68 v71 v379 v380 v381 v382
  let v445 := k0_pay87 v62 v65 v68 v71 v379 v380 v381 v382
  let v446 := k0_pay88 v396 v399
  let v448 := k0_pay89 v396 v399
  let v450 := k0_pay90 v396 v399
  let v452 := k0_pay91 v396 v399
  let v457 := k0_pay92 v396 v399
  let v479 := k0_pay93 v446 v448 v450 v452 v457
  let v493 := k0_pay97 v390 v393
  let v498 := k0_pay98 v390 v393
  let v499 := k0_pay99 v390 v393
  let v501 := k0_pay100 v390 v393
  let v535 := k0_pay101 v362 v387 v417 v434 v445 v479 v493 v498 v499 v501
  let v550 := k0_pay102 v10 v362 v365
  k0_pay103 v11 v362 v368 v387 v535 v550

theorem out_step (c : Dev nD) (i : grid0.Coords) (arg1 : Memref sig .tc .vmem S1x85x4096 .f32) (harg1 : arg1.IsWhole) (arg2 : Memref sig .tc .vmem S1x85x1024 .f32) (harg2 : arg2.IsWhole) (arg3 : Memref sig .tc .vmem S1x85x256 .f32) (harg3 : arg3.IsWhole) (arg4 : Memref sig .tc .vmem S1x30x4 .f32) (harg4 : arg4.IsWhole) (arg5 : Memref sig .tc .vmem S1x4x30 .f32) (harg5 : arg5.IsWhole) (arg6 : Memref sig .tc .vmem S1x1x30 .i32) (harg6 : arg6.IsWhole) (arg7 : Memref sig .tc .vmem S1x5376 .f32) (harg7 : arg7.IsWhole) (arg8 : Memref sig .tc .vmem S1x5376 .f32) (harg8 : arg8.IsWhole) (arg9 : Memref sig .tc .vmem S1x5376 .f32) (harg9 : arg9.IsWhole) (arg10 : Memref sig .tc .vmem S1x1x1 .f32) (harg10 : arg10.IsWhole) (arg11 : Memref sig .tc .vmem S30x5376 .f32) (harg11 : arg11.IsWhole) (arg12 : Memref sig .tc .vmem S30x5376 .f32) (harg12 : arg12.IsWhole) (x0 : Vec F S1x85x4096 .f32) (x1 : Vec F S1x85x1024 .f32) (x2 : Vec F S1x85x256 .f32) (x3 : Vec F S1x30x4 .f32) (x4 : Vec F S1x4x30 .f32) (x5 : Vec F S1x1x30 .i32) (x6 : Vec F S1x5376 .f32) (x7 : Vec F S1x5376 .f32) (x8 : Vec F S1x5376 .f32) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = step x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  sl_unfold_words
  refine (View.canon_cons_unit_lit (S := S1x1x1) (Val := Elt F) (e := .f32) _ _ _ zz3).trans ?_
  simp only [View.readAt_eq_ld, ld_S1x85x4096, ld_S1x85x1024, ld_S1x85x256, ld_S1x30x4, ld_S1x4x30, ld_S1x1x30, ld_S1x5376, harg1.read_unread, harg2.read_unread, harg3.read_unread, harg4.read_unread, harg5.read_unread, harg6.read_unread, harg7.read_unread, harg8.read_unread, harg9.read_unread]
  simp only [st_fin _ _ _ _ _ _ _ _ _ _ _ _ _ _ _ _ _ _ _ _ _ _ _ _ _ _ _ _ _ _ _ _ _ _ _ _ (show Scf.trips 0#32 (Scalar.addi 0#32 10#32) 1#32 = 10 by decide)]
  simp only [read_row]
  rfl

end Cert.Loss
end
-- ==== Proof.KernelArr.lean ====
module

public import proofs.«01_k».proof.Proof.KernelRun
public import Idealize.ShloMosaic.Lib.Pointwise
public import Idealize.ShloMosaic.Lib.VecWindow
public import Idealize.ShloMosaic.Lib.Pipeline.ValueKit.Basic

@[expose] public section

set_option maxRecDepth 16384
set_option maxHeartbeats 4000000

noncomputable section

namespace Cert.Loss

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

/-! # The array of losses and the scalar -/

variable {F : FTy → Type} [FloatOps F]
variable (m : (ℓ : Loc nD τ sig) → Buf (Elt F) ℓ) (ρ : Dev nD → PrngReg)

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem emb0 (t : Fin cfg0.N) (j : S1x85x4096.Idx) : ((cfg0.win 0).blk t).view.emb j = (ix3 (⟨t.val, t.isLt⟩ : Fin 8) (j 1) (j 2)) := by
  obtain ⟨e0, e1, e2⟩ := idx0 t
  funext a; apply Fin.ext
  match a with
  | ⟨0, _⟩ => show win0_0.index t (0 : Fin 3) * 1 + 1 * (j 0).val = t.val; have : (j 0).val < 1 := (j 0).isLt; omega
  | ⟨1, _⟩ => show win0_0.index t (1 : Fin 3) * 85 + 1 * (j 1).val = (j 1).val; omega
  | ⟨2, _⟩ => show win0_0.index t (2 : Fin 3) * 4096 + 1 * (j 2).val = (j 2).val; omega
theorem iblk0_eq (c : Dev nD) (t : Fin cfg0.N) : iblk m c 0 t = fun j : S1x85x4096.Idx => V m c main_v3 (ix3 (⟨t.val, t.isLt⟩ : Fin 8) (j 1) (j 2)) := by
  funext j; show V m c main_v3 (((cfg0.win 0).blk t).view.emb j) = _; rw [emb0]; rfl

theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem emb1 (t : Fin cfg0.N) (j : S1x85x1024.Idx) : ((cfg0.win 1).blk t).view.emb j = (ix3 (⟨t.val, t.isLt⟩ : Fin 8) (j 1) (j 2)) := by
  obtain ⟨e0, e1, e2⟩ := idx1 t
  funext a; apply Fin.ext
  match a with
  | ⟨0, _⟩ => show win0_1.index t (0 : Fin 3) * 1 + 1 * (j 0).val = t.val; have : (j 0).val < 1 := (j 0).isLt; omega
  | ⟨1, _⟩ => show win0_1.index t (1 : Fin 3) * 85 + 1 * (j 1).val = (j 1).val; omega
  | ⟨2, _⟩ => show win0_1.index t (2 : Fin 3) * 1024 + 1 * (j 2).val = (j 2).val; omega
theorem iblk1_eq (c : Dev nD) (t : Fin cfg0.N) : iblk m c 1 t = fun j : S1x85x1024.Idx => V m c main_v4 (ix3 (⟨t.val, t.isLt⟩ : Fin 8) (j 1) (j 2)) := by
  funext j; show V m c main_v4 (((cfg0.win 1).blk t).view.emb j) = _; rw [emb1]; rfl

theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem emb2 (t : Fin cfg0.N) (j : S1x85x256.Idx) : ((cfg0.win 2).blk t).view.emb j = (ix3 (⟨t.val, t.isLt⟩ : Fin 8) (j 1) (j 2)) := by
  obtain ⟨e0, e1, e2⟩ := idx2 t
  funext a; apply Fin.ext
  match a with
  | ⟨0, _⟩ => show win0_2.index t (0 : Fin 3) * 1 + 1 * (j 0).val = t.val; have : (j 0).val < 1 := (j 0).isLt; omega
  | ⟨1, _⟩ => show win0_2.index t (1 : Fin 3) * 85 + 1 * (j 1).val = (j 1).val; omega
  | ⟨2, _⟩ => show win0_2.index t (2 : Fin 3) * 256 + 1 * (j 2).val = (j 2).val; omega
theorem iblk2_eq (c : Dev nD) (t : Fin cfg0.N) : iblk m c 2 t = fun j : S1x85x256.Idx => V m c main_v5 (ix3 (⟨t.val, t.isLt⟩ : Fin 8) (j 1) (j 2)) := by
  funext j; show V m c main_v5 (((cfg0.win 2).blk t).view.emb j) = _; rw [emb2]; rfl

theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem emb3 (t : Fin cfg0.N) (j : S1x30x4.Idx) : ((cfg0.win 3).blk t).view.emb j = (ix3 (⟨t.val, t.isLt⟩ : Fin 8) (j 1) (j 2)) := by
  obtain ⟨e0, e1, e2⟩ := idx3 t
  funext a; apply Fin.ext
  match a with
  | ⟨0, _⟩ => show win0_3.index t (0 : Fin 3) * 1 + 1 * (j 0).val = t.val; have : (j 0).val < 1 := (j 0).isLt; omega
  | ⟨1, _⟩ => show win0_3.index t (1 : Fin 3) * 30 + 1 * (j 1).val = (j 1).val; omega
  | ⟨2, _⟩ => show win0_3.index t (2 : Fin 3) * 4 + 1 * (j 2).val = (j 2).val; omega
theorem iblk3_eq (c : Dev nD) (t : Fin cfg0.N) : iblk m c 3 t = fun j : S1x30x4.Idx => V m c main_arg3 (ix3 (⟨t.val, t.isLt⟩ : Fin 8) (j 1) (j 2)) := by
  funext j; show V m c main_arg3 (((cfg0.win 3).blk t).view.emb j) = _; rw [emb3]; rfl

theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
theorem emb4 (t : Fin cfg0.N) (j : S1x4x30.Idx) : ((cfg0.win 4).blk t).view.emb j = (ix3 (⟨t.val, t.isLt⟩ : Fin 8) (j 1) (j 2)) := by
  obtain ⟨e0, e1, e2⟩ := idx4 t
  funext a; apply Fin.ext
  match a with
  | ⟨0, _⟩ => show win0_4.index t (0 : Fin 3) * 1 + 1 * (j 0).val = t.val; have : (j 0).val < 1 := (j 0).isLt; omega
  | ⟨1, _⟩ => show win0_4.index t (1 : Fin 3) * 4 + 1 * (j 1).val = (j 1).val; omega
  | ⟨2, _⟩ => show win0_4.index t (2 : Fin 3) * 30 + 1 * (j 2).val = (j 2).val; omega
theorem iblk4_eq (c : Dev nD) (t : Fin cfg0.N) : iblk m c 4 t = fun j : S1x4x30.Idx => V m c main_v39 (ix3 (⟨t.val, t.isLt⟩ : Fin 8) (j 1) (j 2)) := by
  funext j; show V m c main_v39 (((cfg0.win 4).blk t).view.emb j) = _; rw [emb4]; rfl

theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
theorem emb5 (t : Fin cfg0.N) (j : S1x1x30.Idx) : ((cfg0.win 5).blk t).view.emb j = (ix3 (⟨t.val, t.isLt⟩ : Fin 8) (j 1) (j 2)) := by
  obtain ⟨e0, e1, e2⟩ := idx5 t
  funext a; apply Fin.ext
  match a with
  | ⟨0, _⟩ => show win0_5.index t (0 : Fin 3) * 1 + 1 * (j 0).val = t.val; have : (j 0).val < 1 := (j 0).isLt; omega
  | ⟨1, _⟩ => show win0_5.index t (1 : Fin 3) * 1 + 1 * (j 1).val = (j 1).val; omega
  | ⟨2, _⟩ => show win0_5.index t (2 : Fin 3) * 30 + 1 * (j 2).val = (j 2).val; omega
theorem iblk5_eq (c : Dev nD) (t : Fin cfg0.N) : iblk m c 5 t = fun j : S1x1x30.Idx => V m c main_v6 (ix3 (⟨t.val, t.isLt⟩ : Fin 8) (j 1) (j 2)) := by
  funext j; show V m c main_v6 (((cfg0.win 5).blk t).view.emb j) = _; rw [emb5]; rfl

theorem idx6 : ∀ t : Fin cfg0.N, win0_6.index t (0 : Fin 2) = 0 ∧ win0_6.index t (1 : Fin 2) = 0 :=
  (by decide +kernel : ∀ t : Fin grid0.N, _)
theorem emb6 (t : Fin cfg0.N) (j : S1x5376.Idx) : ((cfg0.win 6).blk t).view.emb j = j := by
  obtain ⟨e0, e1⟩ := idx6 t
  funext a; apply Fin.ext
  match a with
  | ⟨0, _⟩ => show win0_6.index t (0 : Fin 2) * 1 + 1 * (j 0).val = (j 0).val; omega
  | ⟨1, _⟩ => show win0_6.index t (1 : Fin 2) * 5376 + 1 * (j 1).val = (j 1).val; omega
theorem iblk6_eq (c : Dev nD) (t : Fin cfg0.N) : iblk m c 6 t = V m c main_v0 := by
  funext j; show V m c main_v0 (((cfg0.win 6).blk t).view.emb j) = V m c main_v0 j; rw [emb6]

theorem idx7 : ∀ t : Fin cfg0.N, win0_7.index t (0 : Fin 2) = 0 ∧ win0_7.index t (1 : Fin 2) = 0 :=
  (by decide +kernel : ∀ t : Fin grid0.N, _)
theorem emb7 (t : Fin cfg0.N) (j : S1x5376.Idx) : ((cfg0.win 7).blk t).view.emb j = j := by
  obtain ⟨e0, e1⟩ := idx7 t
  funext a; apply Fin.ext
  match a with
  | ⟨0, _⟩ => show win0_7.index t (0 : Fin 2) * 1 + 1 * (j 0).val = (j 0).val; omega
  | ⟨1, _⟩ => show win0_7.index t (1 : Fin 2) * 5376 + 1 * (j 1).val = (j 1).val; omega
theorem iblk7_eq (c : Dev nD) (t : Fin cfg0.N) : iblk m c 7 t = V m c main_v1 := by
  funext j; show V m c main_v1 (((cfg0.win 7).blk t).view.emb j) = V m c main_v1 j; rw [emb7]

theorem idx8 : ∀ t : Fin cfg0.N, win0_8.index t (0 : Fin 2) = 0 ∧ win0_8.index t (1 : Fin 2) = 0 :=
  (by decide +kernel : ∀ t : Fin grid0.N, _)
theorem emb8 (t : Fin cfg0.N) (j : S1x5376.Idx) : ((cfg0.win 8).blk t).view.emb j = j := by
  obtain ⟨e0, e1⟩ := idx8 t
  funext a; apply Fin.ext
  match a with
  | ⟨0, _⟩ => show win0_8.index t (0 : Fin 2) * 1 + 1 * (j 0).val = (j 0).val; omega
  | ⟨1, _⟩ => show win0_8.index t (1 : Fin 2) * 5376 + 1 * (j 1).val = (j 1).val; omega
theorem iblk8_eq (c : Dev nD) (t : Fin cfg0.N) : iblk m c 8 t = V m c main_v2 := by
  funext j; show V m c main_v2 (((cfg0.win 8).blk t).view.emb j) = V m c main_v2 j; rw [emb8]

theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)
theorem emb9 (t : Fin cfg0.N) (j : S1x1x1.Idx) : ((cfg0.win 9).blk t).view.emb j = (ix3 (⟨t.val, t.isLt⟩ : Fin 8) (j 1) (j 2)) := by
  obtain ⟨e0, e1, e2⟩ := idx9 t
  funext a; apply Fin.ext
  match a with
  | ⟨0, _⟩ => show win0_9.index t (0 : Fin 3) * 1 + 1 * (j 0).val = t.val; have : (j 0).val < 1 := (j 0).isLt; omega
  | ⟨1, _⟩ => show win0_9.index t (1 : Fin 3) * 1 + 1 * (j 1).val = (j 1).val; omega
  | ⟨2, _⟩ => show win0_9.index t (2 : Fin 3) * 1 + 1 * (j 2).val = (j 2).val; omega
/-- The loss of image `b`, as the region computes it from the arrays it finds. -/
def image (c : Dev nD) (b : Fin 8) : F .f32 :=
  step (F := F) (fun j => V m c main_v3 (ix3 b (j 1) (j 2))) (fun j => V m c main_v4 (ix3 b (j 1) (j 2))) (fun j => V m c main_v5 (ix3 b (j 1) (j 2)))
    (fun j => V m c main_arg3 (ix3 b (j 1) (j 2))) (fun j => V m c main_v39 (ix3 b (j 1) (j 2))) (fun j => V m c main_v6 (ix3 b (j 1) (j 2)))
    (V m c main_v0) (V m c main_v1) (V m c main_v2) (ix3 0 0 0)

/-- The array the region leaves: one loss per image. -/
def losses (c : Dev nD) : Vec F S8x1x1 .f32 := fun i => image m c (i 0)

theorem flushed9_eq (c : Dev nD) (t : Fin cfg0.N) :
    (dats m 0 c).flushed 9 t = ((cfg0.win 9).blk t).view.read (Elt F) (losses m c) := by
  have e : (dats m 0 c).flushed 9 t = (cfg0.win 9).cut (grid0.coords t) (outsAt0 m c t) := by
    unfold Pipeline.Dat.flushed; rw [after0_9]
  rw [e]
  unfold outsAt0
  rw [out_step, iblk0_eq, iblk1_eq, iblk2_eq, iblk3_eq, iblk4_eq, iblk5_eq, iblk6_eq, iblk7_eq, iblk8_eq]
  funext j
  show step _ _ _ _ _ _ _ _ _ j = losses m c (((cfg0.win 9).blk t).view.emb j)
  rw [emb9]
  have hj : j = ix3 (n0 := 1) (n1 := 1) (n2 := 1) 0 0 0 := by
    funext a; apply Fin.ext
    match a with
    | ⟨0, _⟩ => have : (j 0).val < 1 := (j 0).isLt; show (j 0).val = 0; omega
    | ⟨1, _⟩ => have : (j 1).val < 1 := (j 1).isLt; show (j 1).val = 0; omega
    | ⟨2, _⟩ => have : (j 2).val < 1 := (j 2).isLt; show (j 2).val = 0; omega
  rw [hj]
  rfl

theorem covered9 (i : S8x1x1.Idx) :
    ∃ t : Fin cfg0.N, (cfg0.win 9).flush t = true ∧ i ∈ ((cfg0.win 9).blk t).view.set := by
  refine ⟨(⟨(i 0).val, (i 0).isLt⟩ : Fin cfg0.N), ?_, ?_⟩
  · exact (by decide +kernel : ∀ t : Fin cfg0.N, (cfg0.win 9).flush t = true) _
  · have h := ((cfg0.win 9).blk (⟨(i 0).val, (i 0).isLt⟩ : Fin cfg0.N)).view.emb_mem_set (ix3 (n0 := 1) (n1 := 1) (n2 := 1) 0 0 0)
    rw [emb9] at h
    have e : i = ix3 (n0 := 8) (n1 := 1) (n2 := 1) (i 0) 0 0 := by
      funext a; apply Fin.ext
      match a with
      | ⟨0, _⟩ => rfl
      | ⟨1, _⟩ => have : (i 1).val < 1 := (i 1).isLt; show (i 1).val = 0; omega
      | ⟨2, _⟩ => have : (i 2).val < 1 := (i 2).isLt; show (i 2).val = 0; omega
    rw [e]; exact h

theorem final9 (c : Dev nD) : (dats m 0 c).arrAt 9 cfg0.N = losses m c :=
  (dats m 0 c).arrAt_eq_of_cover 9 (losses m c) (fun t _ => flushed9_eq m c t) covered9

/-- The scalar the program ends with. -/
def total (c : Dev nD) : Vec F S_ .f32 :=
  Host.divf (Host.reduceAdd (losses m c) (constant S_ .f32 0x00000000#32) reducesTo_S8x1x1_S_d0_1_2 h_S_) (constant S_ .f32 0x41000000#32)

theorem after_total (c : Dev nD) : Pipeline.afterTail₀ cfgs (dats m) 0 (V0 m) [hostOps1] c main_v42 = total m c := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.tc.devRef main_v40)
      = losses m c from (Pipeline.withArrays_arr (cfgs 0).spec (by exact (by decide : Function.Injective (Pipeline.arrRef spec0))) c (V0 m c) (fun w => (dats m 0 c).arrAt w (cfgs 0).N) 9).trans (final9 m c)]
  rfl

theorem run_total : θ_run defs (onTc (τ := τ) (main (F := F))) ⟨m, fun _ => 0, ρ⟩ (fun r => ∀ c : Dev nD,
      r.2.mem ((c.tc : Thread nD τ).loc main_v42) = total m c) :=
  (θ_run defs _ _).mono (fun r h c => ((h c).2 main_v42 (by decide)).trans (after_total m c)) (run_main m ρ)

end Cert.Loss
end
-- ==== Proof.KernelHost.lean ====
module

public import proofs.«01_k».proof.Proof.KernelArr
public import Idealize.ShloMosaic.Lib.Pointwise
public import Idealize.ShloMosaic.Lib.VecWindow
public import Idealize.ShloMosaic.Lib.Pipeline.ValueKit.Basic

@[expose] public section

set_option maxRecDepth 16384
set_option maxHeartbeats 4000000

noncomputable section

namespace Cert.Loss

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

/-! # The arrays the region finds, read entry by entry -/

variable (m : (ℓ : Loc nD τ sig) → Buf (Elt Ideal) ℓ) (c : Dev nD)

/-- An entry of the boxes. -/
def boxes (b : Fin 8) (g : Fin 30) (k : Fin 4) : EReal := m ((c : Thread nD τ).loc main_arg3) (ix3 b g k)

theorem V_v0 (a : Fin 5376) : V m c main_v0 (ix2 0 a) = Ideal.ofBits .f32 (lit0 a) := by
  change StableHlo.after (List.flatten [hostOps0]) (fun b => m (c, b)) (Proc.devRef .tc main_v0) _ = _
  simp only [hostOps0, List.flatten_cons, List.flatten_nil, List.append_nil]
  after_results
  change broadcastInDim (α := EReal) S1x5376 ![1] bcast_S5376_S1x5376_1 (fun i => Ideal.ofBits .f32 (lit0 (S5376.rowMajor i))) _ = _
  pointwise []
  exact congrArg (fun k => Ideal.ofBits .f32 (lit0 k)) (Fin.ext (Shape.rowMajor_val_one _))

theorem V_v1 (a : Fin 5376) : V m c main_v1 (ix2 0 a) = Ideal.ofBits .f32 (lit1 a) := by
  change StableHlo.after (List.flatten [hostOps0]) (fun b => m (c, b)) (Proc.devRef .tc main_v1) _ = _
  simp only [hostOps0, List.flatten_cons, List.flatten_nil, List.append_nil]
  after_results
  change broadcastInDim (α := EReal) S1x5376 ![1] bcast_S5376_S1x5376_1 (fun i => Ideal.ofBits .f32 (lit1 (S5376.rowMajor i))) _ = _
  pointwise []
  exact congrArg (fun k => Ideal.ofBits .f32 (lit1 k)) (Fin.ext (Shape.rowMajor_val_one _))

theorem V_v2 (a : Fin 5376) : V m c main_v2 (ix2 0 a) = Ideal.ofBits .f32 (lit2 a) := by
  change StableHlo.after (List.flatten [hostOps0]) (fun b => m (c, b)) (Proc.devRef .tc main_v2) _ = _
  simp only [hostOps0, List.flatten_cons, List.flatten_nil, List.append_nil]
  after_results
  change broadcastInDim (α := EReal) S1x5376 ![1] bcast_S5376_S1x5376_1 (fun i => Ideal.ofBits .f32 (lit2 (S5376.rowMajor i))) _ = _
  pointwise []
  exact congrArg (fun k => Ideal.ofBits .f32 (lit2 k)) (Fin.ext (Shape.rowMajor_val_one _))

theorem V_v3 (b : Fin 8) (k : Fin 85) (q : Fin 4096) : V m c main_v3 (ix3 b k q) = m ((c : Thread nD τ).loc main_arg0) (ix4 b k (⟨q.val / 64, by omega⟩ : Fin 64) (⟨q.val % 64, by omega⟩ : Fin 64)) := by
  change StableHlo.after (List.flatten [hostOps0]) (fun b => m (c, b)) (Proc.devRef .tc main_v3) _ = _
  simp only [hostOps0, List.flatten_cons, List.flatten_nil, List.append_nil]
  after_results
  show shapeCast S8x85x4096 (m (c, Proc.tc.devRef main_arg0) : (⟨S8x85x64x64, .f32⟩ : BufTy).Contents (Elt Ideal)) shapeCasts_S8x85x64x64_S8x85x4096 (ix3 b k q) = _
  pointwise []

theorem V_v4 (b : Fin 8) (k : Fin 85) (q : Fin 1024) : V m c main_v4 (ix3 b k q) = m ((c : Thread nD τ).loc main_arg1) (ix4 b k (⟨q.val / 32, by omega⟩ : Fin 32) (⟨q.val % 32, by omega⟩ : Fin 32)) := by
  change StableHlo.after (List.flatten [hostOps0]) (fun b => m (c, b)) (Proc.devRef .tc main_v4) _ = _
  simp only [hostOps0, List.flatten_cons, List.flatten_nil, List.append_nil]
  after_results
  show shapeCast S8x85x1024 (m (c, Proc.tc.devRef main_arg1) : (⟨S8x85x32x32, .f32⟩ : BufTy).Contents (Elt Ideal)) shapeCasts_S8x85x32x32_S8x85x1024 (ix3 b k q) = _
  pointwise []

theorem V_v5 (b : Fin 8) (k : Fin 85) (q : Fin 256) : V m c main_v5 (ix3 b k q) = m ((c : Thread nD τ).loc main_arg2) (ix4 b k (⟨q.val / 16, by omega⟩ : Fin 16) (⟨q.val % 16, by omega⟩ : Fin 16)) := by
  change StableHlo.after (List.flatten [hostOps0]) (fun b => m (c, b)) (Proc.devRef .tc main_v5) _ = _
  simp only [hostOps0, List.flatten_cons, List.flatten_nil, List.append_nil]
  after_results
  show shapeCast S8x85x256 (m (c, Proc.tc.devRef main_arg2) : (⟨S8x85x16x16, .f32⟩ : BufTy).Contents (Elt Ideal)) shapeCasts_S8x85x16x16_S8x85x256 (ix3 b k q) = _
  pointwise []

theorem V_v6 (b : Fin 8) (g : Fin 30) : V m c main_v6 (ix3 b 0 g) = m ((c : Thread nD τ).loc main_arg4) (ix2 b g) := by
  change StableHlo.after (List.flatten [hostOps0]) (fun b => m (c, b)) (Proc.devRef .tc main_v6) _ = _
  simp only [hostOps0, List.flatten_cons, List.flatten_nil, List.append_nil]
  after_results
  show shapeCast S8x1x30 (m (c, Proc.tc.devRef main_arg4) : (⟨S8x30, .i32⟩ : BufTy).Contents (Elt Ideal)) shapeCasts_S8x30_S8x1x30 (ix3 b 0 g) = _
  pointwise []

theorem V_v39 : V m c main_v39 = concatenate S8x4x30 1 [⟨S8x1x30, V m c main_v35⟩, ⟨S8x1x30, V m c main_v36⟩, ⟨S8x1x30, V m c main_v37⟩, ⟨S8x1x30, V m c main_v38⟩] concatenates_S8x1x30_S8x1x30_S8x1x30_S8x1x30_S8x4x30_d1 := by
  change StableHlo.after (List.flatten [hostOps0]) (fun b => m (c, b)) (Proc.devRef .tc main_v39)  = _
  simp only [hostOps0, List.flatten_cons, List.flatten_nil, List.append_nil]
  after_results
  rfl

theorem V_v35 (b : Fin 8) (g : Fin 30) : (V m c main_v35 (ix3 b 0 g) : EReal) =
    boxes m c b g 0 * Ideal.ofBits .f32 0x44000000#32 - Ideal.ofBits .f32 0x3F000000#32 * (boxes m c b g 2 * Ideal.ofBits .f32 0x44000000#32) := by
  change StableHlo.after (List.flatten [hostOps0]) (fun b => m (c, b)) (Proc.devRef .tc main_v35) _ = _
  simp only [hostOps0, List.flatten_cons, List.flatten_nil, List.append_nil]
  after_results
  change broadcastInDim (α := EReal) S8x1x30 ![0, 2] bcast_S8x30_S8x1x30_0_2
      (subf (F := Ideal) (φ := .f32) (mulf (shapeCast S8x30 (extractStridedSlice S8x30x1 ![0, 0, 0] (m (c, Proc.tc.devRef main_arg3)) slices_S8x30x4_S8x30x1_0_0_0) shapeCasts_S8x30x1_S8x30)
          (broadcastInDim S8x30 ![] bcast_S_S8x30 (constant S_ .f32 1140850688#32)))
        (mulf (broadcastInDim S8x30 ![] bcast_S_S8x30 (constant S_ .f32 1056964608#32))
          (mulf (shapeCast S8x30 (extractStridedSlice S8x30x1 ![0, 0, 2] (m (c, Proc.tc.devRef main_arg3)) slices_S8x30x4_S8x30x1_0_0_2) shapeCasts_S8x30x1_S8x30)
            (broadcastInDim S8x30 ![] bcast_S_S8x30 (constant S_ .f32 1140850688#32))))) (ix3 b 0 g) = _
  unfold boxes
  pointwise []

theorem V_v36 (b : Fin 8) (g : Fin 30) : (V m c main_v36 (ix3 b 0 g) : EReal) =
    boxes m c b g 0 * Ideal.ofBits .f32 0x44000000#32 + Ideal.ofBits .f32 0x3F000000#32 * (boxes m c b g 2 * Ideal.ofBits .f32 0x44000000#32) := by
  change StableHlo.after (List.flatten [hostOps0]) (fun b => m (c, b)) (Proc.devRef .tc main_v36) _ = _
  simp only [hostOps0, List.flatten_cons, List.flatten_nil, List.append_nil]
  after_results
  change broadcastInDim (α := EReal) S8x1x30 ![0, 2] bcast_S8x30_S8x1x30_0_2
      (addf (F := Ideal) (φ := .f32) (mulf (shapeCast S8x30 (extractStridedSlice S8x30x1 ![0, 0, 0] (m (c, Proc.tc.devRef main_arg3)) slices_S8x30x4_S8x30x1_0_0_0) shapeCasts_S8x30x1_S8x30)
          (broadcastInDim S8x30 ![] bcast_S_S8x30 (constant S_ .f32 1140850688#32)))
        (mulf (broadcastInDim S8x30 ![] bcast_S_S8x30 (constant S_ .f32 1056964608#32))
          (mulf (shapeCast S8x30 (extractStridedSlice S8x30x1 ![0, 0, 2] (m (c, Proc.tc.devRef main_arg3)) slices_S8x30x4_S8x30x1_0_0_2) shapeCasts_S8x30x1_S8x30)
            (broadcastInDim S8x30 ![] bcast_S_S8x30 (constant S_ .f32 1140850688#32))))) (ix3 b 0 g) = _
  unfold boxes
  pointwise []

theorem V_v37 (b : Fin 8) (g : Fin 30) : (V m c main_v37 (ix3 b 0 g) : EReal) =
    boxes m c b g 1 * Ideal.ofBits .f32 0x44000000#32 - Ideal.ofBits .f32 0x3F000000#32 * (boxes m c b g 3 * Ideal.ofBits .f32 0x44000000#32) := by
  change StableHlo.after (List.flatten [hostOps0]) (fun b => m (c, b)) (Proc.devRef .tc main_v37) _ = _
  simp only [hostOps0, List.flatten_cons, List.flatten_nil, List.append_nil]
  after_results
  change broadcastInDim (α := EReal) S8x1x30 ![0, 2] bcast_S8x30_S8x1x30_0_2
      (subf (F := Ideal) (φ := .f32) (mulf (shapeCast S8x30 (extractStridedSlice S8x30x1 ![0, 0, 1] (m (c, Proc.tc.devRef main_arg3)) slices_S8x30x4_S8x30x1_0_0_1) shapeCasts_S8x30x1_S8x30)
          (broadcastInDim S8x30 ![] bcast_S_S8x30 (constant S_ .f32 1140850688#32)))
        (mulf (broadcastInDim S8x30 ![] bcast_S_S8x30 (constant S_ .f32 1056964608#32))
          (mulf (shapeCast S8x30 (extractStridedSlice S8x30x1 ![0, 0, 3] (m (c, Proc.tc.devRef main_arg3)) slices_S8x30x4_S8x30x1_0_0_3) shapeCasts_S8x30x1_S8x30)
            (broadcastInDim S8x30 ![] bcast_S_S8x30 (constant S_ .f32 1140850688#32))))) (ix3 b 0 g) = _
  unfold boxes
  pointwise []

theorem V_v38 (b : Fin 8) (g : Fin 30) : (V m c main_v38 (ix3 b 0 g) : EReal) =
    boxes m c b g 1 * Ideal.ofBits .f32 0x44000000#32 + Ideal.ofBits .f32 0x3F000000#32 * (boxes m c b g 3 * Ideal.ofBits .f32 0x44000000#32) := by
  change StableHlo.after (List.flatten [hostOps0]) (fun b => m (c, b)) (Proc.devRef .tc main_v38) _ = _
  simp only [hostOps0, List.flatten_cons, List.flatten_nil, List.append_nil]
  after_results
  change broadcastInDim (α := EReal) S8x1x30 ![0, 2] bcast_S8x30_S8x1x30_0_2
      (addf (F := Ideal) (φ := .f32) (mulf (shapeCast S8x30 (extractStridedSlice S8x30x1 ![0, 0, 1] (m (c, Proc.tc.devRef main_arg3)) slices_S8x30x4_S8x30x1_0_0_1) shapeCasts_S8x30x1_S8x30)
          (broadcastInDim S8x30 ![] bcast_S_S8x30 (constant S_ .f32 1140850688#32)))
        (mulf (broadcastInDim S8x30 ![] bcast_S_S8x30 (constant S_ .f32 1056964608#32))
          (mulf (shapeCast S8x30 (extractStridedSlice S8x30x1 ![0, 0, 3] (m (c, Proc.tc.devRef main_arg3)) slices_S8x30x4_S8x30x1_0_0_3) shapeCasts_S8x30x1_S8x30)
            (broadcastInDim S8x30 ![] bcast_S_S8x30 (constant S_ .f32 1140850688#32))))) (ix3 b 0 g) = _
  unfold boxes
  pointwise []

theorem V_v39_0 (b : Fin 8) (g : Fin 30) : V m c main_v39 (ix3 b 0 g) = V m c main_v35 (ix3 b 0 g) := by
  rw [V_v39]
  pointwise []

theorem V_v39_1 (b : Fin 8) (g : Fin 30) : V m c main_v39 (ix3 b 1 g) = V m c main_v36 (ix3 b 0 g) := by
  rw [V_v39]
  pointwise []

theorem V_v39_2 (b : Fin 8) (g : Fin 30) : V m c main_v39 (ix3 b 2 g) = V m c main_v37 (ix3 b 0 g) := by
  rw [V_v39]
  pointwise []

theorem V_v39_3 (b : Fin 8) (g : Fin 30) : V m c main_v39 (ix3 b 3 g) = V m c main_v38 (ix3 b 0 g) := by
  rw [V_v39]
  pointwise []

end Cert.Loss
end
-- ==== Proof.Reals.lean ====
/- Arithmetic of extended reals that are real numbers, and the single precision literals of the programs as reals. -/
module

public import Idealize.ShloMosaic.Lib.Pointwise

@[expose] public section

noncomputable section

namespace Cert.Loss

open Idealize.ShloMosaic

/-- The real number a single precision pattern denotes (0 for an infinity or a NaN pattern). -/
def lit (w : BitVec 32) : ℝ := (Ideal.ofBits .f32 w).toReal

/-- A pattern whose exponent is not all ones denotes a real number. -/
theorem ofBits_lit (w : BitVec 32) (h : (w.extractLsb' 23 8).toNat ≠ 255) : Ideal.ofBits .f32 w = ((lit w : ℝ) : EReal) := by
  have key : ∃ r : ℝ, Ideal.ofBits .f32 w = (r : EReal) := by
    simp only [Ideal.ofBits, Ideal.ieee]
    rw [if_neg (by simpa using h)]
    split
    · exact ⟨_, rfl⟩
    · exact ⟨_, rfl⟩
  obtain ⟨r, hr⟩ := key
  rw [lit, hr, EReal.toReal_coe]

theorem lit_eq (w : BitVec 32) (r : ℝ) (h : Ideal.ofBits .f32 w = (r : EReal)) : lit w = r := by
  rw [lit, h, EReal.toReal_coe]

theorem lit_normal (w : BitVec 32) (m : ℕ) (e : ℤ) (hs : (w.extractLsb' 31 1 == 1#1) = false) (h : (w.extractLsb' 23 8).toNat ≠ 255)
    (h0 : (w.extractLsb' 23 8).toNat ≠ 0) (hm : 2 ^ 23 + (w.extractLsb' 0 23).toNat = m)
    (he : ((w.extractLsb' 23 8).toNat : ℤ) - 127 - 23 = e) : lit w = (m : ℝ) * 2 ^ e := by
  apply lit_eq
  simp only [Ideal.ofBits, Ideal.ieee]
  rw [if_neg (by simpa using h), if_neg h0]
  have hs' : (w.extractLsb' (8 + 23) 1 == 1#1) = false := hs
  rw [hs', ← hm, ← he]
  norm_num

theorem lit_pos (w : BitVec 32) (hs : (w.extractLsb' 31 1 == 1#1) = false) (h : (w.extractLsb' 23 8).toNat ≠ 255)
    (h0 : (w.extractLsb' 23 8).toNat ≠ 0) : 0 < lit w := by
  rw [lit_normal w _ _ hs h h0 rfl rfl]
  positivity

theorem lit_half : lit 0x3F000000#32 = 1 / 2 := by
  rw [lit_normal _ (2 ^ 23) (-24) (by decide) (by decide) (by decide) (by decide) (by decide)]; norm_num
theorem lit_two : lit 0x40000000#32 = 2 := by
  rw [lit_normal _ (2 ^ 23) (-22) (by decide) (by decide) (by decide) (by decide) (by decide)]; norm_num
theorem lit_512 : lit 0x44000000#32 = 512 := by
  rw [lit_normal _ (2 ^ 23) (-14) (by decide) (by decide) (by decide) (by decide) (by decide)]; norm_num
theorem lit_eight : lit 0x41000000#32 = 8 := by
  rw [lit_normal _ (2 ^ 23) (-20) (by decide) (by decide) (by decide) (by decide) (by decide)]; norm_num
theorem lit_sixteen : lit 0x41800000#32 = 16 := by
  rw [lit_normal _ (2 ^ 23) (-19) (by decide) (by decide) (by decide) (by decide) (by decide)]; norm_num
theorem lit_thirtytwo : lit 0x42000000#32 = 32 := by
  rw [lit_normal _ (2 ^ 23) (-18) (by decide) (by decide) (by decide) (by decide) (by decide)]; norm_num
theorem lit_eighty : lit 0x42A00000#32 = 80 := by
  rw [lit_normal _ 10485760 (-17) (by decide) (by decide) (by decide) (by decide) (by decide)]; norm_num
theorem lit_5376 : lit 0x45A80000#32 = 5376 := by
  rw [lit_normal _ 11010048 (-11) (by decide) (by decide) (by decide) (by decide) (by decide)]; norm_num
theorem lit_zero : lit 0x00000000#32 = 0 := lit_eq _ _ (by rw [Ideal.ofBits_zero_f32]; rfl)
theorem lit_one : lit 0x3F800000#32 = 1 := lit_eq _ _ (by rw [Ideal.ofBits_one_f32]; rfl)
theorem lit_neg_one : lit 0xBF800000#32 = -1 := by
  apply lit_eq
  simp only [Ideal.ofBits, Ideal.ieee]
  rw [if_neg (by decide), if_neg (by decide)]
  have h1 : (BitVec.extractLsb' (8 + 23) 1 (0xBF800000#32) == 1#1) = true := by decide
  have h2 : (BitVec.extractLsb' 23 8 (0xBF800000#32)).toNat = 127 := by decide
  have h3 : (BitVec.extractLsb' 0 23 (0xBF800000#32)).toNat = 0 := by decide
  rw [h1, h2, h3]
  norm_num

/-- The penalty a pair that is no candidate pays. -/
theorem lit_penalty : lit 0x47C35000#32 = 100000 := by
  rw [lit_normal _ 12800000 (-7) (by decide) (by decide) (by decide) (by decide) (by decide)]; norm_num

/-- The smallness the programs add or clip by: the single precision number nearest 1e-7. -/
def e7 : ℝ := lit 0x33D6BF95#32
theorem e7_pos : 0 < e7 := lit_pos _ (by decide) (by decide) (by decide)

theorem ofBits_inf : Ideal.ofBits .f32 0x7F800000#32 = ⊤ := by simp [Ideal.ofBits, Ideal.ieee]
theorem ofBits_neg_inf : Ideal.ofBits .f32 0xFF800000#32 = ⊥ := by simp [Ideal.ofBits, Ideal.ieee]

/-! The programs' literals as reals. -/
theorem bits_half : Ideal.ofBits .f32 0x3F000000#32 = ((1 / 2 : ℝ) : EReal) := by rw [ofBits_lit _ (by decide), lit_half]
theorem bits_two : Ideal.ofBits .f32 0x40000000#32 = ((2 : ℝ) : EReal) := by rw [ofBits_lit _ (by decide), lit_two]
theorem bits_512 : Ideal.ofBits .f32 0x44000000#32 = ((512 : ℝ) : EReal) := by rw [ofBits_lit _ (by decide), lit_512]
theorem bits_eight : Ideal.ofBits .f32 0x41000000#32 = ((8 : ℝ) : EReal) := by rw [ofBits_lit _ (by decide), lit_eight]
theorem bits_sixteen : Ideal.ofBits .f32 0x41800000#32 = ((16 : ℝ) : EReal) := by rw [ofBits_lit _ (by decide), lit_sixteen]
theorem bits_thirtytwo : Ideal.ofBits .f32 0x42000000#32 = ((32 : ℝ) : EReal) := by rw [ofBits_lit _ (by decide), lit_thirtytwo]
theorem bits_eighty : Ideal.ofBits .f32 0x42A00000#32 = ((80 : ℝ) : EReal) := by rw [ofBits_lit _ (by decide), lit_eighty]
theorem bits_5376 : Ideal.ofBits .f32 0x45A80000#32 = ((5376 : ℝ) : EReal) := by rw [ofBits_lit _ (by decide), lit_5376]
theorem bits_zero : Ideal.ofBits .f32 0x00000000#32 = ((0 : ℝ) : EReal) := by rw [ofBits_lit _ (by decide), lit_zero]
theorem bits_one : Ideal.ofBits .f32 0x3F800000#32 = ((1 : ℝ) : EReal) := by rw [ofBits_lit _ (by decide), lit_one]
theorem bits_neg_one : Ideal.ofBits .f32 0xBF800000#32 = ((-1 : ℝ) : EReal) := by rw [ofBits_lit _ (by decide), lit_neg_one]
theorem bits_e7 : Ideal.ofBits .f32 0x33D6BF95#32 = ((e7 : ℝ) : EReal) := ofBits_lit _ (by decide)
theorem bits_penalty : Ideal.ofBits .f32 0x47C35000#32 = ((100000 : ℝ) : EReal) := by rw [ofBits_lit _ (by decide), lit_penalty]
theorem bits_area_min : Ideal.ofBits .f32 0x404CCCCD#32 = ((lit 0x404CCCCD#32 : ℝ) : EReal) := ofBits_lit _ (by decide)
theorem bits_area_max : Ideal.ofBits .f32 0x43A00000#32 = ((lit 0x43A00000#32 : ℝ) : EReal) := ofBits_lit _ (by decide)
theorem bits_three : Ideal.ofBits .f32 0x40400000#32 = ((lit 0x40400000#32 : ℝ) : EReal) := ofBits_lit _ (by decide)
theorem bits_fifth : Ideal.ofBits .f32 0x3E4CCCCD#32 = ((lit 0x3E4CCCCD#32 : ℝ) : EReal) := ofBits_lit _ (by decide)
theorem bits_tenth : Ideal.ofBits .f32 0x3DCCCCCD#32 = ((lit 0x3DCCCCCD#32 : ℝ) : EReal) := ofBits_lit _ (by decide)
theorem bits_five : Ideal.ofBits .f32 0x40A00000#32 = ((lit 0x40A00000#32 : ℝ) : EReal) := ofBits_lit _ (by decide)
theorem bits_scale : Ideal.ofBits .f32 0x3F7309B9#32 = ((lit 0x3F7309B9#32 : ℝ) : EReal) := ofBits_lit _ (by decide)
theorem bits_off : Ideal.ofBits .f32 0x3A25E9F7#32 = ((lit 0x3A25E9F7#32 : ℝ) : EReal) := ofBits_lit _ (by decide)
theorem bits_t1 : Ideal.ofBits .f32 0x401A827A#32 = ((lit 0x401A827A#32 : ℝ) : EReal) := ofBits_lit _ (by decide)
theorem bits_t2 : Ideal.ofBits .f32 0x3ED413CD#32 = ((lit 0x3ED413CD#32 : ℝ) : EReal) := ofBits_lit _ (by decide)
theorem bits_q0 : Ideal.ofBits .f32 0x3DA4F0D1#32 = ((lit 0x3DA4F0D1#32 : ℝ) : EReal) := ofBits_lit _ (by decide)
theorem bits_q1 : Ideal.ofBits .f32 0x3E0E1B85#32 = ((lit 0x3E0E1B85#32 : ℝ) : EReal) := ofBits_lit _ (by decide)
theorem bits_q2 : Ideal.ofBits .f32 0x3E4C925F#32 = ((lit 0x3E4C925F#32 : ℝ) : EReal) := ofBits_lit _ (by decide)
theorem bits_q3 : Ideal.ofBits .f32 0x3EAAAA2A#32 = ((lit 0x3EAAAA2A#32 : ℝ) : EReal) := ofBits_lit _ (by decide)
theorem bits_pi4 : Ideal.ofBits .f32 0x3F490FDB#32 = ((lit 0x3F490FDB#32 : ℝ) : EReal) := ofBits_lit _ (by decide)
theorem bits_pi2 : Ideal.ofBits .f32 0x3FC90FDB#32 = ((lit 0x3FC90FDB#32 : ℝ) : EReal) := ofBits_lit _ (by decide)
theorem bits_vc : Ideal.ofBits .f32 0x3ECF817B#32 = ((lit 0x3ECF817B#32 : ℝ) : EReal) := ofBits_lit _ (by decide)

/-! Operations on reals, read back as a real. -/
theorem emax (a b : ℝ) : max (a : EReal) (b : EReal) = ((max a b : ℝ) : EReal) := (EReal.coe_strictMono.monotone.map_max).symm
theorem emin (a b : ℝ) : min (a : EReal) (b : EReal) = ((min a b : ℝ) : EReal) := (EReal.coe_strictMono.monotone.map_min).symm
theorem ediv (a b : ℝ) (h : b ≠ 0) : Ideal.div (a : EReal) (b : EReal) = ((a / b : ℝ) : EReal) := by
  rw [Ideal.div_coe h, ← EReal.coe_mul]; congr 1; ring
theorem eexp (a : ℝ) : Ideal.exp (a : EReal) = ((Real.exp a : ℝ) : EReal) := rfl
theorem elog (a : ℝ) (h : 0 < a) : Ideal.log (a : EReal) = ((Real.log a : ℝ) : EReal) := by
  show (if a ≤ 0 then (⊥ : EReal) else _) = _
  rw [if_neg (not_le.mpr h)]
theorem elog1p (a : ℝ) (h : 0 < 1 + a) : Ideal.log1p (a : EReal) = ((Real.log (1 + a) : ℝ) : EReal) := by
  rw [Ideal.log1p, ← EReal.coe_one, ← EReal.coe_add, elog _ h]
theorem esqrt (a : ℝ) (h : 0 ≤ a) : Ideal.sqrt (a : EReal) = ((Real.sqrt a : ℝ) : EReal) := by
  show (if a < 0 then (⊥ : EReal) else _) = _
  rw [if_neg (not_lt.mpr h)]
theorem eabs (a : ℝ) : max (a : EReal) (-(a : EReal)) = ((|a| : ℝ) : EReal) := by
  rw [← EReal.coe_neg, emax]; rfl
theorem eadd (a b : ℝ) : (a : EReal) + (b : EReal) = ((a + b : ℝ) : EReal) := (EReal.coe_add a b).symm
theorem esub (a b : ℝ) : (a : EReal) - (b : EReal) = ((a - b : ℝ) : EReal) := (EReal.coe_sub a b).symm
theorem emul (a b : ℝ) : (a : EReal) * (b : EReal) = ((a * b : ℝ) : EReal) := (EReal.coe_mul a b).symm
theorem eneg (a : ℝ) : -(a : EReal) = ((-a : ℝ) : EReal) := (EReal.coe_neg a).symm
theorem ezero : (0 : EReal) = ((0 : ℝ) : EReal) := rfl
theorem eone : (1 : EReal) = ((1 : ℝ) : EReal) := rfl
theorem esum {ι : Type} (s : Finset ι) (f : ι → ℝ) : ∑ i ∈ s, ((f i : ℝ) : EReal) = ((∑ i ∈ s, f i : ℝ) : EReal) :=
  (map_sum (⟨⟨fun x : ℝ => (x : EReal), EReal.coe_zero⟩, EReal.coe_add⟩ : ℝ →+ EReal) f s).symm
theorem eite (c : Prop) [Decidable c] (a b : ℝ) : (if c then (a : EReal) else (b : EReal)) = ((if c then a else b : ℝ) : EReal) := by
  split <;> rfl

end Cert.Loss

end
-- ==== Proof.Model.lean ====
/- The loss of one image over the real numbers, written out once: what the kernel and the reference both compute. -/
module

public import proofs.«01_k».proof.Proof.Reals

@[expose] public section

noncomputable section

namespace Cert.Loss

open Classical

/-- Stride of an anchor, in pixels. -/
def stN (a : ℕ) : ℕ := if a < 4096 then 8 else if a < 5120 then 16 else 32
/-- Horizontal centre of an anchor, in pixels. -/
def axN (a : ℕ) : ℕ := if a < 4096 then 8 * (a % 64) + 4 else if a < 5120 then 16 * ((a - 4096) % 32) + 8 else 32 * ((a - 5120) % 16) + 16
/-- Vertical centre of an anchor, in pixels. -/
def ayN (a : ℕ) : ℕ := if a < 4096 then 8 * (a / 64) + 4 else if a < 5120 then 16 * ((a - 4096) / 32) + 8 else 32 * ((a - 5120) / 16) + 16

abbrev Anc := Fin 5376
abbrev Obj := Fin 30

def st (a : Anc) : ℝ := (stN a.val : ℝ)
def ax (a : Anc) : ℝ := (axN a.val : ℝ)
def ay (a : Anc) : ℝ := (ayN a.val : ℝ)

theorem st_pos (a : Anc) : 0 < st a := by
  unfold st stN
  split_ifs <;> norm_num

/-- The sigmoid. -/
def sg (x : ℝ) : ℝ := 1 / (1 + Real.exp (-x))
theorem sg_pos (x : ℝ) : 0 < sg x := by unfold sg; positivity
theorem sg_lt_one (x : ℝ) : sg x < 1 := by
  unfold sg
  rw [div_lt_one (by positivity)]
  linarith [Real.exp_pos (-x)]
/-- The softplus. -/
def sp (x : ℝ) : ℝ := max x 0 + Real.log (1 + Real.exp (-|x|))

/-- The arctangent of a positive number as the programs evaluate it. -/
def atn (x : ℝ) : ℝ :=
  let y := if lit 0x401A827A#32 < x then -1 / x else if lit 0x3ED413CD#32 < x then (x - 1) / (x + 1) else x
  let y0 := if lit 0x401A827A#32 < x then lit 0x3FC90FDB#32 else if lit 0x3ED413CD#32 < x then lit 0x3F490FDB#32 else 0
  let z := y * y
  let q := ((lit 0x3DA4F0D1#32 * z - lit 0x3E0E1B85#32) * z + lit 0x3E4C925F#32) * z - lit 0x3EAAAA2A#32
  y0 + (y + q * z * y)

/-- Binary cross entropy of a logit. -/
def bce (x t : ℝ) : ℝ := max x 0 - x * t + Real.log (1 + Real.exp (-|x|))

/-- The data of one image: the 85 channels at every anchor, the boxes and the labels of its 30 objects. -/
structure Img where
  P : Fin 85 → Anc → ℝ
  B : Obj → Fin 4 → ℝ
  lab : Obj → Fin 80

namespace Img

variable (D : Img)

def cx (a : Anc) : ℝ := (2 * sg (D.P 0 a) - 1) * st a + ax a
def cy (a : Anc) : ℝ := (2 * sg (D.P 1 a) - 1) * st a + ay a
def pw (a : Anc) : ℝ := sp (D.P 2 a) * st a
def ph (a : Anc) : ℝ := sp (D.P 3 a) * st a
def px1 (a : Anc) : ℝ := D.cx a - 1 / 2 * D.pw a
def px2 (a : Anc) : ℝ := D.cx a + 1 / 2 * D.pw a
def py1 (a : Anc) : ℝ := D.cy a - 1 / 2 * D.ph a
def py2 (a : Anc) : ℝ := D.cy a + 1 / 2 * D.ph a
def obj (a : Anc) : ℝ := D.P 4 a
def cl (k : Fin 80) (a : Anc) : ℝ := D.P ⟨5 + k.val, by omega⟩ a

def gcx (g : Obj) : ℝ := D.B g 0 * 512
def gcy (g : Obj) : ℝ := D.B g 1 * 512
def gww (g : Obj) : ℝ := D.B g 2 * 512
def ghh (g : Obj) : ℝ := D.B g 3 * 512
def gx1 (g : Obj) : ℝ := D.gcx g - 1 / 2 * D.gww g
def gx2 (g : Obj) : ℝ := D.gcx g + 1 / 2 * D.gww g
def gy1 (g : Obj) : ℝ := D.gcy g - 1 / 2 * D.ghh g
def gy2 (g : Obj) : ℝ := D.gcy g + 1 / 2 * D.ghh g
def gw (g : Obj) : ℝ := max (D.gx2 g - D.gx1 g) e7
def gh (g : Obj) : ℝ := max (D.gy2 g - D.gy1 g) e7
def dx (g : Obj) (a : Anc) : ℝ := |ax a - D.gcx g|
def dy (g : Obj) (a : Anc) : ℝ := |ay a - D.gcy g|

def gate (g : Obj) (a : Anc) : Prop :=
  lit 0x404CCCCD#32 ≤ D.gw g * D.gh g / (st a * st a) ∧ D.gw g * D.gh g / (st a * st a) ≤ lit 0x43A00000#32
def inCenter (g : Obj) (a : Anc) : Prop := D.dx g a < 2 * st a ∧ D.dy g a < 2 * st a
def inBox (g : Obj) (a : Anc) : Prop := ((D.gx1 g < ax a ∧ ax a < D.gx2 g) ∧ D.gy1 g < ay a) ∧ ay a < D.gy2 g
/-- Which anchors an object may be matched with. -/
def cand (g : Obj) (a : Anc) : Prop := D.gate g a ∧ (D.inCenter g a ∨ D.inBox g a)

def a1 (g : Obj) : ℝ := max (D.gx2 g - D.gx1 g) 0 * max (D.gy2 g - D.gy1 g) 0
def a2 (a : Anc) : ℝ := max (D.px2 a - D.px1 a) 0 * max (D.py2 a - D.py1 a) 0
def inter (g : Obj) (a : Anc) : ℝ :=
  max (min (D.gx2 g) (D.px2 a) - max (D.gx1 g) (D.px1 a)) 0 * max (min (D.gy2 g) (D.py2 a) - max (D.gy1 g) (D.py1 a)) 0
def iou (g : Obj) (a : Anc) : ℝ := min (max (D.inter g a / (D.a1 g + D.a2 a - D.inter g a + e7)) 0) 1

def pob (a : Anc) : ℝ := sg (D.obj a)
/-- Joint probability of a class at an anchor. -/
def pp (k : Fin 80) (a : Anc) : ℝ := sg (D.cl k a) * D.pob a
def clsCost (g : Obj) (a : Anc) : ℝ :=
  -(∑ k : Fin 80, if D.lab g = k then Real.log (D.pp k a + e7) else Real.log (1 - D.pp k a + e7))
def pwc (a : Anc) : ℝ := max (D.px2 a - D.px1 a) e7
def phc (a : Anc) : ℝ := max (D.py2 a - D.py1 a) e7
def size (g : Obj) (a : Anc) : ℝ :=
  |Real.log (D.pwc a) - Real.log (D.gw g)| + |Real.log (D.phc a) - Real.log (D.gh g)|
def aspect (g : Obj) (a : Anc) : ℝ :=
  |(Real.log (D.pwc a) - Real.log (D.phc a)) - (Real.log (D.gw g) - Real.log (D.gh g))|
def center (g : Obj) (a : Anc) : ℝ := Real.sqrt (D.dx g a * D.dx g a + D.dy g a * D.dy g a) / st a
def pen (g : Obj) (a : Anc) : ℝ := if D.cand g a then 0 else 100000
/-- The assignment cost of a pair. -/
def cost (g : Obj) (a : Anc) : ℝ :=
  lit 0x40400000#32 * (1 - D.iou g a) + 1 / 2 * D.clsCost g a + lit 0x3E4CCCCD#32 * D.size g a
    + lit 0x3DCCCCCD#32 * D.aspect g a + 1 / 2 * D.center g a + D.pen g a

/-- The overlap counted for a pair: that of a candidate, and 0 otherwise. -/
def ov (g : Obj) (a : Anc) : ℝ := if D.cand g a then D.iou g a else 0
/-- The sum of the 20 greatest overlaps of an object. -/
def topSum (g : Obj) : ℝ := ∑ a : Anc, if (Finset.univ.filter fun a' => D.ov g a < D.ov g a').card < 20 then D.ov g a else 0
/-- How many anchors an object is given. -/
def dynK (g : Obj) : ℕ := (min (max ⌊D.topSum g⌋ 1) 20).toNat
/-- The anchors an object is given: its cheapest candidates. -/
def matched (g : Obj) (a : Anc) : Prop :=
  D.cand g a ∧ (Finset.univ.filter fun a' => D.cost g a' < D.cost g a).card < D.dynK g
def fg (a : Anc) : Prop := ∃ g, D.matched g a
/-- The cheapest object an anchor is given to. -/
def best (a : Anc) : Obj :=
  if h : ∃ g, D.matched g a ∧ ∀ g', D.matched g' a → D.cost g a ≤ D.cost g' a then h.choose else 0

/-- The complete overlap loss of a box against a target box. -/
def ciouOf (x1 y1 x2 y2 u1 v1 u2 v2 : ℝ) : ℝ :=
  let w := max (x2 - x1) e7
  let h := max (y2 - y1) e7
  let tw := max (u2 - u1) e7
  let th := max (v2 - v1) e7
  let i := max (min x2 u2 - max x1 u1) 0 * max (min y2 v2 - max y1 v1) 0
  let u := i / (w * h + tw * th - i + e7)
  let cd := ((x1 + x2) * (1 / 2) - (u1 + u2) * (1 / 2)) * ((x1 + x2) * (1 / 2) - (u1 + u2) * (1 / 2))
    + ((y1 + y2) * (1 / 2) - (v1 + v2) * (1 / 2)) * ((y1 + y2) * (1 / 2) - (v1 + v2) * (1 / 2))
  let cw := max x2 u2 - min x1 u1
  let ch := max y2 v2 - min y1 v1
  let c2 := cw * cw + ch * ch + e7
  let v := lit 0x3ECF817B#32 * ((atn (tw / th) - atn (w / h)) * (atn (tw / th) - atn (w / h)))
  u - cd / c2 - v / (v - u + 1 + e7) * v

def ciou (a : Anc) : ℝ :=
  ciouOf (D.px1 a) (D.py1 a) (D.px2 a) (D.py2 a) (D.gx1 (D.best a)) (D.gy1 (D.best a)) (D.gx2 (D.best a)) (D.gy2 (D.best a))
def nfg : ℝ := max (∑ a : Anc, if D.fg a then 1 else 0) 1
def lossBox : ℝ := (∑ a : Anc, if D.fg a then 1 - D.ciou a else 0) / D.nfg
def objT (a : Anc) : ℝ := if D.fg a then D.iou (D.best a) a else 0
def lossObj : ℝ := (∑ a : Anc, bce (D.obj a) (D.objT a)) / 5376
def clsMean (a : Anc) : ℝ :=
  (∑ k : Fin 80, bce (D.cl k a) (lit 0x3A25E9F7#32 + (if D.lab (D.best a) = k then 1 else 0) * lit 0x3F7309B9#32)) / 80
def lossCls : ℝ := (∑ a : Anc, if D.fg a then D.clsMean a else 0) / D.nfg
/-- The loss of the image. -/
def loss : ℝ := lit 0x40A00000#32 * D.lossBox + 1 * D.lossObj + 1 / 2 * D.lossCls

/-! ## Signs -/

theorem gw_pos (g : Obj) : 0 < D.gw g := lt_max_of_lt_right e7_pos
theorem gh_pos (g : Obj) : 0 < D.gh g := lt_max_of_lt_right e7_pos
theorem pwc_pos (a : Anc) : 0 < D.pwc a := lt_max_of_lt_right e7_pos
theorem phc_pos (a : Anc) : 0 < D.phc a := lt_max_of_lt_right e7_pos
theorem inter_nonneg (g : Obj) (a : Anc) : 0 ≤ D.inter g a := mul_nonneg (le_max_right _ _) (le_max_right _ _)
theorem a2_nonneg (a : Anc) : 0 ≤ D.a2 a := mul_nonneg (le_max_right _ _) (le_max_right _ _)
theorem inter_le (g : Obj) (a : Anc) : D.inter g a ≤ D.a1 g := by
  unfold inter a1
  gcongr
  · exact min_le_left _ _
  · exact le_max_left _ _
  · exact min_le_left _ _
  · exact le_max_left _ _
theorem union_pos (g : Obj) (a : Anc) : 0 < D.a1 g + D.a2 a - D.inter g a + e7 := by
  have := D.inter_le g a
  have := D.a2_nonneg a
  have := e7_pos
  linarith
theorem iou_nonneg (g : Obj) (a : Anc) : 0 ≤ D.iou g a := le_min (le_max_right _ _) zero_le_one
theorem iou_le_one (g : Obj) (a : Anc) : D.iou g a ≤ 1 := min_le_right _ _
theorem pob_pos (a : Anc) : 0 < D.pob a := sg_pos _
theorem pp_pos (k : Fin 80) (a : Anc) : 0 < D.pp k a := mul_pos (sg_pos _) (sg_pos _)
theorem pp_lt_one (k : Fin 80) (a : Anc) : D.pp k a < 1 := by
  have h1 := sg_lt_one (D.cl k a)
  have h2 := sg_lt_one (D.obj a)
  have h3 := sg_pos (D.cl k a)
  have h4 := sg_pos (D.obj a)
  unfold pp pob
  nlinarith
theorem omp_pos (k : Fin 80) (a : Anc) : 0 < 1 - D.pp k a + e7 := by
  have := D.pp_lt_one k a
  have := e7_pos
  linarith
theorem ppe_pos (k : Fin 80) (a : Anc) : 0 < D.pp k a + e7 := add_pos (D.pp_pos k a) e7_pos
theorem ov_nonneg (g : Obj) (a : Anc) : 0 ≤ D.ov g a := by
  unfold ov
  split_ifs
  · exact D.iou_nonneg g a
  · exact le_rfl
theorem ov_le_one (g : Obj) (a : Anc) : D.ov g a ≤ 1 := by
  unfold ov
  split_ifs
  · exact D.iou_le_one g a
  · exact zero_le_one
theorem topSum_nonneg (g : Obj) : 0 ≤ D.topSum g := by
  refine Finset.sum_nonneg fun a _ => ?_
  split_ifs
  · exact D.ov_nonneg g a
  · exact le_rfl
theorem dynK_pos (g : Obj) : 1 ≤ D.dynK g := by unfold dynK; omega
theorem dynK_le (g : Obj) : D.dynK g ≤ 20 := by unfold dynK; omega
theorem nfg_pos : 0 < D.nfg := lt_max_of_lt_right one_pos

end Img

end Cert.Loss

end
-- ==== Proof.Extract.lean ====
/- Repeated removal of the least value of a finite family, and its link with counting. -/
module

public import proofs.«01_k».proof.Proof.Model

@[expose] public section

noncomputable section

namespace Cert.Loss

open Classical

section removal

variable {ι : Type} [Fintype ι]

/-- The least value of a family. -/
def least (f : ι → EReal) : EReal := Finset.univ.inf f

/-- One removal: every entry holding the least value becomes `⊤`. -/
def drop1 (f : ι → EReal) : ι → EReal := fun i => if f i = least f then ⊤ else f i

/-- `r` removals. -/
def dropN (f : ι → EReal) : ℕ → ι → EReal
  | 0 => f
  | r + 1 => drop1 (dropN f r)

theorem dropN_succ (f : ι → EReal) (r : ℕ) : dropN f (r + 1) = drop1 (dropN f r) := rfl

/-- How many different values lie below that of `i`. -/
def rk (f : ι → EReal) (i : ι) : ℕ := ((Finset.univ.image f).filter (· < f i)).card

theorem least_le (f : ι → EReal) (i : ι) : least f ≤ f i := Finset.inf_le (Finset.mem_univ i)
theorem le_least (f : ι → EReal) (w : EReal) (h : ∀ i, w ≤ f i) : w ≤ least f := Finset.le_inf fun i _ => h i
theorem least_mem [Nonempty ι] (f : ι → EReal) : ∃ i, least f = f i := by
  obtain ⟨i, _, h⟩ := Finset.exists_mem_eq_inf Finset.univ Finset.univ_nonempty f
  exact ⟨i, h⟩

theorem rk_lt (f : ι → EReal) {i j : ι} (h : f j < f i) : rk f j < rk f i := by
  unfold rk
  apply Finset.card_lt_card
  refine ⟨fun x hx => ?_, fun hs => ?_⟩
  · rw [Finset.mem_filter] at hx ⊢
    exact ⟨hx.1, hx.2.trans h⟩
  · have : f j ∈ (Finset.univ.image f).filter (· < f j) := hs (by simp [h])
    simp at this

theorem le_of_rk_le (f : ι → EReal) {i j : ι} (h : rk f i ≤ rk f j) : f i ≤ f j := by
  by_contra hc
  exact absurd (rk_lt f (not_le.mp hc)) (not_lt.mpr h)

/-- Below an entry of positive rank lies one of the rank before. -/
theorem exists_pred (f : ι → EReal) (i : ι) (h : 0 < rk f i) : ∃ j, f j < f i ∧ rk f j + 1 = rk f i := by
  have hne : ((Finset.univ.image f).filter (· < f i)).Nonempty := Finset.card_pos.mp h
  obtain ⟨v, hv, hmax⟩ := Finset.exists_max_image _ id hne
  rw [Finset.mem_filter, Finset.mem_image] at hv
  obtain ⟨⟨j, _, rfl⟩, hlt⟩ := hv
  refine ⟨j, hlt, ?_⟩
  have he : (Finset.univ.image f).filter (· < f j) = ((Finset.univ.image f).filter (· < f i)).erase (f j) := by
    ext x
    simp only [Finset.mem_filter, Finset.mem_erase]
    constructor
    · rintro ⟨h1, h2⟩
      exact ⟨h2.ne, h1, h2.trans hlt⟩
    · rintro ⟨h1, h2, h3⟩
      exact ⟨h2, lt_of_le_of_ne (hmax x (Finset.mem_filter.mpr ⟨h2, h3⟩)) h1⟩
  have hm : f j ∈ (Finset.univ.image f).filter (· < f i) := by simp [hlt]
  unfold rk
  rw [he, Finset.card_erase_of_mem hm]
  have : 0 < ((Finset.univ.image f).filter (· < f i)).card := h
  omega

/-- What `r` removals leave. -/
theorem dropN_eq (f : ι → EReal) (r : ℕ) : dropN f r = fun i => if rk f i < r then ⊤ else f i := by
  induction r with
  | zero => rfl
  | succ r ih =>
    funext i
    show (if dropN f r i = least (dropN f r) then ⊤ else dropN f r i) = _
    by_cases h1 : rk f i < r
    · have : dropN f r i = ⊤ := by rw [ih]; simp [h1]
      rw [this, ite_self, if_pos (by omega)]
    · have hi : dropN f r i = f i := by rw [ih]; simp [h1]
      by_cases h2 : rk f i = r
      · rw [if_pos, if_pos (by omega)]
        apply le_antisymm _ (least_le _ _)
        refine le_least _ _ fun j => ?_
        rw [hi, ih]
        dsimp only
        split_ifs with h3
        · exact le_top
        · exact le_of_rk_le f (by omega)
      · rw [if_neg, hi, if_neg (by omega)]
        obtain ⟨j, hj, hr⟩ := exists_pred f i (by omega)
        intro he
        have hl := least_le (dropN f r) j
        rw [← he, hi, ih] at hl
        dsimp only at hl
        rw [if_neg (by omega)] at hl
        exact absurd hj (not_lt.mpr hl)

/-- The entries up to the least value after `r` removals are those of rank at most `r`. -/
theorem le_least_dropN (f : ι → EReal) (r : ℕ) (i : ι) : f i ≤ least (dropN f r) ↔ rk f i ≤ r := by
  constructor
  · intro h
    by_contra hc
    obtain ⟨j, hj, hr⟩ := exists_pred f i (by omega)
    have hl := h.trans (least_le (dropN f r) j)
    rw [dropN_eq] at hl
    dsimp only at hl
    rw [if_neg (by omega)] at hl
    exact absurd hj (not_lt.mpr hl)
  · intro h
    refine le_least _ _ fun j => ?_
    rw [dropN_eq]
    dsimp only
    split_ifs with h3
    · exact le_top
    · exact le_of_rk_le f (by omega)

/-- Where the entries below `i` differ from one another, the rank counts them. -/
theorem rk_eq_card (f : ι → EReal) (i : ι) (h : ∀ j k, f j < f i → f k < f i → f j = f k → j = k) :
    rk f i = (Finset.univ.filter fun j => f j < f i).card := by
  unfold rk
  rw [Finset.filter_image, Finset.card_image_of_injOn]
  intro j hj k hk he
  simp only [Finset.coe_filter, Finset.mem_univ, true_and, Set.mem_setOf_eq] at hj hk
  exact h j k hj hk he

/-- The least values of 20 removals from the negated family, summed: the sum of the 20 greatest values. -/
theorem sum_removed [Nonempty ι] (v : ι → ℝ) (hv : ∀ i, 0 ≤ v i) (hinj : ∀ i j, 0 < v i → v i = v j → i = j) (n : ℕ) :
    ∑ r : Fin n, max (-(least (dropN (fun i => -((v i : ℝ) : EReal)) r.val))) 0
      = ((∑ i, if (Finset.univ.filter fun j => v i < v j).card < n then v i else 0 : ℝ) : EReal) := by
  set f : ι → EReal := fun i => -((v i : ℝ) : EReal) with hf
  have hlt : ∀ i j, f i < f j ↔ v j < v i := fun i j => by simp [hf, EReal.neg_lt_neg_iff]
  have hrk : ∀ i, 0 < v i → rk f i = (Finset.univ.filter fun j => v i < v j).card := by
    intro i hi
    rw [rk_eq_card f i]
    · congr 1
      ext j
      simp [hlt]
    · intro j k hj hk he
      rw [hlt] at hj
      refine hinj j k (hi.trans hj) ?_
      simpa [hf] using he
  have key : ∀ r : ℕ, max (-(least (dropN f r))) 0 = ((∑ i, if rk f i = r ∧ 0 < v i then v i else 0 : ℝ) : EReal) := by
    intro r
    by_cases hex : ∃ i, rk f i = r ∧ 0 < v i
    · obtain ⟨i, hi, hp⟩ := hex
      have hm : least (dropN f r) = f i := by
        apply le_antisymm
        · have := least_le (dropN f r) i
          rw [dropN_eq] at this ⊢
          simpa [hi] using this
        · exact (le_least_dropN f r i).mpr hi.le
      rw [hm, Finset.sum_eq_single i]
      · rw [if_pos ⟨hi, hp⟩]
        simp only [hf, neg_neg]
        exact max_eq_left (by exact_mod_cast hp.le)
      · intro j _ hji
        rw [if_neg]
        rintro ⟨h1, h2⟩
        apply hji
        refine hinj j i h2 ?_
        have := le_antisymm (le_of_rk_le f (h1.trans hi.symm).le) (le_of_rk_le f (hi.trans h1.symm).le)
        simpa [hf] using this
      · simp
    · rw [Finset.sum_eq_zero fun i _ => if_neg fun h => hex ⟨i, h⟩]
      rw [EReal.coe_zero]
      refine max_eq_right ?_
      rw [EReal.neg_le, neg_zero]
      by_contra hc
      rw [not_le] at hc
      obtain ⟨j, hj⟩ := least_mem (dropN f r)
      have h1 : ¬ rk f j < r := by
        intro h
        rw [hj, dropN_eq] at hc
        simp [h] at hc
      have h2 : least (dropN f r) = f j := by rw [hj, dropN_eq]; simp [h1]
      have h3 : rk f j ≤ r := (le_least_dropN f r j).mp h2.ge
      refine hex ⟨j, by omega, ?_⟩
      rw [h2, hf] at hc
      have := EReal.neg_lt_zero.mp hc
      exact_mod_cast this
  rw [Finset.sum_congr rfl fun r _ => key r.val, esum]
  congr 1
  rw [Finset.sum_comm]
  refine Finset.sum_congr rfl fun i _ => ?_
  rcases (hv i).lt_or_eq with hp | h0
  · rw [← hrk i hp]
    by_cases h : rk f i < n
    · rw [if_pos h, Finset.sum_eq_single (⟨rk f i, h⟩ : Fin n)]
      · simp [hp]
      · intro r _ hr
        rw [if_neg]
        rintro ⟨h1, _⟩
        exact hr (Fin.ext h1.symm)
      · simp
    · rw [if_neg h]
      refine Finset.sum_eq_zero fun r _ => if_neg ?_
      rintro ⟨h1, _⟩
      have := r.isLt
      omega
  · rw [← h0]
    simp

end removal

section positions

variable {n : ℕ} {α : Type} [LinearOrder α]

/-- In an ordering by a key, an entry whose key no other entry shares stands after as many as have a smaller key. -/
theorem card_before (σ : Fin n → Fin n) (hσ : Function.Bijective σ) (key : Fin n → α)
    (hmono : ∀ p q : Fin n, p < q → key (σ p) ≤ key (σ q)) (p : Fin n) (hp : ∀ j, j ≠ σ p → key j ≠ key (σ p)) :
    (Finset.univ.filter fun j => key j < key (σ p)).card = p.val := by
  have : (Finset.univ.filter fun j => key j < key (σ p)) = (Finset.univ.filter fun q : Fin n => q < p).image σ := by
    ext j
    obtain ⟨q, rfl⟩ := hσ.2 j
    simp only [Finset.mem_filter, Finset.mem_univ, true_and, Finset.mem_image]
    constructor
    · intro h
      refine ⟨q, ?_, rfl⟩
      by_contra hc
      rcases (not_lt.mp hc).lt_or_eq with h' | h'
      · exact absurd h (not_lt.mpr (hmono p q h'))
      · rw [h'] at h; exact absurd h (lt_irrefl _)
    · rintro ⟨q', h, he⟩
      rw [← he]
      refine lt_of_le_of_ne (hmono _ _ h) (hp _ fun e => ?_)
      exact h.ne (hσ.1 e)
  rw [this, Finset.card_image_of_injective _ hσ.1]
  have hI : (Finset.univ.filter fun q : Fin n => q < p) = Finset.Iio p := by ext; simp
  rw [hI, Fin.card_Iio]

/-- The first `m` values of a non-increasing arrangement, summed. -/
theorem sum_first (σ : Fin n → Fin n) (hσ : Function.Bijective σ) (v : Fin n → ℝ) (hv : ∀ i, 0 ≤ v i)
    (hinj : ∀ i j, 0 < v i → v i = v j → i = j)
    (hmono : ∀ p q : Fin n, p < q → v (σ q) ≤ v (σ p)) (m : ℕ) (hm : m ≤ n) :
    ∑ r : Fin m, v (σ ⟨r.val, r.isLt.trans_le hm⟩) = ∑ i, if (Finset.univ.filter fun j => v i < v j).card < m then v i else 0 := by
  have h1 : ∑ i, (if (Finset.univ.filter fun j => v i < v j).card < m then v i else 0)
      = ∑ p : Fin n, if p.val < m then v (σ p) else 0 := by
    rw [← Function.Bijective.sum_comp hσ]
    refine Finset.sum_congr rfl fun p _ => ?_
    rcases (hv (σ p)).lt_or_eq with hp | h0
    · have := card_before σ hσ (fun j => OrderDual.toDual (v j)) (fun p q h => hmono p q h) p
        (fun j hj e => hj (hinj _ _ hp (OrderDual.toDual.injective e).symm).symm)
      simp only [OrderDual.toDual_lt_toDual] at this
      rw [this]
    · rw [← h0]; simp
  rw [h1]
  rw [← Finset.sum_filter]
  refine Finset.sum_bij (fun r _ => (⟨r.val, r.isLt.trans_le hm⟩ : Fin n)) ?_ ?_ ?_ ?_
  · intro r _; simp
  · intro a _ b _ h; exact Fin.ext (by simpa using h)
  · intro p hp
    exact ⟨⟨p.val, (Finset.mem_filter.mp hp).2⟩, Finset.mem_univ _, rfl⟩
  · intro r _; rfl

end positions

end Cert.Loss

end
-- ==== Proof.Mask.lean ====
/- The assignment as a mask over pairs, the matched box as a sum over the mask, and the parts of the overlap loss. -/
module

public import proofs.«01_k».proof.Proof.Extract

@[expose] public section

set_option maxRecDepth 16384

noncomputable section

namespace Cert.Loss

open Classical

/-! ## Parts of the complete overlap loss -/

def iOf (x1 y1 x2 y2 u1 v1 u2 v2 : ℝ) : ℝ := max (min x2 u2 - max x1 u1) 0 * max (min y2 v2 - max y1 v1) 0
def aOf (x1 y1 x2 y2 : ℝ) : ℝ := max (x2 - x1) e7 * max (y2 - y1) e7
def uOf (x1 y1 x2 y2 u1 v1 u2 v2 : ℝ) : ℝ :=
  iOf x1 y1 x2 y2 u1 v1 u2 v2 / (aOf x1 y1 x2 y2 + aOf u1 v1 u2 v2 - iOf x1 y1 x2 y2 u1 v1 u2 v2 + e7)
def cdOf (x1 y1 x2 y2 u1 v1 u2 v2 : ℝ) : ℝ :=
  ((x1 + x2) * (1 / 2) - (u1 + u2) * (1 / 2)) * ((x1 + x2) * (1 / 2) - (u1 + u2) * (1 / 2))
    + ((y1 + y2) * (1 / 2) - (v1 + v2) * (1 / 2)) * ((y1 + y2) * (1 / 2) - (v1 + v2) * (1 / 2))
def c2Of (x1 y1 x2 y2 u1 v1 u2 v2 : ℝ) : ℝ :=
  (max x2 u2 - min x1 u1) * (max x2 u2 - min x1 u1) + (max y2 v2 - min y1 v1) * (max y2 v2 - min y1 v1) + e7
def vOf (p q : ℝ) : ℝ := lit 0x3ECF817B#32 * ((atn q - atn p) * (atn q - atn p))

theorem ciouOf_eq (x1 y1 x2 y2 u1 v1 u2 v2 : ℝ) : Img.ciouOf x1 y1 x2 y2 u1 v1 u2 v2
    = uOf x1 y1 x2 y2 u1 v1 u2 v2 - cdOf x1 y1 x2 y2 u1 v1 u2 v2 / c2Of x1 y1 x2 y2 u1 v1 u2 v2
      - vOf (max (x2 - x1) e7 / max (y2 - y1) e7) (max (u2 - u1) e7 / max (v2 - v1) e7)
        / (vOf (max (x2 - x1) e7 / max (y2 - y1) e7) (max (u2 - u1) e7 / max (v2 - v1) e7) - uOf x1 y1 x2 y2 u1 v1 u2 v2 + 1 + e7)
        * vOf (max (x2 - x1) e7 / max (y2 - y1) e7) (max (u2 - u1) e7 / max (v2 - v1) e7) := rfl

theorem iOf_nonneg (x1 y1 x2 y2 u1 v1 u2 v2 : ℝ) : 0 ≤ iOf x1 y1 x2 y2 u1 v1 u2 v2 := mul_nonneg (le_max_right _ _) (le_max_right _ _)
theorem iOf_le (x1 y1 x2 y2 u1 v1 u2 v2 : ℝ) : iOf x1 y1 x2 y2 u1 v1 u2 v2 ≤ aOf x1 y1 x2 y2 := by
  have := e7_pos
  unfold iOf aOf
  have h1 : max (min x2 u2 - max x1 u1) 0 ≤ max (x2 - x1) e7 :=
    max_le_max (by linarith [min_le_left x2 u2, le_max_left x1 u1]) this.le
  have h2 : max (min y2 v2 - max y1 v1) 0 ≤ max (y2 - y1) e7 :=
    max_le_max (by linarith [min_le_left y2 v2, le_max_left y1 v1]) this.le
  exact mul_le_mul h1 h2 (le_max_right _ _) (this.le.trans (le_max_right _ _))
theorem iOf_le' (x1 y1 x2 y2 u1 v1 u2 v2 : ℝ) : iOf x1 y1 x2 y2 u1 v1 u2 v2 ≤ aOf u1 v1 u2 v2 := by
  have : iOf x1 y1 x2 y2 u1 v1 u2 v2 = iOf u1 v1 u2 v2 x1 y1 x2 y2 := by
    unfold iOf; rw [min_comm x2, max_comm x1, min_comm y2, max_comm y1]
  rw [this]; exact iOf_le _ _ _ _ _ _ _ _
theorem den_pos (x1 y1 x2 y2 u1 v1 u2 v2 : ℝ) :
    0 < aOf x1 y1 x2 y2 + aOf u1 v1 u2 v2 - iOf x1 y1 x2 y2 u1 v1 u2 v2 + e7 := by
  have := iOf_le x1 y1 x2 y2 u1 v1 u2 v2
  have := iOf_le' x1 y1 x2 y2 u1 v1 u2 v2
  have := iOf_nonneg x1 y1 x2 y2 u1 v1 u2 v2
  linarith [e7_pos]
theorem uOf_le (x1 y1 x2 y2 u1 v1 u2 v2 : ℝ) : uOf x1 y1 x2 y2 u1 v1 u2 v2 ≤ 1 := by
  unfold uOf
  rw [div_le_one (den_pos _ _ _ _ _ _ _ _)]
  have := iOf_le x1 y1 x2 y2 u1 v1 u2 v2
  have := iOf_le' x1 y1 x2 y2 u1 v1 u2 v2
  linarith [e7_pos]
theorem c2Of_pos (x1 y1 x2 y2 u1 v1 u2 v2 : ℝ) : 0 < c2Of x1 y1 x2 y2 u1 v1 u2 v2 := by
  unfold c2Of
  exact add_pos_of_nonneg_of_pos (add_nonneg (mul_self_nonneg _) (mul_self_nonneg _)) e7_pos
theorem vOf_nonneg (p q : ℝ) : 0 ≤ vOf p q :=
  mul_nonneg (lit_pos _ (by decide) (by decide) (by decide)).le (mul_self_nonneg _)
theorem alpha_pos (p q x1 y1 x2 y2 u1 v1 u2 v2 : ℝ) : 0 < vOf p q - uOf x1 y1 x2 y2 u1 v1 u2 v2 + 1 + e7 := by
  have := vOf_nonneg p q
  have := uOf_le x1 y1 x2 y2 u1 v1 u2 v2
  linarith [e7_pos]

/-! ## The arctangent's pieces -/

def yOf (r : ℝ) : ℝ := if lit 0x401A827A#32 < r then -1 / r else if lit 0x3ED413CD#32 < r then (r - 1) / (r + 1) else r
def y0Of (r : ℝ) : ℝ := if lit 0x401A827A#32 < r then lit 0x3FC90FDB#32 else if lit 0x3ED413CD#32 < r then lit 0x3F490FDB#32 else 0
def qOf (z : ℝ) : ℝ := ((lit 0x3DA4F0D1#32 * z - lit 0x3E0E1B85#32) * z + lit 0x3E4C925F#32) * z - lit 0x3EAAAA2A#32
theorem atn_eq (r : ℝ) : atn r = y0Of r + (yOf r + qOf (yOf r * yOf r) * (yOf r * yOf r) * yOf r) := rfl

/-- An assignment without ties. -/
structure NoTies (D : Img) : Prop where
  anchors : ∀ g a a', D.cand g a → a ≠ a' →
    if D.cand g a' then D.cost g a ≠ D.cost g a' ∧ (D.iou g a ≤ 0 ∨ D.iou g a ≠ D.iou g a') else D.cost g a < D.cost g a'
  objects : ∀ g g' a, D.cand g a → D.cand g' a → g ≠ g' → D.cost g a ≠ D.cost g' a

namespace Img

variable (D : Img)

/-- The cost of a matched pair, and `⊤` otherwise. -/
def mcost (g : Obj) (a : Anc) : EReal := if D.matched g a then ((D.cost g a : ℝ) : EReal) else ⊤
/-- Whether a pair holds the least cost of its anchor. -/
def holds (g : Obj) (a : Anc) : Prop := D.mcost g a = least fun g' => D.mcost g' a
def hot (g : Obj) (a : Anc) : ℝ := if D.holds g a then 1 else 0
def fi (a : Anc) : ℝ := if D.fg a then 1 else 0
def T1 (a : Anc) : ℝ := ∑ g, D.gx1 g * D.hot g a
def T2 (a : Anc) : ℝ := ∑ g, D.gx2 g * D.hot g a
def T3 (a : Anc) : ℝ := ∑ g, D.gy1 g * D.hot g a
def T4 (a : Anc) : ℝ := ∑ g, D.gy2 g * D.hot g a
def Iat (a : Anc) : ℝ := ∑ g, D.iou g a * D.hot g a
def Cat (a : Anc) : ℝ := ∑ g, D.cl (D.lab g) a * D.hot g a
def tw (a : Anc) : ℝ := max (D.T2 a - D.T1 a) e7
def th (a : Anc) : ℝ := max (D.T4 a - D.T3 a) e7
theorem tw_pos (a : Anc) : 0 < D.tw a := lt_max_of_lt_right e7_pos
theorem th_pos (a : Anc) : 0 < D.th a := lt_max_of_lt_right e7_pos

theorem best_spec (a : Anc) (h : D.fg a) : D.matched (D.best a) a ∧ ∀ g', D.matched g' a → D.cost (D.best a) a ≤ D.cost g' a := by
  have hex : ∃ g, D.matched g a ∧ ∀ g', D.matched g' a → D.cost g a ≤ D.cost g' a := by
    obtain ⟨g, hg⟩ := h
    obtain ⟨g', h1, h2⟩ := Finset.exists_min_image (Finset.univ.filter fun g => D.matched g a) (fun g => D.cost g a) ⟨g, by simp [hg]⟩
    exact ⟨g', (Finset.mem_filter.mp h1).2, fun g'' h'' => h2 g'' (by simp [h''])⟩
  unfold best
  rw [dif_pos hex]
  exact hex.choose_spec

theorem least_mcost (a : Anc) (h : D.fg a) : (least fun g' => D.mcost g' a) = ((D.cost (D.best a) a : ℝ) : EReal) := by
  obtain ⟨h1, h2⟩ := D.best_spec a h
  apply le_antisymm
  · have := least_le (fun g' => D.mcost g' a) (D.best a)
    simp only [mcost] at this
    rwa [if_pos h1] at this
  · refine le_least _ _ fun g => ?_
    unfold mcost
    split_ifs with hm
    · exact_mod_cast h2 g hm
    · exact le_top

variable {D}

theorem holds_iff (hD : NoTies D) (a : Anc) (h : D.fg a) (g : Obj) : D.holds g a ↔ g = D.best a := by
  obtain ⟨h1, h2⟩ := D.best_spec a h
  unfold holds
  rw [D.least_mcost a h]
  constructor
  · intro hc
    by_contra hne
    unfold mcost at hc
    split_ifs at hc with hm
    · exact hD.objects g (D.best a) a hm.1 h1.1 hne (by exact_mod_cast hc)
    · exact EReal.coe_ne_top _ hc.symm
  · rintro rfl
    unfold mcost
    rw [if_pos h1]

theorem sum_hot (hD : NoTies D) (a : Anc) (h : D.fg a) (f : Obj → ℝ) : ∑ g, f g * D.hot g a = f (D.best a) := by
  rw [Finset.sum_eq_single (D.best a)]
  · unfold hot; rw [if_pos ((holds_iff hD a h _).mpr rfl), mul_one]
  · intro g _ hg
    unfold hot
    rw [if_neg fun hh => hg ((holds_iff hD a h g).mp hh), mul_zero]
  · simp

theorem ov_inj (hD : NoTies D) (g : Obj) (a a' : Anc) (h : 0 < D.ov g a) (he : D.ov g a = D.ov g a') : a = a' := by
  by_contra hne
  have hc : D.cand g a := by by_contra hc; simp [ov, hc] at h
  have hc' : D.cand g a' := by by_contra hc'; rw [he] at h; simp [ov, hc'] at h
  have := hD.anchors g a a' hc hne
  rw [if_pos hc'] at this
  simp only [ov, if_pos hc, if_pos hc'] at h he
  rcases this.2 with h1 | h1
  · linarith
  · exact h1 he

variable (D)

theorem topSum_le (g : Obj) : D.topSum g ≤ 6000 := by
  have : D.topSum g ≤ ∑ a : Anc, (1 : ℝ) := by
    refine Finset.sum_le_sum fun a _ => ?_
    split_ifs
    · exact D.ov_le_one g a
    · exact zero_le_one
  refine this.trans ?_
  simp only [Finset.sum_const, Finset.card_univ, Fintype.card_fin]
  norm_num

/-- The cost of a candidate, and `⊤` otherwise. -/
def ccost (g : Obj) (a : Anc) : EReal := if D.cand g a then ((D.cost g a : ℝ) : EReal) else ⊤

variable {D}

/-- The cheapest candidates by repeated removal. -/
theorem matched_iff (hD : NoTies D) (g : Obj) (a : Anc) :
    D.matched g a ↔ D.cand g a ∧ ((D.cost g a : ℝ) : EReal) ≤ least (dropN (D.ccost g) (D.dynK g - 1)) := by
  unfold matched
  refine and_congr_right fun hc => ?_
  have h1 : ((D.cost g a : ℝ) : EReal) = D.ccost g a := by unfold ccost; rw [if_pos hc]
  rw [h1, le_least_dropN, rk_eq_card]
  · have h2 : (Finset.univ.filter fun j => D.ccost g j < D.ccost g a) = Finset.univ.filter fun a' => D.cost g a' < D.cost g a := by
      ext a'
      simp only [Finset.mem_filter, Finset.mem_univ, true_and, ← h1]
      by_cases hc' : D.cand g a'
      · unfold ccost; rw [if_pos hc']; exact EReal.coe_lt_coe_iff
      · unfold ccost; rw [if_neg hc']
        have hne : a ≠ a' := fun h => hc' (h ▸ hc)
        have := hD.anchors g a a' hc hne
        rw [if_neg hc'] at this
        simp [this.le]
    rw [h2]
    have := D.dynK_pos g
    omega
  · intro j k hj hk he
    by_contra hne
    have hcj : D.cand g j := by
      by_contra h; unfold ccost at hj; rw [if_neg h] at hj; exact not_top_lt hj
    have hck : D.cand g k := by
      by_contra h; unfold ccost at hk; rw [if_neg h] at hk; exact not_top_lt hk
    have := hD.anchors g j k hcj hne
    rw [if_pos hck] at this
    unfold ccost at he
    rw [if_pos hcj, if_pos hck] at he
    exact this.1 (by exact_mod_cast he)

end Img

end Cert.Loss

end
-- ==== Proof.Bits.lean ====
/- Bits and counts as the programs carry them, against propositions and natural numbers. -/
module

public import proofs.«01_k».proof.Proof.Model
public import Idealize.ShloMosaic.Lib.Pointwise

@[expose] public section

set_option maxRecDepth 16384

noncomputable section

namespace Cert.Loss

open Idealize.ShloMosaic
open Classical

/-- A proposition as the bit the programs carry for it. -/
def bit (p : Prop) : BitVec 1 := if p then 1#1 else 0#1
theorem bit_of (p : Prop) [i : Decidable p] : BitVec.ofBool (@decide p i) = bit p := by
  unfold bit
  by_cases h : p <;> simp [h]
theorem bit_and (p q : Prop) : IntOp.andi (bit p) (bit q) = bit (p ∧ q) := by
  unfold bit
  by_cases h : p <;> by_cases h' : q <;> simp [h, h'] <;> decide
theorem bit_or (p q : Prop) : IntOp.ori (bit p) (bit q) = bit (p ∨ q) := by
  unfold bit
  by_cases h : p <;> by_cases h' : q <;> simp [h, h'] <;> decide
theorem bit_eq_one (p : Prop) : (bit p = 1#1) ↔ p := by
  unfold bit
  by_cases h : p <;> simp [h]
theorem bit_congr {p q : Prop} (h : p ↔ q) : bit p = bit q := by rw [propext h]
theorem bit_sel {α : Type} (p : Prop) [i : Decidable p] (a b : α) : Scalar.select (bit p) a b = if p then a else b := by
  unfold bit Scalar.select
  by_cases h : p <;> simp [h]
theorem eabsf (a : ℝ) : FloatOps.absf (F := Ideal) (φ := .f32) ((a : ℝ) : EReal) = ((|a| : ℝ) : EReal) := eabs a
theorem esg (x : ℝ) : Ideal.div ((1 : ℝ) : EReal) ((1 + Real.exp (0 - x) : ℝ) : EReal) = ((sg x : ℝ) : EReal) := by
  rw [ediv _ _ (by positivity), sg, zero_sub]
theorem esp (x : ℝ) : ((max x 0 : ℝ) : EReal) + Ideal.log1p ((Real.exp (0 - |x|) : ℝ) : EReal) = ((sp x : ℝ) : EReal) := by
  rw [elog1p _ (by positivity), eadd, sp, zero_sub]
theorem espn (x : ℝ) : ((max x 0 : ℝ) : EReal) + Ideal.log1p ((Real.exp (-|x|) : ℝ) : EReal) = ((sp x : ℝ) : EReal) := by
  rw [elog1p _ (by positivity), eadd, sp]

theorem bit_not (p : Prop) : IntOp.xori (bit p) 1#1 = bit (¬ p) := by
  unfold bit
  by_cases h : p <;> simp [h] <;> decide
theorem bit_hot (p : Prop) [i : Decidable p] : FloatOps.sitofp (F := Ideal) .f32 (BitVec.setWidth 32 (bit p)) = (((if p then 1 else 0 : ℝ)) : EReal) := by
  show (((BitVec.setWidth 32 (bit p)).toInt : ℝ) : EReal) = _
  unfold bit
  by_cases h : p <;> simp [h]
theorem bit_hot' (p : Prop) [i : Decidable p] : FloatOps.uitofp (F := Ideal) .f32 (bit p) = (((if p then 1 else 0 : ℝ)) : EReal) := by
  show (((bit p).toNat : ℝ) : EReal) = _
  unfold bit
  by_cases h : p <;> simp [h]
theorem cmp_eq_ofNat (a b : ℕ) (ha : a < 2 ^ 32) (hb : b < 2 ^ 32) :
    IntOp.cmpi .eq (BitVec.ofNat 32 a) (BitVec.ofNat 32 b) = bit (a = b) := by
  show BitVec.ofBool (BitVec.ofNat 32 a == BitVec.ofNat 32 b) = _
  rw [← bit_of]
  congr 1
  rw [Bool.eq_iff_iff, beq_iff_eq, decide_eq_true_iff]
  constructor
  · intro h
    have := congrArg BitVec.toNat h
    rwa [BitVec.toNat_ofNat, BitVec.toNat_ofNat, Nat.mod_eq_of_lt ha, Nat.mod_eq_of_lt hb] at this
  · rintro rfl; rfl
theorem toInt_small (n : ℕ) (h : n < 2 ^ 31) : (BitVec.ofNat 32 n).toInt = n := by
  rw [BitVec.toInt_eq_toNat_of_lt, BitVec.toNat_ofNat, Nat.mod_eq_of_lt (by omega)]
  rw [BitVec.toNat_ofNat, Nat.mod_eq_of_lt (by omega)]; omega
theorem cmp_slt_ofNat (a b : ℕ) (ha : a < 2 ^ 31) (hb : b < 2 ^ 31) :
    IntOp.cmpi .slt (BitVec.ofNat 32 a) (BitVec.ofNat 32 b) = bit (a < b) := by
  show BitVec.ofBool (BitVec.slt (BitVec.ofNat 32 a) (BitVec.ofNat 32 b)) = _
  rw [← bit_of]
  congr 1
  rw [BitVec.slt, toInt_small _ ha, toInt_small _ hb]
  simp
/-- The count of anchors an object is given, from the sum of its greatest overlaps. -/
theorem count_bits (s : ℝ) (h0 : 0 ≤ s) (h1 : s ≤ 6000) :
    IntOp.minsi 20#32 (IntOp.maxsi 1#32 (FloatOps.fptosi (F := Ideal) (φ := .f32) 32 ((s : ℝ) : EReal))) = BitVec.ofNat 32 (min (max ⌊s⌋ 1) 20).toNat := by
  have hf : FloatOps.fptosi (F := Ideal) (φ := .f32) 32 ((s : ℝ) : EReal) = BitVec.ofNat 32 ⌊s⌋.toNat := by
    show Ideal.fptosi 32 ((s : ℝ) : EReal) = _
    have hn : (0 : ℤ) ≤ ⌊s⌋ := Int.floor_nonneg.mpr h0
    have hu : ⌊s⌋ ≤ 6000 := by
      have : ⌊s⌋ ≤ ⌊(6000 : ℝ)⌋ := Int.floor_le_floor h1
      simpa using this
    rw [Ideal.fptosi, Ideal.toIntClamped_coe, if_pos h0]
    have : max (-((2 ^ (32 - 1) : ℕ) : ℤ)) (min (((2 ^ (32 - 1) : ℕ) : ℤ) - 1) ⌊s⌋) = ⌊s⌋ := by norm_num; omega
    rw [this]
    conv_lhs => rw [← Int.toNat_of_nonneg hn]
    rw [BitVec.ofInt_natCast]
  rw [hf]
  have hu : ⌊s⌋ ≤ 6000 := by
    have : ⌊s⌋ ≤ ⌊(6000 : ℝ)⌋ := Int.floor_le_floor h1
    simpa using this
  have hn : (0 : ℤ) ≤ ⌊s⌋ := Int.floor_nonneg.mpr h0
  obtain ⟨n, hn'⟩ : ∃ n : ℕ, ⌊s⌋ = n := ⟨_, (Int.toNat_of_nonneg hn).symm⟩
  have hm : IntOp.maxsi 1#32 (BitVec.ofNat 32 n) = BitVec.ofNat 32 (max n 1) := by
    show (if (BitVec.ofNat 32 n).slt (BitVec.ofNat 32 1) then BitVec.ofNat 32 1 else BitVec.ofNat 32 n) = _
    rw [BitVec.slt, toInt_small _ (by omega), toInt_small _ (by omega)]
    by_cases h : n < 1
    · rw [if_pos (by simpa using h)]; congr 1; omega
    · rw [if_neg (by simpa using h)]; congr 1; omega
  rw [hn', Int.toNat_natCast, hm]
  show (if (BitVec.ofNat 32 20).slt (BitVec.ofNat 32 (max n 1)) then BitVec.ofNat 32 20 else BitVec.ofNat 32 (max n 1)) = _
  rw [BitVec.slt, toInt_small _ (by omega), toInt_small _ (by omega)]
  by_cases h : 20 < max n 1
  · rw [if_pos (by simpa using h)]; congr 1; omega
  · rw [if_neg (by simpa using h)]; congr 1; omega

end Cert.Loss

end
-- ==== Proof.KernelLoop.lean ====
/- The removal loop and the assignment of one image, read over the extended reals. -/
module

public import proofs.«01_k».proof.Proof.KernelRun
public import proofs.«01_k».proof.Proof.Mask
public import proofs.«01_k».proof.Proof.Bits
public import Idealize.ShloMosaic.Lib.Pointwise
public import Idealize.ShloMosaic.Lib.VecWindow
public import Idealize.ShloMosaic.Lib.Pipeline.ValueKit.Basic

@[expose] public section

set_option maxRecDepth 16384
set_option maxHeartbeats 4000000

noncomputable section

namespace Cert.Loss

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

open Classical

/-! ## The loop that removes least values -/

theorem fold_min (f : Anc → EReal) :
    Finset.fold min (⊤ : EReal) (fun x : Fin 2688 => min (f ⟨x.val, by omega⟩) (f ⟨2688 + x.val, by omega⟩)) Finset.univ = least f := by
  apply le_antisymm
  · refine le_least _ _ fun a => ?_
    by_cases h : a.val < 2688
    · have := (Finset.le_fold_min (s := Finset.univ) (b := (⊤ : EReal)) (f := fun x : Fin 2688 => min (f ⟨x.val, by omega⟩) (f ⟨2688 + x.val, by omega⟩)) _).mp le_rfl
      exact (this.2 ⟨a.val, h⟩ (Finset.mem_univ _)).trans (min_le_left _ _)
    · have := (Finset.le_fold_min (s := Finset.univ) (b := (⊤ : EReal)) (f := fun x : Fin 2688 => min (f ⟨x.val, by omega⟩) (f ⟨2688 + x.val, by omega⟩)) _).mp le_rfl
      have h2 := (this.2 ⟨a.val - 2688, by omega⟩ (Finset.mem_univ _)).trans (min_le_right _ _)
      have : (⟨2688 + (a.val - 2688), by omega⟩ : Anc) = a := Fin.ext (by simp; omega)
      rwa [this] at h2
  · rw [Finset.le_fold_min]
    exact ⟨le_top, fun x _ => le_min (least_le _ _) (least_le _ _)⟩

theorem fold_min30 (f : Obj → EReal) : Finset.fold min (⊤ : EReal) f Finset.univ = least f := by
  apply le_antisymm
  · refine le_least _ _ fun a => ?_
    exact ((Finset.le_fold_min (s := Finset.univ) (b := (⊤ : EReal)) (f := f) _).mp le_rfl).2 a (Finset.mem_univ _)
  · rw [Finset.le_fold_min]
    exact ⟨le_top, fun x _ => least_le _ _⟩

theorem col_even (r : Fin k0_t1_loop.trips) : Scalar.muli 2#32 (Scf.iv 0#32 1#32 r.val) = BitVec.ofNat 32 (2 * r.val) := by
  revert r; decide
theorem col_odd (r : Fin k0_t1_loop.trips) : Scalar.addi (Scalar.muli 2#32 (Scf.iv 0#32 1#32 r.val)) 1#32 = BitVec.ofNat 32 (2 * r.val + 1) := by
  revert r; decide
theorem trips_eq : k0_t1_loop.trips = 10 := by decide

section

variable (f : Obj → Anc → EReal) (v : Vec Ideal S30x5376 .f32) (hv : ∀ g a, v (ix2 g a) = f g a)
include hv

theorem min1 (g : Obj) : k0_pay1 v (ix2 g 0) = least (f g) := by
  pointwise [k0_pay1, hv, ofBits_inf]
  exact fold_min (f g)
theorem min3 (g : Obj) : k0_pay3 v (ix2 g 0) = least (f g) := by
  pointwise [k0_pay3, hv, ofBits_inf]
  exact fold_min (f g)
theorem min60 (g : Obj) : k0_pay60 v (ix2 g 0) = least (f g) := by
  pointwise [k0_pay60, hv, ofBits_inf]
  exact fold_min (f g)
theorem min62 (g : Obj) : k0_pay62 v (ix2 g 0) = least (f g) := by
  pointwise [k0_pay62, hv, ofBits_inf]
  exact fold_min (f g)
theorem drop2 (g : Obj) (a : Anc) : k0_pay2 v (ix2 g a) = drop1 (f g) a := by
  have := min1 f v hv g
  pointwise [k0_pay2, this, hv, ofBits_inf]
  rfl
theorem drop4 (g : Obj) (a : Anc) : k0_pay4 v (ix2 g a) = drop1 (f g) a := by
  have := min3 f v hv g
  pointwise [k0_pay4, this, hv, ofBits_inf]
  rfl
theorem drop61 (g : Obj) (a : Anc) : k0_pay61 v (ix2 g a) = drop1 (f g) a := by
  have := min60 f v hv g
  pointwise [k0_pay61, this, hv, ofBits_inf]
  rfl
theorem drop63 (g : Obj) (a : Anc) : k0_pay63 v (ix2 g a) = drop1 (f g) a := by
  have := min62 f v hv g
  pointwise [k0_pay63, this, hv, ofBits_inf]
  rfl

theorem put5 (w : FVec Ideal S30x20 .f32) (r : Fin k0_t1_loop.trips) (g : Obj) (t : Fin 20) :
    k0_pay5 cols 0#32 1#32 r w v (ix2 g t) = if t.val = 2 * r.val then least (f g) else w (ix2 g t) := by
  have hm := min1 f v hv g
  have hr : r.val < 10 := lt_of_lt_of_eq r.isLt trips_eq
  pointwise [k0_pay5, cols, hm]
  rw [col_even, cmp_eq_ofNat _ _ (by omega) (by omega), bit_sel]
theorem put6 (w : FVec Ideal S30x20 .f32) (r : Fin k0_t1_loop.trips) (g : Obj) (t : Fin 20) :
    k0_pay6 cols 0#32 1#32 r w v (ix2 g t) = if t.val = 2 * r.val then least (f g) else w (ix2 g t) := by
  have hm := min3 f v hv g
  have hr : r.val < 10 := lt_of_lt_of_eq r.isLt trips_eq
  pointwise [k0_pay6, cols, hm]
  rw [col_even, cmp_eq_ofNat _ _ (by omega) (by omega), bit_sel]
theorem put64 (w : FVec Ideal S30x20 .f32) (r : Fin k0_t1_loop.trips) (g : Obj) (t : Fin 20) :
    k0_pay64 w (Scalar.addi (Scalar.muli 2#32 (Scf.iv 0#32 1#32 r.val)) 1#32) v (ix2 g t) = if t.val = 2 * r.val + 1 then least (f g) else w (ix2 g t) := by
  have hm := min60 f v hv g
  have hr : r.val < 10 := lt_of_lt_of_eq r.isLt trips_eq
  rw [col_odd]
  pointwise [k0_pay64, hm]
  rw [cmp_eq_ofNat _ _ (by omega) (by omega), bit_sel]
theorem put65 (w : FVec Ideal S30x20 .f32) (r : Fin k0_t1_loop.trips) (g : Obj) (t : Fin 20) :
    k0_pay65 w (Scalar.addi (Scalar.muli 2#32 (Scf.iv 0#32 1#32 r.val)) 1#32) v (ix2 g t) = if t.val = 2 * r.val + 1 then least (f g) else w (ix2 g t) := by
  have hm := min62 f v hv g
  have hr : r.val < 10 := lt_of_lt_of_eq r.isLt trips_eq
  rw [col_odd]
  pointwise [k0_pay65, hm]
  rw [cmp_eq_ofNat _ _ (by omega) (by omega), bit_sel]

end

/-- What the loop's state holds after `r` trips. -/
structure After (fo fc : Obj → Anc → EReal) (r : ℕ) (s : (Low Ideal × Low Ideal) × (Row Ideal × Row Ideal)) : Prop where
  o : ∀ g a, s.2.1 (ix2 g a) = dropN (fo g) (2 * r) a
  c : ∀ g a, s.2.2 (ix2 g a) = dropN (fc g) (2 * r) a
  lo : ∀ g (t : Fin 20), t.val < 2 * r → s.1.1 (ix2 g t) = least (dropN (fo g) t.val)
  lc : ∀ g (t : Fin 20), t.val < 2 * r → s.1.2 (ix2 g t) = least (dropN (fc g) t.val)

theorem after_trip (fo fc : Obj → Anc → EReal) (r : Fin k0_t1_loop.trips) (s : (Low Ideal × Low Ideal) × (Row Ideal × Row Ideal))
    (h : After fo fc r.val s) : After fo fc (r.val + 1) (trip r s) := by
  have ho : ∀ g a, k0_pay2 (F := Ideal) s.2.1 (ix2 g a) = dropN (fo g) (2 * r.val + 1) a := fun g a => by
    rw [dropN_succ]; exact drop2 (fun g => dropN (fo g) (2 * r.val)) s.2.1 h.o g a
  have hc : ∀ g a, k0_pay4 (F := Ideal) s.2.2 (ix2 g a) = dropN (fc g) (2 * r.val + 1) a := fun g a => by
    rw [dropN_succ]; exact drop4 (fun g => dropN (fc g) (2 * r.val)) s.2.2 h.c g a
  have e : 2 * (r.val + 1) = 2 * r.val + 1 + 1 := by ring
  have h1 := drop61 (fun g => dropN (fo g) (2 * r.val + 1)) (k0_pay2 (F := Ideal) s.2.1) ho
  have h2 := drop63 (fun g => dropN (fc g) (2 * r.val + 1)) (k0_pay4 (F := Ideal) s.2.2) hc
  have h3 := put64 (fun g => dropN (fo g) (2 * r.val + 1)) (k0_pay2 (F := Ideal) s.2.1) ho (k0_pay5 (F := Ideal) cols 0#32 1#32 r s.1.1 s.2.1) r
  have h4 := put5 (fun g => dropN (fo g) (2 * r.val)) s.2.1 h.o s.1.1 r
  have h5 := put65 (fun g => dropN (fc g) (2 * r.val + 1)) (k0_pay4 (F := Ideal) s.2.2) hc (k0_pay6 (F := Ideal) cols 0#32 1#32 r s.1.2 s.2.2) r
  have h6 := put6 (fun g => dropN (fc g) (2 * r.val)) s.2.2 h.c s.1.2 r
  unfold trip
  refine ⟨fun g a => ?_, fun g a => ?_, fun g t ht => ?_, fun g t ht => ?_⟩
  · rw [e, dropN_succ]; exact h1 g a
  · rw [e, dropN_succ]; exact h2 g a
  · dsimp only
    rw [h3, h4]
    split_ifs with c1 c2
    · rw [c1]
    · rw [c2]
    · exact h.lo g t (by omega)
  · dsimp only
    rw [h5, h6]
    split_ifs with c1 c2
    · rw [c1]
    · rw [c2]
    · exact h.lc g t (by omega)

theorem after_rows (fo fc : Obj → Anc → EReal) (s : (Low Ideal × Low Ideal) × (Row Ideal × Row Ideal))
    (ho : ∀ g a, s.2.1 (ix2 g a) = fo g a) (hc : ∀ g a, s.2.2 (ix2 g a) = fc g a) (r : ℕ) (hr : r ≤ 10) : After fo fc r (rows s r) := by
  induction r with
  | zero => exact ⟨ho, hc, fun _ _ h => absurd h (by omega), fun _ _ h => absurd h (by omega)⟩
  | succ r ih =>
    have h : r < k0_t1_loop.trips := by rw [trips_eq]; omega
    show After fo fc (r + 1) (if h : r < k0_t1_loop.trips then trip ⟨r, h⟩ (rows s r) else rows s r)
    rw [dif_pos h]
    exact after_trip fo fc ⟨r, h⟩ _ (ih (by omega))

/-! ## The assignment -/

variable (D : Img)

theorem r_pay56 (v147 : IVec S30x5376 1) (v191 : FVec Ideal S30x5376 .f32) (hv147 : ∀ (g : Obj) (a : Anc), v147 (ix2 g a) = bit (D.cand g a))
    (hv191 : ∀ (g : Obj) (a : Anc), v191 (ix2 g a) = ((D.iou g a : ℝ) : EReal)) (g : Obj) (a : Anc) :
    k0_pay56 v147 v191 (ix2 g a) = -((D.ov g a : ℝ) : EReal) := by
  pointwise [k0_pay56, hv147, hv191]
  rw [bit_sel, zero_sub, ezero, eite]
  rfl
theorem r_pay58 (v : FVec Ideal S30x5376 .f32) (g : Obj) (a : Anc) : k0_pay58 v (ix2 g a) = v (ix2 g a) := by
  pointwise [k0_pay58]

/-- What the two rows of lows hold at the end. -/
structure Lows (w0 w1 : FVec Ideal S30x20 .f32) : Prop where
  o : ∀ g (t : Fin 20), w0 (ix2 g t) = least (dropN (fun a => -((D.ov g a : ℝ) : EReal)) t.val)
  c : ∀ g (t : Fin 20), w1 (ix2 g t) = least (dropN (D.ccost g) t.val)

section

variable (v147 : IVec S30x5376 1) (v191 v311 : FVec Ideal S30x5376 .f32) (w0 w1 : FVec Ideal S30x20 .f32)
    (hD : NoTies D) (hl : Lows D w0 w1)
    (hv147 : ∀ (g : Obj) (a : Anc), v147 (ix2 g a) = bit (D.cand g a)) (hv311 : ∀ (g : Obj) (a : Anc), v311 (ix2 g a) = ((D.cost g a : ℝ) : EReal))
include hD hl hv147 hv311

theorem r_pay66 (g : Obj) (a : Anc) : k0_pay66 v147 v311 w0 w1 (ix2 g a) = bit (D.matched g a) := by
  pointwise [k0_pay66, hv147, hv311, hl.o, hl.c]
  have hs : ∑ x : Fin 20, max (0 - least (dropN (fun a => -((D.ov g a : ℝ) : EReal)) x.val)) 0 = ((D.topSum g : ℝ) : EReal) := by
    have := sum_removed (D.ov g) (D.ov_nonneg g) (fun i j => Img.ov_inj hD g i j) 20
    simp only [zero_sub]
    exact this
  rw [hs, count_bits _ (D.topSum_nonneg g) (D.topSum_le g)]
  have hk1 := D.dynK_pos g
  have hk2 := D.dynK_le g
  have hd : (min (max ⌊D.topSum g⌋ 1) 20).toNat = D.dynK g := rfl
  have hsub : IntOp.subi (BitVec.ofNat 32 (D.dynK g)) 1#32 = BitVec.ofNat 32 (D.dynK g - 1) := by
    show BitVec.ofNat 32 (D.dynK g) - 1#32 = _
    generalize D.dynK g = k at hk1 hk2
    interval_cases k <;> decide
  rw [hd, hsub]
  have hc : ∀ x : Fin 20, Scalar.select (IntOp.cmpi CmpIPredicate.eq (BitVec.ofNat 32 x.val) (BitVec.ofNat 32 (D.dynK g - 1)))
      (least (dropN (D.ccost g) x.val)) (0 : EReal) = if x = ⟨D.dynK g - 1, by omega⟩ then least (dropN (D.ccost g) x.val) else 0 := by
    intro x
    rw [cmp_eq_ofNat _ _ (by omega) (by omega), bit_sel]
    exact if_congr (by rw [Fin.ext_iff]) rfl rfl
  simp only [hc, Finset.sum_ite_eq', Finset.mem_univ, if_true, bit_of, bit_and]
  exact bit_congr (Img.matched_iff hD g a).symm

theorem r_mcost (g : Obj) (a : Anc) : Scalar.select (k0_pay66 v147 v311 w0 w1 (ix2 g a)) (v311 (ix2 g a)) (⊤ : EReal) = D.mcost g a := by
  rw [r_pay66 D v147 v311 w0 w1 hD hl hv147 hv311, bit_sel, hv311]
  rfl

theorem r_pay67 (g : Obj) (a : Anc) : k0_pay67 v147 v311 w0 w1 (ix2 g a) = ((D.hot g a : ℝ) : EReal) := by
  have h := r_mcost D v147 v311 w0 w1 hD hl hv147 hv311
  pointwise [k0_pay67, ofBits_inf]
  simp only [h]
  rw [fold_min30, bit_of, bit_hot]
  unfold Img.hot Img.holds
  by_cases hh : D.mcost g a = least fun g' => D.mcost g' a
  · rw [if_pos hh, if_pos hh]
  · rw [if_neg hh, if_neg hh]

theorem r_pay68 (a : Anc) : k0_pay68 v147 v311 w0 w1 (ix2 0 a) = ((D.fi a : ℝ) : EReal) := by
  have h := r_pay66 D v147 v311 w0 w1 hD hl hv147 hv311
  pointwise [k0_pay68, h, ofBits_neg_inf]
  simp only [bit_hot]
  unfold Img.fi
  apply le_antisymm
  · rw [Finset.fold_max_le]
    refine ⟨bot_le, fun g _ => ?_⟩
    rw [EReal.coe_le_coe_iff]
    by_cases hm : D.matched g a
    · rw [if_pos hm, if_pos ⟨g, hm⟩]
    · rw [if_neg hm]; split_ifs <;> norm_num
  · rw [Finset.le_fold_max]
    right
    by_cases hf : D.fg a
    · obtain ⟨g, hg⟩ := hf
      exact ⟨g, Finset.mem_univ _, by rw [if_pos hg, if_pos ⟨g, hg⟩]⟩
    · exact ⟨0, Finset.mem_univ _, by rw [if_neg hf, if_neg fun h => hf ⟨0, h⟩]⟩

theorem r_pay69 (hv191 : ∀ (g : Obj) (a : Anc), v191 (ix2 g a) = ((D.iou g a : ℝ) : EReal)) (g : Obj) (a : Anc) :
    k0_pay69 v147 v191 v311 w0 w1 (ix2 g a) = ((D.iou g a * D.hot g a : ℝ) : EReal) := by
  have h := r_pay67 D v147 v311 w0 w1 hD hl hv147 hv311
  pointwise [k0_pay69, h, hv191]
  rw [emul]

end

end Cert.Loss

end
-- ==== Proof.KernelRead.lean ====
/- The values of one image of the kernel before and after the assignment, read over the extended reals. -/
module

public import proofs.«01_k».proof.Proof.KernelRun
public import proofs.«01_k».proof.Proof.Mask
public import proofs.«01_k».proof.Proof.Bits
public import Idealize.ShloMosaic.Lib.Pointwise
public import Idealize.ShloMosaic.Lib.VecWindow
public import Idealize.ShloMosaic.Lib.Pipeline.ValueKit.Basic

@[expose] public section

set_option maxRecDepth 16384
set_option maxHeartbeats 4000000

noncomputable section

namespace Cert.Loss

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

open Classical

variable (D : Img)

theorem r_pay8 (v0 : Vec Ideal S1x85x4096 .f32) (v2 : Vec Ideal S1x85x1024 .f32) (v4 : Vec Ideal S1x85x256 .f32)
    (h6 : ∀ (k : Fin 85) (a : Anc), k0_pay7 v0 v2 v4 (ix2 k a) = ((D.P k a : ℝ) : EReal)) :
    ∀ a : Anc, (k0_pay8 v0 v2 v4) (ix2 0 a) = ((D.obj a : ℝ) : EReal) := by
  intro a
  pointwise [k0_pay8, h6]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rfl

theorem r_pay9 (v0 : Vec Ideal S1x85x4096 .f32) (v2 : Vec Ideal S1x85x1024 .f32) (v4 : Vec Ideal S1x85x256 .f32)
    (h6 : ∀ (k : Fin 85) (a : Anc), k0_pay7 v0 v2 v4 (ix2 k a) = ((D.P k a : ℝ) : EReal)) :
    ∀ (k : Fin 80) (a : Anc), (k0_pay9 v0 v2 v4) (ix2 k a) = ((D.cl k a : ℝ) : EReal) := by
  intro k a
  pointwise [k0_pay9, h6]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rfl

theorem r_pay10 (v0 : Vec Ideal S1x85x4096 .f32) (v2 : Vec Ideal S1x85x1024 .f32) (v4 : Vec Ideal S1x85x256 .f32) (v7 : Vec Ideal S1x5376 .f32) (v9 : Vec Ideal S1x5376 .f32)
    (h6 : ∀ (k : Fin 85) (a : Anc), k0_pay7 v0 v2 v4 (ix2 k a) = ((D.P k a : ℝ) : EReal)) (hv7 : ∀ a : Anc, v7 (ix2 0 a) = ((ax a : ℝ) : EReal)) (hv9 : ∀ a : Anc, v9 (ix2 0 a) = ((st a : ℝ) : EReal)) :
    ∀ a : Anc, (k0_pay10 v0 v2 v4 v7 v9) (ix2 0 a) = ((D.cx a : ℝ) : EReal) := by
  intro a
  pointwise [k0_pay10, h6, hv7, hv9]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [esg]
  simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rfl

theorem r_pay11 (v0 : Vec Ideal S1x85x4096 .f32) (v2 : Vec Ideal S1x85x1024 .f32) (v4 : Vec Ideal S1x85x256 .f32)
    (h6 : ∀ (k : Fin 85) (a : Anc), k0_pay7 v0 v2 v4 (ix2 k a) = ((D.P k a : ℝ) : EReal)) :
    ∀ a : Anc, (k0_pay11 v0 v2 v4) (ix2 0 a) = ((sg (D.P 1 a) : ℝ) : EReal) := by
  intro a
  pointwise [k0_pay11, h6]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  exact esg _

theorem r_pay12
     :
    ∀ a : Anc, (k0_pay12 (F := Ideal)) (ix2 0 a) = ((2 : ℝ) : EReal) := by
  intro a
  pointwise [k0_pay12]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  try rfl

theorem r_pay16 (v6 : FVec Ideal S85x5376 .f32) (v9 : Vec Ideal S1x5376 .f32) (v25 : FVec Ideal S1x5376 .f32)
    (hv6 : ∀ (k : Fin 85) (a : Anc), v6 (ix2 k a) = ((D.P k a : ℝ) : EReal)) (hv9 : ∀ a : Anc, v9 (ix2 0 a) = ((st a : ℝ) : EReal)) (hv25 : ∀ a : Anc, v25 (ix2 0 a) = ((D.cx a : ℝ) : EReal)) :
    ∀ a : Anc, (k0_pay16 v6 v9 v25) (ix2 0 a) = ((D.px1 a : ℝ) : EReal) := by
  intro a
  pointwise [k0_pay16, k0_pay14, hv6, hv9, hv25]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [esp]
  simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rfl

theorem r_pay17 (v6 : FVec Ideal S85x5376 .f32) (v9 : Vec Ideal S1x5376 .f32) (v25 : FVec Ideal S1x5376 .f32)
    (hv6 : ∀ (k : Fin 85) (a : Anc), v6 (ix2 k a) = ((D.P k a : ℝ) : EReal)) (hv9 : ∀ a : Anc, v9 (ix2 0 a) = ((st a : ℝ) : EReal)) (hv25 : ∀ a : Anc, v25 (ix2 0 a) = ((D.cx a : ℝ) : EReal)) :
    ∀ a : Anc, (k0_pay17 v6 v9 v25) (ix2 0 a) = ((D.px2 a : ℝ) : EReal) := by
  intro a
  pointwise [k0_pay17, k0_pay14, hv6, hv9, hv25]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [esp]
  simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rfl

theorem r_pay18 (v6 : FVec Ideal S85x5376 .f32) (v8 : Vec Ideal S1x5376 .f32) (v9 : Vec Ideal S1x5376 .f32) (v33 : FVec Ideal S1x5376 .f32) (v34 : FVec Ideal S1x5376 .f32)
    (hv6 : ∀ (k : Fin 85) (a : Anc), v6 (ix2 k a) = ((D.P k a : ℝ) : EReal)) (hv8 : ∀ a : Anc, v8 (ix2 0 a) = ((ay a : ℝ) : EReal)) (hv9 : ∀ a : Anc, v9 (ix2 0 a) = ((st a : ℝ) : EReal)) (hv33 : ∀ a : Anc, v33 (ix2 0 a) = ((sg (D.P 1 a) : ℝ) : EReal)) (hv34 : ∀ a : Anc, v34 (ix2 0 a) = ((2 : ℝ) : EReal)) :
    ∀ a : Anc, (k0_pay18 v6 v8 v9 v33 v34) (ix2 0 a) = ((D.py1 a : ℝ) : EReal) := by
  intro a
  pointwise [k0_pay18, k0_pay13, k0_pay15, hv6, hv8, hv9, hv33, hv34]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [esp]
  simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rfl

theorem r_pay19 (v6 : FVec Ideal S85x5376 .f32) (v8 : Vec Ideal S1x5376 .f32) (v9 : Vec Ideal S1x5376 .f32) (v33 : FVec Ideal S1x5376 .f32) (v34 : FVec Ideal S1x5376 .f32)
    (hv6 : ∀ (k : Fin 85) (a : Anc), v6 (ix2 k a) = ((D.P k a : ℝ) : EReal)) (hv8 : ∀ a : Anc, v8 (ix2 0 a) = ((ay a : ℝ) : EReal)) (hv9 : ∀ a : Anc, v9 (ix2 0 a) = ((st a : ℝ) : EReal)) (hv33 : ∀ a : Anc, v33 (ix2 0 a) = ((sg (D.P 1 a) : ℝ) : EReal)) (hv34 : ∀ a : Anc, v34 (ix2 0 a) = ((2 : ℝ) : EReal)) :
    ∀ a : Anc, (k0_pay19 v6 v8 v9 v33 v34) (ix2 0 a) = ((D.py2 a : ℝ) : EReal) := by
  intro a
  pointwise [k0_pay19, k0_pay13, k0_pay15, hv6, hv8, hv9, hv33, hv34]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [esp]
  simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rfl

theorem r_pay20 (v72 : Vec Ideal S1x30x4 .f32)
    (hv72 : ∀ (g : Obj) (k : Fin 4), v72 (ix3 0 g k) = ((D.B g k : ℝ) : EReal)) :
    ∀ (g : Obj) (k : Fin 4), (k0_pay20 v72) (ix2 g k) = ((D.B g k : ℝ) : EReal) := by
  intro g k
  pointwise [k0_pay20, hv72]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]

theorem r_pay21 (v72 : Vec Ideal S1x30x4 .f32)
    (hv72 : ∀ (g : Obj) (k : Fin 4), v72 (ix3 0 g k) = ((D.B g k : ℝ) : EReal)) :
    ∀ g : Obj, (k0_pay21 v72) (ix2 g 0) = ((D.gcx g : ℝ) : EReal) := by
  intro g
  pointwise [k0_pay21, k0_pay20, hv72]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rfl

theorem r_pay22 (v72 : Vec Ideal S1x30x4 .f32)
    (hv72 : ∀ (g : Obj) (k : Fin 4), v72 (ix3 0 g k) = ((D.B g k : ℝ) : EReal)) :
    ∀ g : Obj, (k0_pay22 v72) (ix2 g 0) = ((D.gcy g : ℝ) : EReal) := by
  intro g
  pointwise [k0_pay22, k0_pay20, hv72]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rfl

theorem r_pay23 (v72 : Vec Ideal S1x30x4 .f32)
    (hv72 : ∀ (g : Obj) (k : Fin 4), v72 (ix3 0 g k) = ((D.B g k : ℝ) : EReal)) :
    ∀ g : Obj, (k0_pay23 v72) (ix2 g 0) = ((D.B g 2 : ℝ) : EReal) := by
  intro g
  pointwise [k0_pay23, k0_pay20, hv72]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  try rfl

theorem r_pay26 (v76 : FVec Ideal S30x1 .f32) (v80 : FVec Ideal S30x1 .f32)
    (hv76 : ∀ g : Obj, v76 (ix2 g 0) = ((D.gcx g : ℝ) : EReal)) (hv80 : ∀ g : Obj, v80 (ix2 g 0) = ((D.B g 2 : ℝ) : EReal)) :
    ∀ g : Obj, (k0_pay26 v76 v80) (ix2 g 0) = ((D.gx1 g : ℝ) : EReal) := by
  intro g
  pointwise [k0_pay26, k0_pay24, hv76, hv80]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rfl

theorem r_pay27 (v76 : FVec Ideal S30x1 .f32) (v80 : FVec Ideal S30x1 .f32)
    (hv76 : ∀ g : Obj, v76 (ix2 g 0) = ((D.gcx g : ℝ) : EReal)) (hv80 : ∀ g : Obj, v80 (ix2 g 0) = ((D.B g 2 : ℝ) : EReal)) :
    ∀ g : Obj, (k0_pay27 v76 v80) (ix2 g 0) = ((D.gx2 g : ℝ) : EReal) := by
  intro g
  pointwise [k0_pay27, k0_pay24, hv76, hv80]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rfl

theorem r_pay28 (v73 : FVec Ideal S30x4 .f32) (v79 : FVec Ideal S30x1 .f32)
    (hv73 : ∀ (g : Obj) (k : Fin 4), v73 (ix2 g k) = ((D.B g k : ℝ) : EReal)) (hv79 : ∀ g : Obj, v79 (ix2 g 0) = ((D.gcy g : ℝ) : EReal)) :
    ∀ g : Obj, (k0_pay28 v73 v79) (ix2 g 0) = ((D.gy1 g : ℝ) : EReal) := by
  intro g
  pointwise [k0_pay28, k0_pay25, hv73, hv79]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rfl

theorem r_pay29 (v73 : FVec Ideal S30x4 .f32) (v79 : FVec Ideal S30x1 .f32)
    (hv73 : ∀ (g : Obj) (k : Fin 4), v73 (ix2 g k) = ((D.B g k : ℝ) : EReal)) (hv79 : ∀ g : Obj, v79 (ix2 g 0) = ((D.gcy g : ℝ) : EReal)) :
    ∀ g : Obj, (k0_pay29 v73 v79) (ix2 g 0) = ((D.gy2 g : ℝ) : EReal) := by
  intro g
  pointwise [k0_pay29, k0_pay25, hv73, hv79]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rfl

theorem r_pay30 (v76 : FVec Ideal S30x1 .f32) (v80 : FVec Ideal S30x1 .f32)
    (hv76 : ∀ g : Obj, v76 (ix2 g 0) = ((D.gcx g : ℝ) : EReal)) (hv80 : ∀ g : Obj, v80 (ix2 g 0) = ((D.B g 2 : ℝ) : EReal)) :
    ∀ g : Obj, (k0_pay30 v76 v80) (ix2 g 0) = ((D.gw g : ℝ) : EReal) := by
  intro g
  pointwise [k0_pay30, k0_pay26, k0_pay27, k0_pay24, hv76, hv80]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [max_comm]
  rfl

theorem r_pay31 (v73 : FVec Ideal S30x4 .f32) (v79 : FVec Ideal S30x1 .f32)
    (hv73 : ∀ (g : Obj) (k : Fin 4), v73 (ix2 g k) = ((D.B g k : ℝ) : EReal)) (hv79 : ∀ g : Obj, v79 (ix2 g 0) = ((D.gcy g : ℝ) : EReal)) :
    ∀ g : Obj, (k0_pay31 v73 v79) (ix2 g 0) = ((D.gh g : ℝ) : EReal) := by
  intro g
  pointwise [k0_pay31, k0_pay28, k0_pay29, k0_pay25, hv73, hv79]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [max_comm]
  rfl

theorem r_pay32 (v9 : Vec Ideal S1x5376 .f32) (v73 : FVec Ideal S30x4 .f32) (v76 : FVec Ideal S30x1 .f32) (v79 : FVec Ideal S30x1 .f32) (v80 : FVec Ideal S30x1 .f32)
    (hv9 : ∀ a : Anc, v9 (ix2 0 a) = ((st a : ℝ) : EReal)) (hv73 : ∀ (g : Obj) (k : Fin 4), v73 (ix2 g k) = ((D.B g k : ℝ) : EReal)) (hv76 : ∀ g : Obj, v76 (ix2 g 0) = ((D.gcx g : ℝ) : EReal)) (hv79 : ∀ g : Obj, v79 (ix2 g 0) = ((D.gcy g : ℝ) : EReal)) (hv80 : ∀ g : Obj, v80 (ix2 g 0) = ((D.B g 2 : ℝ) : EReal)) :
    ∀ (g : Obj) (a : Anc), (k0_pay32 v9 v73 v76 v79 v80) (ix2 g a) = bit (D.gate g a) := by
  intro g a
  pointwise [k0_pay32, k0_pay30, k0_pay31, k0_pay26, k0_pay27, k0_pay28, k0_pay29, k0_pay24, k0_pay25, hv9, hv73, hv76, hv79, hv80]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [ediv _ _ (ne_of_gt (mul_pos (st_pos a) (st_pos a)))]
  simp only [emul, EReal.coe_le_coe_iff, bit_of, bit_and]
  refine bit_congr ?_
  unfold Img.gate Img.gw Img.gh Img.gx2 Img.gx1 Img.gy2 Img.gy1 Img.gww Img.ghh
  rw [max_comm e7, max_comm e7, mul_one_div]

theorem r_pay33 (v7 : Vec Ideal S1x5376 .f32) (v76 : FVec Ideal S30x1 .f32)
    (hv7 : ∀ a : Anc, v7 (ix2 0 a) = ((ax a : ℝ) : EReal)) (hv76 : ∀ g : Obj, v76 (ix2 g 0) = ((D.gcx g : ℝ) : EReal)) :
    ∀ (g : Obj) (a : Anc), (k0_pay33 v7 v76) (ix2 g a) = ((D.dx g a : ℝ) : EReal) := by
  intro g a
  pointwise [k0_pay33, hv7, hv76]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rfl

theorem r_pay34 (v8 : Vec Ideal S1x5376 .f32) (v79 : FVec Ideal S30x1 .f32)
    (hv8 : ∀ a : Anc, v8 (ix2 0 a) = ((ay a : ℝ) : EReal)) (hv79 : ∀ g : Obj, v79 (ix2 g 0) = ((D.gcy g : ℝ) : EReal)) :
    ∀ (g : Obj) (a : Anc), (k0_pay34 v8 v79) (ix2 g a) = ((D.dy g a : ℝ) : EReal) := by
  intro g a
  pointwise [k0_pay34, hv8, hv79]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rfl

theorem r_pay36 (v7 : Vec Ideal S1x5376 .f32) (v9 : Vec Ideal S1x5376 .f32) (v76 : FVec Ideal S30x1 .f32)
    (hv7 : ∀ a : Anc, v7 (ix2 0 a) = ((ax a : ℝ) : EReal)) (hv9 : ∀ a : Anc, v9 (ix2 0 a) = ((st a : ℝ) : EReal)) (hv76 : ∀ g : Obj, v76 (ix2 g 0) = ((D.gcx g : ℝ) : EReal)) :
    ∀ (g : Obj) (a : Anc), (k0_pay36 v7 v9 v76) (ix2 g a) = bit (D.dx g a < 2 * st a) := by
  intro g a
  pointwise [k0_pay36, k0_pay33, k0_pay35, hv7, hv9, hv76]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  simp only [EReal.coe_lt_coe_iff, bit_of]
  try rfl

theorem r_pay37 (v9 : Vec Ideal S1x5376 .f32)
    (hv9 : ∀ a : Anc, v9 (ix2 0 a) = ((st a : ℝ) : EReal)) :
    ∀ (g : Obj) (a : Anc), (k0_pay37 v9) (ix2 g a) = ((2 * st a : ℝ) : EReal) := by
  intro g a
  pointwise [k0_pay37, k0_pay35, hv9]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]

theorem r_pay38 (v7 : Vec Ideal S1x5376 .f32) (v8 : Vec Ideal S1x5376 .f32) (v88 : FVec Ideal S30x1 .f32) (v91 : FVec Ideal S30x1 .f32) (v94 : FVec Ideal S30x1 .f32) (v97 : FVec Ideal S30x1 .f32) (v115 : IVec S30x5376 1) (v123 : FVec Ideal S30x5376 .f32) (v127 : IVec S30x5376 1) (v128 : FVec Ideal S30x5376 .f32)
    (hv7 : ∀ a : Anc, v7 (ix2 0 a) = ((ax a : ℝ) : EReal)) (hv8 : ∀ a : Anc, v8 (ix2 0 a) = ((ay a : ℝ) : EReal)) (hv88 : ∀ g : Obj, v88 (ix2 g 0) = ((D.gx1 g : ℝ) : EReal)) (hv91 : ∀ g : Obj, v91 (ix2 g 0) = ((D.gx2 g : ℝ) : EReal)) (hv94 : ∀ g : Obj, v94 (ix2 g 0) = ((D.gy1 g : ℝ) : EReal)) (hv97 : ∀ g : Obj, v97 (ix2 g 0) = ((D.gy2 g : ℝ) : EReal)) (hv115 : ∀ (g : Obj) (a : Anc), v115 (ix2 g a) = bit (D.gate g a)) (hv123 : ∀ (g : Obj) (a : Anc), v123 (ix2 g a) = ((D.dy g a : ℝ) : EReal)) (hv127 : ∀ (g : Obj) (a : Anc), v127 (ix2 g a) = bit (D.dx g a < 2 * st a)) (hv128 : ∀ (g : Obj) (a : Anc), v128 (ix2 g a) = ((2 * st a : ℝ) : EReal)) :
    ∀ (g : Obj) (a : Anc), (k0_pay38 v7 v8 v88 v91 v94 v97 v115 v123 v127 v128) (ix2 g a) = bit (D.cand g a) := by
  intro g a
  pointwise [k0_pay38, hv7, hv8, hv88, hv91, hv94, hv97, hv115, hv123, hv127, hv128]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  simp only [EReal.coe_lt_coe_iff, bit_of, bit_and, bit_or]
  rfl

theorem r_pay39 (v62 : FVec Ideal S1x5376 .f32) (v65 : FVec Ideal S1x5376 .f32) (v68 : FVec Ideal S1x5376 .f32) (v71 : FVec Ideal S1x5376 .f32) (v88 : FVec Ideal S30x1 .f32) (v91 : FVec Ideal S30x1 .f32) (v94 : FVec Ideal S30x1 .f32) (v97 : FVec Ideal S30x1 .f32)
    (hv62 : ∀ a : Anc, v62 (ix2 0 a) = ((D.px1 a : ℝ) : EReal)) (hv65 : ∀ a : Anc, v65 (ix2 0 a) = ((D.px2 a : ℝ) : EReal)) (hv68 : ∀ a : Anc, v68 (ix2 0 a) = ((D.py1 a : ℝ) : EReal)) (hv71 : ∀ a : Anc, v71 (ix2 0 a) = ((D.py2 a : ℝ) : EReal)) (hv88 : ∀ g : Obj, v88 (ix2 g 0) = ((D.gx1 g : ℝ) : EReal)) (hv91 : ∀ g : Obj, v91 (ix2 g 0) = ((D.gx2 g : ℝ) : EReal)) (hv94 : ∀ g : Obj, v94 (ix2 g 0) = ((D.gy1 g : ℝ) : EReal)) (hv97 : ∀ g : Obj, v97 (ix2 g 0) = ((D.gy2 g : ℝ) : EReal)) :
    ∀ (g : Obj) (a : Anc), (k0_pay39 v62 v65 v68 v71 v88 v91 v94 v97) (ix2 g a) = ((D.inter g a : ℝ) : EReal) := by
  intro g a
  pointwise [k0_pay39, hv62, hv65, hv68, hv71, hv88, hv91, hv94, hv97]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  try (congr 1; simp only [Img.inter]; try simp only [max_comm, min_comm]; try ring_nf)

theorem r_pay40 (v88 : FVec Ideal S30x1 .f32) (v91 : FVec Ideal S30x1 .f32) (v94 : FVec Ideal S30x1 .f32) (v97 : FVec Ideal S30x1 .f32)
    (hv88 : ∀ g : Obj, v88 (ix2 g 0) = ((D.gx1 g : ℝ) : EReal)) (hv91 : ∀ g : Obj, v91 (ix2 g 0) = ((D.gx2 g : ℝ) : EReal)) (hv94 : ∀ g : Obj, v94 (ix2 g 0) = ((D.gy1 g : ℝ) : EReal)) (hv97 : ∀ g : Obj, v97 (ix2 g 0) = ((D.gy2 g : ℝ) : EReal)) :
    ∀ (g : Obj) (a : Anc), (k0_pay40 v88 v91 v94 v97) (ix2 g a) = ((D.a1 g : ℝ) : EReal) := by
  intro g a
  pointwise [k0_pay40, hv88, hv91, hv94, hv97]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  try (congr 1; simp only [Img.a1]; try simp only [max_comm, min_comm]; try ring_nf)

theorem r_pay41 (v62 : FVec Ideal S1x5376 .f32) (v65 : FVec Ideal S1x5376 .f32) (v68 : FVec Ideal S1x5376 .f32) (v71 : FVec Ideal S1x5376 .f32)
    (hv62 : ∀ a : Anc, v62 (ix2 0 a) = ((D.px1 a : ℝ) : EReal)) (hv65 : ∀ a : Anc, v65 (ix2 0 a) = ((D.px2 a : ℝ) : EReal)) (hv68 : ∀ a : Anc, v68 (ix2 0 a) = ((D.py1 a : ℝ) : EReal)) (hv71 : ∀ a : Anc, v71 (ix2 0 a) = ((D.py2 a : ℝ) : EReal)) :
    ∀ (g : Obj) (a : Anc), (k0_pay41 v62 v65 v68 v71) (ix2 g a) = ((D.a2 a : ℝ) : EReal) := by
  intro g a
  pointwise [k0_pay41, hv62, hv65, hv68, hv71]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  try (congr 1; simp only [Img.a2]; try simp only [max_comm, min_comm]; try ring_nf)

theorem r_pay42 (v180 : FVec Ideal S30x5376 .f32) (v181 : FVec Ideal S30x5376 .f32) (v182 : FVec Ideal S30x5376 .f32)
    (hv180 : ∀ (g : Obj) (a : Anc), v180 (ix2 g a) = ((D.inter g a : ℝ) : EReal)) (hv181 : ∀ (g : Obj) (a : Anc), v181 (ix2 g a) = ((D.a1 g : ℝ) : EReal)) (hv182 : ∀ (g : Obj) (a : Anc), v182 (ix2 g a) = ((D.a2 a : ℝ) : EReal)) :
    ∀ (g : Obj) (a : Anc), (k0_pay42 v180 v181 v182) (ix2 g a) = ((D.iou g a : ℝ) : EReal) := by
  intro g a
  pointwise [k0_pay42, hv180, hv181, hv182]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [ediv _ _ (D.union_pos g a).ne']
  simp only [emax, emin]
  rw [max_comm, min_comm]
  rfl

theorem r_pay43 (v10 : FVec Ideal S1x5376 .f32)
    (hv10 : ∀ a : Anc, v10 (ix2 0 a) = ((D.obj a : ℝ) : EReal)) :
    ∀ a : Anc, (k0_pay43 v10) (ix2 0 a) = ((D.pob a : ℝ) : EReal) := by
  intro a
  pointwise [k0_pay43, hv10]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  exact esg _

theorem r_pay48 (v62 : FVec Ideal S1x5376 .f32) (v65 : FVec Ideal S1x5376 .f32)
    (hv62 : ∀ a : Anc, v62 (ix2 0 a) = ((D.px1 a : ℝ) : EReal)) (hv65 : ∀ a : Anc, v65 (ix2 0 a) = ((D.px2 a : ℝ) : EReal)) :
    ∀ a : Anc, (k0_pay48 v62 v65) (ix2 0 a) = ((Real.log (D.pwc a) : ℝ) : EReal) := by
  intro a
  pointwise [k0_pay48, hv62, hv65]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [elog _ (lt_max_of_lt_left e7_pos), max_comm]
  rfl

theorem r_pay49 (v68 : FVec Ideal S1x5376 .f32) (v71 : FVec Ideal S1x5376 .f32)
    (hv68 : ∀ a : Anc, v68 (ix2 0 a) = ((D.py1 a : ℝ) : EReal)) (hv71 : ∀ a : Anc, v71 (ix2 0 a) = ((D.py2 a : ℝ) : EReal)) :
    ∀ a : Anc, (k0_pay49 v68 v71) (ix2 0 a) = ((Real.log (D.phc a) : ℝ) : EReal) := by
  intro a
  pointwise [k0_pay49, hv68, hv71]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [elog _ (lt_max_of_lt_left e7_pos), max_comm]
  rfl

theorem r_pay50 (v100 : FVec Ideal S30x1 .f32)
    (hv100 : ∀ g : Obj, v100 (ix2 g 0) = ((D.gw g : ℝ) : EReal)) :
    ∀ g : Obj, (k0_pay50 v100) (ix2 g 0) = ((Real.log (D.gw g) : ℝ) : EReal) := by
  intro g
  pointwise [k0_pay50, hv100]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [elog _ (D.gw_pos g)]

theorem r_pay51 (v103 : FVec Ideal S30x1 .f32)
    (hv103 : ∀ g : Obj, v103 (ix2 g 0) = ((D.gh g : ℝ) : EReal)) :
    ∀ g : Obj, (k0_pay51 v103) (ix2 g 0) = ((Real.log (D.gh g) : ℝ) : EReal) := by
  intro g
  pointwise [k0_pay51, hv103]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [elog _ (D.gh_pos g)]

theorem r_pay52 (v62 : FVec Ideal S1x5376 .f32) (v65 : FVec Ideal S1x5376 .f32) (v100 : FVec Ideal S30x1 .f32)
    (hv62 : ∀ a : Anc, v62 (ix2 0 a) = ((D.px1 a : ℝ) : EReal)) (hv65 : ∀ a : Anc, v65 (ix2 0 a) = ((D.px2 a : ℝ) : EReal)) (hv100 : ∀ g : Obj, v100 (ix2 g 0) = ((D.gw g : ℝ) : EReal)) :
    ∀ (g : Obj) (a : Anc), (k0_pay52 v62 v65 v100) (ix2 g a) = ((|Real.log (D.pwc a) - Real.log (D.gw g)| : ℝ) : EReal) := by
  intro g a
  pointwise [k0_pay52, k0_pay48, k0_pay50, hv62, hv65, hv100]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [elog _ (lt_max_of_lt_left e7_pos), elog _ (D.gw_pos g), max_comm]
  simp only [esub, eabsf]
  rfl

theorem r_pay53 (v68 : FVec Ideal S1x5376 .f32) (v71 : FVec Ideal S1x5376 .f32)
    (hv68 : ∀ a : Anc, v68 (ix2 0 a) = ((D.py1 a : ℝ) : EReal)) (hv71 : ∀ a : Anc, v71 (ix2 0 a) = ((D.py2 a : ℝ) : EReal)) :
    ∀ (g : Obj) (a : Anc), (k0_pay53 v68 v71) (ix2 g a) = ((Real.log (D.phc a) : ℝ) : EReal) := by
  intro g a
  pointwise [k0_pay53, k0_pay49, hv68, hv71]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [elog _ (lt_max_of_lt_left e7_pos), max_comm]
  rfl

theorem r_pay54 (v103 : FVec Ideal S30x1 .f32)
    (hv103 : ∀ g : Obj, v103 (ix2 g 0) = ((D.gh g : ℝ) : EReal)) :
    ∀ (g : Obj) (a : Anc), (k0_pay54 v103) (ix2 g a) = ((Real.log (D.gh g) : ℝ) : EReal) := by
  intro g a
  pointwise [k0_pay54, k0_pay51, hv103]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [elog _ (D.gh_pos g)]

theorem r_pay55 (v9 : Vec Ideal S1x5376 .f32) (v119 : FVec Ideal S30x5376 .f32) (v123 : FVec Ideal S30x5376 .f32) (v147 : IVec S30x5376 1) (v191 : FVec Ideal S30x5376 .f32) (v260 : FVec Ideal S30x5376 .f32) (v264 : FVec Ideal S1x5376 .f32) (v268 : FVec Ideal S1x5376 .f32) (v269 : FVec Ideal S30x1 .f32) (v270 : FVec Ideal S30x1 .f32) (v274 : FVec Ideal S30x5376 .f32) (v275 : FVec Ideal S30x5376 .f32) (v276 : FVec Ideal S30x5376 .f32)
    (hv9 : ∀ a : Anc, v9 (ix2 0 a) = ((st a : ℝ) : EReal)) (hv119 : ∀ (g : Obj) (a : Anc), v119 (ix2 g a) = ((D.dx g a : ℝ) : EReal)) (hv123 : ∀ (g : Obj) (a : Anc), v123 (ix2 g a) = ((D.dy g a : ℝ) : EReal)) (hv147 : ∀ (g : Obj) (a : Anc), v147 (ix2 g a) = bit (D.cand g a)) (hv191 : ∀ (g : Obj) (a : Anc), v191 (ix2 g a) = ((D.iou g a : ℝ) : EReal)) (hv260 : ∀ (g : Obj) (a : Anc), v260 (ix2 g a) = ((D.clsCost g a : ℝ) : EReal)) (hv264 : ∀ a : Anc, v264 (ix2 0 a) = ((Real.log (D.pwc a) : ℝ) : EReal)) (hv268 : ∀ a : Anc, v268 (ix2 0 a) = ((Real.log (D.phc a) : ℝ) : EReal)) (hv269 : ∀ g : Obj, v269 (ix2 g 0) = ((Real.log (D.gw g) : ℝ) : EReal)) (hv270 : ∀ g : Obj, v270 (ix2 g 0) = ((Real.log (D.gh g) : ℝ) : EReal)) (hv274 : ∀ (g : Obj) (a : Anc), v274 (ix2 g a) = ((|Real.log (D.pwc a) - Real.log (D.gw g)| : ℝ) : EReal)) (hv275 : ∀ (g : Obj) (a : Anc), v275 (ix2 g a) = ((Real.log (D.phc a) : ℝ) : EReal)) (hv276 : ∀ (g : Obj) (a : Anc), v276 (ix2 g a) = ((Real.log (D.gh g) : ℝ) : EReal)) :
    ∀ (g : Obj) (a : Anc), (k0_pay55 v9 v119 v123 v147 v191 v260 v264 v268 v269 v270 v274 v275 v276) (ix2 g a) = ((D.cost g a : ℝ) : EReal) := by
  intro g a
  pointwise [k0_pay55, hv9, hv119, hv123, hv147, hv191, hv260, hv264, hv268, hv269, hv270, hv274, hv275, hv276]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [esqrt _ (add_nonneg (mul_self_nonneg _) (mul_self_nonneg _)), ediv _ _ (st_pos a).ne']
  simp only [bit_sel, eite, eadd, esub, emul]
  rfl

theorem r_pay70 (v363 : FVec Ideal S30x5376 .f32)
    (hv363 : ∀ (g : Obj) (a : Anc), v363 (ix2 g a) = ((D.iou g a * D.hot g a : ℝ) : EReal)) :
    ∀ a : Anc, (k0_pay70 v363) (ix2 0 a) = ((D.Iat a : ℝ) : EReal) := by
  intro a
  pointwise [k0_pay70, hv363]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [esum]
  rfl

theorem r_pay71 (v238 : FVec Ideal S30x5376 .f32) (v358 : FVec Ideal S30x5376 .f32)
    (hv238 : ∀ (g : Obj) (a : Anc), v238 (ix2 g a) = ((D.cl (D.lab g) a : ℝ) : EReal)) (hv358 : ∀ (g : Obj) (a : Anc), v358 (ix2 g a) = ((D.hot g a : ℝ) : EReal)) :
    ∀ a : Anc, (k0_pay71 v238 v358) (ix2 0 a) = ((D.Cat a : ℝ) : EReal) := by
  intro a
  pointwise [k0_pay71, hv238, hv358]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [esum]
  rfl

theorem r_pay73 (v358 : FVec Ideal S30x5376 .f32) (v369 : Vec Ideal S1x4x30 .f32)
    (hx0 : ∀ g : Obj, v369 (ix3 0 0 g) = ((D.gx1 g : ℝ) : EReal)) (hx1 : ∀ g : Obj, v369 (ix3 0 1 g) = ((D.gx2 g : ℝ) : EReal)) (hx2 : ∀ g : Obj, v369 (ix3 0 2 g) = ((D.gy1 g : ℝ) : EReal)) (hx3 : ∀ g : Obj, v369 (ix3 0 3 g) = ((D.gy2 g : ℝ) : EReal))
    (hv358 : ∀ (g : Obj) (a : Anc), v358 (ix2 g a) = ((D.hot g a : ℝ) : EReal)) :
    ∀ a : Anc, (k0_pay73 v358 v369) (ix2 0 a) = ((D.T1 a : ℝ) : EReal) := by
  intro a
  pointwise [k0_pay73, k0_pay72, hv358, hx0, hx1, hx2, hx3]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  simp only [esum, eadd, sub_self, zero_mul, Finset.sum_const_zero, add_zero]
  rfl

theorem r_pay74 (v358 : FVec Ideal S30x5376 .f32) (v369 : Vec Ideal S1x4x30 .f32)
    (hx0 : ∀ g : Obj, v369 (ix3 0 0 g) = ((D.gx1 g : ℝ) : EReal)) (hx1 : ∀ g : Obj, v369 (ix3 0 1 g) = ((D.gx2 g : ℝ) : EReal)) (hx2 : ∀ g : Obj, v369 (ix3 0 2 g) = ((D.gy1 g : ℝ) : EReal)) (hx3 : ∀ g : Obj, v369 (ix3 0 3 g) = ((D.gy2 g : ℝ) : EReal))
    (hv358 : ∀ (g : Obj) (a : Anc), v358 (ix2 g a) = ((D.hot g a : ℝ) : EReal)) :
    ∀ a : Anc, (k0_pay74 v358 v369) (ix2 0 a) = ((D.T2 a : ℝ) : EReal) := by
  intro a
  pointwise [k0_pay74, k0_pay72, hv358, hx0, hx1, hx2, hx3]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  simp only [esum, eadd, sub_self, zero_mul, Finset.sum_const_zero, add_zero]
  rfl

theorem r_pay75 (v358 : FVec Ideal S30x5376 .f32) (v369 : Vec Ideal S1x4x30 .f32)
    (hx0 : ∀ g : Obj, v369 (ix3 0 0 g) = ((D.gx1 g : ℝ) : EReal)) (hx1 : ∀ g : Obj, v369 (ix3 0 1 g) = ((D.gx2 g : ℝ) : EReal)) (hx2 : ∀ g : Obj, v369 (ix3 0 2 g) = ((D.gy1 g : ℝ) : EReal)) (hx3 : ∀ g : Obj, v369 (ix3 0 3 g) = ((D.gy2 g : ℝ) : EReal))
    (hv358 : ∀ (g : Obj) (a : Anc), v358 (ix2 g a) = ((D.hot g a : ℝ) : EReal)) :
    ∀ a : Anc, (k0_pay75 v358 v369) (ix2 0 a) = ((D.T3 a : ℝ) : EReal) := by
  intro a
  pointwise [k0_pay75, k0_pay72, hv358, hx0, hx1, hx2, hx3]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  simp only [esum, eadd, sub_self, zero_mul, Finset.sum_const_zero, add_zero]
  rfl

theorem r_pay76 (v358 : FVec Ideal S30x5376 .f32) (v369 : Vec Ideal S1x4x30 .f32)
    (hx0 : ∀ g : Obj, v369 (ix3 0 0 g) = ((D.gx1 g : ℝ) : EReal)) (hx1 : ∀ g : Obj, v369 (ix3 0 1 g) = ((D.gx2 g : ℝ) : EReal)) (hx2 : ∀ g : Obj, v369 (ix3 0 2 g) = ((D.gy1 g : ℝ) : EReal)) (hx3 : ∀ g : Obj, v369 (ix3 0 3 g) = ((D.gy2 g : ℝ) : EReal))
    (hv358 : ∀ (g : Obj) (a : Anc), v358 (ix2 g a) = ((D.hot g a : ℝ) : EReal)) :
    ∀ a : Anc, (k0_pay76 v358 v369) (ix2 0 a) = ((D.T4 a : ℝ) : EReal) := by
  intro a
  pointwise [k0_pay76, k0_pay72, hv358, hx0, hx1, hx2, hx3]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  simp only [esum, eadd, sub_self, zero_mul, Finset.sum_const_zero, add_zero]
  rfl

theorem r_pay77 (v362 : FVec Ideal S1x5376 .f32)
    (hv362 : ∀ a : Anc, v362 (ix2 0 a) = ((D.fi a : ℝ) : EReal)) :
    (k0_pay77 v362) = ((D.nfg : ℝ) : EReal) := by
  pointwise [k0_pay77, hv362]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  simp only [Finset.univ_unique, Finset.sum_singleton, esum, emax]
  rfl

theorem r_pay78 (v62 : FVec Ideal S1x5376 .f32) (v65 : FVec Ideal S1x5376 .f32)
    (hv62 : ∀ a : Anc, v62 (ix2 0 a) = ((D.px1 a : ℝ) : EReal)) (hv65 : ∀ a : Anc, v65 (ix2 0 a) = ((D.px2 a : ℝ) : EReal)) :
    ∀ a : Anc, (k0_pay78 v62 v65) (ix2 0 a) = ((D.pwc a : ℝ) : EReal) := by
  intro a
  pointwise [k0_pay78, hv62, hv65]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [max_comm]
  rfl

theorem r_pay79 (v68 : FVec Ideal S1x5376 .f32) (v71 : FVec Ideal S1x5376 .f32)
    (hv68 : ∀ a : Anc, v68 (ix2 0 a) = ((D.py1 a : ℝ) : EReal)) (hv71 : ∀ a : Anc, v71 (ix2 0 a) = ((D.py2 a : ℝ) : EReal)) :
    ∀ a : Anc, (k0_pay79 v68 v71) (ix2 0 a) = ((D.phc a : ℝ) : EReal) := by
  intro a
  pointwise [k0_pay79, hv68, hv71]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [max_comm]
  rfl

theorem r_pay80 (v358 : FVec Ideal S30x5376 .f32) (v369 : Vec Ideal S1x4x30 .f32)
    (hx0 : ∀ g : Obj, v369 (ix3 0 0 g) = ((D.gx1 g : ℝ) : EReal)) (hx1 : ∀ g : Obj, v369 (ix3 0 1 g) = ((D.gx2 g : ℝ) : EReal)) (hx2 : ∀ g : Obj, v369 (ix3 0 2 g) = ((D.gy1 g : ℝ) : EReal)) (hx3 : ∀ g : Obj, v369 (ix3 0 3 g) = ((D.gy2 g : ℝ) : EReal))
    (hv358 : ∀ (g : Obj) (a : Anc), v358 (ix2 g a) = ((D.hot g a : ℝ) : EReal)) :
    ∀ a : Anc, (k0_pay80 v358 v369) (ix2 0 a) = ((D.tw a : ℝ) : EReal) := by
  intro a
  pointwise [k0_pay80, k0_pay74, k0_pay73, k0_pay72, hv358, hx0, hx1, hx2, hx3]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  simp only [esum, eadd, esub, sub_self, zero_mul, Finset.sum_const_zero, add_zero, emax, emin]
  rw [max_comm]
  rfl

theorem r_pay81 (v358 : FVec Ideal S30x5376 .f32) (v369 : Vec Ideal S1x4x30 .f32)
    (hx0 : ∀ g : Obj, v369 (ix3 0 0 g) = ((D.gx1 g : ℝ) : EReal)) (hx1 : ∀ g : Obj, v369 (ix3 0 1 g) = ((D.gx2 g : ℝ) : EReal)) (hx2 : ∀ g : Obj, v369 (ix3 0 2 g) = ((D.gy1 g : ℝ) : EReal)) (hx3 : ∀ g : Obj, v369 (ix3 0 3 g) = ((D.gy2 g : ℝ) : EReal))
    (hv358 : ∀ (g : Obj) (a : Anc), v358 (ix2 g a) = ((D.hot g a : ℝ) : EReal)) :
    ∀ a : Anc, (k0_pay81 v358 v369) (ix2 0 a) = ((D.th a : ℝ) : EReal) := by
  intro a
  pointwise [k0_pay81, k0_pay76, k0_pay75, k0_pay72, hv358, hx0, hx1, hx2, hx3]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  simp only [esum, eadd, esub, sub_self, zero_mul, Finset.sum_const_zero, add_zero, emax, emin]
  rw [max_comm]
  rfl

theorem r_pay82 (v62 : FVec Ideal S1x5376 .f32) (v65 : FVec Ideal S1x5376 .f32) (v358 : FVec Ideal S30x5376 .f32) (v369 : Vec Ideal S1x4x30 .f32)
    (hx0 : ∀ g : Obj, v369 (ix3 0 0 g) = ((D.gx1 g : ℝ) : EReal)) (hx1 : ∀ g : Obj, v369 (ix3 0 1 g) = ((D.gx2 g : ℝ) : EReal)) (hx2 : ∀ g : Obj, v369 (ix3 0 2 g) = ((D.gy1 g : ℝ) : EReal)) (hx3 : ∀ g : Obj, v369 (ix3 0 3 g) = ((D.gy2 g : ℝ) : EReal))
    (hv62 : ∀ a : Anc, v62 (ix2 0 a) = ((D.px1 a : ℝ) : EReal)) (hv65 : ∀ a : Anc, v65 (ix2 0 a) = ((D.px2 a : ℝ) : EReal)) (hv358 : ∀ (g : Obj) (a : Anc), v358 (ix2 g a) = ((D.hot g a : ℝ) : EReal)) :
    ∀ a : Anc, (k0_pay82 v62 v65 v358 v369) (ix2 0 a) = ((max (min (D.px2 a) (D.T2 a) - max (D.px1 a) (D.T1 a)) 0 : ℝ) : EReal) := by
  intro a
  pointwise [k0_pay82, k0_pay74, k0_pay73, k0_pay72, hv62, hv65, hv358, hx0, hx1, hx2, hx3]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  simp only [esum, eadd, esub, sub_self, zero_mul, Finset.sum_const_zero, add_zero, emax, emin]
  rw [max_comm]
  rfl

theorem r_pay83 (v68 : FVec Ideal S1x5376 .f32) (v71 : FVec Ideal S1x5376 .f32) (v358 : FVec Ideal S30x5376 .f32) (v369 : Vec Ideal S1x4x30 .f32)
    (hx0 : ∀ g : Obj, v369 (ix3 0 0 g) = ((D.gx1 g : ℝ) : EReal)) (hx1 : ∀ g : Obj, v369 (ix3 0 1 g) = ((D.gx2 g : ℝ) : EReal)) (hx2 : ∀ g : Obj, v369 (ix3 0 2 g) = ((D.gy1 g : ℝ) : EReal)) (hx3 : ∀ g : Obj, v369 (ix3 0 3 g) = ((D.gy2 g : ℝ) : EReal))
    (hv68 : ∀ a : Anc, v68 (ix2 0 a) = ((D.py1 a : ℝ) : EReal)) (hv71 : ∀ a : Anc, v71 (ix2 0 a) = ((D.py2 a : ℝ) : EReal)) (hv358 : ∀ (g : Obj) (a : Anc), v358 (ix2 g a) = ((D.hot g a : ℝ) : EReal)) :
    ∀ a : Anc, (k0_pay83 v68 v71 v358 v369) (ix2 0 a) = ((min (D.py2 a) (D.T4 a) - max (D.py1 a) (D.T3 a) : ℝ) : EReal) := by
  intro a
  pointwise [k0_pay83, k0_pay76, k0_pay75, k0_pay72, hv68, hv71, hv358, hx0, hx1, hx2, hx3]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  simp only [esum, eadd, esub, sub_self, zero_mul, Finset.sum_const_zero, add_zero, emax, emin]
  rfl

theorem r_pay84
     :
    ∀ a : Anc, (k0_pay84 (F := Ideal)) (ix2 0 a) = ((0 : ℝ) : EReal) := by
  intro a
  pointwise [k0_pay84]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  try rfl

theorem r_pay85 (v390 : FVec Ideal S1x5376 .f32) (v393 : FVec Ideal S1x5376 .f32) (v396 : FVec Ideal S1x5376 .f32) (v399 : FVec Ideal S1x5376 .f32) (v404 : FVec Ideal S1x5376 .f32) (v407 : FVec Ideal S1x5376 .f32) (v408 : FVec Ideal S1x5376 .f32)
    (hv390 : ∀ a : Anc, v390 (ix2 0 a) = ((D.pwc a : ℝ) : EReal)) (hv393 : ∀ a : Anc, v393 (ix2 0 a) = ((D.phc a : ℝ) : EReal)) (hv396 : ∀ a : Anc, v396 (ix2 0 a) = ((D.tw a : ℝ) : EReal)) (hv399 : ∀ a : Anc, v399 (ix2 0 a) = ((D.th a : ℝ) : EReal)) (hv404 : ∀ a : Anc, v404 (ix2 0 a) = ((max (min (D.px2 a) (D.T2 a) - max (D.px1 a) (D.T1 a)) 0 : ℝ) : EReal)) (hv407 : ∀ a : Anc, v407 (ix2 0 a) = ((min (D.py2 a) (D.T4 a) - max (D.py1 a) (D.T3 a) : ℝ) : EReal)) (hv408 : ∀ a : Anc, v408 (ix2 0 a) = ((0 : ℝ) : EReal)) :
    ∀ a : Anc, (k0_pay85 v390 v393 v396 v399 v404 v407 v408) (ix2 0 a) = ((uOf (D.px1 a) (D.py1 a) (D.px2 a) (D.py2 a) (D.T1 a) (D.T3 a) (D.T2 a) (D.T4 a) : ℝ) : EReal) := by
  intro a
  pointwise [k0_pay85, hv390, hv393, hv396, hv399, hv404, hv407, hv408]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [max_comm 0]
  exact ediv _ _ (ne_of_gt (den_pos (D.px1 a) (D.py1 a) (D.px2 a) (D.py2 a) (D.T1 a) (D.T3 a) (D.T2 a) (D.T4 a)))

theorem r_pay86 (v62 : FVec Ideal S1x5376 .f32) (v65 : FVec Ideal S1x5376 .f32) (v68 : FVec Ideal S1x5376 .f32) (v71 : FVec Ideal S1x5376 .f32) (v379 : FVec Ideal S1x5376 .f32) (v380 : FVec Ideal S1x5376 .f32) (v381 : FVec Ideal S1x5376 .f32) (v382 : FVec Ideal S1x5376 .f32)
    (hv62 : ∀ a : Anc, v62 (ix2 0 a) = ((D.px1 a : ℝ) : EReal)) (hv65 : ∀ a : Anc, v65 (ix2 0 a) = ((D.px2 a : ℝ) : EReal)) (hv68 : ∀ a : Anc, v68 (ix2 0 a) = ((D.py1 a : ℝ) : EReal)) (hv71 : ∀ a : Anc, v71 (ix2 0 a) = ((D.py2 a : ℝ) : EReal)) (hv379 : ∀ a : Anc, v379 (ix2 0 a) = ((D.T1 a : ℝ) : EReal)) (hv380 : ∀ a : Anc, v380 (ix2 0 a) = ((D.T2 a : ℝ) : EReal)) (hv381 : ∀ a : Anc, v381 (ix2 0 a) = ((D.T3 a : ℝ) : EReal)) (hv382 : ∀ a : Anc, v382 (ix2 0 a) = ((D.T4 a : ℝ) : EReal)) :
    ∀ a : Anc, (k0_pay86 v62 v65 v68 v71 v379 v380 v381 v382) (ix2 0 a) = ((cdOf (D.px1 a) (D.py1 a) (D.px2 a) (D.py2 a) (D.T1 a) (D.T3 a) (D.T2 a) (D.T4 a) : ℝ) : EReal) := by
  intro a
  pointwise [k0_pay86, hv62, hv65, hv68, hv71, hv379, hv380, hv381, hv382]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rfl

theorem r_pay87 (v62 : FVec Ideal S1x5376 .f32) (v65 : FVec Ideal S1x5376 .f32) (v68 : FVec Ideal S1x5376 .f32) (v71 : FVec Ideal S1x5376 .f32) (v379 : FVec Ideal S1x5376 .f32) (v380 : FVec Ideal S1x5376 .f32) (v381 : FVec Ideal S1x5376 .f32) (v382 : FVec Ideal S1x5376 .f32)
    (hv62 : ∀ a : Anc, v62 (ix2 0 a) = ((D.px1 a : ℝ) : EReal)) (hv65 : ∀ a : Anc, v65 (ix2 0 a) = ((D.px2 a : ℝ) : EReal)) (hv68 : ∀ a : Anc, v68 (ix2 0 a) = ((D.py1 a : ℝ) : EReal)) (hv71 : ∀ a : Anc, v71 (ix2 0 a) = ((D.py2 a : ℝ) : EReal)) (hv379 : ∀ a : Anc, v379 (ix2 0 a) = ((D.T1 a : ℝ) : EReal)) (hv380 : ∀ a : Anc, v380 (ix2 0 a) = ((D.T2 a : ℝ) : EReal)) (hv381 : ∀ a : Anc, v381 (ix2 0 a) = ((D.T3 a : ℝ) : EReal)) (hv382 : ∀ a : Anc, v382 (ix2 0 a) = ((D.T4 a : ℝ) : EReal)) :
    ∀ a : Anc, (k0_pay87 v62 v65 v68 v71 v379 v380 v381 v382) (ix2 0 a) = ((c2Of (D.px1 a) (D.py1 a) (D.px2 a) (D.py2 a) (D.T1 a) (D.T3 a) (D.T2 a) (D.T4 a) : ℝ) : EReal) := by
  intro a
  pointwise [k0_pay87, hv62, hv65, hv68, hv71, hv379, hv380, hv381, hv382]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rfl

theorem r_pay88 (v396 : FVec Ideal S1x5376 .f32) (v399 : FVec Ideal S1x5376 .f32)
    (hv396 : ∀ a : Anc, v396 (ix2 0 a) = ((D.tw a : ℝ) : EReal)) (hv399 : ∀ a : Anc, v399 (ix2 0 a) = ((D.th a : ℝ) : EReal)) :
    ∀ a : Anc, (k0_pay88 v396 v399) (ix2 0 a) = ((D.tw a / D.th a : ℝ) : EReal) := by
  intro a
  pointwise [k0_pay88, hv396, hv399]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [ediv _ _ (D.th_pos a).ne']

theorem r_pay89 (v396 : FVec Ideal S1x5376 .f32) (v399 : FVec Ideal S1x5376 .f32)
    (hv396 : ∀ a : Anc, v396 (ix2 0 a) = ((D.tw a : ℝ) : EReal)) (hv399 : ∀ a : Anc, v399 (ix2 0 a) = ((D.th a : ℝ) : EReal)) :
    ∀ a : Anc, (k0_pay89 v396 v399) (ix2 0 a) = bit (lit 0x401A827A#32 < D.tw a / D.th a) := by
  intro a
  pointwise [k0_pay89, k0_pay88, hv396, hv399]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [ediv _ _ (D.th_pos a).ne']
  have hp := div_pos (D.tw_pos a) (D.th_pos a)
  simp only [EReal.coe_lt_coe_iff, bit_of]

theorem r_pay90 (v396 : FVec Ideal S1x5376 .f32) (v399 : FVec Ideal S1x5376 .f32)
    (hv396 : ∀ a : Anc, v396 (ix2 0 a) = ((D.tw a : ℝ) : EReal)) (hv399 : ∀ a : Anc, v399 (ix2 0 a) = ((D.th a : ℝ) : EReal)) :
    ∀ a : Anc, (k0_pay90 v396 v399) (ix2 0 a) = bit (lit 0x3ED413CD#32 < D.tw a / D.th a) := by
  intro a
  pointwise [k0_pay90, k0_pay88, hv396, hv399]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [ediv _ _ (D.th_pos a).ne']
  have hp := div_pos (D.tw_pos a) (D.th_pos a)
  simp only [EReal.coe_lt_coe_iff, bit_of]

theorem r_pay91 (v396 : FVec Ideal S1x5376 .f32) (v399 : FVec Ideal S1x5376 .f32)
    (hv396 : ∀ a : Anc, v396 (ix2 0 a) = ((D.tw a : ℝ) : EReal)) (hv399 : ∀ a : Anc, v399 (ix2 0 a) = ((D.th a : ℝ) : EReal)) :
    ∀ a : Anc, (k0_pay91 v396 v399) (ix2 0 a) = ((-1 / (D.tw a / D.th a) : ℝ) : EReal) := by
  intro a
  pointwise [k0_pay91, k0_pay88, hv396, hv399]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [ediv _ _ (D.th_pos a).ne']
  have hp := div_pos (D.tw_pos a) (D.th_pos a)
  rw [ediv _ _ hp.ne']

theorem r_pay92 (v396 : FVec Ideal S1x5376 .f32) (v399 : FVec Ideal S1x5376 .f32)
    (hv396 : ∀ a : Anc, v396 (ix2 0 a) = ((D.tw a : ℝ) : EReal)) (hv399 : ∀ a : Anc, v399 (ix2 0 a) = ((D.th a : ℝ) : EReal)) :
    ∀ a : Anc, (k0_pay92 v396 v399) (ix2 0 a) = ((((D.tw a / D.th a) - 1) / ((D.tw a / D.th a) + 1) : ℝ) : EReal) := by
  intro a
  pointwise [k0_pay92, k0_pay88, hv396, hv399]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [ediv _ _ (D.th_pos a).ne']
  have hp := div_pos (D.tw_pos a) (D.th_pos a)
  simp only [eadd, esub]
  rw [ediv _ _ (by positivity)]

theorem r_pay93 (v446 : FVec Ideal S1x5376 .f32) (v448 : IVec S1x5376 1) (v450 : IVec S1x5376 1) (v452 : FVec Ideal S1x5376 .f32) (v457 : FVec Ideal S1x5376 .f32)
    (hv446 : ∀ a : Anc, v446 (ix2 0 a) = ((D.tw a / D.th a : ℝ) : EReal)) (hv448 : ∀ a : Anc, v448 (ix2 0 a) = bit (lit 0x401A827A#32 < D.tw a / D.th a)) (hv450 : ∀ a : Anc, v450 (ix2 0 a) = bit (lit 0x3ED413CD#32 < D.tw a / D.th a)) (hv452 : ∀ a : Anc, v452 (ix2 0 a) = ((-1 / (D.tw a / D.th a) : ℝ) : EReal)) (hv457 : ∀ a : Anc, v457 (ix2 0 a) = ((((D.tw a / D.th a) - 1) / ((D.tw a / D.th a) + 1) : ℝ) : EReal)) :
    ∀ a : Anc, (k0_pay93 v446 v448 v450 v452 v457) (ix2 0 a) = ((atn (D.tw a / D.th a) : ℝ) : EReal) := by
  intro a
  pointwise [k0_pay93, hv446, hv448, hv450, hv452, hv457]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  simp only [bit_sel, eite, eadd, esub, emul]
  rw [atn_eq]
  congr 1
  unfold yOf y0Of qOf
  generalize (if lit 0x401A827A#32 < D.tw a / D.th a then _ else _ : ℝ) = y
  generalize (if lit 0x401A827A#32 < D.tw a / D.th a then _ else _ : ℝ) = y0
  ring

theorem r_pay97 (v390 : FVec Ideal S1x5376 .f32) (v393 : FVec Ideal S1x5376 .f32)
    (hv390 : ∀ a : Anc, v390 (ix2 0 a) = ((D.pwc a : ℝ) : EReal)) (hv393 : ∀ a : Anc, v393 (ix2 0 a) = ((D.phc a : ℝ) : EReal)) :
    ∀ a : Anc, (k0_pay97 v390 v393) (ix2 0 a) = ((yOf (D.pwc a / D.phc a) : ℝ) : EReal) := by
  intro a
  pointwise [k0_pay97, k0_pay94, k0_pay95, k0_pay96, hv390, hv393]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [ediv _ _ (D.phc_pos a).ne']
  have hp := div_pos (D.pwc_pos a) (D.phc_pos a)
  rw [ediv _ _ hp.ne']
  simp only [eadd, esub]
  rw [ediv _ _ (by positivity)]
  simp only [EReal.coe_lt_coe_iff, bit_of, bit_sel, eite, emul]
  rfl

theorem r_pay98 (v390 : FVec Ideal S1x5376 .f32) (v393 : FVec Ideal S1x5376 .f32)
    (hv390 : ∀ a : Anc, v390 (ix2 0 a) = ((D.pwc a : ℝ) : EReal)) (hv393 : ∀ a : Anc, v393 (ix2 0 a) = ((D.phc a : ℝ) : EReal)) :
    ∀ a : Anc, (k0_pay98 v390 v393) (ix2 0 a) = ((y0Of (D.pwc a / D.phc a) : ℝ) : EReal) := by
  intro a
  pointwise [k0_pay98, k0_pay94, k0_pay95, k0_pay96, hv390, hv393]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [ediv _ _ (D.phc_pos a).ne']
  have hp := div_pos (D.pwc_pos a) (D.phc_pos a)
  simp only [EReal.coe_lt_coe_iff, bit_of, bit_sel, eite]
  rfl

theorem r_pay99 (v390 : FVec Ideal S1x5376 .f32) (v393 : FVec Ideal S1x5376 .f32)
    (hv390 : ∀ a : Anc, v390 (ix2 0 a) = ((D.pwc a : ℝ) : EReal)) (hv393 : ∀ a : Anc, v393 (ix2 0 a) = ((D.phc a : ℝ) : EReal)) :
    ∀ a : Anc, (k0_pay99 v390 v393) (ix2 0 a) = ((yOf (D.pwc a / D.phc a) * yOf (D.pwc a / D.phc a) : ℝ) : EReal) := by
  intro a
  pointwise [k0_pay99, k0_pay94, k0_pay95, k0_pay96, k0_pay97, hv390, hv393]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [ediv _ _ (D.phc_pos a).ne']
  have hp := div_pos (D.pwc_pos a) (D.phc_pos a)
  rw [ediv _ _ hp.ne']
  simp only [eadd, esub]
  rw [ediv _ _ (by positivity)]
  simp only [EReal.coe_lt_coe_iff, bit_of, bit_sel, eite, emul]
  rfl

theorem r_pay100 (v390 : FVec Ideal S1x5376 .f32) (v393 : FVec Ideal S1x5376 .f32)
    (hv390 : ∀ a : Anc, v390 (ix2 0 a) = ((D.pwc a : ℝ) : EReal)) (hv393 : ∀ a : Anc, v393 (ix2 0 a) = ((D.phc a : ℝ) : EReal)) :
    ∀ a : Anc, (k0_pay100 v390 v393) (ix2 0 a) = ((lit 0x3DA4F0D1#32 * (yOf (D.pwc a / D.phc a) * yOf (D.pwc a / D.phc a)) : ℝ) : EReal) := by
  intro a
  pointwise [k0_pay100, k0_pay94, k0_pay95, k0_pay96, k0_pay97, k0_pay99, hv390, hv393]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [ediv _ _ (D.phc_pos a).ne']
  have hp := div_pos (D.pwc_pos a) (D.phc_pos a)
  rw [ediv _ _ hp.ne']
  simp only [eadd, esub]
  rw [ediv _ _ (by positivity)]
  simp only [EReal.coe_lt_coe_iff, bit_of, bit_sel, eite, emul]
  rfl

theorem r_pay101 (v362 : FVec Ideal S1x5376 .f32) (v387 : Ideal .f32) (v417 : FVec Ideal S1x5376 .f32) (v434 : FVec Ideal S1x5376 .f32) (v445 : FVec Ideal S1x5376 .f32) (v479 : FVec Ideal S1x5376 .f32) (v493 : FVec Ideal S1x5376 .f32) (v498 : FVec Ideal S1x5376 .f32) (v499 : FVec Ideal S1x5376 .f32) (v501 : FVec Ideal S1x5376 .f32)
    (hv362 : ∀ a : Anc, v362 (ix2 0 a) = ((D.fi a : ℝ) : EReal)) (hv387 : v387 = ((D.nfg : ℝ) : EReal)) (hv417 : ∀ a : Anc, v417 (ix2 0 a) = ((uOf (D.px1 a) (D.py1 a) (D.px2 a) (D.py2 a) (D.T1 a) (D.T3 a) (D.T2 a) (D.T4 a) : ℝ) : EReal)) (hv434 : ∀ a : Anc, v434 (ix2 0 a) = ((cdOf (D.px1 a) (D.py1 a) (D.px2 a) (D.py2 a) (D.T1 a) (D.T3 a) (D.T2 a) (D.T4 a) : ℝ) : EReal)) (hv445 : ∀ a : Anc, v445 (ix2 0 a) = ((c2Of (D.px1 a) (D.py1 a) (D.px2 a) (D.py2 a) (D.T1 a) (D.T3 a) (D.T2 a) (D.T4 a) : ℝ) : EReal)) (hv479 : ∀ a : Anc, v479 (ix2 0 a) = ((atn (D.tw a / D.th a) : ℝ) : EReal)) (hv493 : ∀ a : Anc, v493 (ix2 0 a) = ((yOf (D.pwc a / D.phc a) : ℝ) : EReal)) (hv498 : ∀ a : Anc, v498 (ix2 0 a) = ((y0Of (D.pwc a / D.phc a) : ℝ) : EReal)) (hv499 : ∀ a : Anc, v499 (ix2 0 a) = ((yOf (D.pwc a / D.phc a) * yOf (D.pwc a / D.phc a) : ℝ) : EReal)) (hv501 : ∀ a : Anc, v501 (ix2 0 a) = ((lit 0x3DA4F0D1#32 * (yOf (D.pwc a / D.phc a) * yOf (D.pwc a / D.phc a)) : ℝ) : EReal)) :
    (k0_pay101 v362 v387 v417 v434 v445 v479 v493 v498 v499 v501) = (((∑ a : Anc, D.fi a * (1 - Img.ciouOf (D.px1 a) (D.py1 a) (D.px2 a) (D.py2 a) (D.T1 a) (D.T3 a) (D.T2 a) (D.T4 a))) / D.nfg : ℝ) : EReal) := by
  pointwise [k0_pay101, hv362, hv387, hv417, hv434, hv445, hv479, hv493, hv498, hv499, hv501]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  have key : ∀ a : Anc, ((D.fi a : ℝ) : EReal) * (((1 : ℝ) : EReal) -
      (((uOf (D.px1 a) (D.py1 a) (D.px2 a) (D.py2 a) (D.T1 a) (D.T3 a) (D.T2 a) (D.T4 a) : ℝ) : EReal) - Ideal.div ((cdOf (D.px1 a) (D.py1 a) (D.px2 a) (D.py2 a) (D.T1 a) (D.T3 a) (D.T2 a) (D.T4 a) : ℝ) : EReal) ((c2Of (D.px1 a) (D.py1 a) (D.px2 a) (D.py2 a) (D.T1 a) (D.T3 a) (D.T2 a) (D.T4 a) : ℝ) : EReal)
        - Ideal.div ((vOf (D.pwc a / D.phc a) (D.tw a / D.th a) : ℝ) : EReal)
            ((vOf (D.pwc a / D.phc a) (D.tw a / D.th a) - uOf (D.px1 a) (D.py1 a) (D.px2 a) (D.py2 a) (D.T1 a) (D.T3 a) (D.T2 a) (D.T4 a) + 1 + e7 : ℝ) : EReal)
          * ((vOf (D.pwc a / D.phc a) (D.tw a / D.th a) : ℝ) : EReal)))
      = ((D.fi a * (1 - Img.ciouOf (D.px1 a) (D.py1 a) (D.px2 a) (D.py2 a) (D.T1 a) (D.T3 a) (D.T2 a) (D.T4 a)) : ℝ) : EReal) := by
    intro a
    rw [ediv _ _ (c2Of_pos _ _ _ _ _ _ _ _).ne', ediv _ _ (alpha_pos _ _ _ _ _ _ _ _ _ _).ne', ciouOf_eq]
    simp only [esub, emul]
    rfl
  have h2 : ∀ a : Anc, lit 0x3ECF817B#32 * ((atn (D.tw a / D.th a) - (y0Of (D.pwc a / D.phc a) + yOf (D.pwc a / D.phc a)
        + yOf (D.pwc a / D.phc a) * (yOf (D.pwc a / D.phc a) * yOf (D.pwc a / D.phc a)) * (((lit 0x3DA4F0D1#32 * (yOf (D.pwc a / D.phc a) * yOf (D.pwc a / D.phc a)) - lit 0x3E0E1B85#32) * (yOf (D.pwc a / D.phc a) * yOf (D.pwc a / D.phc a)) + lit 0x3E4C925F#32) * (yOf (D.pwc a / D.phc a) * yOf (D.pwc a / D.phc a)) - lit 0x3EAAAA2A#32)))
      * (atn (D.tw a / D.th a) - (y0Of (D.pwc a / D.phc a) + yOf (D.pwc a / D.phc a)
        + yOf (D.pwc a / D.phc a) * (yOf (D.pwc a / D.phc a) * yOf (D.pwc a / D.phc a)) * (((lit 0x3DA4F0D1#32 * (yOf (D.pwc a / D.phc a) * yOf (D.pwc a / D.phc a)) - lit 0x3E0E1B85#32) * (yOf (D.pwc a / D.phc a) * yOf (D.pwc a / D.phc a)) + lit 0x3E4C925F#32) * (yOf (D.pwc a / D.phc a) * yOf (D.pwc a / D.phc a)) - lit 0x3EAAAA2A#32))))
      = vOf (D.pwc a / D.phc a) (D.tw a / D.th a) := by
    intro a
    unfold vOf
    rw [atn_eq (D.pwc a / D.phc a), qOf]
    ring
  simp only [h2, key, Finset.univ_unique, Finset.sum_singleton, esum]
  rw [ediv _ _ D.nfg_pos.ne']

theorem r_pay102 (v10 : FVec Ideal S1x5376 .f32) (v362 : FVec Ideal S1x5376 .f32) (v365 : FVec Ideal S1x5376 .f32)
    (hv10 : ∀ a : Anc, v10 (ix2 0 a) = ((D.obj a : ℝ) : EReal)) (hv362 : ∀ a : Anc, v362 (ix2 0 a) = ((D.fi a : ℝ) : EReal)) (hv365 : ∀ a : Anc, v365 (ix2 0 a) = ((D.Iat a : ℝ) : EReal)) :
    (k0_pay102 v10 v362 v365) = ((∑ a : Anc, bce (D.obj a) (D.fi a * D.Iat a) : ℝ) : EReal) := by
  pointwise [k0_pay102, hv10, hv362, hv365]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  have h1 : ∀ a : Anc, Ideal.log1p ((Real.exp (0 - |D.obj a|) : ℝ) : EReal) = ((Real.log (1 + Real.exp (-|D.obj a|)) : ℝ) : EReal) := by
    intro a; rw [elog1p _ (by positivity), zero_sub]
  simp only [h1, Finset.univ_unique, Finset.sum_singleton, eadd, esum]
  rfl

theorem log_eight (a b c d e f g h : ℝ) (ha : 0 < a) (hb : 0 < b) (hc : 0 < c) (hd : 0 < d) (he : 0 < e) (hf : 0 < f) (hg : 0 < g) (hh : 0 < h) :
    Real.log (a * b * (c * d) * (e * f * (g * h))) = Real.log a + Real.log b + Real.log c + Real.log d + Real.log e + Real.log f + Real.log g + Real.log h := by
  have hm : ∀ x y : ℝ, 0 < x → 0 < y → Real.log (x * y) = Real.log x + Real.log y := fun x y hx hy => Real.log_mul hx.ne' hy.ne'
  rw [hm _ _ (by positivity) (by positivity), hm _ _ (by positivity) (by positivity), hm (e * f) _ (by positivity) (by positivity),
    hm a b ha hb, hm c d hc hd, hm e f he hf, hm g h hg hh]
  ring
theorem log_groups (f : Fin 80 → ℝ) (hf : ∀ k, 0 < f k) :
    ∑ x : Fin 10, Real.log (f ⟨x.val, by omega⟩ * f ⟨40 + x.val, by omega⟩ * (f ⟨20 + x.val, by omega⟩ * f ⟨40 + (20 + x.val), by omega⟩)
      * (f ⟨10 + x.val, by omega⟩ * f ⟨40 + (10 + x.val), by omega⟩ * (f ⟨20 + (10 + x.val), by omega⟩ * f ⟨40 + (20 + (10 + x.val)), by omega⟩)))
      = ∑ k : Fin 80, Real.log (f k) := by
  rw [← (finProdFinEquiv (m := 8) (n := 10)).sum_comp, Fintype.sum_prod_type_right]
  refine Finset.sum_congr rfl fun x _ => ?_
  rw [log_eight _ _ _ _ _ _ _ _ (hf _) (hf _) (hf _) (hf _) (hf _) (hf _) (hf _) (hf _)]
  have e : ∀ (i : Fin 8) (k : Fin 80), k.val = 10 * i.val + x.val → Real.log (f (finProdFinEquiv (i, x))) = Real.log (f k) := by
    intro i k hk
    congr 2
    apply Fin.ext
    rw [hk]
    simp only [finProdFinEquiv_apply_val]
    omega
  rw [Fin.sum_univ_eight,
    e 0 ⟨x.val, by omega⟩ (by simp), e 1 ⟨10 + x.val, by omega⟩ (by simp), e 2 ⟨20 + x.val, by omega⟩ (by simp),
    e 3 ⟨20 + (10 + x.val), by omega⟩ (by simp; omega), e 4 ⟨40 + x.val, by omega⟩ (by simp), e 5 ⟨40 + (10 + x.val), by omega⟩ (by simp; omega),
    e 6 ⟨40 + (20 + x.val), by omega⟩ (by simp; omega), e 7 ⟨40 + (20 + (10 + x.val)), by omega⟩ (by simp; omega)]
  ring
theorem r_pay44 (v10 : FVec Ideal S1x5376 .f32) (v11 : FVec Ideal S80x5376 .f32)
    (hv10 : ∀ a : Anc, v10 (ix2 0 a) = ((D.obj a : ℝ) : EReal)) (hv11 : ∀ (k : Fin 80) (a : Anc), v11 (ix2 k a) = ((D.cl k a : ℝ) : EReal)) :
    ∀ a : Anc, (k0_pay44 v10 v11) (ix2 0 a) = ((∑ k : Fin 80, Real.log (1 - D.pp k a + e7) : ℝ) : EReal) := by
  intro a
  pointwise [k0_pay44, k0_pay43, hv10, hv11]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  have hk : ∀ k : Fin 80, Ideal.div ((1 : ℝ) : EReal) ((1 + Real.exp (0 - D.cl k a) : ℝ) : EReal) = ((sg (D.cl k a) : ℝ) : EReal) := fun k => esg _
  have ho : Ideal.div ((1 : ℝ) : EReal) ((1 + Real.exp (0 - D.obj a) : ℝ) : EReal) = ((D.pob a : ℝ) : EReal) := esg _
  simp only [hk, ho, emul, esub, eadd]
  have hp : ∀ k : Fin 80, 0 < 1 - sg (D.cl k a) * D.pob a + e7 := fun k => D.omp_pos k a
  rw [Finset.sum_congr rfl fun x _ => elog _ (by
    have := hp
    refine mul_pos (mul_pos (mul_pos (hp _) (hp _)) (mul_pos (hp _) (hp _))) (mul_pos (mul_pos (hp _) (hp _)) (mul_pos (hp _) (hp _)))), esum]
  congr 1
  exact log_groups (fun k => 1 - sg (D.cl k a) * D.pob a + e7) hp

theorem r_pay46 (v11 : FVec Ideal S80x5376 .f32) (v224 : Vec Ideal S1x1x30 .i32)
    (hv11 : ∀ (k : Fin 80) (a : Anc), v11 (ix2 k a) = ((D.cl k a : ℝ) : EReal)) (hv224 : ∀ g : Obj, v224 (ix3 0 0 g) = BitVec.ofNat 32 (D.lab g).val) :
    ∀ (g : Obj) (a : Anc), (k0_pay46 v11 (iota .tc S80x30 32 [0] iota_S80x30_d0_w32) (k0_pay45 (F := Ideal) v224)) (ix2 g a) = ((D.cl (D.lab g) a : ℝ) : EReal) := by
  intro g a
  pointwise [k0_pay46, k0_pay45, hv11, hv224]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  have hc : ∀ x : Fin 80, IntOp.cmpi .eq (BitVec.ofNat 32 (D.lab g).val) (BitVec.ofNat 32 x.val) = bit (D.lab g = x) := by
    intro x
    rw [cmp_eq_ofNat _ _ (by omega) (by omega)]
    exact bit_congr Fin.ext_iff.symm
  simp only [hc, bit_hot, emul, esum, eadd, sub_self, mul_zero, Finset.sum_const_zero, add_zero, ite_mul, one_mul, zero_mul, Finset.sum_ite_eq, Finset.mem_univ, if_true]
theorem r_pay47 (v11 : FVec Ideal S80x5376 .f32) (v198 v223 : FVec Ideal S1x5376 .f32) (v224 : Vec Ideal S1x1x30 .i32)
    (hv11 : ∀ (k : Fin 80) (a : Anc), v11 (ix2 k a) = ((D.cl k a : ℝ) : EReal)) (hv198 : ∀ a : Anc, v198 (ix2 0 a) = ((D.pob a : ℝ) : EReal)) (hv223 : ∀ a : Anc, v223 (ix2 0 a) = ((∑ k : Fin 80, Real.log (1 - D.pp k a + e7) : ℝ) : EReal))
    (hv224 : ∀ g : Obj, v224 (ix3 0 0 g) = BitVec.ofNat 32 (D.lab g).val) :
    ∀ (g : Obj) (a : Anc), (k0_pay47 v11 v198 v223 (iota .tc S80x30 32 [0] iota_S80x30_d0_w32) (k0_pay45 (F := Ideal) v224)) (ix2 g a) = ((D.clsCost g a : ℝ) : EReal) := by
  intro g a
  have h46 := r_pay46 D v11 v224 hv11 hv224
  pointwise [k0_pay47, h46, hv198, hv223]
  try simp only [bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  rw [esg]
  simp only [emul, esub, eadd]
  rw [elog _ (show 0 < sg (D.cl (D.lab g) a) * D.pob a + e7 from D.ppe_pos (D.lab g) a),
    elog _ (show 0 < 1 - sg (D.cl (D.lab g) a) * D.pob a + e7 from D.omp_pos (D.lab g) a)]
  simp only [emul, esub, eadd]
  congr 1
  rw [zero_sub]
  unfold Img.clsCost
  congr 1
  have h2 : ∀ k : Fin 80, (if D.lab g = k then Real.log (D.pp k a + e7) else Real.log (1 - D.pp k a + e7))
      = (if D.lab g = k then Real.log (D.pp k a + e7) - Real.log (1 - D.pp k a + e7) else 0) + Real.log (1 - D.pp k a + e7) := by
    intro k; split_ifs <;> ring
  rw [Finset.sum_congr rfl fun k _ => h2 k, Finset.sum_add_distrib, Finset.sum_ite_eq, if_pos (Finset.mem_univ _)]
  rfl

theorem bce_mean (f : Fin 80 → ℝ) (l : Fin 80) (p q : ℝ) :
    ∑ k : Fin 80, bce (f k) (p + (if l = k then 1 else 0) * q)
      = (∑ k, max (f k) 0) + (∑ k, Real.log (1 + Real.exp (0 - |f k|))) - p * (∑ k, f k) - q * f l := by
  have h : ∀ k, bce (f k) (p + (if l = k then 1 else 0) * q) = max (f k) 0 + Real.log (1 + Real.exp (0 - |f k|)) - p * f k - q * (if l = k then f k else 0) := by
    intro k
    unfold bce
    rw [zero_sub]
    split_ifs <;> ring
  rw [Finset.sum_congr rfl fun k _ => h k, Finset.sum_sub_distrib, Finset.sum_sub_distrib, Finset.sum_add_distrib, ← Finset.mul_sum, ← Finset.mul_sum,
    Finset.sum_ite_eq, if_pos (Finset.mem_univ _)]

theorem r_pay103 (v11 : FVec Ideal S80x5376 .f32) (v362 : FVec Ideal S1x5376 .f32) (v368 : FVec Ideal S1x5376 .f32) (v387 : Ideal .f32) (v535 : Ideal .f32) (v550 : Ideal .f32)
    (hv11 : ∀ (k : Fin 80) (a : Anc), v11 (ix2 k a) = ((D.cl k a : ℝ) : EReal)) (hv362 : ∀ a : Anc, v362 (ix2 0 a) = ((D.fi a : ℝ) : EReal)) (hv368 : ∀ a : Anc, v368 (ix2 0 a) = ((D.Cat a : ℝ) : EReal)) (hv387 : v387 = ((D.nfg : ℝ) : EReal)) (hv535 : v535 = (((∑ a : Anc, D.fi a * (1 - Img.ciouOf (D.px1 a) (D.py1 a) (D.px2 a) (D.py2 a) (D.T1 a) (D.T3 a) (D.T2 a) (D.T4 a))) / D.nfg : ℝ) : EReal)) (hv550 : v550 = ((∑ a : Anc, bce (D.obj a) (D.fi a * D.Iat a) : ℝ) : EReal)) :
    k0_pay103 v11 v362 v368 v387 v535 v550 (ix3 0 0 0) = ((lit 0x40A00000#32 * ((∑ a : Anc, D.fi a * (1 - Img.ciouOf (D.px1 a) (D.py1 a) (D.px2 a) (D.py2 a) (D.T1 a) (D.T3 a) (D.T2 a) (D.T4 a))) / D.nfg)
      + 1 * ((∑ a : Anc, bce (D.obj a) (D.fi a * D.Iat a)) / 5376)
      + 1 / 2 * ((∑ a : Anc, D.fi a * (((∑ k, max (D.cl k a) 0) + (∑ k, Real.log (1 + Real.exp (0 - |D.cl k a|))) - lit 0x3A25E9F7#32 * (∑ k, D.cl k a) - lit 0x3F7309B9#32 * D.Cat a) / 80)) / D.nfg) : ℝ) : EReal) := by
  pointwise [k0_pay103, hv11, hv362, hv368, hv387, hv535, hv550]
  try simp only [bits_t1, bits_t2, bits_q0, bits_q1, bits_q2, bits_q3, bits_pi4, bits_pi2, bits_vc, bits_scale, bits_off, bits_eighty, bits_5376, bits_half, bits_two, bits_512, bits_eight, bits_sixteen, bits_thirtytwo, bits_zero, bits_one, bits_neg_one, bits_e7, bits_three, bits_fifth, bits_tenth, bits_five, bits_penalty, bits_area_min, bits_area_max, emax, emin, eexp, eabsf, eabs, eadd, esub, emul, eneg, ezero, eone]
  have hp : ∀ (a : Anc) (k : Fin 80), 0 < 1 + Real.exp (0 - |D.cl k a|) := fun a k => by positivity
  have hl : ∀ (a : Anc), (∑ x : Fin 10, Ideal.log ((((1 + Real.exp (0 - |D.cl ⟨x.val, by omega⟩ a|)) * (1 + Real.exp (0 - |D.cl ⟨40 + x.val, by omega⟩ a|))
      * ((1 + Real.exp (0 - |D.cl ⟨20 + x.val, by omega⟩ a|)) * (1 + Real.exp (0 - |D.cl ⟨40 + (20 + x.val), by omega⟩ a|)))
      * ((1 + Real.exp (0 - |D.cl ⟨10 + x.val, by omega⟩ a|)) * (1 + Real.exp (0 - |D.cl ⟨40 + (10 + x.val), by omega⟩ a|))
      * ((1 + Real.exp (0 - |D.cl ⟨20 + (10 + x.val), by omega⟩ a|)) * (1 + Real.exp (0 - |D.cl ⟨40 + (20 + (10 + x.val)), by omega⟩ a|)))) : ℝ)) : EReal))
      = ((∑ k : Fin 80, Real.log (1 + Real.exp (0 - |D.cl k a|)) : ℝ) : EReal) := by
    intro a
    rw [Finset.sum_congr rfl fun x _ => elog _ (by
      refine mul_pos (mul_pos (mul_pos (hp a _) (hp a _)) (mul_pos (hp a _) (hp a _))) (mul_pos (mul_pos (hp a _) (hp a _)) (mul_pos (hp a _) (hp a _)))), esum]
    congr 1
    exact log_groups (fun k => 1 + Real.exp (0 - |D.cl k a|)) (hp a)
  simp only [hl, Finset.univ_unique, Finset.sum_singleton, eadd, esub, emul, esum]
  rw [ediv _ _ (by norm_num)]
  simp only [ediv _ _ (show (80 : ℝ) ≠ 0 by norm_num), emul, esum]
  rw [ediv _ _ D.nfg_pos.ne']
  simp only [eadd, emul]

end Cert.Loss

end
-- ==== Proof.KernelStep.lean ====
/- The step of one image of the kernel is the loss of that image. -/
module

public import proofs.«01_k».proof.Proof.KernelRun
public import proofs.«01_k».proof.Proof.KernelLoop
public import proofs.«01_k».proof.Proof.KernelRead
public import Idealize.ShloMosaic.Lib.Pointwise
public import Idealize.ShloMosaic.Lib.VecWindow
public import Idealize.ShloMosaic.Lib.Pipeline.ValueKit.Basic

@[expose] public section

set_option maxRecDepth 16384
set_option maxHeartbeats 4000000

noncomputable section

namespace Cert.Loss

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

open Classical

variable (D : Img)

theorem r_pay57 (v9 : Vec Ideal S1x5376 .f32) (v119 v123 : FVec Ideal S30x5376 .f32) (v147 : IVec S30x5376 1) (v191 v260 : FVec Ideal S30x5376 .f32)
    (v264 v268 : FVec Ideal S1x5376 .f32) (v269 v270 : FVec Ideal S30x1 .f32) (v274 v275 v276 : FVec Ideal S30x5376 .f32)
    (hv147 : ∀ (g : Obj) (a : Anc), v147 (ix2 g a) = bit (D.cand g a))
    (h : ∀ (g : Obj) (a : Anc), k0_pay55 v9 v119 v123 v147 v191 v260 v264 v268 v269 v270 v274 v275 v276 (ix2 g a) = ((D.cost g a : ℝ) : EReal)) (g : Obj) (a : Anc) :
    k0_pay57 v9 v119 v123 v147 v191 v260 v264 v268 v269 v270 v274 v275 v276 (ix2 g a) = D.ccost g a := by
  pointwise [k0_pay57, hv147, h, ofBits_inf]
  rw [bit_sel]
  rfl

variable {D} in
/-- The kernel's final expression is the loss of the image. -/
theorem loss_eq (hD : NoTies D) :
    lit 0x40A00000#32 * ((∑ a : Anc, D.fi a * (1 - Img.ciouOf (D.px1 a) (D.py1 a) (D.px2 a) (D.py2 a) (D.T1 a) (D.T3 a) (D.T2 a) (D.T4 a))) / D.nfg)
      + 1 * ((∑ a : Anc, bce (D.obj a) (D.fi a * D.Iat a)) / 5376)
      + 1 / 2 * ((∑ a : Anc, D.fi a * (((∑ k, max (D.cl k a) 0) + (∑ k, Real.log (1 + Real.exp (0 - |D.cl k a|))) - lit 0x3A25E9F7#32 * (∑ k, D.cl k a) - lit 0x3F7309B9#32 * D.Cat a) / 80)) / D.nfg)
      = D.loss := by
  unfold Img.loss Img.lossBox Img.lossObj Img.lossCls
  congr 1
  · congr 1
    · congr 2
      refine Finset.sum_congr rfl fun a _ => ?_
      unfold Img.fi
      split_ifs with h
      · rw [one_mul]
        unfold Img.T1 Img.T2 Img.T3 Img.T4 Img.ciou
        rw [Img.sum_hot hD a h, Img.sum_hot hD a h, Img.sum_hot hD a h, Img.sum_hot hD a h]
      · rw [zero_mul]
    · congr 2
      refine Finset.sum_congr rfl fun a _ => ?_
      congr 1
      unfold Img.fi Img.objT Img.Iat
      split_ifs with h
      · rw [one_mul, Img.sum_hot hD a h fun g => D.iou g a]
      · rw [zero_mul]
  · congr 2
    refine Finset.sum_congr rfl fun a _ => ?_
    unfold Img.fi Img.clsMean Img.Cat
    split_ifs with h
    · rw [one_mul, Img.sum_hot hD a h fun g => D.cl (D.lab g) a, bce_mean]
    · rw [zero_mul]

/-- The kernel's step of one image is its loss. -/
theorem step_read (hD : NoTies D) (x0 : Vec Ideal S1x85x4096 .f32) (x1 : Vec Ideal S1x85x1024 .f32) (x2 : Vec Ideal S1x85x256 .f32) (x3 : Vec Ideal S1x30x4 .f32)
    (x4 : Vec Ideal S1x4x30 .f32) (x5 : Vec Ideal S1x1x30 .i32) (x6 x7 x8 : Vec Ideal S1x5376 .f32)
    (h7 : ∀ (k : Fin 85) (a : Anc), (k0_pay7 x0 x1 x2) (ix2 k a) = ((D.P k a : ℝ) : EReal))
    (hx3 : ∀ (g : Obj) (k : Fin 4), x3 (ix3 0 g k) = ((D.B g k : ℝ) : EReal))
    (hx40 : ∀ g : Obj, x4 (ix3 0 0 g) = ((D.gx1 g : ℝ) : EReal)) (hx41 : ∀ g : Obj, x4 (ix3 0 1 g) = ((D.gx2 g : ℝ) : EReal))
    (hx42 : ∀ g : Obj, x4 (ix3 0 2 g) = ((D.gy1 g : ℝ) : EReal)) (hx43 : ∀ g : Obj, x4 (ix3 0 3 g) = ((D.gy2 g : ℝ) : EReal))
    (hx5 : ∀ g : Obj, x5 (ix3 0 0 g) = BitVec.ofNat 32 (D.lab g).val)
    (hx6 : ∀ a : Anc, x6 (ix2 0 a) = ((ax a : ℝ) : EReal)) (hx7 : ∀ a : Anc, x7 (ix2 0 a) = ((ay a : ℝ) : EReal)) (hx8 : ∀ a : Anc, x8 (ix2 0 a) = ((st a : ℝ) : EReal)) :
    step x0 x1 x2 x3 x4 x5 x6 x7 x8 (ix3 0 0 0) = ((D.loss : ℝ) : EReal) := by
  suffices h : ∀ r, r = step x0 x1 x2 x3 x4 x5 x6 x7 x8 → r (ix3 0 0 0) = ((D.loss : ℝ) : EReal) from h _ rfl
  intro r hr
  unfold step at hr
  extract_lets v6 v10 v11 v25 v33 v34 v62 v65 v68 v71 v73 v76 v79 v80 v88 v91 v94 v97 v100 v103 v115 v119 v123 v127 v128 v147 v180 v181 v182 v191 v198 v223 v226 v227 v238 v260 v264 v268 v269 v270 v274 v275 v276 v311 v320 v327 v327_0 v327_1 v358 v362 v363 v365 v368 v379 v380 v381 v382 v387 v390 v393 v396 v399 v404 v407 v408 v417 v434 v445 v446 v448 v450 v452 v457 v479 v493 v498 v499 v501 v535 v550 at hr
  have hv6 : ∀ (k : Fin 85) (a : Anc), v6 (ix2 k a) = ((D.P k a : ℝ) : EReal) := h7
  have hv10 : ∀ a : Anc, v10 (ix2 0 a) = ((D.obj a : ℝ) : EReal) := r_pay8 D x0 x1 x2 h7
  have hv11 : ∀ (k : Fin 80) (a : Anc), v11 (ix2 k a) = ((D.cl k a : ℝ) : EReal) := r_pay9 D x0 x1 x2 h7
  have hv25 : ∀ a : Anc, v25 (ix2 0 a) = ((D.cx a : ℝ) : EReal) := r_pay10 D x0 x1 x2 x6 x8 h7 hx6 hx8
  have hv33 : ∀ a : Anc, v33 (ix2 0 a) = ((sg (D.P 1 a) : ℝ) : EReal) := r_pay11 D x0 x1 x2 h7
  have hv34 : ∀ a : Anc, v34 (ix2 0 a) = ((2 : ℝ) : EReal) := r_pay12
  have hv62 : ∀ a : Anc, v62 (ix2 0 a) = ((D.px1 a : ℝ) : EReal) := r_pay16 D v6 x8 v25 hv6 hx8 hv25
  have hv65 : ∀ a : Anc, v65 (ix2 0 a) = ((D.px2 a : ℝ) : EReal) := r_pay17 D v6 x8 v25 hv6 hx8 hv25
  have hv68 : ∀ a : Anc, v68 (ix2 0 a) = ((D.py1 a : ℝ) : EReal) := r_pay18 D v6 x7 x8 v33 v34 hv6 hx7 hx8 hv33 hv34
  have hv71 : ∀ a : Anc, v71 (ix2 0 a) = ((D.py2 a : ℝ) : EReal) := r_pay19 D v6 x7 x8 v33 v34 hv6 hx7 hx8 hv33 hv34
  have hv73 : ∀ (g : Obj) (k : Fin 4), v73 (ix2 g k) = ((D.B g k : ℝ) : EReal) := r_pay20 D x3 hx3
  have hv76 : ∀ g : Obj, v76 (ix2 g 0) = ((D.gcx g : ℝ) : EReal) := r_pay21 D x3 hx3
  have hv79 : ∀ g : Obj, v79 (ix2 g 0) = ((D.gcy g : ℝ) : EReal) := r_pay22 D x3 hx3
  have hv80 : ∀ g : Obj, v80 (ix2 g 0) = ((D.B g 2 : ℝ) : EReal) := r_pay23 D x3 hx3
  have hv88 : ∀ g : Obj, v88 (ix2 g 0) = ((D.gx1 g : ℝ) : EReal) := r_pay26 D v76 v80 hv76 hv80
  have hv91 : ∀ g : Obj, v91 (ix2 g 0) = ((D.gx2 g : ℝ) : EReal) := r_pay27 D v76 v80 hv76 hv80
  have hv94 : ∀ g : Obj, v94 (ix2 g 0) = ((D.gy1 g : ℝ) : EReal) := r_pay28 D v73 v79 hv73 hv79
  have hv97 : ∀ g : Obj, v97 (ix2 g 0) = ((D.gy2 g : ℝ) : EReal) := r_pay29 D v73 v79 hv73 hv79
  have hv100 : ∀ g : Obj, v100 (ix2 g 0) = ((D.gw g : ℝ) : EReal) := r_pay30 D v76 v80 hv76 hv80
  have hv103 : ∀ g : Obj, v103 (ix2 g 0) = ((D.gh g : ℝ) : EReal) := r_pay31 D v73 v79 hv73 hv79
  have hv115 : ∀ (g : Obj) (a : Anc), v115 (ix2 g a) = bit (D.gate g a) := r_pay32 D x8 v73 v76 v79 v80 hx8 hv73 hv76 hv79 hv80
  have hv119 : ∀ (g : Obj) (a : Anc), v119 (ix2 g a) = ((D.dx g a : ℝ) : EReal) := r_pay33 D x6 v76 hx6 hv76
  have hv123 : ∀ (g : Obj) (a : Anc), v123 (ix2 g a) = ((D.dy g a : ℝ) : EReal) := r_pay34 D x7 v79 hx7 hv79
  have hv127 : ∀ (g : Obj) (a : Anc), v127 (ix2 g a) = bit (D.dx g a < 2 * st a) := r_pay36 D x6 x8 v76 hx6 hx8 hv76
  have hv128 : ∀ (g : Obj) (a : Anc), v128 (ix2 g a) = ((2 * st a : ℝ) : EReal) := r_pay37 x8 hx8
  have hv147 : ∀ (g : Obj) (a : Anc), v147 (ix2 g a) = bit (D.cand g a) := r_pay38 D x6 x7 v88 v91 v94 v97 v115 v123 v127 v128 hx6 hx7 hv88 hv91 hv94 hv97 hv115 hv123 hv127 hv128
  have hv180 : ∀ (g : Obj) (a : Anc), v180 (ix2 g a) = ((D.inter g a : ℝ) : EReal) := r_pay39 D v62 v65 v68 v71 v88 v91 v94 v97 hv62 hv65 hv68 hv71 hv88 hv91 hv94 hv97
  have hv181 : ∀ (g : Obj) (a : Anc), v181 (ix2 g a) = ((D.a1 g : ℝ) : EReal) := r_pay40 D v88 v91 v94 v97 hv88 hv91 hv94 hv97
  have hv182 : ∀ (g : Obj) (a : Anc), v182 (ix2 g a) = ((D.a2 a : ℝ) : EReal) := r_pay41 D v62 v65 v68 v71 hv62 hv65 hv68 hv71
  have hv191 : ∀ (g : Obj) (a : Anc), v191 (ix2 g a) = ((D.iou g a : ℝ) : EReal) := r_pay42 D v180 v181 v182 hv180 hv181 hv182
  have hv198 : ∀ a : Anc, v198 (ix2 0 a) = ((D.pob a : ℝ) : EReal) := r_pay43 D v10 hv10
  have hv223 : ∀ a : Anc, v223 (ix2 0 a) = ((∑ k : Fin 80, Real.log (1 - D.pp k a + e7) : ℝ) : EReal) := r_pay44 D v10 v11 hv10 hv11
  have hv238 : ∀ (g : Obj) (a : Anc), v238 (ix2 g a) = ((D.cl (D.lab g) a : ℝ) : EReal) := r_pay46 D v11 x5 hv11 hx5
  have hv260 : ∀ (g : Obj) (a : Anc), v260 (ix2 g a) = ((D.clsCost g a : ℝ) : EReal) := r_pay47 D v11 v198 v223 x5 hv11 hv198 hv223 hx5
  have hv264 : ∀ a : Anc, v264 (ix2 0 a) = ((Real.log (D.pwc a) : ℝ) : EReal) := r_pay48 D v62 v65 hv62 hv65
  have hv268 : ∀ a : Anc, v268 (ix2 0 a) = ((Real.log (D.phc a) : ℝ) : EReal) := r_pay49 D v68 v71 hv68 hv71
  have hv269 : ∀ g : Obj, v269 (ix2 g 0) = ((Real.log (D.gw g) : ℝ) : EReal) := r_pay50 D v100 hv100
  have hv270 : ∀ g : Obj, v270 (ix2 g 0) = ((Real.log (D.gh g) : ℝ) : EReal) := r_pay51 D v103 hv103
  have hv274 : ∀ (g : Obj) (a : Anc), v274 (ix2 g a) = ((|Real.log (D.pwc a) - Real.log (D.gw g)| : ℝ) : EReal) := r_pay52 D v62 v65 v100 hv62 hv65 hv100
  have hv275 : ∀ (g : Obj) (a : Anc), v275 (ix2 g a) = ((Real.log (D.phc a) : ℝ) : EReal) := r_pay53 D v68 v71 hv68 hv71
  have hv276 : ∀ (g : Obj) (a : Anc), v276 (ix2 g a) = ((Real.log (D.gh g) : ℝ) : EReal) := r_pay54 D v103 hv103
  have hv311 : ∀ (g : Obj) (a : Anc), v311 (ix2 g a) = ((D.cost g a : ℝ) : EReal) := r_pay55 D x8 v119 v123 v147 v191 v260 v264 v268 v269 v270 v274 v275 v276 hx8 hv119 hv123 hv147 hv191 hv260 hv264 hv268 hv269 hv270 hv274 hv275 hv276
  have hv320 : ∀ (g : Obj) (a : Anc), v320 (ix2 g a) = D.ccost g a := r_pay57 D x8 v119 v123 v147 v191 v260 v264 v268 v269 v270 v274 v275 v276 hv147 hv311
  have hv327 : After (fun g a => -((D.ov g a : ℝ) : EReal)) D.ccost 10 v327 := after_rows _ _ _ (r_pay56 D v147 v191 hv147 hv191)
    (fun g a => (r_pay58 v320 g a).trans (hv320 g a)) 10 le_rfl
  have hl : Lows D v327_0 v327_1 := ⟨fun g t => hv327.lo g t (by have := t.isLt; omega), fun g t => hv327.lc g t (by have := t.isLt; omega)⟩
  have hv358 := r_pay67 D v147 v311 v327_0 v327_1 hD hl hv147 hv311
  have hv362 := r_pay68 D v147 v311 v327_0 v327_1 hD hl hv147 hv311
  have hv363 := r_pay69 D v147 v191 v311 v327_0 v327_1 hD hl hv147 hv311 hv191
  have hv365 : ∀ a : Anc, v365 (ix2 0 a) = ((D.Iat a : ℝ) : EReal) := r_pay70 D v363 hv363
  have hv368 : ∀ a : Anc, v368 (ix2 0 a) = ((D.Cat a : ℝ) : EReal) := r_pay71 D v238 v358 hv238 hv358
  have hv379 : ∀ a : Anc, v379 (ix2 0 a) = ((D.T1 a : ℝ) : EReal) := r_pay73 D v358 x4 hx40 hx41 hx42 hx43 hv358
  have hv380 : ∀ a : Anc, v380 (ix2 0 a) = ((D.T2 a : ℝ) : EReal) := r_pay74 D v358 x4 hx40 hx41 hx42 hx43 hv358
  have hv381 : ∀ a : Anc, v381 (ix2 0 a) = ((D.T3 a : ℝ) : EReal) := r_pay75 D v358 x4 hx40 hx41 hx42 hx43 hv358
  have hv382 : ∀ a : Anc, v382 (ix2 0 a) = ((D.T4 a : ℝ) : EReal) := r_pay76 D v358 x4 hx40 hx41 hx42 hx43 hv358
  have hv387 : v387 = ((D.nfg : ℝ) : EReal) := r_pay77 D v362 hv362
  have hv390 : ∀ a : Anc, v390 (ix2 0 a) = ((D.pwc a : ℝ) : EReal) := r_pay78 D v62 v65 hv62 hv65
  have hv393 : ∀ a : Anc, v393 (ix2 0 a) = ((D.phc a : ℝ) : EReal) := r_pay79 D v68 v71 hv68 hv71
  have hv396 : ∀ a : Anc, v396 (ix2 0 a) = ((D.tw a : ℝ) : EReal) := r_pay80 D v358 x4 hx40 hx41 hx42 hx43 hv358
  have hv399 : ∀ a : Anc, v399 (ix2 0 a) = ((D.th a : ℝ) : EReal) := r_pay81 D v358 x4 hx40 hx41 hx42 hx43 hv358
  have hv404 : ∀ a : Anc, v404 (ix2 0 a) = ((max (min (D.px2 a) (D.T2 a) - max (D.px1 a) (D.T1 a)) 0 : ℝ) : EReal) := r_pay82 D v62 v65 v358 x4 hx40 hx41 hx42 hx43 hv62 hv65 hv358
  have hv407 : ∀ a : Anc, v407 (ix2 0 a) = ((min (D.py2 a) (D.T4 a) - max (D.py1 a) (D.T3 a) : ℝ) : EReal) := r_pay83 D v68 v71 v358 x4 hx40 hx41 hx42 hx43 hv68 hv71 hv358
  have hv408 : ∀ a : Anc, v408 (ix2 0 a) = ((0 : ℝ) : EReal) := r_pay84
  have hv417 : ∀ a : Anc, v417 (ix2 0 a) = ((uOf (D.px1 a) (D.py1 a) (D.px2 a) (D.py2 a) (D.T1 a) (D.T3 a) (D.T2 a) (D.T4 a) : ℝ) : EReal) := r_pay85 D v390 v393 v396 v399 v404 v407 v408 hv390 hv393 hv396 hv399 hv404 hv407 hv408
  have hv434 : ∀ a : Anc, v434 (ix2 0 a) = ((cdOf (D.px1 a) (D.py1 a) (D.px2 a) (D.py2 a) (D.T1 a) (D.T3 a) (D.T2 a) (D.T4 a) : ℝ) : EReal) := r_pay86 D v62 v65 v68 v71 v379 v380 v381 v382 hv62 hv65 hv68 hv71 hv379 hv380 hv381 hv382
  have hv445 : ∀ a : Anc, v445 (ix2 0 a) = ((c2Of (D.px1 a) (D.py1 a) (D.px2 a) (D.py2 a) (D.T1 a) (D.T3 a) (D.T2 a) (D.T4 a) : ℝ) : EReal) := r_pay87 D v62 v65 v68 v71 v379 v380 v381 v382 hv62 hv65 hv68 hv71 hv379 hv380 hv381 hv382
  have hv446 : ∀ a : Anc, v446 (ix2 0 a) = ((D.tw a / D.th a : ℝ) : EReal) := r_pay88 D v396 v399 hv396 hv399
  have hv448 : ∀ a : Anc, v448 (ix2 0 a) = bit (lit 0x401A827A#32 < D.tw a / D.th a) := r_pay89 D v396 v399 hv396 hv399
  have hv450 : ∀ a : Anc, v450 (ix2 0 a) = bit (lit 0x3ED413CD#32 < D.tw a / D.th a) := r_pay90 D v396 v399 hv396 hv399
  have hv452 : ∀ a : Anc, v452 (ix2 0 a) = ((-1 / (D.tw a / D.th a) : ℝ) : EReal) := r_pay91 D v396 v399 hv396 hv399
  have hv457 : ∀ a : Anc, v457 (ix2 0 a) = ((((D.tw a / D.th a) - 1) / ((D.tw a / D.th a) + 1) : ℝ) : EReal) := r_pay92 D v396 v399 hv396 hv399
  have hv479 : ∀ a : Anc, v479 (ix2 0 a) = ((atn (D.tw a / D.th a) : ℝ) : EReal) := r_pay93 D v446 v448 v450 v452 v457 hv446 hv448 hv450 hv452 hv457
  have hv493 : ∀ a : Anc, v493 (ix2 0 a) = ((yOf (D.pwc a / D.phc a) : ℝ) : EReal) := r_pay97 D v390 v393 hv390 hv393
  have hv498 : ∀ a : Anc, v498 (ix2 0 a) = ((y0Of (D.pwc a / D.phc a) : ℝ) : EReal) := r_pay98 D v390 v393 hv390 hv393
  have hv499 : ∀ a : Anc, v499 (ix2 0 a) = ((yOf (D.pwc a / D.phc a) * yOf (D.pwc a / D.phc a) : ℝ) : EReal) := r_pay99 D v390 v393 hv390 hv393
  have hv501 : ∀ a : Anc, v501 (ix2 0 a) = ((lit 0x3DA4F0D1#32 * (yOf (D.pwc a / D.phc a) * yOf (D.pwc a / D.phc a)) : ℝ) : EReal) := r_pay100 D v390 v393 hv390 hv393
  have hv535 : v535 = (((∑ a : Anc, D.fi a * (1 - Img.ciouOf (D.px1 a) (D.py1 a) (D.px2 a) (D.py2 a) (D.T1 a) (D.T3 a) (D.T2 a) (D.T4 a))) / D.nfg : ℝ) : EReal) := r_pay101 D v362 v387 v417 v434 v445 v479 v493 v498 v499 v501 hv362 hv387 hv417 hv434 hv445 hv479 hv493 hv498 hv499 hv501
  have hv550 : v550 = ((∑ a : Anc, bce (D.obj a) (D.fi a * D.Iat a) : ℝ) : EReal) := r_pay102 D v10 v362 v365 hv10 hv362 hv365
  rw [hr]
  exact (r_pay103 D v11 v362 v368 v387 v535 v550 hv11 hv362 hv368 hv387 hv535 hv550).trans (congrArg _ (loss_eq hD))

end Cert.Loss

end
-- ==== Proof.Tables.lean ====
/- Tables of bit patterns whose entries are given natural numbers. -/
module

public import proofs.«01_k».proof.Proof.KernelRun
public import proofs.«01_k».proof.Proof.Mask
public import proofs.«01_k».proof.Proof.Bits
public import Idealize.ShloMosaic.Lib.Pointwise
public import Idealize.ShloMosaic.Lib.VecWindow
public import Idealize.ShloMosaic.Lib.Pipeline.ValueKit.Basic

@[expose] public section

set_option maxRecDepth 16384
set_option maxHeartbeats 4000000

noncomputable section

namespace Cert.Loss

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

/-- The number of a pattern's value, as a product of natural numbers. -/
def isNat (w : BitVec 32) (n : ℕ) : Prop :=
  128 ≤ w.toNat / 8388608 ∧ w.toNat / 8388608 < 160 ∧ (8388608 + w.toNat % 8388608) * 2 ^ (w.toNat / 8388608 - 127) = n * 8388608

instance (w : BitVec 32) (n : ℕ) : Decidable (isNat w n) := by unfold isNat; infer_instance

/-- That the entries of a table in one block of 384 are given numbers. -/
def okAt (w : Fin 5376 → BitVec 32) (f : ℕ → ℕ) (k : Fin 14) : Prop :=
  ∀ (i : Fin 3) (j : Fin 128), isNat (w ⟨128 * (3 * k.val + i.val) + j.val, by omega⟩) (f (128 * (3 * k.val + i.val) + j.val))

instance (w : Fin 5376 → BitVec 32) (f : ℕ → ℕ) (k : Fin 14) : Decidable (okAt w f k) := by unfold okAt; infer_instance

theorem of_blocks (w : Fin 5376 → BitVec 32) (f : ℕ → ℕ) (h : ∀ k, okAt w f k) (a : Anc) : isNat (w a) (f a.val) := by
  have := h ⟨a.val / 384, by omega⟩ ⟨a.val / 128 % 3, by omega⟩ ⟨a.val % 128, by omega⟩
  have e : 128 * (3 * (a.val / 384) + a.val / 128 % 3) + a.val % 128 = a.val := by omega
  simp only [e] at this
  exact this

theorem ofBits_nat (w : BitVec 32) (n : ℕ) (h : isNat w n) : Ideal.ofBits .f32 w = (((n : ℕ) : ℝ) : EReal) := by
  obtain ⟨h1, h2, h3⟩ := h
  have hx : (w.extractLsb' 23 8).toNat = w.toNat / 8388608 := by
    rw [BitVec.extractLsb'_toNat, Nat.shiftRight_eq_div_pow]
    exact Nat.mod_eq_of_lt (lt_trans h2 (by norm_num))
  have hm : (w.extractLsb' 0 23).toNat = w.toNat % 8388608 := by
    rw [BitVec.extractLsb'_toNat, Nat.shiftRight_zero]
  have hs : (w.extractLsb' 31 1 == 1#1) = false := by
    have h0 : w.extractLsb' 31 1 = 0#1 := by
      apply BitVec.eq_of_toNat_eq
      rw [BitVec.extractLsb'_toNat, Nat.shiftRight_eq_div_pow]
      have : w.toNat / 2 ^ 31 = 0 := Nat.div_eq_of_lt (by omega)
      rw [this]; rfl
    rw [h0]; rfl
  rw [ofBits_lit _ (by rw [hx]; omega), lit_normal w _ _ hs (by rw [hx]; omega) (by rw [hx]; omega) rfl rfl, hx, hm]
  congr 1
  set e := w.toNat / 8388608 with he
  have h3' : ((8388608 + w.toNat % 8388608 : ℕ) : ℝ) * 2 ^ (e - 127) = (n : ℝ) * 8388608 := by exact_mod_cast h3
  have hz : ((2 : ℝ) ^ ((e : ℤ) - 127 - 23)) = 2 ^ (e - 127) / 8388608 := by
    rw [zpow_sub₀ (by norm_num), ← zpow_natCast (2 : ℝ) (e - 127)]
    have : ((e - 127 : ℕ) : ℤ) = (e : ℤ) - 127 := by omega
    rw [this]
    norm_num
  rw [hz, show (2 : ℕ) ^ 23 = 8388608 from by norm_num, mul_div_assoc', h3']
  field_simp

end Cert.Loss

end
-- ==== Proof.Table0.lean ====
/- The table of the horizontal centres of the anchors. -/
module

public import proofs.«01_k».proof.Proof.KernelRun
public import proofs.«01_k».proof.Proof.Tables
public import proofs.«01_k».proof.Proof.Mask
public import proofs.«01_k».proof.Proof.Bits
public import Idealize.ShloMosaic.Lib.Pointwise
public import Idealize.ShloMosaic.Lib.VecWindow
public import Idealize.ShloMosaic.Lib.Pipeline.ValueKit.Basic

@[expose] public section

set_option maxRecDepth 16384
set_option maxHeartbeats 4000000

noncomputable section

namespace Cert.Loss

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

theorem lit0_ok_0 : okAt lit0 axN 0 := by decide +kernel
theorem lit0_ok_1 : okAt lit0 axN 1 := by decide +kernel
theorem lit0_ok_2 : okAt lit0 axN 2 := by decide +kernel
theorem lit0_ok_3 : okAt lit0 axN 3 := by decide +kernel
theorem lit0_ok_4 : okAt lit0 axN 4 := by decide +kernel
theorem lit0_ok_5 : okAt lit0 axN 5 := by decide +kernel
theorem lit0_ok_6 : okAt lit0 axN 6 := by decide +kernel
theorem lit0_ok_7 : okAt lit0 axN 7 := by decide +kernel
theorem lit0_ok_8 : okAt lit0 axN 8 := by decide +kernel
theorem lit0_ok_9 : okAt lit0 axN 9 := by decide +kernel
theorem lit0_ok_10 : okAt lit0 axN 10 := by decide +kernel
theorem lit0_ok_11 : okAt lit0 axN 11 := by decide +kernel
theorem lit0_ok_12 : okAt lit0 axN 12 := by decide +kernel
theorem lit0_ok_13 : okAt lit0 axN 13 := by decide +kernel

theorem lit0_anchor (a : Anc) : Ideal.ofBits .f32 (lit0 a) = ((ax a : ℝ) : EReal) := by
  refine ofBits_nat _ _ (of_blocks lit0 axN (fun k => ?_) a)
  match k with
  | 0 => exact lit0_ok_0
  | 1 => exact lit0_ok_1
  | 2 => exact lit0_ok_2
  | 3 => exact lit0_ok_3
  | 4 => exact lit0_ok_4
  | 5 => exact lit0_ok_5
  | 6 => exact lit0_ok_6
  | 7 => exact lit0_ok_7
  | 8 => exact lit0_ok_8
  | 9 => exact lit0_ok_9
  | 10 => exact lit0_ok_10
  | 11 => exact lit0_ok_11
  | 12 => exact lit0_ok_12
  | 13 => exact lit0_ok_13

end Cert.Loss

end
-- ==== Proof.Table1.lean ====
/- The table of the vertical centres of the anchors. -/
module

public import proofs.«01_k».proof.Proof.KernelRun
public import proofs.«01_k».proof.Proof.Tables
public import proofs.«01_k».proof.Proof.Mask
public import proofs.«01_k».proof.Proof.Bits
public import Idealize.ShloMosaic.Lib.Pointwise
public import Idealize.ShloMosaic.Lib.VecWindow
public import Idealize.ShloMosaic.Lib.Pipeline.ValueKit.Basic

@[expose] public section

set_option maxRecDepth 16384
set_option maxHeartbeats 4000000

noncomputable section

namespace Cert.Loss

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

theorem lit1_ok_0 : okAt lit1 ayN 0 := by decide +kernel
theorem lit1_ok_1 : okAt lit1 ayN 1 := by decide +kernel
theorem lit1_ok_2 : okAt lit1 ayN 2 := by decide +kernel
theorem lit1_ok_3 : okAt lit1 ayN 3 := by decide +kernel
theorem lit1_ok_4 : okAt lit1 ayN 4 := by decide +kernel
theorem lit1_ok_5 : okAt lit1 ayN 5 := by decide +kernel
theorem lit1_ok_6 : okAt lit1 ayN 6 := by decide +kernel
theorem lit1_ok_7 : okAt lit1 ayN 7 := by decide +kernel
theorem lit1_ok_8 : okAt lit1 ayN 8 := by decide +kernel
theorem lit1_ok_9 : okAt lit1 ayN 9 := by decide +kernel
theorem lit1_ok_10 : okAt lit1 ayN 10 := by decide +kernel
theorem lit1_ok_11 : okAt lit1 ayN 11 := by decide +kernel
theorem lit1_ok_12 : okAt lit1 ayN 12 := by decide +kernel
theorem lit1_ok_13 : okAt lit1 ayN 13 := by decide +kernel

theorem lit1_anchor (a : Anc) : Ideal.ofBits .f32 (lit1 a) = ((ay a : ℝ) : EReal) := by
  refine ofBits_nat _ _ (of_blocks lit1 ayN (fun k => ?_) a)
  match k with
  | 0 => exact lit1_ok_0
  | 1 => exact lit1_ok_1
  | 2 => exact lit1_ok_2
  | 3 => exact lit1_ok_3
  | 4 => exact lit1_ok_4
  | 5 => exact lit1_ok_5
  | 6 => exact lit1_ok_6
  | 7 => exact lit1_ok_7
  | 8 => exact lit1_ok_8
  | 9 => exact lit1_ok_9
  | 10 => exact lit1_ok_10
  | 11 => exact lit1_ok_11
  | 12 => exact lit1_ok_12
  | 13 => exact lit1_ok_13

end Cert.Loss

end
-- ==== Proof.Table2.lean ====
/- The table of the strides of the anchors. -/
module

public import proofs.«01_k».proof.Proof.KernelRun
public import proofs.«01_k».proof.Proof.Tables
public import proofs.«01_k».proof.Proof.Mask
public import proofs.«01_k».proof.Proof.Bits
public import Idealize.ShloMosaic.Lib.Pointwise
public import Idealize.ShloMosaic.Lib.VecWindow
public import Idealize.ShloMosaic.Lib.Pipeline.ValueKit.Basic

@[expose] public section

set_option maxRecDepth 16384
set_option maxHeartbeats 4000000

noncomputable section

namespace Cert.Loss

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

theorem lit2_ok_0 : okAt lit2 stN 0 := by decide +kernel
theorem lit2_ok_1 : okAt lit2 stN 1 := by decide +kernel
theorem lit2_ok_2 : okAt lit2 stN 2 := by decide +kernel
theorem lit2_ok_3 : okAt lit2 stN 3 := by decide +kernel
theorem lit2_ok_4 : okAt lit2 stN 4 := by decide +kernel
theorem lit2_ok_5 : okAt lit2 stN 5 := by decide +kernel
theorem lit2_ok_6 : okAt lit2 stN 6 := by decide +kernel
theorem lit2_ok_7 : okAt lit2 stN 7 := by decide +kernel
theorem lit2_ok_8 : okAt lit2 stN 8 := by decide +kernel
theorem lit2_ok_9 : okAt lit2 stN 9 := by decide +kernel
theorem lit2_ok_10 : okAt lit2 stN 10 := by decide +kernel
theorem lit2_ok_11 : okAt lit2 stN 11 := by decide +kernel
theorem lit2_ok_12 : okAt lit2 stN 12 := by decide +kernel
theorem lit2_ok_13 : okAt lit2 stN 13 := by decide +kernel

theorem lit2_anchor (a : Anc) : Ideal.ofBits .f32 (lit2 a) = ((st a : ℝ) : EReal) := by
  refine ofBits_nat _ _ (of_blocks lit2 stN (fun k => ?_) a)
  match k with
  | 0 => exact lit2_ok_0
  | 1 => exact lit2_ok_1
  | 2 => exact lit2_ok_2
  | 3 => exact lit2_ok_3
  | 4 => exact lit2_ok_4
  | 5 => exact lit2_ok_5
  | 6 => exact lit2_ok_6
  | 7 => exact lit2_ok_7
  | 8 => exact lit2_ok_8
  | 9 => exact lit2_ok_9
  | 10 => exact lit2_ok_10
  | 11 => exact lit2_ok_11
  | 12 => exact lit2_ok_12
  | 13 => exact lit2_ok_13

end Cert.Loss

end
-- ==== Proof.RefRead.lean ====
/- The reference, read at an index: anchors, boxes, candidates, overlaps and costs. -/
module

public import proofs.«01_k».proof.Proof.Gen.ReferenceIdeal.Read
public import proofs.«01_k».proof.Proof.Mask
public import proofs.«01_k».proof.Proof.Bits
public import Idealize.ShloMosaic.Lib.Pointwise
public import Idealize.ShloMosaic.Lib.VecWindow
public import Idealize.ShloMosaic.Lib.Pipeline.ValueKit.Basic

@[expose] public section

set_option maxRecDepth 16384
set_option maxHeartbeats 4000000

noncomputable section

namespace Cert.Loss

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.ReferenceIdeal Cert.ReferenceIdeal.Gen Cert.ReferenceIdeal.Read

/-- That the inputs of a batch are the numbers of given images. -/
structure Reads (x0 : (⟨S8x85x64x64, .f32⟩ : BufTy).Contents (Elt Ideal)) (x1 : (⟨S8x85x32x32, .f32⟩ : BufTy).Contents (Elt Ideal)) (x2 : (⟨S8x85x16x16, .f32⟩ : BufTy).Contents (Elt Ideal))
    (x3 : (⟨S8x30x4, .f32⟩ : BufTy).Contents (Elt Ideal)) (x4 : (⟨S8x30, .i32⟩ : BufTy).Contents (Elt Ideal)) (D : Fin 8 → Img) : Prop where
  p3 : ∀ (b : Fin 8) (k : Fin 85) (q : Fin 4096), x0 (ix4 b k (⟨q.val / 64, by omega⟩ : Fin 64) (⟨q.val % 64, by omega⟩ : Fin 64)) = (((D b).P k ⟨q.val, by omega⟩ : ℝ) : EReal)
  p4 : ∀ (b : Fin 8) (k : Fin 85) (q : Fin 1024), x1 (ix4 b k (⟨q.val / 32, by omega⟩ : Fin 32) (⟨q.val % 32, by omega⟩ : Fin 32)) = (((D b).P k ⟨4096 + q.val, by omega⟩ : ℝ) : EReal)
  p5 : ∀ (b : Fin 8) (k : Fin 85) (q : Fin 256), x2 (ix4 b k (⟨q.val / 16, by omega⟩ : Fin 16) (⟨q.val % 16, by omega⟩ : Fin 16)) = (((D b).P k ⟨5120 + q.val, by omega⟩ : ℝ) : EReal)
  bx : ∀ (b : Fin 8) (g : Obj) (k : Fin 4), x3 (ix3 b g k) = (((D b).B g k : ℝ) : EReal)
  lb : ∀ (b : Fin 8) (g : Obj), x4 (ix2 b g) = BitVec.ofNat 32 ((D b).lab g).val

variable {x0 : (⟨S8x85x64x64, .f32⟩ : BufTy).Contents (Elt Ideal)} {x1 : (⟨S8x85x32x32, .f32⟩ : BufTy).Contents (Elt Ideal)} {x2 : (⟨S8x85x16x16, .f32⟩ : BufTy).Contents (Elt Ideal)}
  {x3 : (⟨S8x30x4, .f32⟩ : BufTy).Contents (Elt Ideal)} {x4 : (⟨S8x30, .i32⟩ : BufTy).Contents (Elt Ideal)} {D : Fin 8 → Img}

/-- A small natural number read as a number. -/
theorem esit (n : ℕ) (h : n < 2 ^ 31) : FloatOps.sitofp (F := Ideal) .f32 (BitVec.ofNat 32 n) = ((n : ℝ) : EReal) := by
  show (((BitVec.ofNat 32 n).toInt : ℝ) : EReal) = _
  have : (BitVec.ofNat 32 n).toInt = (n : ℤ) := by
    rw [BitVec.toInt_eq_toNat_of_lt, BitVec.toNat_ofNat, Nat.mod_eq_of_lt (by omega)]
    rw [BitVec.toNat_ofNat, Nat.mod_eq_of_lt (by omega)]
    omega
  rw [this, Int.cast_natCast]

theorem ax_3 (q : Fin 4096) : ax ⟨q.val, by omega⟩ = 8 * ((q.val % 64 : ℕ) : ℝ) + 4 := by
  simp only [ax, axN, if_pos q.isLt]; push_cast; ring
theorem ay_3 (q : Fin 4096) : ay ⟨q.val, by omega⟩ = 8 * ((q.val / 64 : ℕ) : ℝ) + 4 := by
  simp only [ay, ayN, if_pos q.isLt]; push_cast; ring
theorem st_3 (q : Fin 4096) : st ⟨q.val, by omega⟩ = 8 := by
  simp only [st, stN, if_pos q.isLt]; norm_num
theorem ax_4 (q : Fin 1024) : ax ⟨4096 + q.val, by omega⟩ = 16 * ((q.val % 32 : ℕ) : ℝ) + 8 := by
  simp only [ax, axN, if_neg (show ¬ 4096 + q.val < 4096 by omega), if_pos (show 4096 + q.val < 5120 by omega), Nat.add_sub_cancel_left]; push_cast; ring
theorem ay_4 (q : Fin 1024) : ay ⟨4096 + q.val, by omega⟩ = 16 * ((q.val / 32 : ℕ) : ℝ) + 8 := by
  simp only [ay, ayN, if_neg (show ¬ 4096 + q.val < 4096 by omega), if_pos (show 4096 + q.val < 5120 by omega), Nat.add_sub_cancel_left]; push_cast; ring
theorem st_4 (q : Fin 1024) : st ⟨4096 + q.val, by omega⟩ = 16 := by
  simp only [st, stN, if_neg (show ¬ 4096 + q.val < 4096 by omega), if_pos (show 4096 + q.val < 5120 by omega)]; norm_num
theorem ax_5 (q : Fin 256) : ax ⟨5120 + q.val, by omega⟩ = 32 * ((q.val % 16 : ℕ) : ℝ) + 16 := by
  simp only [ax, axN, if_neg (show ¬ 5120 + q.val < 4096 by omega), if_neg (show ¬ 5120 + q.val < 5120 by omega), Nat.add_sub_cancel_left]; push_cast; ring
theorem ay_5 (q : Fin 256) : ay ⟨5120 + q.val, by omega⟩ = 32 * ((q.val / 16 : ℕ) : ℝ) + 16 := by
  simp only [ay, ayN, if_neg (show ¬ 5120 + q.val < 4096 by omega), if_neg (show ¬ 5120 + q.val < 5120 by omega), Nat.add_sub_cancel_left]; push_cast; ring
theorem st_5 (q : Fin 256) : st ⟨5120 + q.val, by omega⟩ = 32 := by
  simp only [st, stN, if_neg (show ¬ 5120 + q.val < 4096 by omega), if_neg (show ¬ 5120 + q.val < 5120 by omega)]; norm_num

open Classical

/-- The logarithm of a ratio of sizes. -/
theorem elogdiv (a b : ℝ) : Ideal.log (Ideal.div ((max a e7 : ℝ) : EReal) ((max b e7 : ℝ) : EReal)) = ((Real.log (max a e7) - Real.log (max b e7) : ℝ) : EReal) := by
  have ha : 0 < max a e7 := lt_max_of_lt_right e7_pos
  have hb : 0 < max b e7 := lt_max_of_lt_right e7_pos
  rw [ediv _ _ (ne_of_gt hb), elog _ (div_pos ha hb), Real.log_div (ne_of_gt ha) (ne_of_gt hb)]
theorem gcx_half (D : Img) (g : Obj) : (D.gx1 g + D.gx2 g) * (1 / 2) = D.gcx g := by unfold Img.gx1 Img.gx2; ring
theorem gcy_half (D : Img) (g : Obj) : (D.gy1 g + D.gy2 g) * (1 / 2) = D.gcy g := by unfold Img.gy1 Img.gy2; ring

theorem q_v8 (q : Fin 4096) : val_main_v8 (F := Ideal) (ix1 q) = ((ax ⟨q.val, by omega⟩ : ℝ) : EReal) := by
  pointwise [val_main_v8, val_main_v6, val_main_v4, val_main_v3, val_main_v1, val_main_v5, val_main_cst, val_main_v7, val_main_cst_0]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [esit _ (by omega)]
  simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [ax_3]
  congr 1
  ring

theorem q_v13 (q : Fin 4096) : val_main_v13 (F := Ideal) (ix1 q) = ((ay ⟨q.val, by omega⟩ : ℝ) : EReal) := by
  pointwise [val_main_v13, val_main_v11, val_main_v9, val_main_v2, val_main_v0, val_main_v10, val_main_cst_1, val_main_v12, val_main_cst_2]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [esit _ (by omega)]
  simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [ay_3]
  congr 1
  ring

theorem q_v14 (q : Fin 4096) : val_main_v14 (F := Ideal) (ix1 q) = ((st ⟨q.val, by omega⟩ : ℝ) : EReal) := by
  pointwise [val_main_v14, val_main_cst_3]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [st_3]

theorem q_v23 (q : Fin 1024) : val_main_v23 (F := Ideal) (ix1 q) = ((ax ⟨4096 + q.val, by omega⟩ : ℝ) : EReal) := by
  pointwise [val_main_v23, val_main_v21, val_main_v19, val_main_v18, val_main_v16, val_main_v20, val_main_cst_4, val_main_v22, val_main_cst_5]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [esit _ (by omega)]
  simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [ax_4]
  congr 1
  ring

theorem q_v28 (q : Fin 1024) : val_main_v28 (F := Ideal) (ix1 q) = ((ay ⟨4096 + q.val, by omega⟩ : ℝ) : EReal) := by
  pointwise [val_main_v28, val_main_v26, val_main_v24, val_main_v17, val_main_v15, val_main_v25, val_main_cst_6, val_main_v27, val_main_cst_7]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [esit _ (by omega)]
  simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [ay_4]
  congr 1
  ring

theorem q_v29 (q : Fin 1024) : val_main_v29 (F := Ideal) (ix1 q) = ((st ⟨4096 + q.val, by omega⟩ : ℝ) : EReal) := by
  pointwise [val_main_v29, val_main_cst_8]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [st_4]

theorem q_v38 (q : Fin 256) : val_main_v38 (F := Ideal) (ix1 q) = ((ax ⟨5120 + q.val, by omega⟩ : ℝ) : EReal) := by
  pointwise [val_main_v38, val_main_v36, val_main_v34, val_main_v33, val_main_v31, val_main_v35, val_main_cst_9, val_main_v37, val_main_cst_10]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [esit _ (by omega)]
  simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [ax_5]
  congr 1
  ring

theorem q_v43 (q : Fin 256) : val_main_v43 (F := Ideal) (ix1 q) = ((ay ⟨5120 + q.val, by omega⟩ : ℝ) : EReal) := by
  pointwise [val_main_v43, val_main_v41, val_main_v39, val_main_v32, val_main_v30, val_main_v40, val_main_cst_11, val_main_v42, val_main_cst_12]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [esit _ (by omega)]
  simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [ay_5]
  congr 1
  ring

theorem q_v44 (q : Fin 256) : val_main_v44 (F := Ideal) (ix1 q) = ((st ⟨5120 + q.val, by omega⟩ : ℝ) : EReal) := by
  pointwise [val_main_v44, val_main_cst_13]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [st_5]

theorem q_v45 (a : Anc) : val_main_v45 (F := Ideal) (ix1 a) = ((ax a : ℝ) : EReal) := by
  pointwise [val_main_v45, q_v8, q_v23, q_v38]
  by_cases h : a.val < 4096
  · rw [dif_pos h]
  · rw [dif_neg h]
    by_cases h' : a.val - 4096 < 1024
    · rw [dif_pos h', show (⟨4096 + (a.val - 4096), by omega⟩ : Anc) = a from Fin.ext (by simp only []; omega)]
    · rw [dif_neg h', show (⟨5120 + (a.val - 4096 - 1024), by omega⟩ : Anc) = a from Fin.ext (by simp only []; omega)]

theorem q_v46 (a : Anc) : val_main_v46 (F := Ideal) (ix1 a) = ((ay a : ℝ) : EReal) := by
  pointwise [val_main_v46, q_v13, q_v28, q_v43]
  by_cases h : a.val < 4096
  · rw [dif_pos h]
  · rw [dif_neg h]
    by_cases h' : a.val - 4096 < 1024
    · rw [dif_pos h', show (⟨4096 + (a.val - 4096), by omega⟩ : Anc) = a from Fin.ext (by simp only []; omega)]
    · rw [dif_neg h', show (⟨5120 + (a.val - 4096 - 1024), by omega⟩ : Anc) = a from Fin.ext (by simp only []; omega)]

theorem q_v47 (a : Anc) : val_main_v47 (F := Ideal) (ix1 a) = ((st a : ℝ) : EReal) := by
  pointwise [val_main_v47, q_v14, q_v29, q_v44]
  by_cases h : a.val < 4096
  · rw [dif_pos h]
  · rw [dif_neg h]
    by_cases h' : a.val - 4096 < 1024
    · rw [dif_pos h', show (⟨4096 + (a.val - 4096), by omega⟩ : Anc) = a from Fin.ext (by simp only []; omega)]
    · rw [dif_neg h', show (⟨5120 + (a.val - 4096 - 1024), by omega⟩ : Anc) = a from Fin.ext (by simp only []; omega)]

theorem q_v49 (hR : Reads x0 x1 x2 x3 x4 D) (b : Fin 8) (q : Fin 4096) (k : Fin 85) : val_main_v49 (F := Ideal) x0 (ix3 b q k) = (((D b).P k ⟨q.val, by omega⟩ : ℝ) : EReal) := by
  pointwise [val_main_v49, val_main_v48, hR.p3]

theorem q_v102 (hR : Reads x0 x1 x2 x3 x4 D) (b : Fin 8) (q : Fin 4096) : val_main_v102 (F := Ideal) x0 (ix2 b q) = (((D b).px1 ⟨q.val, by omega⟩ : ℝ) : EReal) := by
  pointwise [val_main_v102, val_main_v72, val_main_v70, val_main_v67, val_main_v65, val_main_v63, val_main_v62, val_main_cst_15, val_main_v61, val_main_v60, val_main_cst_14, val_main_v59, val_main_v58, val_main_v57, val_main_v56, val_main_v64, val_main_cst_16, val_main_v66, val_main_cst_17, val_main_v69, val_main_v68, val_main_v54, val_main_v53, val_main_v51, val_main_v71, val_main_cst_18, val_main_v101, val_main_v94, val_main_v92, val_main_call0_v4, val_main_call0_v3, val_main_v91, val_main_v90, val_main_call0_v2, val_main_call0_cst, val_main_call0_v6, val_main_call0_v5, val_main_call0_v11, val_main_call0_v1, val_main_call0_v0, val_main_call0_v10, val_main_call0_v9, val_main_call0_v8, val_main_call0_v7, val_main_v93, val_main_cst_24, val_main_v100, val_main_cst_26, q_v49 hR]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  simp only [ne_eq, not_true, if_false]
  rw [esit _ (by omega)]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [espn, ← zero_sub, esg]
  simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  congr 1
  unfold Img.px1 Img.cx Img.pw
  rw [ax_3, st_3]
  ring

theorem q_v105 (hR : Reads x0 x1 x2 x3 x4 D) (b : Fin 8) (q : Fin 4096) : val_main_v105 (F := Ideal) x0 (ix2 b q) = (((D b).py1 ⟨q.val, by omega⟩ : ℝ) : EReal) := by
  pointwise [val_main_v105, val_main_v89, val_main_v87, val_main_v84, val_main_v82, val_main_v80, val_main_v79, val_main_cst_20, val_main_v78, val_main_v77, val_main_cst_19, val_main_v76, val_main_v75, val_main_v74, val_main_v73, val_main_v81, val_main_cst_21, val_main_v83, val_main_cst_22, val_main_v86, val_main_v85, val_main_v55, val_main_v52, val_main_v50, val_main_v88, val_main_cst_23, val_main_v104, val_main_v99, val_main_v97, val_main_call1_v4, val_main_call1_v3, val_main_v96, val_main_v95, val_main_call1_v2, val_main_call1_cst, val_main_call1_v6, val_main_call1_v5, val_main_call1_v11, val_main_call1_v1, val_main_call1_v0, val_main_call1_v10, val_main_call1_v9, val_main_call1_v8, val_main_call1_v7, val_main_v98, val_main_cst_25, val_main_v103, val_main_cst_27, q_v49 hR]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  simp only [ne_eq, not_true, if_false]
  rw [esit _ (by omega)]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [espn, ← zero_sub, esg]
  simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  congr 1
  unfold Img.py1 Img.cy Img.ph
  rw [ay_3, st_3]
  ring

theorem q_v108 (hR : Reads x0 x1 x2 x3 x4 D) (b : Fin 8) (q : Fin 4096) : val_main_v108 (F := Ideal) x0 (ix2 b q) = (((D b).px2 ⟨q.val, by omega⟩ : ℝ) : EReal) := by
  pointwise [val_main_v108, val_main_v72, val_main_v70, val_main_v67, val_main_v65, val_main_v63, val_main_v62, val_main_cst_15, val_main_v61, val_main_v60, val_main_cst_14, val_main_v59, val_main_v58, val_main_v57, val_main_v56, val_main_v64, val_main_cst_16, val_main_v66, val_main_cst_17, val_main_v69, val_main_v68, val_main_v54, val_main_v53, val_main_v51, val_main_v71, val_main_cst_18, val_main_v107, val_main_v94, val_main_v92, val_main_call0_v4, val_main_call0_v3, val_main_v91, val_main_v90, val_main_call0_v2, val_main_call0_cst, val_main_call0_v6, val_main_call0_v5, val_main_call0_v11, val_main_call0_v1, val_main_call0_v0, val_main_call0_v10, val_main_call0_v9, val_main_call0_v8, val_main_call0_v7, val_main_v93, val_main_cst_24, val_main_v106, val_main_cst_28, q_v49 hR]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  simp only [ne_eq, not_true, if_false]
  rw [esit _ (by omega)]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [espn, ← zero_sub, esg]
  simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  congr 1
  unfold Img.px2 Img.cx Img.pw
  rw [ax_3, st_3]
  ring

theorem q_v111 (hR : Reads x0 x1 x2 x3 x4 D) (b : Fin 8) (q : Fin 4096) : val_main_v111 (F := Ideal) x0 (ix2 b q) = (((D b).py2 ⟨q.val, by omega⟩ : ℝ) : EReal) := by
  pointwise [val_main_v111, val_main_v89, val_main_v87, val_main_v84, val_main_v82, val_main_v80, val_main_v79, val_main_cst_20, val_main_v78, val_main_v77, val_main_cst_19, val_main_v76, val_main_v75, val_main_v74, val_main_v73, val_main_v81, val_main_cst_21, val_main_v83, val_main_cst_22, val_main_v86, val_main_v85, val_main_v55, val_main_v52, val_main_v50, val_main_v88, val_main_cst_23, val_main_v110, val_main_v99, val_main_v97, val_main_call1_v4, val_main_call1_v3, val_main_v96, val_main_v95, val_main_call1_v2, val_main_call1_cst, val_main_call1_v6, val_main_call1_v5, val_main_call1_v11, val_main_call1_v1, val_main_call1_v0, val_main_call1_v10, val_main_call1_v9, val_main_call1_v8, val_main_call1_v7, val_main_v98, val_main_cst_25, val_main_v109, val_main_cst_29, q_v49 hR]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  simp only [ne_eq, not_true, if_false]
  rw [esit _ (by omega)]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [espn, ← zero_sub, esg]
  simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  congr 1
  unfold Img.py2 Img.cy Img.ph
  rw [ay_3, st_3]
  ring

theorem q_v113 (hR : Reads x0 x1 x2 x3 x4 D) (b : Fin 8) (q : Fin 4096) : val_main_v113 (F := Ideal) x0 (ix2 b q) = (((D b).obj ⟨q.val, by omega⟩ : ℝ) : EReal) := by
  pointwise [val_main_v113, val_main_v112, q_v49 hR]
  rfl

theorem q_v114 (hR : Reads x0 x1 x2 x3 x4 D) (b : Fin 8) (q : Fin 4096) (k : Fin 80) : val_main_v114 (F := Ideal) x0 (ix3 b q k) = (((D b).cl k ⟨q.val, by omega⟩ : ℝ) : EReal) := by
  pointwise [val_main_v114, q_v49 hR]
  rfl

theorem q_v116 (hR : Reads x0 x1 x2 x3 x4 D) (b : Fin 8) (q : Fin 1024) (k : Fin 85) : val_main_v116 (F := Ideal) x1 (ix3 b q k) = (((D b).P k ⟨4096 + q.val, by omega⟩ : ℝ) : EReal) := by
  pointwise [val_main_v116, val_main_v115, hR.p4]

theorem q_v169 (hR : Reads x0 x1 x2 x3 x4 D) (b : Fin 8) (q : Fin 1024) : val_main_v169 (F := Ideal) x1 (ix2 b q) = (((D b).px1 ⟨4096 + q.val, by omega⟩ : ℝ) : EReal) := by
  pointwise [val_main_v169, val_main_v139, val_main_v137, val_main_v134, val_main_v132, val_main_v130, val_main_v129, val_main_cst_31, val_main_v128, val_main_v127, val_main_cst_30, val_main_v126, val_main_v125, val_main_v124, val_main_v123, val_main_v131, val_main_cst_32, val_main_v133, val_main_cst_33, val_main_v136, val_main_v135, val_main_v121, val_main_v120, val_main_v118, val_main_v138, val_main_cst_34, val_main_v168, val_main_v161, val_main_v159, val_main_call2_v4, val_main_call2_v3, val_main_v158, val_main_v157, val_main_call2_v2, val_main_call2_cst, val_main_call2_v6, val_main_call2_v5, val_main_call2_v11, val_main_call2_v1, val_main_call2_v0, val_main_call2_v10, val_main_call2_v9, val_main_call2_v8, val_main_call2_v7, val_main_v160, val_main_cst_40, val_main_v167, val_main_cst_42, q_v116 hR]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  simp only [ne_eq, not_true, if_false]
  rw [esit _ (by omega)]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [espn, ← zero_sub, esg]
  simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  congr 1
  unfold Img.px1 Img.cx Img.pw
  rw [ax_4, st_4]
  ring

theorem q_v172 (hR : Reads x0 x1 x2 x3 x4 D) (b : Fin 8) (q : Fin 1024) : val_main_v172 (F := Ideal) x1 (ix2 b q) = (((D b).py1 ⟨4096 + q.val, by omega⟩ : ℝ) : EReal) := by
  pointwise [val_main_v172, val_main_v156, val_main_v154, val_main_v151, val_main_v149, val_main_v147, val_main_v146, val_main_cst_36, val_main_v145, val_main_v144, val_main_cst_35, val_main_v143, val_main_v142, val_main_v141, val_main_v140, val_main_v148, val_main_cst_37, val_main_v150, val_main_cst_38, val_main_v153, val_main_v152, val_main_v122, val_main_v119, val_main_v117, val_main_v155, val_main_cst_39, val_main_v171, val_main_v166, val_main_v164, val_main_call3_v4, val_main_call3_v3, val_main_v163, val_main_v162, val_main_call3_v2, val_main_call3_cst, val_main_call3_v6, val_main_call3_v5, val_main_call3_v11, val_main_call3_v1, val_main_call3_v0, val_main_call3_v10, val_main_call3_v9, val_main_call3_v8, val_main_call3_v7, val_main_v165, val_main_cst_41, val_main_v170, val_main_cst_43, q_v116 hR]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  simp only [ne_eq, not_true, if_false]
  rw [esit _ (by omega)]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [espn, ← zero_sub, esg]
  simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  congr 1
  unfold Img.py1 Img.cy Img.ph
  rw [ay_4, st_4]
  ring

theorem q_v175 (hR : Reads x0 x1 x2 x3 x4 D) (b : Fin 8) (q : Fin 1024) : val_main_v175 (F := Ideal) x1 (ix2 b q) = (((D b).px2 ⟨4096 + q.val, by omega⟩ : ℝ) : EReal) := by
  pointwise [val_main_v175, val_main_v139, val_main_v137, val_main_v134, val_main_v132, val_main_v130, val_main_v129, val_main_cst_31, val_main_v128, val_main_v127, val_main_cst_30, val_main_v126, val_main_v125, val_main_v124, val_main_v123, val_main_v131, val_main_cst_32, val_main_v133, val_main_cst_33, val_main_v136, val_main_v135, val_main_v121, val_main_v120, val_main_v118, val_main_v138, val_main_cst_34, val_main_v174, val_main_v161, val_main_v159, val_main_call2_v4, val_main_call2_v3, val_main_v158, val_main_v157, val_main_call2_v2, val_main_call2_cst, val_main_call2_v6, val_main_call2_v5, val_main_call2_v11, val_main_call2_v1, val_main_call2_v0, val_main_call2_v10, val_main_call2_v9, val_main_call2_v8, val_main_call2_v7, val_main_v160, val_main_cst_40, val_main_v173, val_main_cst_44, q_v116 hR]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  simp only [ne_eq, not_true, if_false]
  rw [esit _ (by omega)]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [espn, ← zero_sub, esg]
  simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  congr 1
  unfold Img.px2 Img.cx Img.pw
  rw [ax_4, st_4]
  ring

theorem q_v178 (hR : Reads x0 x1 x2 x3 x4 D) (b : Fin 8) (q : Fin 1024) : val_main_v178 (F := Ideal) x1 (ix2 b q) = (((D b).py2 ⟨4096 + q.val, by omega⟩ : ℝ) : EReal) := by
  pointwise [val_main_v178, val_main_v156, val_main_v154, val_main_v151, val_main_v149, val_main_v147, val_main_v146, val_main_cst_36, val_main_v145, val_main_v144, val_main_cst_35, val_main_v143, val_main_v142, val_main_v141, val_main_v140, val_main_v148, val_main_cst_37, val_main_v150, val_main_cst_38, val_main_v153, val_main_v152, val_main_v122, val_main_v119, val_main_v117, val_main_v155, val_main_cst_39, val_main_v177, val_main_v166, val_main_v164, val_main_call3_v4, val_main_call3_v3, val_main_v163, val_main_v162, val_main_call3_v2, val_main_call3_cst, val_main_call3_v6, val_main_call3_v5, val_main_call3_v11, val_main_call3_v1, val_main_call3_v0, val_main_call3_v10, val_main_call3_v9, val_main_call3_v8, val_main_call3_v7, val_main_v165, val_main_cst_41, val_main_v176, val_main_cst_45, q_v116 hR]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  simp only [ne_eq, not_true, if_false]
  rw [esit _ (by omega)]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [espn, ← zero_sub, esg]
  simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  congr 1
  unfold Img.py2 Img.cy Img.ph
  rw [ay_4, st_4]
  ring

theorem q_v180 (hR : Reads x0 x1 x2 x3 x4 D) (b : Fin 8) (q : Fin 1024) : val_main_v180 (F := Ideal) x1 (ix2 b q) = (((D b).obj ⟨4096 + q.val, by omega⟩ : ℝ) : EReal) := by
  pointwise [val_main_v180, val_main_v179, q_v116 hR]
  rfl

theorem q_v181 (hR : Reads x0 x1 x2 x3 x4 D) (b : Fin 8) (q : Fin 1024) (k : Fin 80) : val_main_v181 (F := Ideal) x1 (ix3 b q k) = (((D b).cl k ⟨4096 + q.val, by omega⟩ : ℝ) : EReal) := by
  pointwise [val_main_v181, q_v116 hR]
  rfl

theorem q_v183 (hR : Reads x0 x1 x2 x3 x4 D) (b : Fin 8) (q : Fin 256) (k : Fin 85) : val_main_v183 (F := Ideal) x2 (ix3 b q k) = (((D b).P k ⟨5120 + q.val, by omega⟩ : ℝ) : EReal) := by
  pointwise [val_main_v183, val_main_v182, hR.p5]

theorem q_v236 (hR : Reads x0 x1 x2 x3 x4 D) (b : Fin 8) (q : Fin 256) : val_main_v236 (F := Ideal) x2 (ix2 b q) = (((D b).px1 ⟨5120 + q.val, by omega⟩ : ℝ) : EReal) := by
  pointwise [val_main_v236, val_main_v206, val_main_v204, val_main_v201, val_main_v199, val_main_v197, val_main_v196, val_main_cst_47, val_main_v195, val_main_v194, val_main_cst_46, val_main_v193, val_main_v192, val_main_v191, val_main_v190, val_main_v198, val_main_cst_48, val_main_v200, val_main_cst_49, val_main_v203, val_main_v202, val_main_v188, val_main_v187, val_main_v185, val_main_v205, val_main_cst_50, val_main_v235, val_main_v228, val_main_v226, val_main_call4_v4, val_main_call4_v3, val_main_v225, val_main_v224, val_main_call4_v2, val_main_call4_cst, val_main_call4_v6, val_main_call4_v5, val_main_call4_v11, val_main_call4_v1, val_main_call4_v0, val_main_call4_v10, val_main_call4_v9, val_main_call4_v8, val_main_call4_v7, val_main_v227, val_main_cst_56, val_main_v234, val_main_cst_58, q_v183 hR]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  simp only [ne_eq, not_true, if_false]
  rw [esit _ (by omega)]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [espn, ← zero_sub, esg]
  simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  congr 1
  unfold Img.px1 Img.cx Img.pw
  rw [ax_5, st_5]
  ring

theorem q_v239 (hR : Reads x0 x1 x2 x3 x4 D) (b : Fin 8) (q : Fin 256) : val_main_v239 (F := Ideal) x2 (ix2 b q) = (((D b).py1 ⟨5120 + q.val, by omega⟩ : ℝ) : EReal) := by
  pointwise [val_main_v239, val_main_v223, val_main_v221, val_main_v218, val_main_v216, val_main_v214, val_main_v213, val_main_cst_52, val_main_v212, val_main_v211, val_main_cst_51, val_main_v210, val_main_v209, val_main_v208, val_main_v207, val_main_v215, val_main_cst_53, val_main_v217, val_main_cst_54, val_main_v220, val_main_v219, val_main_v189, val_main_v186, val_main_v184, val_main_v222, val_main_cst_55, val_main_v238, val_main_v233, val_main_v231, val_main_call5_v4, val_main_call5_v3, val_main_v230, val_main_v229, val_main_call5_v2, val_main_call5_cst, val_main_call5_v6, val_main_call5_v5, val_main_call5_v11, val_main_call5_v1, val_main_call5_v0, val_main_call5_v10, val_main_call5_v9, val_main_call5_v8, val_main_call5_v7, val_main_v232, val_main_cst_57, val_main_v237, val_main_cst_59, q_v183 hR]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  simp only [ne_eq, not_true, if_false]
  rw [esit _ (by omega)]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [espn, ← zero_sub, esg]
  simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  congr 1
  unfold Img.py1 Img.cy Img.ph
  rw [ay_5, st_5]
  ring

theorem q_v242 (hR : Reads x0 x1 x2 x3 x4 D) (b : Fin 8) (q : Fin 256) : val_main_v242 (F := Ideal) x2 (ix2 b q) = (((D b).px2 ⟨5120 + q.val, by omega⟩ : ℝ) : EReal) := by
  pointwise [val_main_v242, val_main_v206, val_main_v204, val_main_v201, val_main_v199, val_main_v197, val_main_v196, val_main_cst_47, val_main_v195, val_main_v194, val_main_cst_46, val_main_v193, val_main_v192, val_main_v191, val_main_v190, val_main_v198, val_main_cst_48, val_main_v200, val_main_cst_49, val_main_v203, val_main_v202, val_main_v188, val_main_v187, val_main_v185, val_main_v205, val_main_cst_50, val_main_v241, val_main_v228, val_main_v226, val_main_call4_v4, val_main_call4_v3, val_main_v225, val_main_v224, val_main_call4_v2, val_main_call4_cst, val_main_call4_v6, val_main_call4_v5, val_main_call4_v11, val_main_call4_v1, val_main_call4_v0, val_main_call4_v10, val_main_call4_v9, val_main_call4_v8, val_main_call4_v7, val_main_v227, val_main_cst_56, val_main_v240, val_main_cst_60, q_v183 hR]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  simp only [ne_eq, not_true, if_false]
  rw [esit _ (by omega)]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [espn, ← zero_sub, esg]
  simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  congr 1
  unfold Img.px2 Img.cx Img.pw
  rw [ax_5, st_5]
  ring

theorem q_v245 (hR : Reads x0 x1 x2 x3 x4 D) (b : Fin 8) (q : Fin 256) : val_main_v245 (F := Ideal) x2 (ix2 b q) = (((D b).py2 ⟨5120 + q.val, by omega⟩ : ℝ) : EReal) := by
  pointwise [val_main_v245, val_main_v223, val_main_v221, val_main_v218, val_main_v216, val_main_v214, val_main_v213, val_main_cst_52, val_main_v212, val_main_v211, val_main_cst_51, val_main_v210, val_main_v209, val_main_v208, val_main_v207, val_main_v215, val_main_cst_53, val_main_v217, val_main_cst_54, val_main_v220, val_main_v219, val_main_v189, val_main_v186, val_main_v184, val_main_v222, val_main_cst_55, val_main_v244, val_main_v233, val_main_v231, val_main_call5_v4, val_main_call5_v3, val_main_v230, val_main_v229, val_main_call5_v2, val_main_call5_cst, val_main_call5_v6, val_main_call5_v5, val_main_call5_v11, val_main_call5_v1, val_main_call5_v0, val_main_call5_v10, val_main_call5_v9, val_main_call5_v8, val_main_call5_v7, val_main_v232, val_main_cst_57, val_main_v243, val_main_cst_61, q_v183 hR]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  simp only [ne_eq, not_true, if_false]
  rw [esit _ (by omega)]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [espn, ← zero_sub, esg]
  simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  congr 1
  unfold Img.py2 Img.cy Img.ph
  rw [ay_5, st_5]
  ring

theorem q_v247 (hR : Reads x0 x1 x2 x3 x4 D) (b : Fin 8) (q : Fin 256) : val_main_v247 (F := Ideal) x2 (ix2 b q) = (((D b).obj ⟨5120 + q.val, by omega⟩ : ℝ) : EReal) := by
  pointwise [val_main_v247, val_main_v246, q_v183 hR]
  rfl

theorem q_v248 (hR : Reads x0 x1 x2 x3 x4 D) (b : Fin 8) (q : Fin 256) (k : Fin 80) : val_main_v248 (F := Ideal) x2 (ix3 b q k) = (((D b).cl k ⟨5120 + q.val, by omega⟩ : ℝ) : EReal) := by
  pointwise [val_main_v248, q_v183 hR]
  rfl

theorem q_v249 (hR : Reads x0 x1 x2 x3 x4 D) (b : Fin 8) (a : Anc) : val_main_v249 (F := Ideal) x0 x1 x2 (ix2 b a) = (((D b).px1 a : ℝ) : EReal) := by
  pointwise [val_main_v249, q_v102 hR, q_v169 hR, q_v236 hR]
  by_cases h : a.val < 4096
  · rw [dif_pos h]
  · rw [dif_neg h]
    by_cases h' : a.val - 4096 < 1024
    · rw [dif_pos h', show (⟨4096 + (a.val - 4096), by omega⟩ : Anc) = a from Fin.ext (by simp only []; omega)]
    · rw [dif_neg h', show (⟨5120 + (a.val - 4096 - 1024), by omega⟩ : Anc) = a from Fin.ext (by simp only []; omega)]

theorem q_v250 (hR : Reads x0 x1 x2 x3 x4 D) (b : Fin 8) (a : Anc) : val_main_v250 (F := Ideal) x0 x1 x2 (ix2 b a) = (((D b).py1 a : ℝ) : EReal) := by
  pointwise [val_main_v250, q_v105 hR, q_v172 hR, q_v239 hR]
  by_cases h : a.val < 4096
  · rw [dif_pos h]
  · rw [dif_neg h]
    by_cases h' : a.val - 4096 < 1024
    · rw [dif_pos h', show (⟨4096 + (a.val - 4096), by omega⟩ : Anc) = a from Fin.ext (by simp only []; omega)]
    · rw [dif_neg h', show (⟨5120 + (a.val - 4096 - 1024), by omega⟩ : Anc) = a from Fin.ext (by simp only []; omega)]

theorem q_v251 (hR : Reads x0 x1 x2 x3 x4 D) (b : Fin 8) (a : Anc) : val_main_v251 (F := Ideal) x0 x1 x2 (ix2 b a) = (((D b).px2 a : ℝ) : EReal) := by
  pointwise [val_main_v251, q_v108 hR, q_v175 hR, q_v242 hR]
  by_cases h : a.val < 4096
  · rw [dif_pos h]
  · rw [dif_neg h]
    by_cases h' : a.val - 4096 < 1024
    · rw [dif_pos h', show (⟨4096 + (a.val - 4096), by omega⟩ : Anc) = a from Fin.ext (by simp only []; omega)]
    · rw [dif_neg h', show (⟨5120 + (a.val - 4096 - 1024), by omega⟩ : Anc) = a from Fin.ext (by simp only []; omega)]

theorem q_v252 (hR : Reads x0 x1 x2 x3 x4 D) (b : Fin 8) (a : Anc) : val_main_v252 (F := Ideal) x0 x1 x2 (ix2 b a) = (((D b).py2 a : ℝ) : EReal) := by
  pointwise [val_main_v252, q_v111 hR, q_v178 hR, q_v245 hR]
  by_cases h : a.val < 4096
  · rw [dif_pos h]
  · rw [dif_neg h]
    by_cases h' : a.val - 4096 < 1024
    · rw [dif_pos h', show (⟨4096 + (a.val - 4096), by omega⟩ : Anc) = a from Fin.ext (by simp only []; omega)]
    · rw [dif_neg h', show (⟨5120 + (a.val - 4096 - 1024), by omega⟩ : Anc) = a from Fin.ext (by simp only []; omega)]

theorem q_v253 (hR : Reads x0 x1 x2 x3 x4 D) (b : Fin 8) (a : Anc) : val_main_v253 (F := Ideal) x0 x1 x2 (ix2 b a) = (((D b).obj a : ℝ) : EReal) := by
  pointwise [val_main_v253, q_v113 hR, q_v180 hR, q_v247 hR]
  by_cases h : a.val < 4096
  · rw [dif_pos h]
  · rw [dif_neg h]
    by_cases h' : a.val - 4096 < 1024
    · rw [dif_pos h', show (⟨4096 + (a.val - 4096), by omega⟩ : Anc) = a from Fin.ext (by simp only []; omega)]
    · rw [dif_neg h', show (⟨5120 + (a.val - 4096 - 1024), by omega⟩ : Anc) = a from Fin.ext (by simp only []; omega)]

theorem q_v254 (hR : Reads x0 x1 x2 x3 x4 D) (b : Fin 8) (a : Anc) (k : Fin 80) : val_main_v254 (F := Ideal) x0 x1 x2 (ix3 b a k) = (((D b).cl k a : ℝ) : EReal) := by
  pointwise [val_main_v254, q_v114 hR, q_v181 hR, q_v248 hR]
  by_cases h : a.val < 4096
  · rw [dif_pos h]
  · rw [dif_neg h]
    by_cases h' : a.val - 4096 < 1024
    · rw [dif_pos h', show (⟨4096 + (a.val - 4096), by omega⟩ : Anc) = a from Fin.ext (by simp only []; omega)]
    · rw [dif_neg h', show (⟨5120 + (a.val - 4096 - 1024), by omega⟩ : Anc) = a from Fin.ext (by simp only []; omega)]

theorem q_v273 (hR : Reads x0 x1 x2 x3 x4 D) (b : Fin 8) (g : Obj) : val_main_v273 (F := Ideal) x3 (ix2 b g) = (((D b).gx1 g : ℝ) : EReal) := by
  pointwise [val_main_v273, val_main_v258, val_main_v256, val_main_v255, val_main_v257, val_main_cst_62, val_main_v272, val_main_v266, val_main_v264, val_main_v263, val_main_v265, val_main_cst_64, val_main_v271, val_main_cst_66, hR.bx]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  congr 1
  unfold Img.gx1 Img.gcx Img.gww
  ring

theorem q_v276 (hR : Reads x0 x1 x2 x3 x4 D) (b : Fin 8) (g : Obj) : val_main_v276 (F := Ideal) x3 (ix2 b g) = (((D b).gy1 g : ℝ) : EReal) := by
  pointwise [val_main_v276, val_main_v262, val_main_v260, val_main_v259, val_main_v261, val_main_cst_63, val_main_v275, val_main_v270, val_main_v268, val_main_v267, val_main_v269, val_main_cst_65, val_main_v274, val_main_cst_67, hR.bx]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  congr 1
  unfold Img.gy1 Img.gcy Img.ghh
  ring

theorem q_v279 (hR : Reads x0 x1 x2 x3 x4 D) (b : Fin 8) (g : Obj) : val_main_v279 (F := Ideal) x3 (ix2 b g) = (((D b).gx2 g : ℝ) : EReal) := by
  pointwise [val_main_v279, val_main_v258, val_main_v256, val_main_v255, val_main_v257, val_main_cst_62, val_main_v278, val_main_v266, val_main_v264, val_main_v263, val_main_v265, val_main_cst_64, val_main_v277, val_main_cst_68, hR.bx]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  congr 1
  unfold Img.gx2 Img.gcx Img.gww
  ring

theorem q_v282 (hR : Reads x0 x1 x2 x3 x4 D) (b : Fin 8) (g : Obj) : val_main_v282 (F := Ideal) x3 (ix2 b g) = (((D b).gy2 g : ℝ) : EReal) := by
  pointwise [val_main_v282, val_main_v262, val_main_v260, val_main_v259, val_main_v261, val_main_cst_63, val_main_v281, val_main_v270, val_main_v268, val_main_v267, val_main_v269, val_main_cst_65, val_main_v280, val_main_cst_69, hR.bx]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  congr 1
  unfold Img.gy2 Img.gcy Img.ghh
  ring

theorem q_v343 (hR : Reads x0 x1 x2 x3 x4 D) (b : Fin 8) (g : Obj) (a : Anc) : val_main_v343 (F := Ideal) x3 (ix3 b g a) = bit ((D b).cand g a) := by
  pointwise [val_main_v343, val_main_v305, val_main_v302, val_main_v300, val_main_v298, val_main_v296, val_main_v292, val_main_v290, val_main_v285, val_main_v283, val_main_v291, val_main_cst_70, val_main_v295, val_main_v293, val_main_v286, val_main_v284, val_main_v294, val_main_cst_71, val_main_v299, val_main_v297, val_main_v289, val_main_v301, val_main_cst_72, val_main_v304, val_main_v303, val_main_cst_73, val_main_v342, val_main_v326, val_main_v323, val_main_v312, val_main_v311, val_main_v309, val_main_v287, val_main_v310, val_main_v308, val_main_v306, val_main_v307, val_main_cst_74, val_main_v322, val_main_v321, val_main_v320, val_main_cst_76, val_main_v325, val_main_v319, val_main_v318, val_main_v316, val_main_v288, val_main_v317, val_main_v315, val_main_v313, val_main_v314, val_main_cst_75, val_main_v324, val_main_v341, val_main_v337, val_main_v333, val_main_v329, val_main_v327, val_main_v328, val_main_v332, val_main_v330, val_main_v331, val_main_v336, val_main_v334, val_main_v335, val_main_v340, val_main_v338, val_main_v339, q_v273 hR, q_v276 hR, q_v279 hR, q_v282 hR, q_v45, q_v46, q_v47]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [ediv _ _ (ne_of_gt (mul_pos (st_pos a) (st_pos a)))]
  simp only [EReal.coe_lt_coe_iff, EReal.coe_le_coe_iff, bit_of, bit_and, bit_or]
  refine bit_congr ?_
  unfold Img.cand Img.gate Img.inCenter Img.inBox Img.dx Img.dy Img.gw Img.gh
  rw [gcx_half, gcy_half]

theorem q_v395 (hR : Reads x0 x1 x2 x3 x4 D) (b : Fin 8) (g : Obj) (a : Anc) : val_main_v395 (F := Ideal) x0 x1 x2 x3 (ix3 b g a) = (((D b).iou g a : ℝ) : EReal) := by
  pointwise [val_main_v395, val_main_v393, val_main_v391, val_main_v384, val_main_v380, val_main_v378, val_main_v374, val_main_v372, val_main_v346, val_main_v373, val_main_v350, val_main_v368, val_main_v366, val_main_v344, val_main_v367, val_main_v348, val_main_v379, val_main_cst_81, val_main_v383, val_main_v381, val_main_v377, val_main_v375, val_main_v347, val_main_v376, val_main_v351, val_main_v371, val_main_v369, val_main_v345, val_main_v370, val_main_v349, val_main_v382, val_main_cst_82, val_main_v390, val_main_v388, val_main_v387, val_main_v385, val_main_v358, val_main_v354, val_main_v352, val_main_v353, val_main_cst_77, val_main_v357, val_main_v355, val_main_v356, val_main_cst_78, val_main_v386, val_main_v365, val_main_v361, val_main_v359, val_main_v360, val_main_cst_79, val_main_v364, val_main_v362, val_main_v363, val_main_cst_80, val_main_v389, val_main_cst_83, val_main_v392, val_main_cst_84, val_main_v394, val_main_cst_85, q_v273 hR, q_v276 hR, q_v279 hR, q_v282 hR, q_v249 hR, q_v250 hR, q_v251 hR, q_v252 hR]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  refine (congrArg (fun t => min (max t ((0 : ℝ) : EReal)) ((1 : ℝ) : EReal)) (ediv _ _ (ne_of_gt ((D b).union_pos g a)))).trans ?_
  simp only [emax, emin]
  rfl

theorem q_v410 (hR : Reads x0 x1 x2 x3 x4 D) (b : Fin 8) (a : Anc) (k : Fin 80) : val_main_v410 (F := Ideal) x0 x1 x2 (ix3 b a k) = (((D b).pp k a : ℝ) : EReal) := by
  pointwise [val_main_v410, val_main_v401, val_main_v400, val_main_cst_87, val_main_v399, val_main_v398, val_main_cst_86, val_main_v397, val_main_v396, val_main_v409, val_main_v408, val_main_v407, val_main_v406, val_main_cst_89, val_main_v405, val_main_v404, val_main_cst_88, val_main_v403, val_main_v402, q_v253 hR, q_v254 hR]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [← zero_sub, ← zero_sub ((D b).obj a), esg, esg, emul]
  rfl

theorem q_v432 (hR : Reads x0 x1 x2 x3 x4 D) (b : Fin 8) (g : Obj) (a : Anc) : val_main_v432 (F := Ideal) x0 x1 x2 x4 (ix3 b g a) = (((D b).clsCost g a : ℝ) : EReal) := by
  pointwise [val_main_v432, val_main_v431, val_main_v430, val_main_v419, val_main_v417, val_main_v413, val_main_v412, val_main_call6_v4, val_main_call6_v2, val_main_call6_v0, val_main_call6_v3, val_main_call6_v1, val_main_v418, val_main_v416, val_main_v415, val_main_v411, val_main_v414, val_main_cst_90, val_main_v429, val_main_v427, val_main_v421, val_main_v420, val_main_cst_91, val_main_v428, val_main_v426, val_main_v425, val_main_v423, val_main_v422, val_main_cst_92, val_main_v424, val_main_cst_93, val_main_cst_94, q_v410 hR, hR.lb]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  unfold Img.clsCost
  rw [← eneg, ← esum]
  congr 1
  refine Finset.sum_congr rfl fun k _ => ?_
  rw [cmp_eq_ofNat _ _ (by have := ((D b).lab g).isLt; omega) (by have := k.isLt; omega), bit_hot']
  rw [elog _ ((D b).ppe_pos k a), elog _ ((D b).omp_pos k a)]
  simp only [emul, eadd, esub]
  congr 1
  by_cases h : (D b).lab g = k
  · rw [if_pos h, if_pos (congrArg Fin.val h)]; ring
  · rw [if_neg h, if_neg (fun h' => h (Fin.ext h'))]; ring

theorem q_v466 (hR : Reads x0 x1 x2 x3 x4 D) (b : Fin 8) (g : Obj) (a : Anc) : val_main_v466 (F := Ideal) x0 x1 x2 x3 (ix3 b g a) = (((D b).size g a : ℝ) : EReal) := by
  pointwise [val_main_v466, val_main_v460, val_main_v459, val_main_v458, val_main_v456, val_main_v452, val_main_v450, val_main_v439, val_main_v437, val_main_v451, val_main_cst_97, val_main_v457, val_main_v446, val_main_v444, val_main_v435, val_main_v433, val_main_v445, val_main_cst_95, val_main_v465, val_main_v464, val_main_v463, val_main_v461, val_main_v455, val_main_v453, val_main_v440, val_main_v438, val_main_v454, val_main_cst_98, val_main_v462, val_main_v449, val_main_v447, val_main_v436, val_main_v434, val_main_v448, val_main_cst_96, q_v273 hR, q_v276 hR, q_v279 hR, q_v282 hR, q_v249 hR, q_v250 hR, q_v251 hR, q_v252 hR]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  simp only [elogdiv, eabsf, eadd]
  rfl

theorem q_v474 (hR : Reads x0 x1 x2 x3 x4 D) (b : Fin 8) (g : Obj) (a : Anc) : val_main_v474 (F := Ideal) x0 x1 x2 x3 (ix3 b g a) = (((D b).aspect g a : ℝ) : EReal) := by
  pointwise [val_main_v474, val_main_v473, val_main_v471, val_main_v468, val_main_v467, val_main_v452, val_main_v450, val_main_v439, val_main_v437, val_main_v451, val_main_cst_97, val_main_v455, val_main_v453, val_main_v440, val_main_v438, val_main_v454, val_main_cst_98, val_main_v472, val_main_v470, val_main_v469, val_main_v446, val_main_v444, val_main_v435, val_main_v433, val_main_v445, val_main_cst_95, val_main_v449, val_main_v447, val_main_v436, val_main_v434, val_main_v448, val_main_cst_96, q_v273 hR, q_v276 hR, q_v279 hR, q_v282 hR, q_v249 hR, q_v250 hR, q_v251 hR, q_v252 hR]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  simp only [elogdiv, eabsf, esub]
  unfold Img.aspect Img.pwc Img.phc Img.gw Img.gh
  rfl

theorem q_v494 (hR : Reads x0 x1 x2 x3 x4 D) (b : Fin 8) (g : Obj) (a : Anc) : val_main_v494 (F := Ideal) x3 (ix3 b g a) = (((D b).center g a : ℝ) : EReal) := by
  pointwise [val_main_v494, val_main_v492, val_main_v491, val_main_v489, val_main_v481, val_main_v480, val_main_v478, val_main_v441, val_main_v479, val_main_v477, val_main_v475, val_main_v433, val_main_v435, val_main_v476, val_main_cst_99, val_main_v490, val_main_v488, val_main_v487, val_main_v485, val_main_v442, val_main_v486, val_main_v484, val_main_v482, val_main_v434, val_main_v436, val_main_v483, val_main_cst_100, val_main_v493, val_main_v443, q_v273 hR, q_v276 hR, q_v279 hR, q_v282 hR, q_v45, q_v46, q_v47]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rw [esqrt _ (by positivity), ediv _ _ (ne_of_gt (st_pos a)), gcx_half, gcy_half]
  rfl

theorem q_v512 (hR : Reads x0 x1 x2 x3 x4 D) (b : Fin 8) (g : Obj) (a : Anc) : val_main_v512 (F := Ideal) x3 (ix3 b g a) = (((D b).pen g a : ℝ) : EReal) := by
  pointwise [val_main_v512, val_main_v511, val_main_call7_v0, val_main_cst_107, val_main_call7_v1, val_main_cst_108, q_v343 hR]
  change Scalar.select (val_main_v343 (F := Ideal) x3 (ix3 b g a)) (Ideal.ofBits .f32 0x00000000#32) (Ideal.ofBits .f32 0x47C35000#32) = _
  rw [q_v343 hR, bit_sel, bits_zero, bits_penalty, eite]
  rfl

theorem q_v513 (hR : Reads x0 x1 x2 x3 x4 D) (b : Fin 8) (g : Obj) (a : Anc) : val_main_v513 (F := Ideal) x0 x1 x2 x3 x4 (ix3 b g a) = (((D b).cost g a : ℝ) : EReal) := by
  pointwise [val_main_v513, val_main_v510, val_main_v507, val_main_v504, val_main_v501, val_main_v498, val_main_v497, val_main_cst_102, val_main_v496, val_main_v495, val_main_cst_101, val_main_v500, val_main_v499, val_main_cst_103, val_main_v503, val_main_v502, val_main_cst_104, val_main_v506, val_main_v505, val_main_cst_105, val_main_v509, val_main_v508, val_main_cst_106, q_v512 hR, q_v395 hR, q_v432 hR, q_v466 hR, q_v474 hR, q_v494 hR]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone]
  rfl

theorem q_v514 (hR : Reads x0 x1 x2 x3 x4 D) (b : Fin 8) (g : Obj) (a : Anc) : val_main_v514 (F := Ideal) x0 x1 x2 x3 (ix3 b g a) = (((D b).ov g a : ℝ) : EReal) := by
  pointwise [val_main_v514, val_main_call8_v1, val_main_call8_v0, val_main_cst_109, q_v343 hR, q_v395 hR]
  change Scalar.select (bit ((D b).cand g a)) (((D b).iou g a : ℝ) : EReal) (Ideal.ofBits .f32 0x00000000#32) = _
  rw [bit_sel, bits_zero, eite]
  rfl

end Cert.Loss

end
-- ==== Proof.KernelImage.lean ====
/- The total of the kernel is the mean of the images' losses. -/
module

public import proofs.«01_k».proof.Proof.KernelArr
public import proofs.«01_k».proof.Proof.KernelHost
public import proofs.«01_k».proof.Proof.KernelStep
public import proofs.«01_k».proof.Proof.Table0
public import proofs.«01_k».proof.Proof.Table1
public import proofs.«01_k».proof.Proof.Table2
public import proofs.«01_k».proof.Proof.RefRead
public import proofs.«01_k».proof.Proof.Mask
public import proofs.«01_k».proof.Proof.Bits
public import Idealize.ShloMosaic.Lib.Pointwise
public import Idealize.ShloMosaic.Lib.VecWindow
public import Idealize.ShloMosaic.Lib.Pipeline.ValueKit.Basic

@[expose] public section

set_option maxRecDepth 16384
set_option maxHeartbeats 4000000

noncomputable section

namespace Cert.Loss

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable (m : (ℓ : Loc nD τ sig) → Buf (Elt Ideal) ℓ) (c : Dev nD) {D : Fin 8 → Img}

/-- The kernel's arguments read as images. -/
def Reads' (m : (ℓ : Loc nD τ sig) → Buf (Elt Ideal) ℓ) (c : Dev nD) (D : Fin 8 → Img) : Prop :=
  Reads (m ((c : Thread nD τ).loc main_arg0)) (m ((c : Thread nD τ).loc main_arg1)) (m ((c : Thread nD τ).loc main_arg2)) (m ((c : Thread nD τ).loc main_arg3)) (m ((c : Thread nD τ).loc main_arg4)) D

theorem V_arg3 (b : Fin 8) (g : Fin 30) (k : Fin 4) : V m c main_arg3 (ix3 b g k) = m ((c : Thread nD τ).loc main_arg3) (ix3 b g k) := by
  change StableHlo.after (List.flatten [hostOps0]) (fun b => m (c, b)) (Proc.devRef .tc main_arg3) _ = _
  simp only [hostOps0, List.flatten_cons, List.flatten_nil, List.append_nil]
  after_results

theorem pay7_read (hR : Reads' m c D) (b : Fin 8) (k : Fin 85) (a : Anc) :
    (k0_pay7 (F := Ideal) (fun j => V m c main_v3 (ix3 b (j 1) (j 2))) (fun j => V m c main_v4 (ix3 b (j 1) (j 2))) (fun j => V m c main_v5 (ix3 b (j 1) (j 2)))) (ix2 k a) = (((D b).P k a : ℝ) : EReal) := by
  have := a.isLt
  pointwise [k0_pay7]
  by_cases h : a.val < 4096
  · rw [dif_pos h]
    exact (V_v3 m c b k ⟨a.val, h⟩).trans (hR.p3 b k ⟨a.val, h⟩)
  · rw [dif_neg h]
    by_cases h' : a.val - 4096 < 1024
    · rw [dif_pos h']
      refine (V_v4 m c b k ⟨a.val - 4096, h'⟩).trans ((hR.p4 b k ⟨a.val - 4096, h'⟩).trans (congrArg (fun z : Anc => (((D b).P k z : ℝ) : EReal)) (Fin.ext ?_)))
      dsimp only; omega
    · rw [dif_neg h']
      refine (V_v5 m c b k ⟨a.val - 4096 - 1024, by omega⟩).trans ((hR.p5 b k ⟨a.val - 4096 - 1024, by omega⟩).trans (congrArg (fun z : Anc => (((D b).P k z : ℝ) : EReal)) (Fin.ext ?_)))
      dsimp only; omega

theorem box_read (hR : Reads' m c D) (b : Fin 8) (g : Obj) (k : Fin 4) : boxes m c b g k = (((D b).B g k : ℝ) : EReal) := hR.bx b g k

/-- One image's step gives its loss. -/
theorem image_loss (hR : Reads' m c D) (hD : ∀ b, NoTies (D b)) (b : Fin 8) : image m c b = (((D b).loss : ℝ) : EReal) := by
  unfold image
  refine step_read (D b) (hD b) _ _ _ _ _ _ _ _ _ (pay7_read m c hR b) (fun g k => ?_) (fun g => ?_) (fun g => ?_) (fun g => ?_) (fun g => ?_) (fun g => ?_)
    (fun a => (V_v0 m c a).trans (lit0_anchor a)) (fun a => (V_v1 m c a).trans (lit1_anchor a)) (fun a => (V_v2 m c a).trans (lit2_anchor a))
  · exact (V_arg3 m c b g k).trans (hR.bx b g k)
  · refine (V_v39_0 m c b g).trans ((V_v35 m c b g).trans ?_)
    rw [box_read m c hR, box_read m c hR, bits_512, bits_half]
    simp only [emul, esub, eadd]
    rfl
  · refine (V_v39_1 m c b g).trans ((V_v36 m c b g).trans ?_)
    rw [box_read m c hR, box_read m c hR, bits_512, bits_half]
    simp only [emul, esub, eadd]
    rfl
  · refine (V_v39_2 m c b g).trans ((V_v37 m c b g).trans ?_)
    rw [box_read m c hR, box_read m c hR, bits_512, bits_half]
    simp only [emul, esub, eadd]
    rfl
  · refine (V_v39_3 m c b g).trans ((V_v38 m c b g).trans ?_)
    rw [box_read m c hR, box_read m c hR, bits_512, bits_half]
    simp only [emul, esub, eadd]
    rfl
  · exact (V_v6 m c b g).trans (hR.lb b g)

/-- The kernel's result is the mean of the images' losses. -/
theorem total_mean (hR : Reads' m c D) (hD : ∀ b, NoTies (D b)) : (total m c ix0 : EReal) = (((∑ b : Fin 8, (D b).loss) / 8 : ℝ) : EReal) := by
  have hl : ∀ (b : Fin 8) (i j : Fin 1), losses m c (ix3 b i j) = (((D b).loss : ℝ) : EReal) := fun b i j => image_loss m c hR hD b
  pointwise [total, hl]
  try simp only [bits_eight, bits_zero]
  simp only [esum, eadd, zero_add, add_zero]
  rw [ediv _ _ (by norm_num)]
  simp only [Fin.sum_univ_one, Finset.sum_const, Finset.card_univ, Fintype.card_fin, one_smul]

end Cert.Loss

end
-- ==== Proof.PreFacts.lean ====
/- The shape relations the precondition's operations take. -/
module

public import proofs.«01_k».proof.Pre_no_ties

@[expose] public section

set_option maxRecDepth 16384

namespace Cert.Loss

open Idealize.ShloMosaic

instance tieFacts : Cert.Pre_no_ties.Facts where
  bcast_S64_S64x64_0 := by decide
  bcast_S64_S64x64_1 := by decide
  shapeCasts_S64x64_S4096 := by decide
  bcast_S_S4096 := by decide
  bcast_S32_S32x32_0 := by decide
  bcast_S32_S32x32_1 := by decide
  shapeCasts_S32x32_S1024 := by decide
  bcast_S_S1024 := by decide
  bcast_S16_S16x16_0 := by decide
  bcast_S16_S16x16_1 := by decide
  shapeCasts_S16x16_S256 := by decide
  bcast_S_S256 := by decide
  concatenates_S4096_S1024_S256_S5376_d0 := by decide
  transposes_S8x85x64x64_S8x64x64x85_0_2_3_1 := by decide
  shapeCasts_S8x64x64x85_S8x4096x85 := by decide
  slices_S8x4096x85_S8x4096x1_0_0_0 := by decide
  shapeCasts_S8x4096x1_S8x4096 := by decide
  bcast_S_S8x4096 := by decide
  bcast_S4096_S1x4096_1 := by decide
  bcast_S1x4096_S8x4096_0_1 := by decide
  slices_S8x4096x85_S8x4096x1_0_0_1 := by decide
  slices_S8x4096x85_S8x4096x1_0_0_2 := by decide
  slices_S8x4096x85_S8x4096x1_0_0_3 := by decide
  slices_S8x4096x85_S8x4096x1_0_0_4 := by decide
  slices_S8x4096x85_S8x4096x80_0_0_5 := by decide
  transposes_S8x85x32x32_S8x32x32x85_0_2_3_1 := by decide
  shapeCasts_S8x32x32x85_S8x1024x85 := by decide
  slices_S8x1024x85_S8x1024x1_0_0_0 := by decide
  shapeCasts_S8x1024x1_S8x1024 := by decide
  bcast_S_S8x1024 := by decide
  bcast_S1024_S1x1024_1 := by decide
  bcast_S1x1024_S8x1024_0_1 := by decide
  slices_S8x1024x85_S8x1024x1_0_0_1 := by decide
  slices_S8x1024x85_S8x1024x1_0_0_2 := by decide
  slices_S8x1024x85_S8x1024x1_0_0_3 := by decide
  slices_S8x1024x85_S8x1024x1_0_0_4 := by decide
  slices_S8x1024x85_S8x1024x80_0_0_5 := by decide
  transposes_S8x85x16x16_S8x16x16x85_0_2_3_1 := by decide
  shapeCasts_S8x16x16x85_S8x256x85 := by decide
  slices_S8x256x85_S8x256x1_0_0_0 := by decide
  shapeCasts_S8x256x1_S8x256 := by decide
  bcast_S_S8x256 := by decide
  bcast_S256_S1x256_1 := by decide
  bcast_S1x256_S8x256_0_1 := by decide
  slices_S8x256x85_S8x256x1_0_0_1 := by decide
  slices_S8x256x85_S8x256x1_0_0_2 := by decide
  slices_S8x256x85_S8x256x1_0_0_3 := by decide
  slices_S8x256x85_S8x256x1_0_0_4 := by decide
  slices_S8x256x85_S8x256x80_0_0_5 := by decide
  concatenates_S8x4096_S8x1024_S8x256_S8x5376_d1 := by decide
  concatenates_S8x4096x80_S8x1024x80_S8x256x80_S8x5376x80_d1 := by decide
  slices_S8x30x4_S8x30x1_0_0_0 := by decide
  shapeCasts_S8x30x1_S8x30 := by decide
  bcast_S_S8x30 := by decide
  slices_S8x30x4_S8x30x1_0_0_1 := by decide
  slices_S8x30x4_S8x30x1_0_0_2 := by decide
  slices_S8x30x4_S8x30x1_0_0_3 := by decide
  bcast_S8x30_S8x30x1_0_1 := by decide
  bcast_S5376_S1x1x5376_2 := by decide
  bcast_S_S8x30x1 := by decide
  bcast_S8x30x1_S8x30x5376_0_1_2 := by decide
  bcast_S1x1x5376_S8x30x5376_0_1_2 := by decide
  bcast_S_S8x30x5376 := by decide
  bcast_S_S1x1x5376 := by decide
  bcast_S8x5376_S8x1x5376_0_2 := by decide
  bcast_S_S8x1x5376 := by decide
  bcast_S8x1x5376_S8x30x5376_0_1_2 := by decide
  bcast_S_S8x5376x80 := by decide
  bcast_S_S8x5376 := by decide
  bcast_S8x5376_S8x5376x1_0_1 := by decide
  bcast_S8x5376x1_S8x5376x80_0_1_2 := by decide
  bcast_S8x5376x80_S8x1x5376x80_0_2_3 := by decide
  bcast_S8x30x1_S8x30x80_0_1_2 := by decide
  bcast_S1x1x80_S8x30x80_0_1_2 := by decide
  bcast_S8x30x80_S8x30x1x80_0_1_3 := by decide
  bcast_S_S8x1x5376x80 := by decide
  bcast_S8x30x1x80_S8x30x5376x80_0_1_2_3 := by decide
  bcast_S8x1x5376x80_S8x30x5376x80_0_1_2_3 := by decide
  bcast_S_S8x30x1x80 := by decide
  reducesTo_S8x30x5376x80_S8x30x5376_d3 := by decide
  h_S_ := by decide
  bcast_S_S8x85x64x64 := by decide
  reducesTo_S8x85x64x64_S_d0_1_2_3 := by decide
  bcast_S_S8x85x32x32 := by decide
  reducesTo_S8x85x32x32_S_d0_1_2_3 := by decide
  bcast_S_S8x85x16x16 := by decide
  reducesTo_S8x85x16x16_S_d0_1_2_3 := by decide
  bcast_S_S8x30x4 := by decide
  reducesTo_S8x30x4_S_d0_1_2 := by decide
  reducesTo_S8x30_S_d0_1 := by decide
  bcast_S8x30x5376_S8x30x5376x1_0_1_2 := by decide
  bcast_S8x30x5376_S8x30x1x5376_0_1_3 := by decide
  bcast_S5376_S5376x1_0 := by decide
  bcast_S5376_S1x5376_1 := by decide
  bcast_S5376x1_S5376x5376_0_1 := by decide
  bcast_S1x5376_S5376x5376_0_1 := by decide
  bcast_S5376x5376_S1x1x5376x5376_2_3 := by decide
  bcast_S8x30x5376x1_S8x30x5376x5376_0_1_2_3 := by decide
  bcast_S1x1x5376x5376_S8x30x5376x5376_0_1_2_3 := by decide
  bcast_S8x30x1x5376_S8x30x5376x5376_0_1_2_3 := by decide
  bcast_S_S8x30x5376x1 := by decide
  reducesTo_S8x30x5376x5376_S_d0_1_2_3 := by decide
  bcast_S8x30x5376_S8x1x30x5376_0_2_3 := by decide
  bcast_S30_S30x1_0 := by decide
  bcast_S30_S1x30_1 := by decide
  bcast_S30x1_S30x30_0_1 := by decide
  bcast_S1x30_S30x30_0_1 := by decide
  bcast_S30x30_S1x30x30x1_1_2 := by decide
  bcast_S8x30x1x5376_S8x30x30x5376_0_1_2_3 := by decide
  bcast_S8x1x30x5376_S8x30x30x5376_0_1_2_3 := by decide
  bcast_S1x30x30x1_S8x30x30x5376_0_1_2_3 := by decide
  reducesTo_S8x30x30x5376_S_d0_1_2_3 := by decide

end Cert.Loss

end
-- ==== Proof.RefSort.lean ====
/- The sorts and gathers of the reference, read at an index. -/
module

public import proofs.«01_k».proof.Proof.Gen.ReferenceIdeal.Read
public import proofs.«01_k».proof.Proof.Mask
public import proofs.«01_k».proof.Proof.Bits
public import Idealize.ShloMosaic.Lib.Pointwise
public import Idealize.ShloMosaic.Lib.SortFacts
public import Idealize.ShloMosaic.Lib.VecWindow
public import Idealize.ShloMosaic.Lib.Pipeline.ValueKit.Basic

@[expose] public section

set_option maxRecDepth 16384
set_option maxHeartbeats 4000000

noncomputable section

namespace Cert.Loss

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.ReferenceIdeal Cert.ReferenceIdeal.Gen Cert.ReferenceIdeal.Read

open Classical

/-! ## Sorts read as arrangements -/

section arrange

variable {n : ℕ} {κ : Type} [LinearOrder κ]

/-- The arrangement of a sort whose comparison is that of a key does not decrease the key. -/
theorem arrange_mono (R : Fin n → Fin n → Bool) (key : Fin n → κ) (h : ∀ k k', R k k' = true ↔ key k < key k') (p q : Fin n) (hpq : p < q) :
    key (sortedFrom R p) ≤ key (sortedFrom R q) := by
  have := sortedFrom_noInversion R R (fun a b hab => by
      rw [Bool.eq_false_iff]; intro hba
      exact absurd ((h a b).1 hab) (not_lt.mpr ((h b a).1 hba).le)) (fun _ _ hab => hab)
    (fun a b c hab hbc => by
      rw [Bool.eq_false_iff] at hab hbc ⊢
      intro hac
      have h1 := not_lt.mp fun hlt => hab ((h a b).2 hlt)
      have h2 := not_lt.mp fun hlt => hbc ((h b c).2 hlt)
      exact absurd ((h a c).1 hac) (not_lt.mpr (h2.trans h1))) p q hpq
  rw [Bool.eq_false_iff] at this
  exact not_lt.mp fun hlt => this ((h _ _).2 hlt)

theorem arrange_bij (R : Fin n → Fin n → Bool) : Function.Bijective (sortedFrom R) := ⟨sortedFrom_injective R, sortedFrom_surjective R⟩

end arrange

theorem two_lt : 2 < S8x30x5376.rank := by decide

theorem one_lt : 1 < S8x30x5376.rank := by decide

theorem sort_fst {α β : Type} (s : Shape) (d : ℕ) (hd : d < s.rank) (cmp : α × β → α × β → BitVec 1) (x : s.Idx → α) (y : s.Idx → β) (j : s.Idx) :
    (Host.sort2 s d cmp x y).1 j = x (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

theorem sort_snd {α β : Type} (s : Shape) (d : ℕ) (hd : d < s.rank) (cmp : α × β → α × β → BitVec 1) (x : s.Idx → α) (y : s.Idx → β) (j : s.Idx) :
    (Host.sort2 s d cmp x y).2 j = y (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

theorem along_last (b : Fin 8) (g : Obj) (p k : Anc) : Shape.Idx.along (s := S8x30x5376) (ix3 b g p) ⟨2, two_lt⟩ k = ix3 b g k := by
  funext i
  match i with
  | ⟨0, _⟩ => rfl
  | ⟨1, _⟩ => rfl
  | ⟨2, _⟩ => rfl

theorem along_mid (b : Fin 8) (g k : Obj) (p : Anc) : Shape.Idx.along (s := S8x30x5376) (ix3 b g p) ⟨1, one_lt⟩ k = ix3 b k p := by
  funext i
  match i with
  | ⟨0, _⟩ => rfl
  | ⟨1, _⟩ => rfl
  | ⟨2, _⟩ => rfl

/-- A sort of a row with the positions carried, read as an arrangement of the row. -/
theorem sort_last {α κ : Type} [LinearOrder κ] (cmp : α × BitVec 32 → α × BitVec 32 → BitVec 1) (x : S8x30x5376.Idx → α) (y : IVec S8x30x5376 32)
    (b : Fin 8) (g : Obj) (key : Anc → κ)
    (h : ∀ k k' : Anc, cmp (x (ix3 b g k), y (ix3 b g k)) (x (ix3 b g k'), y (ix3 b g k')) = 1#1 ↔ key k < key k') :
    ∃ σ : Anc → Anc, Function.Bijective σ ∧ (∀ p q, p < q → key (σ p) ≤ key (σ q)) ∧
      (∀ p, (Host.sort2 S8x30x5376 2 cmp x y).1 (ix3 b g p) = x (ix3 b g (σ p))) ∧
      ∀ p, (Host.sort2 S8x30x5376 2 cmp x y).2 (ix3 b g p) = y (ix3 b g (σ p)) := by
  have e : ∀ p : Anc, (fun k k' : Anc => cmp (x (Shape.Idx.along (s := S8x30x5376) (ix3 b g p) ⟨2, two_lt⟩ k), y (Shape.Idx.along (s := S8x30x5376) (ix3 b g p) ⟨2, two_lt⟩ k))
      (x (Shape.Idx.along (s := S8x30x5376) (ix3 b g p) ⟨2, two_lt⟩ k'), y (Shape.Idx.along (s := S8x30x5376) (ix3 b g p) ⟨2, two_lt⟩ k')) == 1#1)
      = fun k k' : Anc => cmp (x (ix3 b g k), y (ix3 b g k)) (x (ix3 b g k'), y (ix3 b g k')) == 1#1 := by
    intro p; funext k k'; rw [along_last, along_last]
  refine ⟨sortedFrom fun k k' : Anc => cmp (x (ix3 b g k), y (ix3 b g k)) (x (ix3 b g k'), y (ix3 b g k')) == 1#1, arrange_bij _,
    arrange_mono _ key fun k k' => by rw [beq_iff_eq]; exact h k k', fun p => ?_, fun p => ?_⟩
  · rw [sort_fst _ _ two_lt]
    exact (congrArg (fun R => x (Shape.Idx.along (s := S8x30x5376) (ix3 b g p) ⟨2, two_lt⟩ (sortedFrom R p))) (e p)).trans (congrArg x (along_last b g p _))
  · rw [sort_snd _ _ two_lt]
    exact (congrArg (fun R => y (Shape.Idx.along (s := S8x30x5376) (ix3 b g p) ⟨2, two_lt⟩ (sortedFrom R p))) (e p)).trans (congrArg y (along_last b g p _))

/-- A sort of a column with the positions carried, read as an arrangement of the column. -/
theorem sort_mid {α κ : Type} [LinearOrder κ] (cmp : α × BitVec 32 → α × BitVec 32 → BitVec 1) (x : S8x30x5376.Idx → α) (y : IVec S8x30x5376 32)
    (b : Fin 8) (a : Anc) (key : Obj → κ)
    (h : ∀ k k' : Obj, cmp (x (ix3 b k a), y (ix3 b k a)) (x (ix3 b k' a), y (ix3 b k' a)) = 1#1 ↔ key k < key k') :
    ∃ σ : Obj → Obj, Function.Bijective σ ∧ (∀ p q, p < q → key (σ p) ≤ key (σ q)) ∧
      ∀ p, (Host.sort2 S8x30x5376 1 cmp x y).2 (ix3 b p a) = y (ix3 b (σ p) a) := by
  have e : ∀ p : Obj, (fun k k' : Obj => cmp (x (Shape.Idx.along (s := S8x30x5376) (ix3 b p a) ⟨1, one_lt⟩ k), y (Shape.Idx.along (s := S8x30x5376) (ix3 b p a) ⟨1, one_lt⟩ k))
      (x (Shape.Idx.along (s := S8x30x5376) (ix3 b p a) ⟨1, one_lt⟩ k'), y (Shape.Idx.along (s := S8x30x5376) (ix3 b p a) ⟨1, one_lt⟩ k')) == 1#1)
      = fun k k' : Obj => cmp (x (ix3 b k a), y (ix3 b k a)) (x (ix3 b k' a), y (ix3 b k' a)) == 1#1 := by
    intro p; funext k k'; rw [along_mid, along_mid]
  refine ⟨sortedFrom fun k k' : Obj => cmp (x (ix3 b k a), y (ix3 b k a)) (x (ix3 b k' a), y (ix3 b k' a)) == 1#1, arrange_bij _,
    arrange_mono _ key fun k k' => by rw [beq_iff_eq]; exact h k k', fun p => ?_⟩
  rw [sort_snd _ _ one_lt]
  exact (congrArg (fun R => y (Shape.Idx.along (s := S8x30x5376) (ix3 b p a) ⟨1, one_lt⟩ (sortedFrom R p))) (e p)).trans (congrArg y (along_mid b p _ a))

/-! ## The comparisons -/

theorem sel_same (l : EReal) : Scalar.select (FloatOps.cmpf (F := Ideal) (φ := .f32) .oeq l (Ideal.ofBits .f32 0x00000000#32)) (Ideal.ofBits .f32 0x00000000#32) l = l := by
  rw [Ideal.cmpf_def]
  change Scalar.select (BitVec.ofBool (decide (l = Ideal.ofBits .f32 0x00000000#32))) _ _ = _
  rw [bit_of, bit_sel]
  split_ifs with h
  · exact h.symm
  · rfl

theorem sel_nan (l w v : EReal) : Scalar.select (FloatOps.cmpf (F := Ideal) (φ := .f32) .une l l) w v = v := by
  rw [Ideal.cmpf_def]
  change Scalar.select (BitVec.ofBool (decide (l ≠ l))) _ _ = _
  rw [bit_of, bit_sel, if_neg (not_not.mpr rfl)]

theorem total_lt (l r : EReal) : FloatOps.cmpfTotal (F := Ideal) (φ := .f32) .lt l r = 1#1 ↔ l < r := by
  rw [Ideal.cmpfTotal_def]
  change BitVec.ofBool (decide (l < r)) = 1#1 ↔ _
  rw [bit_of, bit_eq_one]

theorem total_gt (l r : EReal) : FloatOps.cmpfTotal (F := Ideal) (φ := .f32) .gt l r = 1#1 ↔ r < l := by
  rw [Ideal.cmpfTotal_def]
  change BitVec.ofBool (decide (l > r)) = 1#1 ↔ _
  rw [bit_of, bit_eq_one, gt_iff_lt]

theorem cmp_d2 (l r : EReal × BitVec 32) : comparator_f32_i32_d2 (F := Ideal) l r = 1#1 ↔ l.1 < r.1 := by
  change FloatOps.cmpfTotal (F := Ideal) (φ := .f32) .lt (Scalar.select (FloatOps.cmpf (F := Ideal) (φ := .f32) .une l.1 l.1) _ (Scalar.select (FloatOps.cmpf (F := Ideal) (φ := .f32) .oeq l.1 (Ideal.ofBits .f32 0x00000000#32)) (Ideal.ofBits .f32 0x00000000#32) l.1))
    (Scalar.select (FloatOps.cmpf (F := Ideal) (φ := .f32) .une r.1 r.1) _ (Scalar.select (FloatOps.cmpf (F := Ideal) (φ := .f32) .oeq r.1 (Ideal.ofBits .f32 0x00000000#32)) (Ideal.ofBits .f32 0x00000000#32) r.1)) = 1#1 ↔ _
  rw [sel_nan, sel_nan, sel_same, sel_same, total_lt]

theorem cmp_d1 (l r : EReal × BitVec 32) : comparator_f32_i32_d1 (F := Ideal) l r = 1#1 ↔ l.1 < r.1 := by
  change FloatOps.cmpfTotal (F := Ideal) (φ := .f32) .lt (Scalar.select (FloatOps.cmpf (F := Ideal) (φ := .f32) .une l.1 l.1) _ (Scalar.select (FloatOps.cmpf (F := Ideal) (φ := .f32) .oeq l.1 (Ideal.ofBits .f32 0x00000000#32)) (Ideal.ofBits .f32 0x00000000#32) l.1))
    (Scalar.select (FloatOps.cmpf (F := Ideal) (φ := .f32) .une r.1 r.1) _ (Scalar.select (FloatOps.cmpf (F := Ideal) (φ := .f32) .oeq r.1 (Ideal.ofBits .f32 0x00000000#32)) (Ideal.ofBits .f32 0x00000000#32) r.1)) = 1#1 ↔ _
  rw [sel_nan, sel_nan, sel_same, sel_same, total_lt]

/-! ## Gathers along the objects -/

/-- A gather of one object's entry of each anchor of an image. -/
theorem gather_pair {α : Type} (x : S8x30.Idx → α) (idx : IVec S8x5376x1 32) (b : Fin 8) (a : Anc) (g : Obj) (h : idx (ix3 b a 0) = BitVec.ofNat 32 g.val) :
    Host.gather gather_S8x30_S8x5376x1_S8x5376_n_1_0_0_1_2_11 x idx (ix2 b a) = x (ix2 b g) := by
  have hg := g.isLt
  unfold Host.gather
  congr 1
  funext i
  refine Fin.ext ?_
  show GatherDims.start _ _ _ i + GatherDims.batchCoord _ _ i + GatherDims.offCoord _ _ i = _
  match i with
  | ⟨0, _⟩ =>
    rw [GatherDims.start_batching _ _ _ _ (show (0 : Fin 2) ∈ [(0 : Fin 2)] from List.mem_singleton.mpr rfl),
      GatherDims.offCoord_eq_zero _ _ _ (fun h => ((GatherDims.mem_sKept _ _).mp h).2 (List.mem_singleton.mpr rfl))]
    unfold GatherDims.batchCoord
    rw [dif_pos (show (⟨0, by decide⟩ : Fin S8x30.rank) ∈ GatherDims.operandBatchingDims gather_S8x30_S8x5376x1_S8x5376_n_1_0_0_1_2_11 from List.mem_singleton.mpr rfl)]
    show 0 + b.val + 0 = b.val
    omega
  | ⟨1, _⟩ =>
    rw [GatherDims.batchCoord_eq_zero _ _ _ (show ¬ (1 : Fin 2) ∈ [(0 : Fin 2)] by decide),
      GatherDims.offCoord_eq_zero _ _ _ (fun h => ((GatherDims.mem_sKept _ _).mp h).1 (List.mem_singleton.mpr rfl))]
    unfold GatherDims.start
    rw [dif_pos (show (⟨1, by decide⟩ : Fin S8x30.rank) ∈ GatherDims.startIndexMap gather_S8x30_S8x5376x1_S8x5376_n_1_0_0_1_2_11 from List.mem_singleton.mpr rfl)]
    have hs : ∀ k, GatherDims.siIdx gather_S8x30_S8x5376x1_S8x5376_n_1_0_0_1_2_11 (ix2 b a) k = ix3 b a 0 := by
      intro k
      funext j
      match j with
      | ⟨0, _⟩ => rfl
      | ⟨1, _⟩ => rfl
      | ⟨2, _⟩ => exact Subsingleton.elim (α := Fin 1) _ _
    rw [hs, h, toInt_small _ (by omega)]
    show min (Int.toNat (g.val : ℤ)) 29 + 0 + 0 = g.val
    rw [Int.toNat_natCast]
    omega

/-- A gather of one object's entry of each pair of an image. -/
theorem gather_row {α : Type} (x : S8x30x5376.Idx → α) (idx : IVec S8x1x5376x1 32) (b : Fin 8) (a : Anc) (g : Obj) (h : idx (ix4 b 0 a 0) = BitVec.ofNat 32 g.val) :
    Host.gather gather_S8x30x5376_S8x1x5376x1_S8x1x5376_n_1_02_02_1_3_111 x idx (ix3 b 0 a) = x (ix3 b g a) := by
  have hg := g.isLt
  unfold Host.gather
  congr 1
  funext i
  refine Fin.ext ?_
  show GatherDims.start _ _ _ i + GatherDims.batchCoord _ _ i + GatherDims.offCoord _ _ i = _
  match i with
  | ⟨0, _⟩ =>
    rw [GatherDims.start_batching _ _ _ _ (show (0 : Fin 3) ∈ [(0 : Fin 3), 2] by decide),
      GatherDims.offCoord_eq_zero _ _ _ (fun h => ((GatherDims.mem_sKept _ _).mp h).2 (show (0 : Fin 3) ∈ [(0 : Fin 3), 2] by decide))]
    unfold GatherDims.batchCoord
    rw [dif_pos (show (⟨0, by decide⟩ : Fin S8x30x5376.rank) ∈ GatherDims.operandBatchingDims gather_S8x30x5376_S8x1x5376x1_S8x1x5376_n_1_02_02_1_3_111 by decide)]
    show 0 + b.val + 0 = b.val
    omega
  | ⟨1, _⟩ =>
    rw [GatherDims.batchCoord_eq_zero _ _ _ (show ¬ (1 : Fin 3) ∈ [(0 : Fin 3), 2] by decide),
      GatherDims.offCoord_eq_zero _ _ _ (fun h => ((GatherDims.mem_sKept _ _).mp h).1 (List.mem_singleton.mpr rfl))]
    unfold GatherDims.start
    rw [dif_pos (show (⟨1, by decide⟩ : Fin S8x30x5376.rank) ∈ GatherDims.startIndexMap gather_S8x30x5376_S8x1x5376x1_S8x1x5376_n_1_02_02_1_3_111 from List.mem_singleton.mpr rfl)]
    have hs : ∀ k, GatherDims.siIdx gather_S8x30x5376_S8x1x5376x1_S8x1x5376_n_1_02_02_1_3_111 (ix3 b 0 a) k = ix4 b 0 a 0 := by
      intro k
      funext j
      match j with
      | ⟨0, _⟩ => rfl
      | ⟨1, _⟩ => rfl
      | ⟨2, _⟩ => rfl
      | ⟨3, _⟩ => exact Subsingleton.elim (α := Fin 1) _ _
    rw [hs, h, toInt_small _ (by omega)]
    show min (Int.toNat (g.val : ℤ)) 29 + 0 + 0 = g.val
    rw [Int.toNat_natCast]
    omega
  | ⟨2, _⟩ =>
    rw [GatherDims.start_batching _ _ _ _ (show (2 : Fin 3) ∈ [(0 : Fin 3), 2] by decide),
      GatherDims.offCoord_eq_zero _ _ _ (fun h => ((GatherDims.mem_sKept _ _).mp h).2 (show (2 : Fin 3) ∈ [(0 : Fin 3), 2] by decide))]
    unfold GatherDims.batchCoord
    rw [dif_pos (show (⟨2, by decide⟩ : Fin S8x30x5376.rank) ∈ GatherDims.operandBatchingDims gather_S8x30x5376_S8x1x5376x1_S8x1x5376_n_1_02_02_1_3_111 by decide)]
    show 0 + a.val + 0 = a.val
    omega

end Cert.Loss

end
-- ==== Proof.RefRank.lean ====
/- The assignment of the reference: ranks, matched pairs, and the object of an anchor. -/
module

public import proofs.«01_k».proof.Proof.RefRead
public import proofs.«01_k».proof.Proof.RefSort
public import proofs.«01_k».proof.Proof.Mask
public import proofs.«01_k».proof.Proof.Bits
public import Idealize.ShloMosaic.Lib.Pointwise
public import Idealize.ShloMosaic.Lib.VecWindow
public import Idealize.ShloMosaic.Lib.Pipeline.ValueKit.Basic

@[expose] public section

set_option maxRecDepth 16384
set_option maxHeartbeats 4000000

noncomputable section

namespace Cert.Loss

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.ReferenceIdeal Cert.ReferenceIdeal.Gen Cert.ReferenceIdeal.Read

variable {x0 : (⟨S8x85x64x64, .f32⟩ : BufTy).Contents (Elt Ideal)} {x1 : (⟨S8x85x32x32, .f32⟩ : BufTy).Contents (Elt Ideal)} {x2 : (⟨S8x85x16x16, .f32⟩ : BufTy).Contents (Elt Ideal)}
  {x3 : (⟨S8x30x4, .f32⟩ : BufTy).Contents (Elt Ideal)} {x4 : (⟨S8x30, .i32⟩ : BufTy).Contents (Elt Ideal)} {D : Fin 8 → Img}

open Classical

/-- A disjunction over all objects. -/
theorem fold_or (p : Obj → Prop) : Finset.fold IntOp.ori 0#1 (fun g => bit (p g)) Finset.univ = bit (∃ g, p g) := by
  have key : ∀ s : Finset Obj, Finset.fold IntOp.ori 0#1 (fun g => bit (p g)) s = bit (∃ g ∈ s, p g) := by
    intro s
    induction s using Finset.induction_on with
    | empty => rw [Finset.fold_empty, bit_congr (iff_false_intro (by simp))]; unfold bit; simp
    | insert a s ha ih =>
      rw [Finset.fold_insert ha, ih, bit_or]
      exact bit_congr (by simp)
  rw [key]
  exact bit_congr (by simp)

/-- A small natural number is not negative as a word. -/
theorem cmp_neg_ofNat (n : ℕ) (h : n < 2 ^ 31) : IntOp.cmpi .slt (BitVec.ofNat 32 n) 0#32 = bit False := by
  rw [cmp_slt_ofNat n 0 h (by norm_num)]
  exact bit_congr (iff_of_false (Nat.not_lt_zero n) not_false)

theorem q_values (hR : Reads x0 x1 x2 x3 x4 D) (b : Fin 8) (g : Obj) :
    ∃ σ : Anc → Anc, Function.Bijective σ ∧ (∀ p q, p < q → (D b).ov g (σ q) ≤ (D b).ov g (σ p)) ∧
      ∀ r : Fin 20, val_main_values (F := Ideal) x0 x1 x2 x3 (ix3 b g r) = (((D b).ov g (σ ⟨r.val, by omega⟩) : ℝ) : EReal) := by
  obtain ⟨σ, h1, h2, h3, _⟩ := sort_last (κ := ℝᵒᵈ) (fun l r => FloatOps.cmpfTotal (F := Ideal) (φ := .f32) .gt l.1 r.1) (val_main_v514 (F := Ideal) x0 x1 x2 x3)
    (fun i => if hd : 2 < S8x30x5376.rank then iotaInDim S8x30x5376 32 ⟨2, hd⟩ i else 0#32) b g (fun a => OrderDual.toDual ((D b).ov g a))
    (fun k k' => by rw [total_gt, q_v514 hR, q_v514 hR, EReal.coe_lt_coe_iff, OrderDual.toDual_lt_toDual])
  refine ⟨σ, h1, fun p q h => OrderDual.toDual_le_toDual.mp (h2 p q h), fun r => ?_⟩
  rw [← q_v514 hR, ← h3]
  unfold val_main_values Host.topK
  refine (congrArg (Host.sort2 S8x30x5376 2 (fun l r => FloatOps.cmpfTotal (F := Ideal) (φ := .f32) .gt l.1 r.1) (val_main_v514 (F := Ideal) x0 x1 x2 x3)
    (fun i => if hd : 2 < S8x30x5376.rank then iotaInDim S8x30x5376 32 ⟨2, hd⟩ i else 0#32)).1 (?_ : _ = ix3 b g ⟨r.val, by omega⟩))
  funext j
  refine Fin.ext ?_
  match j with
  | ⟨0, _⟩ => exact Nat.zero_add _
  | ⟨1, _⟩ => exact Nat.zero_add _
  | ⟨2, _⟩ => exact Nat.zero_add _

theorem q_v515 (hR : Reads x0 x1 x2 x3 x4 D) (hD : ∀ b, NoTies (D b)) (b : Fin 8) (g : Obj) : val_main_v515 (F := Ideal) x0 x1 x2 x3 (ix2 b g) = (((D b).topSum g : ℝ) : EReal) := by
  obtain ⟨σ, h1, h2, h3⟩ := q_values hR b g
  pointwise [val_main_v515, val_main_cst_110]
  simp only [h3, bits_zero, ezero, esum, eadd, zero_add, add_zero]
  rw [sum_first σ h1 (fun a => (D b).ov g a) (fun a => (D b).ov_nonneg g a) (fun i j h he => Img.ov_inj (hD b) g i j h he) h2 20 (by decide)]
  rfl

theorem q_v517 (hR : Reads x0 x1 x2 x3 x4 D) (hD : ∀ b, NoTies (D b)) (b : Fin 8) (g : Obj) : val_main_v517 (F := Ideal) x0 x1 x2 x3 (ix2 b g) = BitVec.ofNat 32 ((D b).dynK g) := by
  change IntOp.minsi 20#32 (IntOp.maxsi 1#32 (FloatOps.fptosi (F := Ideal) (φ := .f32) 32 (val_main_v515 (F := Ideal) x0 x1 x2 x3 (ix2 b g)))) = _
  rw [q_v515 hR hD, count_bits _ ((D b).topSum_nonneg g) ((D b).topSum_le g)]
  rfl

theorem q_v518 (hR : Reads x0 x1 x2 x3 x4 D) (b : Fin 8) (g : Obj) :
    ∃ σ : Anc → Anc, Function.Bijective σ ∧ (∀ p q, p < q → (D b).cost g (σ p) ≤ (D b).cost g (σ q)) ∧
      ∀ p, val_main_v518 (F := Ideal) x0 x1 x2 x3 x4 (ix3 b g p) = BitVec.ofNat 32 (σ p).val := by
  obtain ⟨σ, h1, h2, _, h4⟩ := sort_last (κ := ℝ) (comparator_f32_i32_d2 (F := Ideal)) (val_main_v513 (F := Ideal) x0 x1 x2 x3 x4) val_main_call10_v0 b g (fun a => (D b).cost g a)
    (fun k k' => by rw [cmp_d2, q_v513 hR, q_v513 hR, EReal.coe_lt_coe_iff])
  exact ⟨σ, h1, h2, fun p => (h4 p).trans rfl⟩

theorem q_v519 (hR : Reads x0 x1 x2 x3 x4 D) (hD : ∀ b, NoTies (D b)) (b : Fin 8) (g : Obj) (a : Anc) (hc : (D b).cand g a) :
    val_main_v519 (F := Ideal) x0 x1 x2 x3 x4 (ix3 b g a) = BitVec.ofNat 32 (Finset.univ.filter fun a' => (D b).cost g a' < (D b).cost g a).card := by
  obtain ⟨σ, h1, h2, h3⟩ := q_v518 hR b g
  obtain ⟨τ, t1, t2, _, t4⟩ := sort_last (κ := ℕ) comparator_i32_i32_d2 (val_main_v518 (F := Ideal) x0 x1 x2 x3 x4) val_main_call11_v0 b g (fun p => (σ p).val)
    (fun k k' => by
      change IntOp.cmpi .slt (val_main_v518 (F := Ideal) x0 x1 x2 x3 x4 (ix3 b g k)) (val_main_v518 (F := Ideal) x0 x1 x2 x3 x4 (ix3 b g k')) = 1#1 ↔ _
      rw [h3, h3, cmp_slt_ofNat _ _ (by have := (σ k).isLt; omega) (by have := (σ k').isLt; omega), bit_eq_one])
  have hs : ∀ p, σ (τ p) = p := by
    intro p
    have e1 := card_before τ t1 (fun j => (σ j).val) t2 p (fun j hj h => hj (h1.1 (Fin.ext h)))
    have e2 : (Finset.univ.filter fun j : Anc => (σ j).val < (σ (τ p)).val).card = (σ (τ p)).val := by
      have e3 : (Finset.univ.filter fun j : Anc => (σ j).val < (σ (τ p)).val).card = ((Finset.univ.filter fun j : Anc => (σ j).val < (σ (τ p)).val).image σ).card :=
        (Finset.card_image_of_injective _ h1.1).symm
      rw [e3]
      refine (congrArg Finset.card (?_ : _ = Finset.Iio (σ (τ p)))).trans (Fin.card_Iio _)
      ext j
      obtain ⟨i, rfl⟩ := h1.2 j
      simp only [Finset.mem_image, Finset.mem_filter, Finset.mem_univ, true_and, Finset.mem_Iio, Fin.lt_def]
      exact ⟨fun ⟨i', hi, he⟩ => he ▸ hi, fun hi => ⟨i, hi, rfl⟩⟩
    exact Fin.ext (e2.symm.trans e1)
  have e := card_before σ h1 (fun j => (D b).cost g j) h2 (τ a) (fun j hj => by
    rw [hs] at hj ⊢
    have hn := (hD b).anchors g a j hc (Ne.symm hj)
    split_ifs at hn
    · exact fun h => hn.1 h.symm
    · exact ne_of_gt hn)
  rw [hs] at e
  refine (t4 a).trans ?_
  rw [e]
  rfl

theorem q_v523 (hR : Reads x0 x1 x2 x3 x4 D) (hD : ∀ b, NoTies (D b)) (b : Fin 8) (g : Obj) (a : Anc) : val_main_v523 (F := Ideal) x0 x1 x2 x3 x4 (ix3 b g a) = bit ((D b).matched g a) := by
  pointwise [val_main_v523, val_main_v522, val_main_v521, val_main_v520, q_v517 hR hD, q_v343 hR]
  by_cases hc : (D b).cand g a
  · rw [q_v519 hR hD b g a hc, cmp_slt_ofNat _ _ (by
      have := Finset.card_le_univ (Finset.univ.filter fun a' => (D b).cost g a' < (D b).cost g a)
      rw [Fintype.card_fin] at this
      omega) (by unfold Img.dynK; omega), bit_and]
    exact bit_congr and_comm
  · have e : ∀ v : BitVec 1, IntOp.andi v (bit ((D b).cand g a)) = bit False := by
      intro v
      rw [bit_congr (iff_false_intro hc)]
      unfold bit
      simp [IntOp.andi]
    rw [e]
    exact bit_congr (iff_of_false not_false fun h => hc h.1)

theorem q_v524 (hR : Reads x0 x1 x2 x3 x4 D) (hD : ∀ b, NoTies (D b)) (b : Fin 8) (g : Obj) (a : Anc) : val_main_v524 (F := Ideal) x0 x1 x2 x3 x4 (ix3 b g a) = (D b).mcost g a := by
  change Scalar.select (val_main_v523 (F := Ideal) x0 x1 x2 x3 x4 (ix3 b g a)) (val_main_v513 (F := Ideal) x0 x1 x2 x3 x4 (ix3 b g a)) (Ideal.ofBits .f32 0x7F800000#32) = _
  rw [q_v523 hR hD, q_v513 hR, bit_sel, ofBits_inf]
  unfold Img.mcost
  rfl

/-- The object of an anchor: the best one of an anchor that is given to any. -/
theorem picks (hR : Reads x0 x1 x2 x3 x4 D) (hD : ∀ b, NoTies (D b)) : ∃ s : Fin 8 → Anc → Obj, (∀ b a, val_main_v527 (F := Ideal) x0 x1 x2 x3 x4 (ix2 b a) = BitVec.ofNat 32 (s b a).val) ∧ ∀ b a, (D b).fg a → s b a = (D b).best a := by
  have key : ∀ (b : Fin 8) (a : Anc), ∃ s : Obj, val_main_v527 (F := Ideal) x0 x1 x2 x3 x4 (ix2 b a) = BitVec.ofNat 32 s.val ∧ ((D b).fg a → s = (D b).best a) := by
    intro b a
    obtain ⟨σ, h1, h2, h3⟩ := sort_mid (κ := EReal) (comparator_f32_i32_d1 (F := Ideal)) (val_main_v524 (F := Ideal) x0 x1 x2 x3 x4) val_main_call13_v0 b a (fun g => (D b).mcost g a)
      (fun k k' => by rw [cmp_d1, q_v524 hR hD, q_v524 hR hD])
    refine ⟨σ 0, ?_, fun hf => (Img.holds_iff (hD b) a hf _).mp ?_⟩
    · have e : val_main_v527 (F := Ideal) x0 x1 x2 x3 x4 (ix2 b a) = val_main_v525 (F := Ideal) x0 x1 x2 x3 x4 (ix3 b 0 a) := by
        pointwise [val_main_v527, val_main_v526]
      rw [e]
      exact (h3 0).trans rfl
    · unfold Img.holds
      refine le_antisymm (le_least _ _ fun g' => ?_) (least_le _ _)
      obtain ⟨p, rfl⟩ := h1.2 g'
      rcases eq_or_ne p 0 with h | h
      · rw [h]
      · exact h2 0 p (Fin.pos_iff_ne_zero.mpr h)
  choose s hs using key
  exact ⟨s, fun b a => (hs b a).1, fun b a => (hs b a).2⟩

theorem q_v528 (hR : Reads x0 x1 x2 x3 x4 D) (hD : ∀ b, NoTies (D b)) (b : Fin 8) (a : Anc) : val_main_v528 (F := Ideal) x0 x1 x2 x3 x4 (ix2 b a) = bit ((D b).fg a) := by
  pointwise [val_main_v528, val_main_c_113, q_v523 hR hD]
  exact fold_or _

theorem q_at_row (s : Fin 8 → Anc → Obj) (hs : ∀ b a, val_main_v527 (F := Ideal) x0 x1 x2 x3 x4 (ix2 b a) = BitVec.ofNat 32 (s b a).val) (b : Fin 8) (a : Anc) : val_main_call14_v5 (F := Ideal) x0 x1 x2 x3 x4 (ix4 b 0 a 0) = BitVec.ofNat 32 (s b a).val := by
  pointwise [val_main_call14_v5, val_main_call14_v4, val_main_call14_v1, val_main_v529, val_main_call14_v0, val_main_call14_c, val_main_call14_v3, val_main_call14_v2, val_main_call14_c_0, hs]
  rw [cmp_neg_ofNat _ (by have := (s b a).isLt; omega), bit_sel, if_neg not_false]

theorem q_at_15 (s : Fin 8 → Anc → Obj) (hs : ∀ b a, val_main_v527 (F := Ideal) x0 x1 x2 x3 x4 (ix2 b a) = BitVec.ofNat 32 (s b a).val) (b : Fin 8) (a : Anc) : val_main_call15_v5 (F := Ideal) x0 x1 x2 x3 x4 (ix3 b a 0) = BitVec.ofNat 32 (s b a).val := by
  pointwise [val_main_call15_v5, val_main_call15_v4, val_main_call15_v1, val_main_call15_v0, val_main_call15_c, val_main_call15_v3, val_main_call15_v2, val_main_call15_c_0, hs]
  rw [cmp_neg_ofNat _ (by have := (s b a).isLt; omega), bit_sel, if_neg not_false]

theorem q_at_16 (s : Fin 8 → Anc → Obj) (hs : ∀ b a, val_main_v527 (F := Ideal) x0 x1 x2 x3 x4 (ix2 b a) = BitVec.ofNat 32 (s b a).val) (b : Fin 8) (a : Anc) : val_main_call16_v5 (F := Ideal) x0 x1 x2 x3 x4 (ix3 b a 0) = BitVec.ofNat 32 (s b a).val := by
  pointwise [val_main_call16_v5, val_main_call16_v4, val_main_call16_v1, val_main_call16_v0, val_main_call16_c, val_main_call16_v3, val_main_call16_v2, val_main_call16_c_0, hs]
  rw [cmp_neg_ofNat _ (by have := (s b a).isLt; omega), bit_sel, if_neg not_false]

theorem q_at_17 (s : Fin 8 → Anc → Obj) (hs : ∀ b a, val_main_v527 (F := Ideal) x0 x1 x2 x3 x4 (ix2 b a) = BitVec.ofNat 32 (s b a).val) (b : Fin 8) (a : Anc) : val_main_call17_v5 (F := Ideal) x0 x1 x2 x3 x4 (ix3 b a 0) = BitVec.ofNat 32 (s b a).val := by
  pointwise [val_main_call17_v5, val_main_call17_v4, val_main_call17_v1, val_main_call17_v0, val_main_call17_c, val_main_call17_v3, val_main_call17_v2, val_main_call17_c_0, hs]
  rw [cmp_neg_ofNat _ (by have := (s b a).isLt; omega), bit_sel, if_neg not_false]

theorem q_at_18 (s : Fin 8 → Anc → Obj) (hs : ∀ b a, val_main_v527 (F := Ideal) x0 x1 x2 x3 x4 (ix2 b a) = BitVec.ofNat 32 (s b a).val) (b : Fin 8) (a : Anc) : val_main_call18_v5 (F := Ideal) x0 x1 x2 x3 x4 (ix3 b a 0) = BitVec.ofNat 32 (s b a).val := by
  pointwise [val_main_call18_v5, val_main_call18_v4, val_main_call18_v1, val_main_call18_v0, val_main_call18_c, val_main_call18_v3, val_main_call18_v2, val_main_call18_c_0, hs]
  rw [cmp_neg_ofNat _ (by have := (s b a).isLt; omega), bit_sel, if_neg not_false]

theorem q_at_19 (s : Fin 8 → Anc → Obj) (hs : ∀ b a, val_main_v527 (F := Ideal) x0 x1 x2 x3 x4 (ix2 b a) = BitVec.ofNat 32 (s b a).val) (b : Fin 8) (a : Anc) : val_main_call19_v5 (F := Ideal) x0 x1 x2 x3 x4 (ix3 b a 0) = BitVec.ofNat 32 (s b a).val := by
  pointwise [val_main_call19_v5, val_main_call19_v4, val_main_call19_v1, val_main_call19_v0, val_main_call19_c, val_main_call19_v3, val_main_call19_v2, val_main_call19_c_0, hs]
  rw [cmp_neg_ofNat _ (by have := (s b a).isLt; omega), bit_sel, if_neg not_false]

theorem q_v531 (hR : Reads x0 x1 x2 x3 x4 D) (s : Fin 8 → Anc → Obj) (hs : ∀ b a, val_main_v527 (F := Ideal) x0 x1 x2 x3 x4 (ix2 b a) = BitVec.ofNat 32 (s b a).val) (b : Fin 8) (a : Anc) : val_main_v531 (F := Ideal) x0 x1 x2 x3 x4 (ix2 b a) = (((D b).iou (s b a) a : ℝ) : EReal) := by
  pointwise [val_main_v531]
  unfold val_main_v530
  rw [gather_row _ _ b a (s b a) (q_at_row s hs b a), q_v395 hR]

theorem q_v532 (hR : Reads x0 x1 x2 x3 x4 D) (s : Fin 8 → Anc → Obj) (hs : ∀ b a, val_main_v527 (F := Ideal) x0 x1 x2 x3 x4 (ix2 b a) = BitVec.ofNat 32 (s b a).val) (b : Fin 8) (a : Anc) : val_main_v532 (F := Ideal) x0 x1 x2 x3 x4 (ix2 b a) = (((D b).gx1 (s b a) : ℝ) : EReal) := by
  unfold val_main_v532
  rw [gather_pair _ _ b a (s b a) (q_at_15 s hs b a), q_v273 hR]

theorem q_v533 (hR : Reads x0 x1 x2 x3 x4 D) (s : Fin 8 → Anc → Obj) (hs : ∀ b a, val_main_v527 (F := Ideal) x0 x1 x2 x3 x4 (ix2 b a) = BitVec.ofNat 32 (s b a).val) (b : Fin 8) (a : Anc) : val_main_v533 (F := Ideal) x0 x1 x2 x3 x4 (ix2 b a) = (((D b).gy1 (s b a) : ℝ) : EReal) := by
  unfold val_main_v533
  rw [gather_pair _ _ b a (s b a) (q_at_16 s hs b a), q_v276 hR]

theorem q_v534 (hR : Reads x0 x1 x2 x3 x4 D) (s : Fin 8 → Anc → Obj) (hs : ∀ b a, val_main_v527 (F := Ideal) x0 x1 x2 x3 x4 (ix2 b a) = BitVec.ofNat 32 (s b a).val) (b : Fin 8) (a : Anc) : val_main_v534 (F := Ideal) x0 x1 x2 x3 x4 (ix2 b a) = (((D b).gx2 (s b a) : ℝ) : EReal) := by
  unfold val_main_v534
  rw [gather_pair _ _ b a (s b a) (q_at_17 s hs b a), q_v279 hR]

theorem q_v535 (hR : Reads x0 x1 x2 x3 x4 D) (s : Fin 8 → Anc → Obj) (hs : ∀ b a, val_main_v527 (F := Ideal) x0 x1 x2 x3 x4 (ix2 b a) = BitVec.ofNat 32 (s b a).val) (b : Fin 8) (a : Anc) : val_main_v535 (F := Ideal) x0 x1 x2 x3 x4 (ix2 b a) = (((D b).gy2 (s b a) : ℝ) : EReal) := by
  unfold val_main_v535
  rw [gather_pair _ _ b a (s b a) (q_at_18 s hs b a), q_v282 hR]

theorem q_v536 (hR : Reads x0 x1 x2 x3 x4 D) (s : Fin 8 → Anc → Obj) (hs : ∀ b a, val_main_v527 (F := Ideal) x0 x1 x2 x3 x4 (ix2 b a) = BitVec.ofNat 32 (s b a).val) (b : Fin 8) (a : Anc) : val_main_v536 (F := Ideal) x0 x1 x2 x3 x4 (ix2 b a) = BitVec.ofNat 32 ((D b).lab (s b a)).val := by
  unfold val_main_v536
  rw [gather_pair _ _ b a (s b a) (q_at_19 s hs b a), hR.lb]

end Cert.Loss

end
-- ==== Proof.RefLoss.lean ====
/- The loss of the reference, read at an index. -/
module

public import proofs.«01_k».proof.Proof.RefRank
public import proofs.«01_k».proof.Proof.Mask
public import proofs.«01_k».proof.Proof.Bits
public import Idealize.ShloMosaic.Lib.Pointwise
public import Idealize.ShloMosaic.Lib.VecWindow
public import Idealize.ShloMosaic.Lib.Pipeline.ValueKit.Basic

@[expose] public section

set_option maxRecDepth 16384
set_option maxHeartbeats 4000000

noncomputable section

namespace Cert.Loss

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.ReferenceIdeal Cert.ReferenceIdeal.Gen Cert.ReferenceIdeal.Read

variable {x0 : (⟨S8x85x64x64, .f32⟩ : BufTy).Contents (Elt Ideal)} {x1 : (⟨S8x85x32x32, .f32⟩ : BufTy).Contents (Elt Ideal)} {x2 : (⟨S8x85x16x16, .f32⟩ : BufTy).Contents (Elt Ideal)}
  {x3 : (⟨S8x30x4, .f32⟩ : BufTy).Contents (Elt Ideal)} {x4 : (⟨S8x30, .i32⟩ : BufTy).Contents (Elt Ideal)} {D : Fin 8 → Img}

open Classical

theorem q_v537 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) : val_main_v537 (F := Ideal) x0 x1 x2 x3 x4 (ix2 b a) = (((D b).fi a : ℝ) : EReal) := by
  pointwise [val_main_v537, q_v528 hR hD]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  rw [bit_hot']
  rfl

theorem q_v540 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) : val_main_v540 (F := Ideal) x0 x1 x2 x3 x4 (ix1 b) = (((D b).nfg : ℝ) : EReal) := by
  pointwise [val_main_v540, val_main_v538, val_main_cst_114, val_main_v539, val_main_cst_115, q_v537 hR hD s hs hb]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  simp only [esum, eadd, emax, zero_add, add_zero]
  rfl

theorem q_v543 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) : val_main_v543 (F := Ideal) x0 x1 x2 (ix2 b a) = (((D b).pwc a : ℝ) : EReal) := by
  pointwise [val_main_v543, val_main_v541, val_main_v542, val_main_cst_116, q_v249 hR, q_v250 hR, q_v251 hR, q_v252 hR, q_v532 hR s hs, q_v533 hR s hs, q_v534 hR s hs, q_v535 hR s hs]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  rfl

theorem q_v546 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) : val_main_v546 (F := Ideal) x0 x1 x2 (ix2 b a) = (((D b).phc a : ℝ) : EReal) := by
  pointwise [val_main_v546, val_main_v544, val_main_v545, val_main_cst_117, q_v249 hR, q_v250 hR, q_v251 hR, q_v252 hR, q_v532 hR s hs, q_v533 hR s hs, q_v534 hR s hs, q_v535 hR s hs]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  rfl

theorem q_v549 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) : val_main_v549 (F := Ideal) x0 x1 x2 x3 x4 (ix2 b a) = (((D b).gw (s b a) : ℝ) : EReal) := by
  pointwise [val_main_v549, val_main_v547, val_main_v548, val_main_cst_118, q_v249 hR, q_v250 hR, q_v251 hR, q_v252 hR, q_v532 hR s hs, q_v533 hR s hs, q_v534 hR s hs, q_v535 hR s hs]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  rfl

theorem q_v552 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) : val_main_v552 (F := Ideal) x0 x1 x2 x3 x4 (ix2 b a) = (((D b).gh (s b a) : ℝ) : EReal) := by
  pointwise [val_main_v552, val_main_v550, val_main_v551, val_main_cst_119, q_v249 hR, q_v250 hR, q_v251 hR, q_v252 hR, q_v532 hR s hs, q_v533 hR s hs, q_v534 hR s hs, q_v535 hR s hs]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  rfl

theorem q_v570 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) : val_main_v570 (F := Ideal) x0 x1 x2 x3 x4 (ix2 b a) = ((uOf ((D b).px1 a) ((D b).py1 a) ((D b).px2 a) ((D b).py2 a) ((D b).gx1 (s b a)) ((D b).gy1 (s b a)) ((D b).gx2 (s b a)) ((D b).gy2 (s b a)) : ℝ) : EReal) := by
  pointwise [val_main_v570, val_main_v563, val_main_v557, val_main_v555, val_main_v553, val_main_v554, val_main_v556, val_main_cst_120, val_main_v562, val_main_v560, val_main_v558, val_main_v559, val_main_v561, val_main_cst_121, val_main_v569, val_main_v567, val_main_v566, val_main_v564, val_main_v565, val_main_v568, val_main_cst_122, q_v249 hR, q_v250 hR, q_v251 hR, q_v252 hR, q_v532 hR s hs, q_v533 hR s hs, q_v534 hR s hs, q_v535 hR s hs, q_v543 hR hD s hs hb, q_v546 hR hD s hs hb, q_v549 hR hD s hs hb, q_v552 hR hD s hs hb]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  exact ediv _ _ (ne_of_gt (den_pos ((D b).px1 a) ((D b).py1 a) ((D b).px2 a) ((D b).py2 a) ((D b).gx1 (s b a)) ((D b).gy1 (s b a)) ((D b).gx2 (s b a)) ((D b).gy2 (s b a))))

theorem q_v587 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) : val_main_v587 (F := Ideal) x0 x1 x2 x3 x4 (ix2 b a) = ((cdOf ((D b).px1 a) ((D b).py1 a) ((D b).px2 a) ((D b).py2 a) ((D b).gx1 (s b a)) ((D b).gy1 (s b a)) ((D b).gx2 (s b a)) ((D b).gy2 (s b a)) : ℝ) : EReal) := by
  pointwise [val_main_v587, val_main_v578, val_main_v577, val_main_v573, val_main_v571, val_main_v572, val_main_cst_123, val_main_v576, val_main_v574, val_main_v575, val_main_cst_124, val_main_v586, val_main_v585, val_main_v581, val_main_v579, val_main_v580, val_main_cst_125, val_main_v584, val_main_v582, val_main_v583, val_main_cst_126, q_v249 hR, q_v250 hR, q_v251 hR, q_v252 hR, q_v532 hR s hs, q_v533 hR s hs, q_v534 hR s hs, q_v535 hR s hs]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  rfl

theorem q_v598 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) : val_main_v598 (F := Ideal) x0 x1 x2 x3 x4 (ix2 b a) = ((c2Of ((D b).px1 a) ((D b).py1 a) ((D b).px2 a) ((D b).py2 a) ((D b).gx1 (s b a)) ((D b).gy1 (s b a)) ((D b).gx2 (s b a)) ((D b).gy2 (s b a)) : ℝ) : EReal) := by
  pointwise [val_main_v598, val_main_v596, val_main_v594, val_main_v590, val_main_v588, val_main_v589, val_main_v595, val_main_v593, val_main_v591, val_main_v592, val_main_v597, val_main_cst_127, q_v249 hR, q_v250 hR, q_v251 hR, q_v252 hR, q_v532 hR s hs, q_v533 hR s hs, q_v534 hR s hs, q_v535 hR s hs]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  rfl

theorem q_v612 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) : val_main_v612 (F := Ideal) x0 x1 x2 x3 x4 (ix2 b a) = ((yOf ((D b).gw (s b a) / (D b).gh (s b a)) : ℝ) : EReal) := by
  have h1 : 0 < (D b).gw (s b a) := lt_max_of_lt_right e7_pos
  have h2 : 0 < (D b).gh (s b a) := lt_max_of_lt_right e7_pos
  have hp := div_pos h1 h2
  pointwise [val_main_v612, val_main_v601, val_main_v599, val_main_v600, val_main_cst_128, val_main_v605, val_main_v604, val_main_cst_130, val_main_v611, val_main_v603, val_main_v602, val_main_cst_129, val_main_v610, val_main_v607, val_main_v606, val_main_cst_131, val_main_v609, val_main_v608, val_main_cst_132, q_v549 hR hD s hs hb, q_v552 hR hD s hs hb]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  rw [ediv _ _ h2.ne', ediv _ _ hp.ne']
  simp only [eadd, esub]
  rw [ediv _ _ (by positivity)]
  simp only [EReal.coe_lt_coe_iff, bit_of, bit_sel, eite, emul]
  rfl

theorem q_v614 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) : val_main_v614 (F := Ideal) x0 x1 x2 x3 x4 (ix2 b a) = ((y0Of ((D b).gw (s b a) / (D b).gh (s b a)) : ℝ) : EReal) := by
  have h1 : 0 < (D b).gw (s b a) := lt_max_of_lt_right e7_pos
  have h2 : 0 < (D b).gh (s b a) := lt_max_of_lt_right e7_pos
  have hp := div_pos h1 h2
  pointwise [val_main_v614, val_main_v601, val_main_v599, val_main_v600, val_main_cst_128, val_main_call23_v0, val_main_cst_135, val_main_v613, val_main_v603, val_main_v602, val_main_cst_129, val_main_call22_v0, val_main_cst_133, val_main_call22_v1, val_main_cst_134, q_v549 hR hD s hs hb, q_v552 hR hD s hs hb]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  rw [ediv _ _ h2.ne']
  simp only [EReal.coe_lt_coe_iff, bit_of, bit_sel, eite]
  rfl

theorem q_v628 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) : val_main_v628 (F := Ideal) x0 x1 x2 x3 x4 (ix2 b a) = ((yOf ((D b).gw (s b a) / (D b).gh (s b a)) + qOf (yOf ((D b).gw (s b a) / (D b).gh (s b a)) * yOf ((D b).gw (s b a) / (D b).gh (s b a))) * (yOf ((D b).gw (s b a) / (D b).gh (s b a)) * yOf ((D b).gw (s b a) / (D b).gh (s b a))) * yOf ((D b).gw (s b a) / (D b).gh (s b a)) : ℝ) : EReal) := by
  pointwise [val_main_v628, val_main_v627, val_main_v626, val_main_v625, val_main_v623, val_main_v622, val_main_v620, val_main_v619, val_main_v617, val_main_v616, val_main_cst_136, val_main_v615, val_main_v618, val_main_cst_137, val_main_v621, val_main_cst_138, val_main_v624, val_main_cst_139, q_v612 hR hD s hs hb]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  rfl

theorem q_v630 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) : val_main_v630 (F := Ideal) x0 x1 x2 x3 x4 (ix2 b a) = ((atn ((D b).gw (s b a) / (D b).gh (s b a)) : ℝ) : EReal) := by
  change val_main_v614 (F := Ideal) x0 x1 x2 x3 x4 (ix2 b a) + val_main_v628 (F := Ideal) x0 x1 x2 x3 x4 (ix2 b a) = _
  rw [q_v614 hR hD s hs hb, q_v628 hR hD s hs hb, eadd, atn_eq]

theorem q_v644 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) : val_main_v644 (F := Ideal) x0 x1 x2 (ix2 b a) = ((yOf ((D b).pwc a / (D b).phc a) : ℝ) : EReal) := by
  have h1 : 0 < (D b).pwc a := lt_max_of_lt_right e7_pos
  have h2 : 0 < (D b).phc a := lt_max_of_lt_right e7_pos
  have hp := div_pos h1 h2
  pointwise [val_main_v644, val_main_v633, val_main_v631, val_main_v632, val_main_cst_140, val_main_v637, val_main_v636, val_main_cst_142, val_main_v643, val_main_v635, val_main_v634, val_main_cst_141, val_main_v642, val_main_v639, val_main_v638, val_main_cst_143, val_main_v641, val_main_v640, val_main_cst_144, q_v543 hR hD s hs hb, q_v546 hR hD s hs hb]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  rw [ediv _ _ h2.ne', ediv _ _ hp.ne']
  simp only [eadd, esub]
  rw [ediv _ _ (by positivity)]
  simp only [EReal.coe_lt_coe_iff, bit_of, bit_sel, eite, emul]
  rfl

theorem q_v646 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) : val_main_v646 (F := Ideal) x0 x1 x2 (ix2 b a) = ((y0Of ((D b).pwc a / (D b).phc a) : ℝ) : EReal) := by
  have h1 : 0 < (D b).pwc a := lt_max_of_lt_right e7_pos
  have h2 : 0 < (D b).phc a := lt_max_of_lt_right e7_pos
  have hp := div_pos h1 h2
  pointwise [val_main_v646, val_main_v633, val_main_v631, val_main_v632, val_main_cst_140, val_main_call27_v0, val_main_cst_147, val_main_v645, val_main_v635, val_main_v634, val_main_cst_141, val_main_call26_v0, val_main_cst_145, val_main_call26_v1, val_main_cst_146, q_v543 hR hD s hs hb, q_v546 hR hD s hs hb]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  rw [ediv _ _ h2.ne']
  simp only [EReal.coe_lt_coe_iff, bit_of, bit_sel, eite]
  rfl

theorem q_v660 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) : val_main_v660 (F := Ideal) x0 x1 x2 (ix2 b a) = ((yOf ((D b).pwc a / (D b).phc a) + qOf (yOf ((D b).pwc a / (D b).phc a) * yOf ((D b).pwc a / (D b).phc a)) * (yOf ((D b).pwc a / (D b).phc a) * yOf ((D b).pwc a / (D b).phc a)) * yOf ((D b).pwc a / (D b).phc a) : ℝ) : EReal) := by
  pointwise [val_main_v660, val_main_v659, val_main_v658, val_main_v657, val_main_v655, val_main_v654, val_main_v652, val_main_v651, val_main_v649, val_main_v648, val_main_cst_148, val_main_v647, val_main_v650, val_main_cst_149, val_main_v653, val_main_cst_150, val_main_v656, val_main_cst_151, q_v644 hR hD s hs hb]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  rfl

theorem q_v662 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) : val_main_v662 (F := Ideal) x0 x1 x2 (ix2 b a) = ((atn ((D b).pwc a / (D b).phc a) : ℝ) : EReal) := by
  change val_main_v646 (F := Ideal) x0 x1 x2 (ix2 b a) + val_main_v660 (F := Ideal) x0 x1 x2 (ix2 b a) = _
  rw [q_v646 hR hD s hs hb, q_v660 hR hD s hs hb, eadd, atn_eq]

theorem q_v666 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) : val_main_v666 (F := Ideal) x0 x1 x2 x3 x4 (ix2 b a) = ((vOf ((D b).pwc a / (D b).phc a) ((D b).gw (s b a) / (D b).gh (s b a)) : ℝ) : EReal) := by
  pointwise [val_main_v666, val_main_v665, val_main_cst_152, val_main_v664, val_main_v663, q_v630 hR hD s hs hb, q_v662 hR hD s hs hb]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  rfl

theorem q_v676 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) : val_main_v676 (F := Ideal) x0 x1 x2 x3 x4 (ix2 b a) = ((Img.ciouOf ((D b).px1 a) ((D b).py1 a) ((D b).px2 a) ((D b).py2 a) ((D b).gx1 (s b a)) ((D b).gy1 (s b a)) ((D b).gx2 (s b a)) ((D b).gy2 (s b a)) : ℝ) : EReal) := by
  pointwise [val_main_v676, val_main_v674, val_main_v673, val_main_v675, val_main_v672, val_main_v671, val_main_v669, val_main_v667, val_main_v668, val_main_cst_153, val_main_v670, val_main_cst_154, q_v666 hR hD s hs hb, q_v570 hR hD s hs hb, q_v587 hR hD s hs hb, q_v598 hR hD s hs hb]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  rw [ediv _ _ (c2Of_pos ((D b).px1 a) ((D b).py1 a) ((D b).px2 a) ((D b).py2 a) ((D b).gx1 (s b a)) ((D b).gy1 (s b a)) ((D b).gx2 (s b a)) ((D b).gy2 (s b a))).ne', ediv _ _ (alpha_pos _ _ ((D b).px1 a) ((D b).py1 a) ((D b).px2 a) ((D b).py2 a) ((D b).gx1 (s b a)) ((D b).gy1 (s b a)) ((D b).gx2 (s b a)) ((D b).gy2 (s b a))).ne', ciouOf_eq]
  simp only [esub, emul]
  rfl

theorem q_v681 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) : val_main_v681 (F := Ideal) x0 x1 x2 x3 x4 (ix1 b) = (((D b).lossBox : ℝ) : EReal) := by
  pointwise [val_main_v681, val_main_v680, val_main_v679, val_main_v678, val_main_v677, val_main_cst_155, val_main_cst_156, q_v537 hR hD s hs hb, q_v676 hR hD s hs hb, q_v540 hR hD s hs hb]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  simp only [esub, emul, esum, eadd, zero_add, add_zero]
  rw [ediv _ _ (D b).nfg_pos.ne']
  unfold Img.lossBox
  refine congrArg (fun t : ℝ => ((t / (D b).nfg : ℝ) : EReal)) (Finset.sum_congr rfl fun a _ => ?_)
  unfold Img.fi Img.ciou
  by_cases h : (D b).fg a
  · rw [if_pos h, if_pos h, one_mul, hb b a h]
  · rw [if_neg h, if_neg h, zero_mul]

theorem q_v686 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) : val_main_v686 (F := Ideal) x0 x1 x2 x3 x4 (ix2 b a) = (((D b).objT a : ℝ) : EReal) := by
  change Scalar.select (val_main_v528 (F := Ideal) x0 x1 x2 x3 x4 (ix2 b a)) (min (max (val_main_v531 (F := Ideal) x0 x1 x2 x3 x4 (ix2 b a)) (Ideal.ofBits .f32 0x00000000#32)) (Ideal.ofBits .f32 0x3F800000#32)) (Ideal.ofBits .f32 0x00000000#32) = _
  rw [q_v528 hR hD, q_v531 hR s hs, bits_zero, bits_one, emax, emin, bit_sel, eite]
  unfold Img.objT
  by_cases h : (D b).fg a
  · rw [if_pos h, if_pos h, max_eq_left ((D b).iou_nonneg _ _), min_eq_left ((D b).iou_le_one _ _), hb b a h]
  · rw [if_neg h, if_neg h]

theorem q_v698 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) : val_main_v698 (F := Ideal) x0 x1 x2 x3 x4 (ix1 b) = (((D b).lossObj : ℝ) : EReal) := by
  pointwise [val_main_v698, val_main_v696, val_main_v695, val_main_v690, val_main_v688, val_main_v687, val_main_cst_160, val_main_v689, val_main_v694, val_main_v693, val_main_v692, val_main_v691, val_main_cst_161, val_main_v697, val_main_cst_162, q_v253 hR, q_v686 hR hD s hs hb]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  have h1 : ∀ x : ℝ, Ideal.log1p ((Real.exp (-|x|) : ℝ) : EReal) = ((Real.log (1 + Real.exp (-|x|)) : ℝ) : EReal) := by
    intro x; rw [elog1p _ (by positivity)]
  simp only [h1, esub, emul, esum, eadd, zero_add, add_zero]
  rw [ediv _ _ (by norm_num)]
  rfl

theorem q_v699 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) (k : Fin 80) : val_main_v699 (F := Ideal) x0 x1 x2 x3 x4 (ix3 b a k) = ((if (D b).lab (s b a) = k then 1 else 0 : ℝ) : EReal) := by
  pointwise [val_main_v699, val_main_call29_v4, val_main_call29_v2, val_main_call29_v0, val_main_call29_v3, val_main_call29_v1, q_v536 hR s hs]
  rw [cmp_eq_ofNat _ _ (by have := ((D b).lab (s b a)).isLt; omega) (by have := k.isLt; omega), bit_congr Fin.ext_iff.symm, bit_hot']

theorem q_v715 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) (a : Anc) : val_main_v715 (F := Ideal) x0 x1 x2 x3 x4 (ix2 b a) = (((∑ k : Fin 80, bce ((D b).cl k a) (lit 0x3A25E9F7#32 + (if (D b).lab (s b a) = k then 1 else 0) * lit 0x3F7309B9#32)) / 80 : ℝ) : EReal) := by
  pointwise [val_main_v715, val_main_v713, val_main_v712, val_main_v707, val_main_v705, val_main_v704, val_main_cst_165, val_main_v706, val_main_v703, val_main_v702, val_main_cst_164, val_main_v701, val_main_v700, val_main_cst_163, val_main_v711, val_main_v710, val_main_v709, val_main_v708, val_main_cst_166, val_main_v714, val_main_cst_167, q_v254 hR, q_v699 hR hD s hs hb]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  have h1 : ∀ x : ℝ, Ideal.log1p ((Real.exp (-|x|) : ℝ) : EReal) = ((Real.log (1 + Real.exp (-|x|)) : ℝ) : EReal) := by
    intro x; rw [elog1p _ (by positivity)]
  simp only [h1, esub, emul, esum, eadd, zero_add, add_zero]
  rw [ediv _ _ (by norm_num)]
  rfl

theorem q_v718 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) : val_main_v718 (F := Ideal) x0 x1 x2 x3 x4 (ix1 b) = (((D b).lossCls : ℝ) : EReal) := by
  pointwise [val_main_v718, val_main_v717, val_main_v716, val_main_cst_168, q_v537 hR hD s hs hb, q_v715 hR hD s hs hb, q_v540 hR hD s hs hb]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  simp only [emul, esum, eadd, zero_add, add_zero]
  rw [ediv _ _ (D b).nfg_pos.ne']
  unfold Img.lossCls
  refine congrArg (fun t : ℝ => ((t / (D b).nfg : ℝ) : EReal)) (Finset.sum_congr rfl fun a _ => ?_)
  unfold Img.fi Img.clsMean
  by_cases h : (D b).fg a
  · rw [if_pos h, if_pos h, one_mul, hb b a h]
  · rw [if_neg h, if_neg h, zero_mul]

theorem q_v726 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a) (b : Fin 8) : val_main_v726 (F := Ideal) x0 x1 x2 x3 x4 (ix1 b) = (((D b).loss : ℝ) : EReal) := by
  pointwise [val_main_v726, val_main_v723, val_main_v720, val_main_v719, val_main_cst_169, val_main_v722, val_main_v721, val_main_cst_170, val_main_v725, val_main_v724, val_main_cst_171, q_v681 hR hD s hs hb, q_v698 hR hD s hs hb, q_v718 hR hD s hs hb]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  unfold Img.loss
  rw [one_mul]

theorem q_v728 (hR : Reads x0 x1 x2 x3 x4 D) (hD : ∀ b, NoTies (D b)) (s : Fin 8 → Anc → Obj) (hs : ∀ b a, val_main_v527 (F := Ideal) x0 x1 x2 x3 x4 (ix2 b a) = BitVec.ofNat 32 (s b a).val) (hb : ∀ b a, (D b).fg a → s b a = (D b).best a)  : val_main_v728 (F := Ideal) x0 x1 x2 x3 x4 (ix0) = (((∑ b : Fin 8, (D b).loss) / 8 : ℝ) : EReal) := by
  pointwise [val_main_v728, val_main_v727, val_main_cst_172, val_main_cst_173, q_v726 hR hD s hs hb]
  try simp only [ofBits_inf, bits_half, bits_two, bits_512, bits_eight, bits_sixteen, bits_thirtytwo, bits_zero, bits_one, bits_neg_one, bits_e7, bits_three, bits_fifth, bits_tenth, bits_five, bits_penalty, bits_area_min, bits_area_max, bits_eighty, bits_5376, bits_scale, bits_off, emax, emin, eexp, eabsf, eabs, eadd, esub, emul, eneg, ezero, eone, bits_t1, bits_t2, bits_q0, bits_q1, bits_q2, bits_q3, bits_pi4, bits_pi2, bits_vc]
  simp only [esum, eadd, zero_add, add_zero]
  rw [ediv _ _ (by norm_num)]

/-- The reference's result, as a number. -/
theorem ref_total (hR : Reads x0 x1 x2 x3 x4 D) (hD : ∀ b, NoTies (D b)) : val_main_v728 (F := Ideal) x0 x1 x2 x3 x4 ix0 = (((∑ b : Fin 8, (D b).loss) / 8 : ℝ) : EReal) := by
  obtain ⟨s, hs, hb⟩ := picks hR hD
  exact q_v728 hR hD s hs hb

end Cert.Loss

end
-- ==== Proof.PreChain.lean ====
/- The quantities of the precondition are those of the reference. -/
module

public import proofs.«01_k».proof.Proof.PreFacts
public import proofs.«01_k».proof.Proof.RefLoss
public import proofs.«01_k».proof.Proof.Mask
public import proofs.«01_k».proof.Proof.Bits
public import Idealize.ShloMosaic.Lib.Pointwise
public import Idealize.ShloMosaic.Lib.VecWindow
public import Idealize.ShloMosaic.Lib.Pipeline.ValueKit.Basic

@[expose] public section

set_option maxRecDepth 16384
set_option maxHeartbeats 4000000

noncomputable section

namespace Cert.Loss

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.ReferenceIdeal Cert.ReferenceIdeal.Gen Cert.ReferenceIdeal.Read

variable (x0 : (⟨S8x85x64x64, .f32⟩ : BufTy).Contents (Elt Ideal)) (x1 : (⟨S8x85x32x32, .f32⟩ : BufTy).Contents (Elt Ideal)) (x2 : (⟨S8x85x16x16, .f32⟩ : BufTy).Contents (Elt Ideal))
  (x3 : (⟨S8x30x4, .f32⟩ : BufTy).Contents (Elt Ideal)) (x4 : (⟨S8x30, .i32⟩ : BufTy).Contents (Elt Ideal))

theorem chain_0 : Cert.Pre_no_ties.fn (F := Ideal) x0 x1 x2 x3 x4
    = Cert.Pre_no_ties.fn_part1 (F := Ideal) x0 x1 x2 x3 x4 (val_main_v8 (F := Ideal)) (val_main_v13 (F := Ideal)) (val_main_v14 (F := Ideal)) (val_main_v17 (F := Ideal)) (val_main_v18 (F := Ideal)) := rfl

theorem chain_1 : Cert.Pre_no_ties.fn_part1 (F := Ideal) x0 x1 x2 x3 x4 (val_main_v8 (F := Ideal)) (val_main_v13 (F := Ideal)) (val_main_v14 (F := Ideal)) (val_main_v17 (F := Ideal)) (val_main_v18 (F := Ideal))
    = Cert.Pre_no_ties.fn_part2 (F := Ideal) x0 x1 x2 x3 x4 (val_main_v8 (F := Ideal)) (val_main_v13 (F := Ideal)) (val_main_v14 (F := Ideal)) (val_main_v23 (F := Ideal)) (val_main_v28 (F := Ideal)) (val_main_v29 (F := Ideal)) (val_main_v32 (F := Ideal)) (val_main_v36 (F := Ideal)) := rfl

theorem chain_2 : Cert.Pre_no_ties.fn_part2 (F := Ideal) x0 x1 x2 x3 x4 (val_main_v8 (F := Ideal)) (val_main_v13 (F := Ideal)) (val_main_v14 (F := Ideal)) (val_main_v23 (F := Ideal)) (val_main_v28 (F := Ideal)) (val_main_v29 (F := Ideal)) (val_main_v32 (F := Ideal)) (val_main_v36 (F := Ideal))
    = Cert.Pre_no_ties.fn_part3 (F := Ideal) x0 x1 x2 x3 x4 (val_main_v45 (F := Ideal)) (val_main_v46 (F := Ideal)) (val_main_v47 (F := Ideal)) (val_main_v49 (F := Ideal) x0) (val_main_v54 (F := Ideal)) (val_main_v55 (F := Ideal)) (val_main_v56 (F := Ideal) x0) := rfl

theorem chain_3 : Cert.Pre_no_ties.fn_part3 (F := Ideal) x0 x1 x2 x3 x4 (val_main_v45 (F := Ideal)) (val_main_v46 (F := Ideal)) (val_main_v47 (F := Ideal)) (val_main_v49 (F := Ideal) x0) (val_main_v54 (F := Ideal)) (val_main_v55 (F := Ideal)) (val_main_v56 (F := Ideal) x0)
    = Cert.Pre_no_ties.fn_part4 (F := Ideal) x0 x1 x2 x3 x4 (val_main_v45 (F := Ideal)) (val_main_v46 (F := Ideal)) (val_main_v47 (F := Ideal)) (val_main_v49 (F := Ideal) x0) (val_main_v55 (F := Ideal)) (val_main_v72 (F := Ideal) x0) (val_main_v75 (F := Ideal) x0) := rfl

theorem chain_4 : Cert.Pre_no_ties.fn_part4 (F := Ideal) x0 x1 x2 x3 x4 (val_main_v45 (F := Ideal)) (val_main_v46 (F := Ideal)) (val_main_v47 (F := Ideal)) (val_main_v49 (F := Ideal) x0) (val_main_v55 (F := Ideal)) (val_main_v72 (F := Ideal) x0) (val_main_v75 (F := Ideal) x0)
    = Cert.Pre_no_ties.fn_part5 (F := Ideal) x0 x1 x2 x3 x4 (val_main_v45 (F := Ideal)) (val_main_v46 (F := Ideal)) (val_main_v47 (F := Ideal)) (val_main_v49 (F := Ideal) x0) (val_main_v72 (F := Ideal) x0) (val_main_v89 (F := Ideal) x0) (val_main_v92 (F := Ideal) x0) (val_main_v93 (F := Ideal)) := rfl

theorem chain_5 : Cert.Pre_no_ties.fn_part5 (F := Ideal) x0 x1 x2 x3 x4 (val_main_v45 (F := Ideal)) (val_main_v46 (F := Ideal)) (val_main_v47 (F := Ideal)) (val_main_v49 (F := Ideal) x0) (val_main_v72 (F := Ideal) x0) (val_main_v89 (F := Ideal) x0) (val_main_v92 (F := Ideal) x0) (val_main_v93 (F := Ideal))
    = Cert.Pre_no_ties.fn_part6 (F := Ideal) x0 x1 x2 x3 x4 (val_main_v45 (F := Ideal)) (val_main_v46 (F := Ideal)) (val_main_v47 (F := Ideal)) (val_main_v49 (F := Ideal) x0) (val_main_v102 (F := Ideal) x0) (val_main_v105 (F := Ideal) x0) (val_main_v108 (F := Ideal) x0) (val_main_v111 (F := Ideal) x0) (val_main_v112 (F := Ideal) x0) := rfl

theorem chain_6 : Cert.Pre_no_ties.fn_part6 (F := Ideal) x0 x1 x2 x3 x4 (val_main_v45 (F := Ideal)) (val_main_v46 (F := Ideal)) (val_main_v47 (F := Ideal)) (val_main_v49 (F := Ideal) x0) (val_main_v102 (F := Ideal) x0) (val_main_v105 (F := Ideal) x0) (val_main_v108 (F := Ideal) x0) (val_main_v111 (F := Ideal) x0) (val_main_v112 (F := Ideal) x0)
    = Cert.Pre_no_ties.fn_part7 (F := Ideal) x0 x1 x2 x3 x4 (val_main_v45 (F := Ideal)) (val_main_v46 (F := Ideal)) (val_main_v47 (F := Ideal)) (val_main_v102 (F := Ideal) x0) (val_main_v105 (F := Ideal) x0) (val_main_v108 (F := Ideal) x0) (val_main_v111 (F := Ideal) x0) (val_main_v113 (F := Ideal) x0) (val_main_v114 (F := Ideal) x0) (val_main_v116 (F := Ideal) x1) (val_main_v121 (F := Ideal)) (val_main_v122 (F := Ideal)) (val_main_v132 (F := Ideal) x1) (val_main_cst_33 (F := Ideal)) := rfl

theorem chain_7 : Cert.Pre_no_ties.fn_part7 (F := Ideal) x0 x1 x2 x3 x4 (val_main_v45 (F := Ideal)) (val_main_v46 (F := Ideal)) (val_main_v47 (F := Ideal)) (val_main_v102 (F := Ideal) x0) (val_main_v105 (F := Ideal) x0) (val_main_v108 (F := Ideal) x0) (val_main_v111 (F := Ideal) x0) (val_main_v113 (F := Ideal) x0) (val_main_v114 (F := Ideal) x0) (val_main_v116 (F := Ideal) x1) (val_main_v121 (F := Ideal)) (val_main_v122 (F := Ideal)) (val_main_v132 (F := Ideal) x1) (val_main_cst_33 (F := Ideal))
    = Cert.Pre_no_ties.fn_part8 (F := Ideal) x0 x1 x2 x3 x4 (val_main_v45 (F := Ideal)) (val_main_v46 (F := Ideal)) (val_main_v47 (F := Ideal)) (val_main_v102 (F := Ideal) x0) (val_main_v105 (F := Ideal) x0) (val_main_v108 (F := Ideal) x0) (val_main_v111 (F := Ideal) x0) (val_main_v113 (F := Ideal) x0) (val_main_v114 (F := Ideal) x0) (val_main_v116 (F := Ideal) x1) (val_main_v122 (F := Ideal)) (val_main_v139 (F := Ideal) x1) (val_main_v151 (F := Ideal) x1) := rfl

theorem chain_8 : Cert.Pre_no_ties.fn_part8 (F := Ideal) x0 x1 x2 x3 x4 (val_main_v45 (F := Ideal)) (val_main_v46 (F := Ideal)) (val_main_v47 (F := Ideal)) (val_main_v102 (F := Ideal) x0) (val_main_v105 (F := Ideal) x0) (val_main_v108 (F := Ideal) x0) (val_main_v111 (F := Ideal) x0) (val_main_v113 (F := Ideal) x0) (val_main_v114 (F := Ideal) x0) (val_main_v116 (F := Ideal) x1) (val_main_v122 (F := Ideal)) (val_main_v139 (F := Ideal) x1) (val_main_v151 (F := Ideal) x1)
    = Cert.Pre_no_ties.fn_part9 (F := Ideal) x0 x1 x2 x3 x4 (val_main_v45 (F := Ideal)) (val_main_v46 (F := Ideal)) (val_main_v47 (F := Ideal)) (val_main_v102 (F := Ideal) x0) (val_main_v105 (F := Ideal) x0) (val_main_v108 (F := Ideal) x0) (val_main_v111 (F := Ideal) x0) (val_main_v113 (F := Ideal) x0) (val_main_v114 (F := Ideal) x0) (val_main_v116 (F := Ideal) x1) (val_main_v139 (F := Ideal) x1) (val_main_v156 (F := Ideal) x1) (val_main_v161 (F := Ideal) x1) (val_main_v166 (F := Ideal) x1) (val_main_v169 (F := Ideal) x1) (val_main_v170 (F := Ideal)) := rfl

theorem chain_9 : Cert.Pre_no_ties.fn_part9 (F := Ideal) x0 x1 x2 x3 x4 (val_main_v45 (F := Ideal)) (val_main_v46 (F := Ideal)) (val_main_v47 (F := Ideal)) (val_main_v102 (F := Ideal) x0) (val_main_v105 (F := Ideal) x0) (val_main_v108 (F := Ideal) x0) (val_main_v111 (F := Ideal) x0) (val_main_v113 (F := Ideal) x0) (val_main_v114 (F := Ideal) x0) (val_main_v116 (F := Ideal) x1) (val_main_v139 (F := Ideal) x1) (val_main_v156 (F := Ideal) x1) (val_main_v161 (F := Ideal) x1) (val_main_v166 (F := Ideal) x1) (val_main_v169 (F := Ideal) x1) (val_main_v170 (F := Ideal))
    = Cert.Pre_no_ties.fn_part10 (F := Ideal) x0 x1 x2 x3 x4 (val_main_v45 (F := Ideal)) (val_main_v46 (F := Ideal)) (val_main_v47 (F := Ideal)) (val_main_v102 (F := Ideal) x0) (val_main_v105 (F := Ideal) x0) (val_main_v108 (F := Ideal) x0) (val_main_v111 (F := Ideal) x0) (val_main_v113 (F := Ideal) x0) (val_main_v114 (F := Ideal) x0) (val_main_v169 (F := Ideal) x1) (val_main_v172 (F := Ideal) x1) (val_main_v175 (F := Ideal) x1) (val_main_v178 (F := Ideal) x1) (val_main_v180 (F := Ideal) x1) (val_main_v181 (F := Ideal) x1) (val_main_v183 (F := Ideal) x2) (val_main_v188 (F := Ideal)) (val_main_v189 (F := Ideal)) (val_main_v192 (F := Ideal) x2) := rfl

theorem chain_10 : Cert.Pre_no_ties.fn_part10 (F := Ideal) x0 x1 x2 x3 x4 (val_main_v45 (F := Ideal)) (val_main_v46 (F := Ideal)) (val_main_v47 (F := Ideal)) (val_main_v102 (F := Ideal) x0) (val_main_v105 (F := Ideal) x0) (val_main_v108 (F := Ideal) x0) (val_main_v111 (F := Ideal) x0) (val_main_v113 (F := Ideal) x0) (val_main_v114 (F := Ideal) x0) (val_main_v169 (F := Ideal) x1) (val_main_v172 (F := Ideal) x1) (val_main_v175 (F := Ideal) x1) (val_main_v178 (F := Ideal) x1) (val_main_v180 (F := Ideal) x1) (val_main_v181 (F := Ideal) x1) (val_main_v183 (F := Ideal) x2) (val_main_v188 (F := Ideal)) (val_main_v189 (F := Ideal)) (val_main_v192 (F := Ideal) x2)
    = Cert.Pre_no_ties.fn_part11 (F := Ideal) x0 x1 x2 x3 x4 (val_main_v45 (F := Ideal)) (val_main_v46 (F := Ideal)) (val_main_v47 (F := Ideal)) (val_main_v102 (F := Ideal) x0) (val_main_v105 (F := Ideal) x0) (val_main_v108 (F := Ideal) x0) (val_main_v111 (F := Ideal) x0) (val_main_v113 (F := Ideal) x0) (val_main_v114 (F := Ideal) x0) (val_main_v169 (F := Ideal) x1) (val_main_v172 (F := Ideal) x1) (val_main_v175 (F := Ideal) x1) (val_main_v178 (F := Ideal) x1) (val_main_v180 (F := Ideal) x1) (val_main_v181 (F := Ideal) x1) (val_main_v183 (F := Ideal) x2) (val_main_v189 (F := Ideal)) (val_main_v206 (F := Ideal) x2) (val_main_v210 (F := Ideal) x2) (val_main_cst_51 (F := Ideal)) := rfl

theorem chain_11 : Cert.Pre_no_ties.fn_part11 (F := Ideal) x0 x1 x2 x3 x4 (val_main_v45 (F := Ideal)) (val_main_v46 (F := Ideal)) (val_main_v47 (F := Ideal)) (val_main_v102 (F := Ideal) x0) (val_main_v105 (F := Ideal) x0) (val_main_v108 (F := Ideal) x0) (val_main_v111 (F := Ideal) x0) (val_main_v113 (F := Ideal) x0) (val_main_v114 (F := Ideal) x0) (val_main_v169 (F := Ideal) x1) (val_main_v172 (F := Ideal) x1) (val_main_v175 (F := Ideal) x1) (val_main_v178 (F := Ideal) x1) (val_main_v180 (F := Ideal) x1) (val_main_v181 (F := Ideal) x1) (val_main_v183 (F := Ideal) x2) (val_main_v189 (F := Ideal)) (val_main_v206 (F := Ideal) x2) (val_main_v210 (F := Ideal) x2) (val_main_cst_51 (F := Ideal))
    = Cert.Pre_no_ties.fn_part12 (F := Ideal) x0 x1 x2 x3 x4 (val_main_v45 (F := Ideal)) (val_main_v46 (F := Ideal)) (val_main_v47 (F := Ideal)) (val_main_v102 (F := Ideal) x0) (val_main_v105 (F := Ideal) x0) (val_main_v108 (F := Ideal) x0) (val_main_v111 (F := Ideal) x0) (val_main_v113 (F := Ideal) x0) (val_main_v114 (F := Ideal) x0) (val_main_v169 (F := Ideal) x1) (val_main_v172 (F := Ideal) x1) (val_main_v175 (F := Ideal) x1) (val_main_v178 (F := Ideal) x1) (val_main_v180 (F := Ideal) x1) (val_main_v181 (F := Ideal) x1) (val_main_v183 (F := Ideal) x2) (val_main_v206 (F := Ideal) x2) (val_main_v223 (F := Ideal) x2) (val_main_v228 (F := Ideal) x2) (val_main_v229 (F := Ideal) x2) := rfl

theorem chain_12 : Cert.Pre_no_ties.fn_part12 (F := Ideal) x0 x1 x2 x3 x4 (val_main_v45 (F := Ideal)) (val_main_v46 (F := Ideal)) (val_main_v47 (F := Ideal)) (val_main_v102 (F := Ideal) x0) (val_main_v105 (F := Ideal) x0) (val_main_v108 (F := Ideal) x0) (val_main_v111 (F := Ideal) x0) (val_main_v113 (F := Ideal) x0) (val_main_v114 (F := Ideal) x0) (val_main_v169 (F := Ideal) x1) (val_main_v172 (F := Ideal) x1) (val_main_v175 (F := Ideal) x1) (val_main_v178 (F := Ideal) x1) (val_main_v180 (F := Ideal) x1) (val_main_v181 (F := Ideal) x1) (val_main_v183 (F := Ideal) x2) (val_main_v206 (F := Ideal) x2) (val_main_v223 (F := Ideal) x2) (val_main_v228 (F := Ideal) x2) (val_main_v229 (F := Ideal) x2)
    = Cert.Pre_no_ties.fn_part13 (F := Ideal) x0 x1 x2 x3 x4 (val_main_v45 (F := Ideal)) (val_main_v46 (F := Ideal)) (val_main_v47 (F := Ideal)) (val_main_v102 (F := Ideal) x0) (val_main_v105 (F := Ideal) x0) (val_main_v108 (F := Ideal) x0) (val_main_v111 (F := Ideal) x0) (val_main_v113 (F := Ideal) x0) (val_main_v114 (F := Ideal) x0) (val_main_v169 (F := Ideal) x1) (val_main_v172 (F := Ideal) x1) (val_main_v175 (F := Ideal) x1) (val_main_v178 (F := Ideal) x1) (val_main_v180 (F := Ideal) x1) (val_main_v181 (F := Ideal) x1) (val_main_v236 (F := Ideal) x2) (val_main_v239 (F := Ideal) x2) (val_main_v242 (F := Ideal) x2) (val_main_v245 (F := Ideal) x2) (val_main_v247 (F := Ideal) x2) (val_main_v248 (F := Ideal) x2) := rfl

theorem chain_13 : Cert.Pre_no_ties.fn_part13 (F := Ideal) x0 x1 x2 x3 x4 (val_main_v45 (F := Ideal)) (val_main_v46 (F := Ideal)) (val_main_v47 (F := Ideal)) (val_main_v102 (F := Ideal) x0) (val_main_v105 (F := Ideal) x0) (val_main_v108 (F := Ideal) x0) (val_main_v111 (F := Ideal) x0) (val_main_v113 (F := Ideal) x0) (val_main_v114 (F := Ideal) x0) (val_main_v169 (F := Ideal) x1) (val_main_v172 (F := Ideal) x1) (val_main_v175 (F := Ideal) x1) (val_main_v178 (F := Ideal) x1) (val_main_v180 (F := Ideal) x1) (val_main_v181 (F := Ideal) x1) (val_main_v236 (F := Ideal) x2) (val_main_v239 (F := Ideal) x2) (val_main_v242 (F := Ideal) x2) (val_main_v245 (F := Ideal) x2) (val_main_v247 (F := Ideal) x2) (val_main_v248 (F := Ideal) x2)
    = Cert.Pre_no_ties.fn_part14 (F := Ideal) x0 x1 x2 x3 x4 (val_main_v45 (F := Ideal)) (val_main_v46 (F := Ideal)) (val_main_v47 (F := Ideal)) (val_main_v249 (F := Ideal) x0 x1 x2) (val_main_v250 (F := Ideal) x0 x1 x2) (val_main_v251 (F := Ideal) x0 x1 x2) (val_main_v252 (F := Ideal) x0 x1 x2) (val_main_v253 (F := Ideal) x0 x1 x2) (val_main_v254 (F := Ideal) x0 x1 x2) (val_main_v258 (F := Ideal) x3) (val_main_v262 (F := Ideal) x3) (val_main_v266 (F := Ideal) x3) (val_main_v268 (F := Ideal) x3) (val_main_cst_65 (F := Ideal)) := rfl

theorem chain_14 : Cert.Pre_no_ties.fn_part14 (F := Ideal) x0 x1 x2 x3 x4 (val_main_v45 (F := Ideal)) (val_main_v46 (F := Ideal)) (val_main_v47 (F := Ideal)) (val_main_v249 (F := Ideal) x0 x1 x2) (val_main_v250 (F := Ideal) x0 x1 x2) (val_main_v251 (F := Ideal) x0 x1 x2) (val_main_v252 (F := Ideal) x0 x1 x2) (val_main_v253 (F := Ideal) x0 x1 x2) (val_main_v254 (F := Ideal) x0 x1 x2) (val_main_v258 (F := Ideal) x3) (val_main_v262 (F := Ideal) x3) (val_main_v266 (F := Ideal) x3) (val_main_v268 (F := Ideal) x3) (val_main_cst_65 (F := Ideal))
    = Cert.Pre_no_ties.fn_part15 (F := Ideal) x0 x1 x2 x3 x4 (val_main_v45 (F := Ideal)) (val_main_v46 (F := Ideal)) (val_main_v47 (F := Ideal)) (val_main_v249 (F := Ideal) x0 x1 x2) (val_main_v250 (F := Ideal) x0 x1 x2) (val_main_v251 (F := Ideal) x0 x1 x2) (val_main_v252 (F := Ideal) x0 x1 x2) (val_main_v253 (F := Ideal) x0 x1 x2) (val_main_v254 (F := Ideal) x0 x1 x2) (val_main_v273 (F := Ideal) x3) (val_main_v276 (F := Ideal) x3) (val_main_v279 (F := Ideal) x3) (val_main_v282 (F := Ideal) x3) (val_main_v283 (F := Ideal) x3) (val_main_v284 (F := Ideal) x3) (val_main_v285 (F := Ideal) x3) (val_main_v286 (F := Ideal) x3) (val_main_v287 (F := Ideal)) (val_main_v288 (F := Ideal)) := rfl

theorem chain_15 : Cert.Pre_no_ties.fn_part15 (F := Ideal) x0 x1 x2 x3 x4 (val_main_v45 (F := Ideal)) (val_main_v46 (F := Ideal)) (val_main_v47 (F := Ideal)) (val_main_v249 (F := Ideal) x0 x1 x2) (val_main_v250 (F := Ideal) x0 x1 x2) (val_main_v251 (F := Ideal) x0 x1 x2) (val_main_v252 (F := Ideal) x0 x1 x2) (val_main_v253 (F := Ideal) x0 x1 x2) (val_main_v254 (F := Ideal) x0 x1 x2) (val_main_v273 (F := Ideal) x3) (val_main_v276 (F := Ideal) x3) (val_main_v279 (F := Ideal) x3) (val_main_v282 (F := Ideal) x3) (val_main_v283 (F := Ideal) x3) (val_main_v284 (F := Ideal) x3) (val_main_v285 (F := Ideal) x3) (val_main_v286 (F := Ideal) x3) (val_main_v287 (F := Ideal)) (val_main_v288 (F := Ideal))
    = Cert.Pre_no_ties.fn_part16 (F := Ideal) x0 x1 x2 x3 x4 (val_main_v45 (F := Ideal)) (val_main_v46 (F := Ideal)) (val_main_v47 (F := Ideal)) (val_main_v249 (F := Ideal) x0 x1 x2) (val_main_v250 (F := Ideal) x0 x1 x2) (val_main_v251 (F := Ideal) x0 x1 x2) (val_main_v252 (F := Ideal) x0 x1 x2) (val_main_v253 (F := Ideal) x0 x1 x2) (val_main_v254 (F := Ideal) x0 x1 x2) (val_main_v273 (F := Ideal) x3) (val_main_v276 (F := Ideal) x3) (val_main_v279 (F := Ideal) x3) (val_main_v282 (F := Ideal) x3) (val_main_v283 (F := Ideal) x3) (val_main_v284 (F := Ideal) x3) (val_main_v285 (F := Ideal) x3) (val_main_v286 (F := Ideal) x3) (val_main_v287 (F := Ideal)) (val_main_v288 (F := Ideal)) (val_main_v289 (F := Ideal)) (val_main_v305 (F := Ideal) x3) (val_main_v306 (F := Ideal) x3) (val_main_v307 (F := Ideal)) := rfl

theorem chain_16 : Cert.Pre_no_ties.fn_part16 (F := Ideal) x0 x1 x2 x3 x4 (val_main_v45 (F := Ideal)) (val_main_v46 (F := Ideal)) (val_main_v47 (F := Ideal)) (val_main_v249 (F := Ideal) x0 x1 x2) (val_main_v250 (F := Ideal) x0 x1 x2) (val_main_v251 (F := Ideal) x0 x1 x2) (val_main_v252 (F := Ideal) x0 x1 x2) (val_main_v253 (F := Ideal) x0 x1 x2) (val_main_v254 (F := Ideal) x0 x1 x2) (val_main_v273 (F := Ideal) x3) (val_main_v276 (F := Ideal) x3) (val_main_v279 (F := Ideal) x3) (val_main_v282 (F := Ideal) x3) (val_main_v283 (F := Ideal) x3) (val_main_v284 (F := Ideal) x3) (val_main_v285 (F := Ideal) x3) (val_main_v286 (F := Ideal) x3) (val_main_v287 (F := Ideal)) (val_main_v288 (F := Ideal)) (val_main_v289 (F := Ideal)) (val_main_v305 (F := Ideal) x3) (val_main_v306 (F := Ideal) x3) (val_main_v307 (F := Ideal))
    = Cert.Pre_no_ties.fn_part17 (F := Ideal) x0 x1 x2 x3 x4 (val_main_v45 (F := Ideal)) (val_main_v46 (F := Ideal)) (val_main_v47 (F := Ideal)) (val_main_v249 (F := Ideal) x0 x1 x2) (val_main_v250 (F := Ideal) x0 x1 x2) (val_main_v251 (F := Ideal) x0 x1 x2) (val_main_v252 (F := Ideal) x0 x1 x2) (val_main_v253 (F := Ideal) x0 x1 x2) (val_main_v254 (F := Ideal) x0 x1 x2) (val_main_v273 (F := Ideal) x3) (val_main_v276 (F := Ideal) x3) (val_main_v279 (F := Ideal) x3) (val_main_v282 (F := Ideal) x3) (val_main_v284 (F := Ideal) x3) (val_main_v285 (F := Ideal) x3) (val_main_v286 (F := Ideal) x3) (val_main_v287 (F := Ideal)) (val_main_v288 (F := Ideal)) (val_main_v305 (F := Ideal) x3) (val_main_v326 (F := Ideal) x3) (val_main_v329 (F := Ideal) x3) := rfl

theorem chain_17 : Cert.Pre_no_ties.fn_part17 (F := Ideal) x0 x1 x2 x3 x4 (val_main_v45 (F := Ideal)) (val_main_v46 (F := Ideal)) (val_main_v47 (F := Ideal)) (val_main_v249 (F := Ideal) x0 x1 x2) (val_main_v250 (F := Ideal) x0 x1 x2) (val_main_v251 (F := Ideal) x0 x1 x2) (val_main_v252 (F := Ideal) x0 x1 x2) (val_main_v253 (F := Ideal) x0 x1 x2) (val_main_v254 (F := Ideal) x0 x1 x2) (val_main_v273 (F := Ideal) x3) (val_main_v276 (F := Ideal) x3) (val_main_v279 (F := Ideal) x3) (val_main_v282 (F := Ideal) x3) (val_main_v284 (F := Ideal) x3) (val_main_v285 (F := Ideal) x3) (val_main_v286 (F := Ideal) x3) (val_main_v287 (F := Ideal)) (val_main_v288 (F := Ideal)) (val_main_v305 (F := Ideal) x3) (val_main_v326 (F := Ideal) x3) (val_main_v329 (F := Ideal) x3)
    = Cert.Pre_no_ties.fn_part18 (F := Ideal) x0 x1 x2 x3 x4 (val_main_v45 (F := Ideal)) (val_main_v46 (F := Ideal)) (val_main_v47 (F := Ideal)) (val_main_v249 (F := Ideal) x0 x1 x2) (val_main_v250 (F := Ideal) x0 x1 x2) (val_main_v251 (F := Ideal) x0 x1 x2) (val_main_v252 (F := Ideal) x0 x1 x2) (val_main_v253 (F := Ideal) x0 x1 x2) (val_main_v254 (F := Ideal) x0 x1 x2) (val_main_v273 (F := Ideal) x3) (val_main_v276 (F := Ideal) x3) (val_main_v279 (F := Ideal) x3) (val_main_v282 (F := Ideal) x3) (val_main_v343 (F := Ideal) x3) (val_main_v344 (F := Ideal) x3) (val_main_v345 (F := Ideal) x3) (val_main_v346 (F := Ideal) x3) (val_main_v347 (F := Ideal) x3) (val_main_v348 (F := Ideal) x0 x1 x2) (val_main_v349 (F := Ideal) x0 x1 x2) (val_main_v350 (F := Ideal) x0 x1 x2) (val_main_v351 (F := Ideal) x0 x1 x2) (val_main_v352 (F := Ideal) x3) (val_main_cst_77 (F := Ideal)) := rfl

theorem chain_18 : Cert.Pre_no_ties.fn_part18 (F := Ideal) x0 x1 x2 x3 x4 (val_main_v45 (F := Ideal)) (val_main_v46 (F := Ideal)) (val_main_v47 (F := Ideal)) (val_main_v249 (F := Ideal) x0 x1 x2) (val_main_v250 (F := Ideal) x0 x1 x2) (val_main_v251 (F := Ideal) x0 x1 x2) (val_main_v252 (F := Ideal) x0 x1 x2) (val_main_v253 (F := Ideal) x0 x1 x2) (val_main_v254 (F := Ideal) x0 x1 x2) (val_main_v273 (F := Ideal) x3) (val_main_v276 (F := Ideal) x3) (val_main_v279 (F := Ideal) x3) (val_main_v282 (F := Ideal) x3) (val_main_v343 (F := Ideal) x3) (val_main_v344 (F := Ideal) x3) (val_main_v345 (F := Ideal) x3) (val_main_v346 (F := Ideal) x3) (val_main_v347 (F := Ideal) x3) (val_main_v348 (F := Ideal) x0 x1 x2) (val_main_v349 (F := Ideal) x0 x1 x2) (val_main_v350 (F := Ideal) x0 x1 x2) (val_main_v351 (F := Ideal) x0 x1 x2) (val_main_v352 (F := Ideal) x3) (val_main_cst_77 (F := Ideal))
    = Cert.Pre_no_ties.fn_part19 (F := Ideal) x0 x1 x2 x3 x4 (val_main_v45 (F := Ideal)) (val_main_v46 (F := Ideal)) (val_main_v47 (F := Ideal)) (val_main_v249 (F := Ideal) x0 x1 x2) (val_main_v250 (F := Ideal) x0 x1 x2) (val_main_v251 (F := Ideal) x0 x1 x2) (val_main_v252 (F := Ideal) x0 x1 x2) (val_main_v253 (F := Ideal) x0 x1 x2) (val_main_v254 (F := Ideal) x0 x1 x2) (val_main_v273 (F := Ideal) x3) (val_main_v276 (F := Ideal) x3) (val_main_v279 (F := Ideal) x3) (val_main_v282 (F := Ideal) x3) (val_main_v343 (F := Ideal) x3) (val_main_v347 (F := Ideal) x3) (val_main_v351 (F := Ideal) x0 x1 x2) (val_main_v358 (F := Ideal) x3) (val_main_v365 (F := Ideal) x0 x1 x2) (val_main_v368 (F := Ideal) x0 x1 x2 x3) (val_main_v371 (F := Ideal) x0 x1 x2 x3) (val_main_v372 (F := Ideal) x3) (val_main_v373 (F := Ideal) x0 x1 x2) := rfl

theorem chain_19 : Cert.Pre_no_ties.fn_part19 (F := Ideal) x0 x1 x2 x3 x4 (val_main_v45 (F := Ideal)) (val_main_v46 (F := Ideal)) (val_main_v47 (F := Ideal)) (val_main_v249 (F := Ideal) x0 x1 x2) (val_main_v250 (F := Ideal) x0 x1 x2) (val_main_v251 (F := Ideal) x0 x1 x2) (val_main_v252 (F := Ideal) x0 x1 x2) (val_main_v253 (F := Ideal) x0 x1 x2) (val_main_v254 (F := Ideal) x0 x1 x2) (val_main_v273 (F := Ideal) x3) (val_main_v276 (F := Ideal) x3) (val_main_v279 (F := Ideal) x3) (val_main_v282 (F := Ideal) x3) (val_main_v343 (F := Ideal) x3) (val_main_v347 (F := Ideal) x3) (val_main_v351 (F := Ideal) x0 x1 x2) (val_main_v358 (F := Ideal) x3) (val_main_v365 (F := Ideal) x0 x1 x2) (val_main_v368 (F := Ideal) x0 x1 x2 x3) (val_main_v371 (F := Ideal) x0 x1 x2 x3) (val_main_v372 (F := Ideal) x3) (val_main_v373 (F := Ideal) x0 x1 x2)
    = Cert.Pre_no_ties.fn_part20 (F := Ideal) x0 x1 x2 x3 x4 (val_main_v45 (F := Ideal)) (val_main_v46 (F := Ideal)) (val_main_v47 (F := Ideal)) (val_main_v249 (F := Ideal) x0 x1 x2) (val_main_v250 (F := Ideal) x0 x1 x2) (val_main_v251 (F := Ideal) x0 x1 x2) (val_main_v252 (F := Ideal) x0 x1 x2) (val_main_v253 (F := Ideal) x0 x1 x2) (val_main_v254 (F := Ideal) x0 x1 x2) (val_main_v273 (F := Ideal) x3) (val_main_v276 (F := Ideal) x3) (val_main_v279 (F := Ideal) x3) (val_main_v282 (F := Ideal) x3) (val_main_v343 (F := Ideal) x3) (val_main_v393 (F := Ideal) x0 x1 x2 x3) := rfl

theorem chain_20 : Cert.Pre_no_ties.fn_part20 (F := Ideal) x0 x1 x2 x3 x4 (val_main_v45 (F := Ideal)) (val_main_v46 (F := Ideal)) (val_main_v47 (F := Ideal)) (val_main_v249 (F := Ideal) x0 x1 x2) (val_main_v250 (F := Ideal) x0 x1 x2) (val_main_v251 (F := Ideal) x0 x1 x2) (val_main_v252 (F := Ideal) x0 x1 x2) (val_main_v253 (F := Ideal) x0 x1 x2) (val_main_v254 (F := Ideal) x0 x1 x2) (val_main_v273 (F := Ideal) x3) (val_main_v276 (F := Ideal) x3) (val_main_v279 (F := Ideal) x3) (val_main_v282 (F := Ideal) x3) (val_main_v343 (F := Ideal) x3) (val_main_v393 (F := Ideal) x0 x1 x2 x3)
    = Cert.Pre_no_ties.fn_part21 (F := Ideal) x0 x1 x2 x3 x4 (val_main_v45 (F := Ideal)) (val_main_v46 (F := Ideal)) (val_main_v47 (F := Ideal)) (val_main_v249 (F := Ideal) x0 x1 x2) (val_main_v250 (F := Ideal) x0 x1 x2) (val_main_v251 (F := Ideal) x0 x1 x2) (val_main_v252 (F := Ideal) x0 x1 x2) (val_main_v273 (F := Ideal) x3) (val_main_v276 (F := Ideal) x3) (val_main_v279 (F := Ideal) x3) (val_main_v282 (F := Ideal) x3) (val_main_v343 (F := Ideal) x3) (val_main_v395 (F := Ideal) x0 x1 x2 x3) (val_main_v411 (F := Ideal) x0 x1 x2) (val_main_v412 (F := Ideal) x4) := rfl

theorem chain_21 : Cert.Pre_no_ties.fn_part21 (F := Ideal) x0 x1 x2 x3 x4 (val_main_v45 (F := Ideal)) (val_main_v46 (F := Ideal)) (val_main_v47 (F := Ideal)) (val_main_v249 (F := Ideal) x0 x1 x2) (val_main_v250 (F := Ideal) x0 x1 x2) (val_main_v251 (F := Ideal) x0 x1 x2) (val_main_v252 (F := Ideal) x0 x1 x2) (val_main_v273 (F := Ideal) x3) (val_main_v276 (F := Ideal) x3) (val_main_v279 (F := Ideal) x3) (val_main_v282 (F := Ideal) x3) (val_main_v343 (F := Ideal) x3) (val_main_v395 (F := Ideal) x0 x1 x2 x3) (val_main_v411 (F := Ideal) x0 x1 x2) (val_main_v412 (F := Ideal) x4)
    = Cert.Pre_no_ties.fn_part22 (F := Ideal) x0 x1 x2 x3 x4 (val_main_v45 (F := Ideal)) (val_main_v46 (F := Ideal)) (val_main_v47 (F := Ideal)) (val_main_v249 (F := Ideal) x0 x1 x2) (val_main_v250 (F := Ideal) x0 x1 x2) (val_main_v251 (F := Ideal) x0 x1 x2) (val_main_v252 (F := Ideal) x0 x1 x2) (val_main_v273 (F := Ideal) x3) (val_main_v276 (F := Ideal) x3) (val_main_v279 (F := Ideal) x3) (val_main_v282 (F := Ideal) x3) (val_main_v343 (F := Ideal) x3) (val_main_v395 (F := Ideal) x0 x1 x2 x3) (val_main_v431 (F := Ideal) x0 x1 x2 x4) := rfl

theorem chain_22 : Cert.Pre_no_ties.fn_part22 (F := Ideal) x0 x1 x2 x3 x4 (val_main_v45 (F := Ideal)) (val_main_v46 (F := Ideal)) (val_main_v47 (F := Ideal)) (val_main_v249 (F := Ideal) x0 x1 x2) (val_main_v250 (F := Ideal) x0 x1 x2) (val_main_v251 (F := Ideal) x0 x1 x2) (val_main_v252 (F := Ideal) x0 x1 x2) (val_main_v273 (F := Ideal) x3) (val_main_v276 (F := Ideal) x3) (val_main_v279 (F := Ideal) x3) (val_main_v282 (F := Ideal) x3) (val_main_v343 (F := Ideal) x3) (val_main_v395 (F := Ideal) x0 x1 x2 x3) (val_main_v431 (F := Ideal) x0 x1 x2 x4)
    = Cert.Pre_no_ties.fn_part23 (F := Ideal) x0 x1 x2 x3 x4 (val_main_v343 (F := Ideal) x3) (val_main_v395 (F := Ideal) x0 x1 x2 x3) (val_main_v432 (F := Ideal) x0 x1 x2 x4) (val_main_v433 (F := Ideal) x3) (val_main_v434 (F := Ideal) x3) (val_main_v435 (F := Ideal) x3) (val_main_v436 (F := Ideal) x3) (val_main_v438 (F := Ideal) x0 x1 x2) (val_main_v440 (F := Ideal) x0 x1 x2) (val_main_v441 (F := Ideal)) (val_main_v442 (F := Ideal)) (val_main_v443 (F := Ideal)) (val_main_v446 (F := Ideal) x3) (val_main_v449 (F := Ideal) x3) (val_main_v452 (F := Ideal) x0 x1 x2) := rfl

theorem chain_23 : Cert.Pre_no_ties.fn_part23 (F := Ideal) x0 x1 x2 x3 x4 (val_main_v343 (F := Ideal) x3) (val_main_v395 (F := Ideal) x0 x1 x2 x3) (val_main_v432 (F := Ideal) x0 x1 x2 x4) (val_main_v433 (F := Ideal) x3) (val_main_v434 (F := Ideal) x3) (val_main_v435 (F := Ideal) x3) (val_main_v436 (F := Ideal) x3) (val_main_v438 (F := Ideal) x0 x1 x2) (val_main_v440 (F := Ideal) x0 x1 x2) (val_main_v441 (F := Ideal)) (val_main_v442 (F := Ideal)) (val_main_v443 (F := Ideal)) (val_main_v446 (F := Ideal) x3) (val_main_v449 (F := Ideal) x3) (val_main_v452 (F := Ideal) x0 x1 x2)
    = Cert.Pre_no_ties.fn_part24 (F := Ideal) x0 x1 x2 x3 x4 (val_main_v343 (F := Ideal) x3) (val_main_v395 (F := Ideal) x0 x1 x2 x3) (val_main_v432 (F := Ideal) x0 x1 x2 x4) (val_main_v434 (F := Ideal) x3) (val_main_v436 (F := Ideal) x3) (val_main_v441 (F := Ideal)) (val_main_v442 (F := Ideal)) (val_main_v443 (F := Ideal)) (val_main_v466 (F := Ideal) x0 x1 x2 x3) (val_main_v474 (F := Ideal) x0 x1 x2 x3) (val_main_v475 (F := Ideal) x3) := rfl

theorem chain_24 : Cert.Pre_no_ties.fn_part24 (F := Ideal) x0 x1 x2 x3 x4 (val_main_v343 (F := Ideal) x3) (val_main_v395 (F := Ideal) x0 x1 x2 x3) (val_main_v432 (F := Ideal) x0 x1 x2 x4) (val_main_v434 (F := Ideal) x3) (val_main_v436 (F := Ideal) x3) (val_main_v441 (F := Ideal)) (val_main_v442 (F := Ideal)) (val_main_v443 (F := Ideal)) (val_main_v466 (F := Ideal) x0 x1 x2 x3) (val_main_v474 (F := Ideal) x0 x1 x2 x3) (val_main_v475 (F := Ideal) x3)
    = Cert.Pre_no_ties.fn_part25 (F := Ideal) x0 x1 x2 x3 x4 (val_main_v343 (F := Ideal) x3) (val_main_v395 (F := Ideal) x0 x1 x2 x3) (val_main_v432 (F := Ideal) x0 x1 x2 x4) (val_main_v466 (F := Ideal) x0 x1 x2 x3) (val_main_v474 (F := Ideal) x0 x1 x2 x3) (val_main_v494 (F := Ideal) x3) (val_main_v496 (F := Ideal) x0 x1 x2 x3) := rfl

theorem chain_25 : Cert.Pre_no_ties.fn_part25 (F := Ideal) x0 x1 x2 x3 x4 (val_main_v343 (F := Ideal) x3) (val_main_v395 (F := Ideal) x0 x1 x2 x3) (val_main_v432 (F := Ideal) x0 x1 x2 x4) (val_main_v466 (F := Ideal) x0 x1 x2 x3) (val_main_v474 (F := Ideal) x0 x1 x2 x3) (val_main_v494 (F := Ideal) x3) (val_main_v496 (F := Ideal) x0 x1 x2 x3)
    = Cert.Pre_no_ties.fn_part26 (F := Ideal) x0 x1 x2 x3 x4 (val_main_v343 (F := Ideal) x3) (val_main_v395 (F := Ideal) x0 x1 x2 x3) (val_main_v513 (F := Ideal) x0 x1 x2 x3 x4) := rfl

theorem fn_chain : Cert.Pre_no_ties.fn (F := Ideal) x0 x1 x2 x3 x4 = Cert.Pre_no_ties.fn_part26 (F := Ideal) x0 x1 x2 x3 x4 (val_main_v343 (F := Ideal) x3) (val_main_v395 (F := Ideal) x0 x1 x2 x3) (val_main_v513 (F := Ideal) x0 x1 x2 x3 x4) := by
  rw [chain_0, chain_1, chain_2, chain_3, chain_4, chain_5, chain_6, chain_7, chain_8, chain_9, chain_10, chain_11, chain_12, chain_13, chain_14, chain_15, chain_16, chain_17, chain_18, chain_19, chain_20, chain_21, chain_22, chain_23, chain_24, chain_25]

end Cert.Loss

end
-- ==== Proof.PreRead.lean ====
/- The precondition, read at an index. -/
module

public import proofs.«01_k».proof.Proof.PreChain
public import Idealize.ShloMosaic.Lib.ReduceAll
public import proofs.«01_k».proof.Proof.RefLoss
public import proofs.«01_k».proof.Proof.Mask
public import proofs.«01_k».proof.Proof.Bits
public import Idealize.ShloMosaic.Lib.Pointwise
public import Idealize.ShloMosaic.Lib.VecWindow
public import Idealize.ShloMosaic.Lib.Pipeline.ValueKit.Basic

@[expose] public section

set_option maxRecDepth 16384
set_option maxHeartbeats 4000000

noncomputable section

namespace Cert.Loss

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.ReferenceIdeal Cert.ReferenceIdeal.Gen Cert.ReferenceIdeal.Read

/-- What the last operations of the precondition ask. -/
theorem pre_parts (x0 : (⟨S8x85x64x64, .f32⟩ : BufTy).Contents (Elt Ideal)) (x1 : (⟨S8x85x32x32, .f32⟩ : BufTy).Contents (Elt Ideal)) (x2 : (⟨S8x85x16x16, .f32⟩ : BufTy).Contents (Elt Ideal))
    (x3 : (⟨S8x30x4, .f32⟩ : BufTy).Contents (Elt Ideal)) (x4 : (⟨S8x30, .i32⟩ : BufTy).Contents (Elt Ideal)) (c : IVec S8x30x5376 1) (i k : FVec Ideal S8x30x5376 .f32)
    (h : Cert.Pre_no_ties.fn_part26 (F := Ideal) x0 x1 x2 x3 x4 c i k ix0 = 1#1) :
    ((((∀ j, FloatOps.cmpf (F := Ideal) (φ := .f32) .olt (FloatOps.absf (F := Ideal) (φ := .f32) (x0 j)) (Ideal.ofBits .f32 0x7F800000#32) = 1#1)
      ∧ ∀ j, FloatOps.cmpf (F := Ideal) (φ := .f32) .olt (FloatOps.absf (F := Ideal) (φ := .f32) (x1 j)) (Ideal.ofBits .f32 0x7F800000#32) = 1#1)
      ∧ ∀ j, FloatOps.cmpf (F := Ideal) (φ := .f32) .olt (FloatOps.absf (F := Ideal) (φ := .f32) (x2 j)) (Ideal.ofBits .f32 0x7F800000#32) = 1#1)
      ∧ ∀ j, FloatOps.cmpf (F := Ideal) (φ := .f32) .olt (FloatOps.absf (F := Ideal) (φ := .f32) (x3 j)) (Ideal.ofBits .f32 0x7F800000#32) = 1#1)
    ∧ (∀ (b : Fin 8) (g : Obj), IntOp.andi (IntOp.cmpi .sge (x4 (ix2 b g)) 0#32) (IntOp.cmpi .slt (x4 (ix2 b g)) 80#32) = 1#1)
    ∧ (∀ (b : Fin 8) (g : Obj) (a a' : Anc), IntOp.ori (~~~ (IntOp.andi (c (ix3 b g a)) (IntOp.cmpi .ne (BitVec.ofNat 32 a.val) (BitVec.ofNat 32 a'.val))))
        (Scalar.select (c (ix3 b g a')) (IntOp.andi (FloatOps.cmpf (F := Ideal) (φ := .f32) .une (k (ix3 b g a)) (k (ix3 b g a')))
          (IntOp.ori (FloatOps.cmpf (F := Ideal) (φ := .f32) .ole (i (ix3 b g a)) (Ideal.ofBits .f32 0#32)) (FloatOps.cmpf (F := Ideal) (φ := .f32) .une (i (ix3 b g a)) (i (ix3 b g a')))))
          (FloatOps.cmpf (F := Ideal) (φ := .f32) .olt (k (ix3 b g a)) (k (ix3 b g a')))) = 1#1)
    ∧ ∀ (b : Fin 8) (g g' : Obj) (a : Anc), IntOp.ori (~~~ (IntOp.andi (IntOp.andi (c (ix3 b g a)) (c (ix3 b g' a))) (IntOp.cmpi .ne (BitVec.ofNat 32 g.val) (BitVec.ofNat 32 g'.val))))
        (FloatOps.cmpf (F := Ideal) (φ := .f32) .une (k (ix3 b g a)) (k (ix3 b g' a))) = 1#1 := by
  haveI : Subsingleton (S_ : Shape).Idx := ⟨fun a b => funext fun i => i.elim0⟩
  obtain ⟨h, ho⟩ := IntOp.andi_eq_one.1 (show IntOp.andi _ _ = 1#1 from h)
  obtain ⟨h, ha⟩ := IntOp.andi_eq_one.1 (show IntOp.andi _ _ = 1#1 from h)
  obtain ⟨h, hl⟩ := IntOp.andi_eq_one.1 (show IntOp.andi _ _ = 1#1 from h)
  obtain ⟨h, hb⟩ := IntOp.andi_eq_one.1 (show IntOp.andi _ _ = 1#1 from h)
  obtain ⟨h, h2⟩ := IntOp.andi_eq_one.1 (show IntOp.andi _ _ = 1#1 from h)
  obtain ⟨h0, h1⟩ := IntOp.andi_eq_one.1 (show IntOp.andi _ _ = 1#1 from h)
  refine ⟨⟨⟨⟨fun j => ?_, fun j => ?_⟩, fun j => ?_⟩, fun j => ?_⟩, fun b g => ?_, fun b g a a' => ?_, fun b g g' a => ?_⟩
  · exact Host.reduce_andi_all _ _ _ _ _ h0 j
  · exact Host.reduce_andi_all _ _ _ _ _ h1 j
  · exact Host.reduce_andi_all _ _ _ _ _ h2 j
  · exact Host.reduce_andi_all _ _ _ _ _ hb j
  · exact Host.reduce_andi_all _ _ _ _ _ hl (ix2 b g)
  · refine Eq.trans ?_ (Host.reduce_andi_all _ _ _ _ _ ha (ix4 b g a a'))
    pointwise [Cert.Pre_no_ties.fn_where_2]
  · refine Eq.trans ?_ (Host.reduce_andi_all _ _ _ _ _ ho (ix4 b g g' a))
    pointwise

variable {x0 : (⟨S8x85x64x64, .f32⟩ : BufTy).Contents (Elt Ideal)} {x1 : (⟨S8x85x32x32, .f32⟩ : BufTy).Contents (Elt Ideal)} {x2 : (⟨S8x85x16x16, .f32⟩ : BufTy).Contents (Elt Ideal)}
  {x3 : (⟨S8x30x4, .f32⟩ : BufTy).Contents (Elt Ideal)} {x4 : (⟨S8x30, .i32⟩ : BufTy).Contents (Elt Ideal)}

open Classical

/-! # The images of a batch -/

/-- The number of channel `k` at an anchor: the anchors count the cells of the three levels in turn. -/
def chanOf (x0 : (⟨S8x85x64x64, .f32⟩ : BufTy).Contents (Elt Ideal)) (x1 : (⟨S8x85x32x32, .f32⟩ : BufTy).Contents (Elt Ideal)) (x2 : (⟨S8x85x16x16, .f32⟩ : BufTy).Contents (Elt Ideal))
    (b : Fin 8) (k : Fin 85) (a : Anc) : EReal :=
  if h : a.val < 4096 then x0 (ix4 b k (⟨a.val / 64, by omega⟩ : Fin 64) (⟨a.val % 64, by omega⟩ : Fin 64))
  else if h' : a.val - 4096 < 1024 then x1 (ix4 b k (⟨(a.val - 4096) / 32, by omega⟩ : Fin 32) (⟨(a.val - 4096) % 32, by omega⟩ : Fin 32))
  else x2 (ix4 b k (⟨(a.val - 4096 - 1024) / 16, by have := a.isLt; omega⟩ : Fin 16) (⟨(a.val - 4096 - 1024) % 16, by omega⟩ : Fin 16))

/-- The images of a batch. -/
def imgOf (x0 : (⟨S8x85x64x64, .f32⟩ : BufTy).Contents (Elt Ideal)) (x1 : (⟨S8x85x32x32, .f32⟩ : BufTy).Contents (Elt Ideal)) (x2 : (⟨S8x85x16x16, .f32⟩ : BufTy).Contents (Elt Ideal))
    (x3 : (⟨S8x30x4, .f32⟩ : BufTy).Contents (Elt Ideal)) (x4 : (⟨S8x30, .i32⟩ : BufTy).Contents (Elt Ideal)) (b : Fin 8) : Img where
  P k a := (chanOf x0 x1 x2 b k a).toReal
  B g k := (x3 (ix3 b g k) : EReal).toReal
  lab g := ⟨(x4 (ix2 b g) : BitVec 32).toNat % 80, Nat.mod_lt _ (by decide)⟩

/-- That the inputs are finite and the labels are classes. -/
structure Fine (x0 : (⟨S8x85x64x64, .f32⟩ : BufTy).Contents (Elt Ideal)) (x1 : (⟨S8x85x32x32, .f32⟩ : BufTy).Contents (Elt Ideal)) (x2 : (⟨S8x85x16x16, .f32⟩ : BufTy).Contents (Elt Ideal))
    (x3 : (⟨S8x30x4, .f32⟩ : BufTy).Contents (Elt Ideal)) (x4 : (⟨S8x30, .i32⟩ : BufTy).Contents (Elt Ideal)) : Prop where
  p3 : ∀ j, (((x0 j : EReal).toReal : ℝ) : EReal) = x0 j
  p4 : ∀ j, (((x1 j : EReal).toReal : ℝ) : EReal) = x1 j
  p5 : ∀ j, (((x2 j : EReal).toReal : ℝ) : EReal) = x2 j
  bx : ∀ j, (((x3 j : EReal).toReal : ℝ) : EReal) = x3 j
  lb : ∀ (b : Fin 8) (g : Obj), (x4 (ix2 b g) : BitVec 32).toNat < 80

theorem real_of_abs (v : EReal) (h : FloatOps.cmpf (F := Ideal) (φ := .f32) .olt (FloatOps.absf (F := Ideal) (φ := .f32) v) (Ideal.ofBits .f32 0x7F800000#32) = 1#1) :
    ((v.toReal : ℝ) : EReal) = v := by
  rw [ofBits_inf] at h
  have e : BitVec.ofBool (decide (max v (-v) < ⊤)) = 1#1 := h
  rw [bit_of, bit_eq_one] at e
  have h' := e
  have h1 := lt_of_le_of_lt (le_max_left _ _) h'
  have h2 := lt_of_le_of_lt (le_max_right _ _) h'
  refine EReal.coe_toReal h1.ne ?_
  rintro rfl
  simp at h2

theorem class_of (v : BitVec 32) (h : IntOp.andi (IntOp.cmpi .sge v 0#32) (IntOp.cmpi .slt v 80#32) = 1#1) : v.toNat < 80 := by
  obtain ⟨h1, h2⟩ := IntOp.andi_eq_one.1 h
  have h1 := IntOp.cmpi_sge.1 h1
  have h2 := IntOp.cmpi_slt.1 h2
  simp [BitVec.toInt_eq_toNat_cond] at h1 h2
  have := v.isLt
  split_ifs at h1 h2 <;> omega

/-- Inputs that are finite read as the images they make. -/
theorem reads_of (h : Fine x0 x1 x2 x3 x4) : Reads x0 x1 x2 x3 x4 (imgOf x0 x1 x2 x3 x4) where
  p3 b k q := by
    simp only [imgOf, chanOf]
    rw [dif_pos q.isLt, h.p3]
  p4 b k q := by
    have := q.isLt
    simp only [imgOf, chanOf]
    rw [dif_neg (by omega), dif_pos (by omega)]
    simp only [Nat.add_sub_cancel_left]
    rw [h.p4]
  p5 b k q := by
    have := q.isLt
    simp only [imgOf, chanOf]
    rw [dif_neg (by omega), dif_neg (by omega)]
    simp only [show 5120 + q.val - 4096 - 1024 = q.val by omega]
    rw [h.p5]
  bx b g k := (h.bx _).symm
  lb b g := by
    have := h.lb b g
    apply BitVec.eq_of_toNat_eq
    simp only [imgOf, BitVec.toNat_ofNat]
    omega

theorem bit_not' (p : Prop) : ~~~ bit p = bit (¬ p) := by
  unfold bit
  by_cases h : p <;> simp [h] <;> decide

theorem cmp_ne_ofNat (a b : ℕ) (ha : a < 2 ^ 32) (hb : b < 2 ^ 32) :
    IntOp.cmpi .ne (BitVec.ofNat 32 a) (BitVec.ofNat 32 b) = bit (a ≠ b) := by
  show BitVec.ofBool (BitVec.ofNat 32 a != BitVec.ofNat 32 b) = _
  rw [← bit_of, bne, decide_not]
  congr 2
  rw [Bool.eq_iff_iff, beq_iff_eq, decide_eq_true_eq]
  exact ⟨fun h => by have := congrArg BitVec.toNat h; simp only [BitVec.toNat_ofNat] at this; omega, fun h => by rw [h]⟩

theorem une_real (a b : ℝ) : FloatOps.cmpf (F := Ideal) (φ := .f32) .une (a : EReal) (b : EReal) = bit (a ≠ b) := by
  show BitVec.ofBool (decide _) = _
  rw [bit_of]
  exact bit_congr (by simp)

theorem ole_real (a b : ℝ) : FloatOps.cmpf (F := Ideal) (φ := .f32) .ole (a : EReal) (b : EReal) = bit (a ≤ b) := by
  show BitVec.ofBool (decide _) = _
  rw [bit_of]
  exact bit_congr (by simp)

theorem olt_real (a b : ℝ) : FloatOps.cmpf (F := Ideal) (φ := .f32) .olt (a : EReal) (b : EReal) = bit (a < b) := by
  show BitVec.ofBool (decide _) = _
  rw [bit_of]
  exact bit_congr (by simp)

/-- What the precondition gives: inputs that are finite, and assignments without ties. -/
theorem pre_read (h : Cert.Pre_no_ties.fn (F := Ideal) x0 x1 x2 x3 x4 ix0 = 1#1) :
    Reads x0 x1 x2 x3 x4 (imgOf x0 x1 x2 x3 x4) ∧ ∀ b, NoTies (imgOf x0 x1 x2 x3 x4 b) := by
  rw [fn_chain] at h
  obtain ⟨⟨⟨⟨h0, h1⟩, h2⟩, h3⟩, h4, ha, ho⟩ := pre_parts _ _ _ _ _ _ _ _ h
  have hR := reads_of ⟨fun j => real_of_abs _ (h0 j), fun j => real_of_abs _ (h1 j), fun j => real_of_abs _ (h2 j), fun j => real_of_abs _ (h3 j), fun b g => class_of _ (h4 b g)⟩
  refine ⟨hR, fun b => ⟨fun g a a' hc hne => ?_, fun g g' a hc hc' hne => ?_⟩⟩
  · have e := ha b g a a'
    have := a.isLt
    have := a'.isLt
    rw [q_v343 hR, q_v343 hR, q_v513 hR, q_v513 hR, q_v395 hR, q_v395 hR, cmp_ne_ofNat _ _ (by omega) (by omega)] at e
    simp only [bits_zero, une_real, ole_real, olt_real, bit_and, bit_or, bit_not', bit_sel] at e
    have hv : ¬ a.val = a'.val := fun e => hne (Fin.ext e)
    by_cases h' : (imgOf x0 x1 x2 x3 x4 b).cand g a'
    · rw [if_pos h', bit_or, bit_eq_one] at e
      rw [if_pos h']
      exact e.resolve_left (fun n => n ⟨hc, hv⟩)
    · rw [if_neg h', bit_or, bit_eq_one] at e
      rw [if_neg h']
      exact e.resolve_left (fun n => n ⟨hc, hv⟩)
  · have e := ho b g g' a
    have := g.isLt
    have := g'.isLt
    rw [q_v343 hR, q_v343 hR, q_v513 hR, q_v513 hR, cmp_ne_ofNat _ _ (by omega) (by omega)] at e
    simp only [une_real, bit_and, bit_or, bit_not', bit_eq_one] at e
    exact e.resolve_left fun n => n ⟨⟨hc, hc'⟩, fun e => hne (Fin.ext e)⟩

end Cert.Loss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.KernelImage
public import proofs.«01_k».proof.Proof.PreRead
public import Idealize.ShloMosaic.Adequacy
public import Idealize.ShloMosaic.Init

@[expose] public section

set_option maxHeartbeats 4000000
set_option maxRecDepth 16384

noncomputable section

namespace Cert.Proof

open Idealize.ShloMosaic Idealize.SL.Sem Cert.Kernel

theorem frame_r : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_rp : Cert.quiescent_ReferenceIdeal_pre_no_ties (hPre_no_ties := Cert.Loss.tieFacts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Kernel and reference give the mean of the images' losses when the assignment has no ties. -/
theorem same_value : Cert.algebraic_KernelIdeal_ReferenceIdeal_pre_no_ties (hPre_no_ties := Cert.Loss.tieFacts) := by
  intro m ρ m' ρ' hpre hargs
  have hp := fun c => Cert.Loss.pre_read (congrFun (hpre c) ix0)
  refine ⟨fun c => Cert.Loss.total m c, ?_, ?_⟩
  · exact (θ_run Cert.KernelIdeal.defs _ _).mono (fun r h c => ⟨h.1 c, h.2 c⟩)
      (θ_run_and (Cert.Loss.run_total (F := Ideal) m ρ) (Cert.KernelIdeal.Gen.unchanged (F := Ideal) m ρ))
  · refine (θ_run Cert.ReferenceIdeal.defs _ _).mono (fun r h c => ⟨?_, (h c).2⟩) (Cert.ReferenceIdeal.Value.run (F := Ideal) m' ρ')
    obtain ⟨e0, e1, e2, e3, e4⟩ := hargs c
    refine (h c).1.trans ?_
    refine (Cert.ReferenceIdeal.Read.val_main_v728_eq (F := Ideal) _).trans (funext fun i => ?_)
    obtain rfl : i = ix0 := funext fun k => k.elim0
    refine Eq.trans ?_ (Cert.Loss.total_mean m c (hp c).1 (hp c).2).symm
    refine Eq.trans ?_ (Cert.Loss.ref_total (hp c).1 (hp c).2)
    rw [← e0, ← e1, ← e2, ← e3, ← e4]

theorem claim : Cert.Claim := ⟨Cert.Kernel.Gen.facts, Cert.KernelIdeal.Gen.facts, Cert.ReferenceIdeal.Gen.facts, Cert.Loss.tieFacts,
  fun m ρ _ => Cert.Kernel.Gen.frame m ρ, fun m ρ _ => Cert.KernelIdeal.Gen.frame m ρ, fun m ρ _ => Cert.KernelIdeal.Gen.frame m ρ,
  frame_r, frame_rp, trivial, same_value⟩

end Cert.Proof

end
